-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_v23) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)) (v2 : (c : Dev Cert.Kernel7Ideal.nD) → Buf (Elt Ideal) ((c.tc : Thread Cert.Kernel7Ideal.nD Cert.Kernel7Ideal.τ).loc Cert.Kernel7Ideal.main_v1_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_v1_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v46) = v0 c
          ∧ r.2.mem ((c.tc : Thread Cert.Reference7Ideal.nD Cert.Reference7Ideal.τ).loc Cert.Reference7Ideal.main_v47) = v1 c
          ∧ r.2.mem ((c.tc : Thread Cert.Reference7Ideal.nD Cert.Reference7Ideal.τ).loc Cert.Reference7Ideal.main_v48) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v43) = v0 c
          ∧ r.2.mem ((c.tc : Thread Cert.Reference9Ideal.nD Cert.Reference9Ideal.τ).loc Cert.Reference9Ideal.main_v44) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v11) = v0 c
          ∧ r.2.mem ((c.tc : Thread Cert.Reference10Ideal.nD Cert.Reference10Ideal.τ).loc Cert.Reference10Ideal.main_v14) = v1 c
          ∧ r.2.mem ((c.tc : Thread Cert.Reference10Ideal.nD Cert.Reference10Ideal.τ).loc Cert.Reference10Ideal.main_v19) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v19) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v8) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v14) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v58) = v0 c
          ∧ r.2.mem ((c.tc : Thread Cert.Reference14Ideal.nD Cert.Reference14Ideal.τ).loc Cert.Reference14Ideal.main_v61) = v1 c
          ∧ r.2.mem ((c.tc : Thread Cert.Reference14Ideal.nD Cert.Reference14Ideal.τ).loc Cert.Reference14Ideal.main_v68) = v2 c
          ∧ r.2.mem ((c.tc : Thread Cert.Reference14Ideal.nD Cert.Reference14Ideal.τ).loc Cert.Reference14Ideal.main_v69) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_v25) = v1 c
          ∧ r.2.mem ((c.tc : Thread Cert.Reference15Ideal.nD Cert.Reference15Ideal.τ).loc Cert.Reference15Ideal.main_v6) = v2 c
          ∧ r.2.mem ((c.tc : Thread Cert.Reference15Ideal.nD Cert.Reference15Ideal.τ).loc Cert.Reference15Ideal.main_v12) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v6) = v2 c
          ∧ r.2.mem ((c.tc : Thread Cert.Reference16Ideal.nD Cert.Reference16Ideal.τ).loc Cert.Reference16Ideal.main_v12) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_v26) = v1 c
          ∧ r.2.mem ((c.tc : Thread Cert.Reference17Ideal.nD Cert.Reference17Ideal.τ).loc Cert.Reference17Ideal.main_v7) = v2 c
          ∧ r.2.mem ((c.tc : Thread Cert.Reference17Ideal.nD Cert.Reference17Ideal.τ).loc Cert.Reference17Ideal.main_v13) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v7) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v10)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v10) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v17) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v6)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v6) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v9) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v43) = v0 c
          ∧ r.2.mem ((c.tc : Thread Cert.Reference21Ideal.nD Cert.Reference21Ideal.τ).loc Cert.Reference21Ideal.main_v48) = v1 c
          ∧ r.2.mem ((c.tc : Thread Cert.Reference21Ideal.nD Cert.Reference21Ideal.τ).loc Cert.Reference21Ideal.main_v52) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
-- ==== Kernel.lean ====
abbrev S4096x7168 : Shape := ⟨2, ![4096, 7168]⟩
abbrev S4096x1024 : Shape := ⟨2, ![4096, 1024]⟩
abbrev S1x8 : Shape := ⟨2, ![1, 8]⟩
abbrev S8x8x128 : Shape := ⟨3, ![8, 8, 128]⟩
abbrev S4096x128 : Shape := ⟨2, ![4096, 128]⟩
abbrev S1x8x128 : Shape := ⟨3, ![1, 8, 128]⟩
abbrev S2x32x128x128 : Shape := ⟨4, ![2, 32, 128, 128]⟩
abbrev S3x4096x128 : Shape := ⟨3, ![3, 4096, 128]⟩
abbrev S3 : Shape := ⟨1, ![3]⟩
abbrev S1x1 : Shape := ⟨2, ![1, 1]⟩
abbrev S128x128 : Shape := ⟨2, ![128, 128]⟩
abbrev S128x1 : Shape := ⟨2, ![128, 1]⟩
abbrev S2048x128 : Shape := ⟨2, ![2048, 128]⟩
abbrev S16x128x128 : Shape := ⟨3, ![16, 128, 128]⟩
abbrev S1x128x1 : Shape := ⟨3, ![1, 128, 1]⟩
abbrev S1x16x128x128 : Shape := ⟨4, ![1, 16, 128, 128]⟩
abbrev S1x1x128x128 : Shape := ⟨4, ![1, 1, 128, 128]⟩
abbrev S1x128 : Shape := ⟨2, ![1, 128]⟩
abbrev S1x128x128 : Shape := ⟨3, ![1, 128, 128]⟩
abbrev S128 : Shape := ⟨1, ![128]⟩
abbrev S1x2048x128 : Shape := ⟨3, ![1, 2048, 128]⟩
abbrev S1 : Shape := ⟨1, ![1]⟩
abbrev S1x1x128 : Shape := ⟨3, ![1, 1, 128]⟩
abbrev S6x128 : Shape := ⟨2, ![6, 128]⟩
abbrev S1x6x128 : Shape := ⟨3, ![1, 6, 128]⟩
abbrev S_ : Shape := ⟨0, ![]⟩
abbrev S1x4096x128 : Shape := ⟨3, ![1, 4096, 128]⟩

abbrev nBuf : Space → Nat
  | .hbm => 7
  | .vmem => 13
  | .smem => 2
  | _ => 0

abbrev bufTy : (tb : Table) → Fin (tcTables nBuf tb) → BufTy
  | .hbm, ⟨0, _⟩ => ⟨S4096x7168, .f32⟩
  | .hbm, ⟨1, _⟩ => ⟨S4096x1024, .f32⟩
  | .hbm, ⟨2, _⟩ => ⟨S1x8, .f32⟩
  | .hbm, ⟨3, _⟩ => ⟨S1x8, .f32⟩
  | .hbm, ⟨4, _⟩ => ⟨S4096x7168, .bf16⟩
  | .hbm, ⟨5, _⟩ => ⟨S8x8x128, .f32⟩
  | .hbm, ⟨6, _⟩ => ⟨S4096x7168, .bf16⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S1x8x128, .f32⟩
  | .local _ .vmem, ⟨9, _⟩ => ⟨S1x8x128, .f32⟩
  | .local _ .vmem, ⟨10, _⟩ => ⟨S2x32x128x128, .f32⟩
  | .local _ .vmem, ⟨11, _⟩ => ⟨S2x32x128x128, .f32⟩
  | .local _ .vmem, ⟨12, _⟩ => ⟨S3x4096x128, .bf16⟩
  | .local _ .smem, ⟨0, _⟩ => ⟨S1x8, .f32⟩
  | .local _ .smem, ⟨1, _⟩ => ⟨S1x8, .f32⟩
  | _, _ => ⟨S4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c0 : Index := 0#32
  let arg0 : BitVec 32 := BitVec.ofNat 32 (i 0).val
  let v0 : Index := Scalar.indexCast arg0
  ![0, v0.toNat]
@[reducible] def k0_t1_loop : Scf.Loop 32 :=
  let c0_i32_12 : BitVec 32 := 0#32
  let c2_i32 : BitVec 32 := 2#32
  let v66 : BitVec 32 := Scalar.addi c0_i32_12 c2_i32
  let c1_i32 : BitVec 32 := 1#32
  ⟨c0_i32_12, v66, c1_i32⟩
def k0_mult1 (k0_t1 : Fin k0_t1_loop.trips) : BitVec 32 :=
  let c0_i32_12 : BitVec 32 := 0#32
  let c1_i32 : BitVec 32 := 1#32
  let arg14 : BitVec 32 := Scf.iv c0_i32_12 c1_i32 k0_t1
  let c2048_i32 : BitVec 32 := 2048#32
  let v135 : BitVec 32 := Scalar.muli arg14 c2048_i32
  v135
def k0_mult2 (k0_t1 : Fin k0_t1_loop.trips) : BitVec 32 :=
  let c0_i32_12 : BitVec 32 := 0#32
  let c1_i32 : BitVec 32 := 1#32
  let arg14 : BitVec 32 := Scf.iv c0_i32_12 c1_i32 k0_t1
  let c16_i32 : BitVec 32 := 16#32
  let v137 : BitVec 32 := Scalar.muli arg14 c16_i32
  v137
def k0_off2 (k0_t1 : Fin k0_t1_loop.trips) : Fin 2 → Nat :=
  let c0_i32_12 : BitVec 32 := 0#32
  let c1_i32 : BitVec 32 := 1#32
  let arg14 : BitVec 32 := Scf.iv c0_i32_12 c1_i32 k0_t1
  let c2048_i32 : BitVec 32 := 2048#32
  let v135 : BitVec 32 := Scalar.muli arg14 c2048_i32
  let v136 : BitVec 32 := v135
  let v139 : Index := Scalar.indexCast v136
  let c0_71 : Index := 0#32
  ![v139.toNat, 0]
def k0_off3 (k0_t1 : Fin k0_t1_loop.trips) : Fin 4 → Nat :=
  let c0_77 : Index := 0#32
  let c0_i32_12 : BitVec 32 := 0#32
  let c1_i32 : BitVec 32 := 1#32
  let arg14 : BitVec 32 := Scf.iv c0_i32_12 c1_i32 k0_t1
  let c16_i32 : BitVec 32 := 16#32
  let v137 : BitVec 32 := Scalar.muli arg14 c16_i32
  let v138 : BitVec 32 := v137
  let v160 : Index := Scalar.indexCast v138
  let c0_78 : Index := 0#32
  let c0_79 : Index := 0#32
  ![0, v160.toNat, 0, 0]
def k0_off4 (k0_t1 : Fin k0_t1_loop.trips) : Fin 4 → Nat :=
  let c1_85 : Index := 1#32
  let c0_i32_12 : BitVec 32 := 0#32
  let c1_i32 : BitVec 32 := 1#32
  let arg14 : BitVec 32 := Scf.iv c0_i32_12 c1_i32 k0_t1
  let c16_i32 : BitVec 32 := 16#32
  let v137 : BitVec 32 := Scalar.muli arg14 c16_i32
  let v138 : BitVec 32 := v137
  let v178 : Index := Scalar.indexCast v138
  let c0_86 : Index := 0#32
  let c0_87 : Index := 0#32
  ![1, v178.toNat, 0, 0]
@[reducible] def k0_t2_loop : Scf.Loop 32 :=
  let c0_i32_15 : BitVec 32 := 0#32
  let c32_i32 : BitVec 32 := 32#32
  let v68 : BitVec 32 := Scalar.addi c0_i32_15 c32_i32
  let c1_i32_16 : BitVec 32 := 1#32
  ⟨c0_i32_15, v68, c1_i32_16⟩
def k0_off5 (k0_t2 : Fin k0_t2_loop.trips) : Fin 4 → Nat :=
  let c0_71 : Index := 0#32
  let c0_i32_15 : BitVec 32 := 0#32
  let c1_i32_16 : BitVec 32 := 1#32
  let arg14 : BitVec 32 := Scf.iv c0_i32_15 c1_i32_16 k0_t2
  let v135 : Index := Scalar.indexCast arg14
  let c0_72 : Index := 0#32
  let c0_73 : Index := 0#32
  ![0, v135.toNat, 0, 0]
def k0_off6 (k0_t2 : Fin k0_t2_loop.trips) : Fin 4 → Nat :=
  let c1_77 : Index := 1#32
  let c31_i32 : BitVec 32 := 31#32
  let c0_i32_15 : BitVec 32 := 0#32
  let c1_i32_16 : BitVec 32 := 1#32
  let arg14 : BitVec 32 := Scf.iv c0_i32_15 c1_i32_16 k0_t2
  let v145 : BitVec 32 := Scalar.subi c31_i32 arg14
  let v146 : Index := Scalar.indexCast v145
  let c0_78 : Index := 0#32
  let c0_79 : Index := 0#32
  ![1, v146.toNat, 0, 0]
@[reducible] def k0_t3_loop : Scf.Loop 32 :=
  let c0_i32_19 : BitVec 32 := 0#32
  let c32_i32_20 : BitVec 32 := 32#32
  let v71 : BitVec 32 := Scalar.addi c0_i32_19 c32_i32_20
  let c1_i32_21 : BitVec 32 := 1#32
  ⟨c0_i32_19, v71, c1_i32_21⟩
def k0_off7 (k0_t3 : Fin k0_t3_loop.trips) : Fin 4 → Nat :=
  let c0_71 : Index := 0#32
  let c31_i32 : BitVec 32 := 31#32
  let c0_i32_19 : BitVec 32 := 0#32
  let c1_i32_21 : BitVec 32 := 1#32
  let arg14 : BitVec 32 := Scf.iv c0_i32_19 c1_i32_21 k0_t3
  let v135 : BitVec 32 := Scalar.subi c31_i32 arg14
  let v136 : Index := Scalar.indexCast v135
  let c0_72 : Index := 0#32
  let c0_73 : Index := 0#32
  ![0, v136.toNat, 0, 0]
def k0_off8 (k0_t3 : Fin k0_t3_loop.trips) : Fin 4 → Nat :=
  let c1_77 : Index := 1#32
  let c0_i32_19 : BitVec 32 := 0#32
  let c1_i32_21 : BitVec 32 := 1#32
  let arg14 : BitVec 32 := Scf.iv c0_i32_19 c1_i32_21 k0_t3
  let v146 : Index := Scalar.indexCast arg14
  let c0_78 : Index := 0#32
  let c0_79 : Index := 0#32
  ![1, v146.toNat, 0, 0]
@[reducible] def k0_t4_loop : Scf.Loop 32 :=
  let c0_i32_24 : BitVec 32 := 0#32
  let c2_i32_25 : BitVec 32 := 2#32
  let v74 : BitVec 32 := Scalar.addi c0_i32_24 c2_i32_25
  let c1_i32_26 : BitVec 32 := 1#32
  ⟨c0_i32_24, v74, c1_i32_26⟩
def k0_mult3 (k0_t4 : Fin k0_t4_loop.trips) : BitVec 32 :=
  let c0_i32_24 : BitVec 32 := 0#32
  let c1_i32_26 : BitVec 32 := 1#32
  let arg14 : BitVec 32 := Scf.iv c0_i32_24 c1_i32_26 k0_t4
  let c2048_i32 : BitVec 32 := 2048#32
  let v135 : BitVec 32 := Scalar.muli arg14 c2048_i32
  v135
def k0_mult4 (k0_t4 : Fin k0_t4_loop.trips) : BitVec 32 :=
  let c0_i32_24 : BitVec 32 := 0#32
  let c1_i32_26 : BitVec 32 := 1#32
  let arg14 : BitVec 32 := Scf.iv c0_i32_24 c1_i32_26 k0_t4
  let c16_i32 : BitVec 32 := 16#32
  let v137 : BitVec 32 := Scalar.muli arg14 c16_i32
  v137
def k0_off9 (k0_t4 : Fin k0_t4_loop.trips) : Fin 2 → Nat :=
  let c0_i32_24 : BitVec 32 := 0#32
  let c1_i32_26 : BitVec 32 := 1#32
  let arg14 : BitVec 32 := Scf.iv c0_i32_24 c1_i32_26 k0_t4
  let c2048_i32 : BitVec 32 := 2048#32
  let v135 : BitVec 32 := Scalar.muli arg14 c2048_i32
  let v136 : BitVec 32 := v135
  let v139 : Index := Scalar.indexCast v136
  let c0_71 : Index := 0#32
  ![v139.toNat, 0]
def k0_off10 (k0_t4 : Fin k0_t4_loop.trips) : Fin 4 → Nat :=
  let c0_78 : Index := 0#32
  let c0_i32_24 : BitVec 32 := 0#32
  let c1_i32_26 : BitVec 32 := 1#32
  let arg14 : BitVec 32 := Scf.iv c0_i32_24 c1_i32_26 k0_t4
  let c16_i32 : BitVec 32 := 16#32
  let v137 : BitVec 32 := Scalar.muli arg14 c16_i32
  let v138 : BitVec 32 := v137
  let v159 : Index := Scalar.indexCast v138
  let c0_79 : Index := 0#32
  let c0_80 : Index := 0#32
  ![0, v159.toNat, 0, 0]
def k0_off11 (k0_t4 : Fin k0_t4_loop.trips) : Fin 4 → Nat :=
  let c1_97 : Index := 1#32
  let c0_i32_24 : BitVec 32 := 0#32
  let c1_i32_26 : BitVec 32 := 1#32
  let arg14 : BitVec 32 := Scf.iv c0_i32_24 c1_i32_26 k0_t4
  let c16_i32 : BitVec 32 := 16#32
  let v137 : BitVec 32 := Scalar.muli arg14 c16_i32
  let v138 : BitVec 32 := v137
  let v227 : Index := Scalar.indexCast v138
  let c0_98 : Index := 0#32
  let c0_99 : Index := 0#32
  ![1, v227.toNat, 0, 0]
def k0_off12 (k0_t4 : Fin k0_t4_loop.trips) : Fin 3 → Nat :=
  let c0_117 : Index := 0#32
  let c0_i32_24 : BitVec 32 := 0#32
  let c1_i32_26 : BitVec 32 := 1#32
  let arg14 : BitVec 32 := Scf.iv c0_i32_24 c1_i32_26 k0_t4
  let c2048_i32 : BitVec 32 := 2048#32
  let v135 : BitVec 32 := Scalar.muli arg14 c2048_i32
  let v136 : BitVec 32 := v135
  let v302 : Index := Scalar.indexCast v136
  let c0_118 : Index := 0#32
  ![0, v302.toNat, 0]
def k0_off13 (k0_t4 : Fin k0_t4_loop.trips) : Fin 3 → Nat :=
  let c1_119 : Index := 1#32
  let c0_i32_24 : BitVec 32 := 0#32
  let c1_i32_26 : BitVec 32 := 1#32
  let arg14 : BitVec 32 := Scf.iv c0_i32_24 c1_i32_26 k0_t4
  let c2048_i32 : BitVec 32 := 2048#32
  let v135 : BitVec 32 := Scalar.muli arg14 c2048_i32
  let v136 : BitVec 32 := v135
  let v308 : Index := Scalar.indexCast v136
  let c0_120 : Index := 0#32
  ![1, v308.toNat, 0]
def k0_off14 (k0_t4 : Fin k0_t4_loop.trips) : Fin 3 → Nat :=
  let c2_121 : Index := 2#32
  let c0_i32_24 : BitVec 32 := 0#32
  let c1_i32_26 : BitVec 32 := 1#32
  let arg14 : BitVec 32 := Scf.iv c0_i32_24 c1_i32_26 k0_t4
  let c2048_i32 : BitVec 32 := 2048#32
  let v135 : BitVec 32 := Scalar.muli arg14 c2048_i32
  let v136 : BitVec 32 := v135
  let v314 : Index := Scalar.indexCast v136
  let c0_122 : Index := 0#32
  ![2, v314.toNat, 0]
def k0_mult5 (i : grid0.Coords) : BitVec 32 :=
  let c24_i32 : BitVec 32 := 24#32
  let arg0 : BitVec 32 := BitVec.ofNat 32 (i 0).val
  let v96 : BitVec 32 := Scalar.addi c24_i32 arg0
  let c128_i32 : BitVec 32 := 128#32
  let v97 : BitVec 32 := Scalar.muli v96 c128_i32
  v97
def k0_mult6 (i : grid0.Coords) : BitVec 32 :=
  let c32_i32_38 : BitVec 32 := 32#32
  let arg0 : BitVec 32 := BitVec.ofNat 32 (i 0).val
  let v99 : BitVec 32 := Scalar.addi c32_i32_38 arg0
  let c128_i32_39 : BitVec 32 := 128#32
  let v100 : BitVec 32 := Scalar.muli v99 c128_i32_39
  v100
def k0_mult7 (i : grid0.Coords) : BitVec 32 :=
  let c40_i32 : BitVec 32 := 40#32
  let arg0 : BitVec 32 := BitVec.ofNat 32 (i 0).val
  let v102 : BitVec 32 := Scalar.addi c40_i32 arg0
  let c128_i32_40 : BitVec 32 := 128#32
  let v103 : BitVec 32 := Scalar.muli v102 c128_i32_40
  v103
def k0_off15 (i : grid0.Coords) (c24_i32 : BitVec 32) : Fin 2 → Nat :=
  let c0_i32_43 : BitVec 32 := 0#32
  let arg0 : BitVec 32 := BitVec.ofNat 32 (i 0).val
  let v96 : BitVec 32 := Scalar.addi c24_i32 arg0
  let c128_i32 : BitVec 32 := 128#32
  let v97 : BitVec 32 := Scalar.muli v96 c128_i32
  let v98 : BitVec 32 := v97
  ![0, v98.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel2.lean ====
abbrev S8x4096x704 : Shape := ⟨3, ![8, 4096, 704]⟩
abbrev S4096x2048 : Shape := ⟨2, ![4096, 2048]⟩
abbrev S8x704x2048 : Shape := ⟨3, ![8, 704, 2048]⟩
abbrev S1x4096x704 : Shape := ⟨3, ![1, 4096, 704]⟩
abbrev S4096x1024 : Shape := ⟨2, ![4096, 1024]⟩
abbrev S1x704x1024 : Shape := ⟨3, ![1, 704, 1024]⟩
abbrev S704x1024 : Shape := ⟨2, ![704, 1024]⟩
abbrev S4096x704 : Shape := ⟨2, ![4096, 704]⟩

abbrev nBuf : Space → Nat
  | .hbm => 3
  | .vmem => 7
  | .smem => 0
  | _ => 0

abbrev bufTy : (tb : Table) → Fin (tcTables nBuf tb) → BufTy
  | .hbm, ⟨0, _⟩ => ⟨S8x4096x704, .bf16⟩
  | .hbm, ⟨1, _⟩ => ⟨S4096x2048, .bf16⟩
  | .hbm, ⟨2, _⟩ => ⟨S8x704x2048, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S4096x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8x4096x704 : Shape := ⟨3, ![8, 4096, 704]⟩
abbrev S4096x2048 : Shape := ⟨2, ![4096, 2048]⟩
abbrev S4096x8x704 : Shape := ⟨3, ![4096, 8, 704]⟩
abbrev S4096x5632 : Shape := ⟨2, ![4096, 5632]⟩
abbrev S_ : Shape := ⟨0, ![]⟩
abbrev S2048x5632 : Shape := ⟨2, ![2048, 5632]⟩
abbrev S5632x2048 : Shape := ⟨2, ![5632, 2048]⟩
abbrev S8x704x2048 : Shape := ⟨3, ![8, 704, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S4096x2048, .bf16⟩
  | .hbm, ⟨2, _⟩ => ⟨S4096x2048, .f32⟩
  | .hbm, ⟨3, _⟩ => ⟨S8x4096x704, .f32⟩
  | .hbm, ⟨4, _⟩ => ⟨S4096x8x704, .f32⟩
  | .hbm, ⟨5, _⟩ => ⟨S4096x5632, .f32⟩
  | .hbm, ⟨6, _⟩ => ⟨S_, .f32⟩
  | .hbm, ⟨7, _⟩ => ⟨S2048x5632, .f32⟩
  | .hbm, ⟨8, _⟩ => ⟨S4096x5632, .f32⟩
  | .hbm, ⟨9, _⟩ => ⟨S5632x2048, .f32⟩
  | .hbm, ⟨10, _⟩ => ⟨S2048x5632, .f32⟩
  | .hbm, ⟨11, _⟩ => ⟨S5632x2048, .f32⟩
  | .hbm, ⟨12, _⟩ => ⟨S8x704x2048, .f32⟩
  | .hbm, ⟨13, _⟩ => ⟨S8x704x2048, .bf16⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel3.lean ====
abbrev S4096x2048 : Shape := ⟨2, ![4096, 2048]⟩
abbrev S4096x7168 : Shape := ⟨2, ![4096, 7168]⟩
abbrev S8x1024x896 : Shape := ⟨3, ![8, 1024, 896]⟩
abbrev S4096x512 : Shape := ⟨2, ![4096, 512]⟩
abbrev S4096x896 : Shape := ⟨2, ![4096, 896]⟩
abbrev S1x512x896 : Shape := ⟨3, ![1, 512, 896]⟩
abbrev S512x896 : Shape := ⟨2, ![512, 896]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x7168, .bf16⟩
  | .hbm, ⟨2, _⟩ => ⟨S8x1024x896, .bf16⟩
  | .local _ .vmem, ⟨0, _⟩ => ⟨S4096x512, .bf16⟩
  | .local _ .vmem, ⟨1, _⟩ => ⟨S4096x512, .bf16⟩
  | .local _ .vmem, ⟨2, _⟩ => ⟨S4096x896, .bf16⟩
  | .local _ .vmem, ⟨3, _⟩ => ⟨S4096x896, .bf16⟩
  | .local _ .vmem, ⟨4, _⟩ => ⟨S1x512x896, .bf16⟩
  | .local _ .vmem, ⟨5, _⟩ => ⟨S1x512x896, .bf16⟩
  | .local _ .vmem, ⟨6, _⟩ => ⟨S512x896, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S4096x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x512x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2048 : Shape := ⟨2, ![4096, 2048]⟩
abbrev S4096x7168 : Shape := ⟨2, ![4096, 7168]⟩
abbrev S_ : Shape := ⟨0, ![]⟩
abbrev S2048x7168 : Shape := ⟨2, ![2048, 7168]⟩
abbrev S7168x2048 : Shape := ⟨2, ![7168, 2048]⟩
abbrev S2x1024x8x896 : Shape := ⟨4, ![2, 1024, 8, 896]⟩
abbrev S1x1024x8x896 : Shape := ⟨4, ![1, 1024, 8, 896]⟩
abbrev S1024x8x896 : Shape := ⟨3, ![1024, 8, 896]⟩
abbrev S8x1024x896 : Shape := ⟨3, ![8, 1024, 896]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x7168, .bf16⟩
  | .hbm, ⟨2, _⟩ => ⟨S4096x2048, .f32⟩
  | .hbm, ⟨3, _⟩ => ⟨S_, .f32⟩
  | .hbm, ⟨4, _⟩ => ⟨S2048x7168, .f32⟩
  | .hbm, ⟨5, _⟩ => ⟨S4096x7168, .f32⟩
  | .hbm, ⟨6, _⟩ => ⟨S4096x7168, .f32⟩
  | .hbm, ⟨7, _⟩ => ⟨S7168x2048, .f32⟩
  | .hbm, ⟨8, _⟩ => ⟨S2048x7168, .f32⟩
  | .hbm, ⟨9, _⟩ => ⟨S2x1024x8x896, .f32⟩
  | .hbm, ⟨10, _⟩ => ⟨S1x1024x8x896, .f32⟩
  | .hbm, ⟨11, _⟩ => ⟨S1024x8x896, .f32⟩
  | .hbm, ⟨12, _⟩ => ⟨S8x1024x896, .f32⟩
  | .hbm, ⟨13, _⟩ => ⟨S8x1024x896, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel4.lean ====
abbrev S4096x2048 : Shape := ⟨2, ![4096, 2048]⟩
abbrev S4096x7168 : Shape := ⟨2, ![4096, 7168]⟩
abbrev S8x1024x896 : Shape := ⟨3, ![8, 1024, 896]⟩
abbrev S4096x512 : Shape := ⟨2, ![4096, 512]⟩
abbrev S4096x896 : Shape := ⟨2, ![4096, 896]⟩
abbrev S1x512x896 : Shape := ⟨3, ![1, 512, 896]⟩
abbrev S512x896 : Shape := ⟨2, ![512, 896]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x7168, .bf16⟩
  | .hbm, ⟨2, _⟩ => ⟨S8x1024x896, .bf16⟩
  | .local _ .vmem, ⟨0, _⟩ => ⟨S4096x512, .bf16⟩
  | .local _ .vmem, ⟨1, _⟩ => ⟨S4096x512, .bf16⟩
  | .local _ .vmem, ⟨2, _⟩ => ⟨S4096x896, .bf16⟩
  | .local _ .vmem, ⟨3, _⟩ => ⟨S4096x896, .bf16⟩
  | .local _ .vmem, ⟨4, _⟩ => ⟨S1x512x896, .bf16⟩
  | .local _ .vmem, ⟨5, _⟩ => ⟨S1x512x896, .bf16⟩
  | .local _ .vmem, ⟨6, _⟩ => ⟨S512x896, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S4096x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x512x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2048 : Shape := ⟨2, ![4096, 2048]⟩
abbrev S4096x7168 : Shape := ⟨2, ![4096, 7168]⟩
abbrev S_ : Shape := ⟨0, ![]⟩
abbrev S2048x7168 : Shape := ⟨2, ![2048, 7168]⟩
abbrev S7168x2048 : Shape := ⟨2, ![7168, 2048]⟩
abbrev S2x1024x8x896 : Shape := ⟨4, ![2, 1024, 8, 896]⟩
abbrev S1x1024x8x896 : Shape := ⟨4, ![1, 1024, 8, 896]⟩
abbrev S1024x8x896 : Shape := ⟨3, ![1024, 8, 896]⟩
abbrev S8x1024x896 : Shape := ⟨3, ![8, 1024, 896]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x7168, .bf16⟩
  | .hbm, ⟨2, _⟩ => ⟨S4096x2048, .f32⟩
  | .hbm, ⟨3, _⟩ => ⟨S_, .f32⟩
  | .hbm, ⟨4, _⟩ => ⟨S2048x7168, .f32⟩
  | .hbm, ⟨5, _⟩ => ⟨S4096x7168, .f32⟩
  | .hbm, ⟨6, _⟩ => ⟨S4096x7168, .f32⟩
  | .hbm, ⟨7, _⟩ => ⟨S7168x2048, .f32⟩
  | .hbm, ⟨8, _⟩ => ⟨S2048x7168, .f32⟩
  | .hbm, ⟨9, _⟩ => ⟨S2x1024x8x896, .f32⟩
  | .hbm, ⟨10, _⟩ => ⟨S1x1024x8x896, .f32⟩
  | .hbm, ⟨11, _⟩ => ⟨S1024x8x896, .f32⟩
  | .hbm, ⟨12, _⟩ => ⟨S8x1024x896, .f32⟩
  | .hbm, ⟨13, _⟩ => ⟨S8x1024x896, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel5.lean ====
abbrev S4096x2048 : Shape := ⟨2, ![4096, 2048]⟩
abbrev S2048x2048 : Shape := ⟨2, ![2048, 2048]⟩
abbrev S2048x512 : Shape := ⟨2, ![2048, 512]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S_, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x2048 : Shape := ⟨2, ![4096, 2048]⟩
abbrev S5632x2048 : Shape := ⟨2, ![5632, 2048]⟩
abbrev S8x4096x704 : Shape := ⟨3, ![8, 4096, 704]⟩
abbrev S1024x2048 : Shape := ⟨2, ![1024, 2048]⟩
abbrev S704x2048 : Shape := ⟨2, ![704, 2048]⟩
abbrev S1x1024x704 : Shape := ⟨3, ![1, 1024, 704]⟩
abbrev S1024x704 : Shape := ⟨2, ![1024, 704]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S8x4096x704, .bf16⟩
  | .hbm, ⟨3, _⟩ => ⟨S8x4096x704, .bf16⟩
  | .hbm, ⟨4, _⟩ => ⟨S8x4096x704, .bf16⟩
  | .hbm, ⟨5, _⟩ => ⟨S8x4096x704, .bf16⟩
  | .local _ .vmem, ⟨0, _⟩ => ⟨S1024x2048, .bf16⟩
  | .local _ .vmem, ⟨1, _⟩ => ⟨S1024x2048, .bf16⟩
  | .local _ .vmem, ⟨2, _⟩ => ⟨S704x2048, .bf16⟩
  | .local _ .vmem, ⟨3, _⟩ => ⟨S704x2048, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S4096x2048 : Shape := ⟨2, ![4096, 2048]⟩
abbrev S5632x2048 : Shape := ⟨2, ![5632, 2048]⟩
abbrev S8x4096x704 : Shape := ⟨3, ![8, 4096, 704]⟩
abbrev S4096x8x704 : Shape := ⟨3, ![4096, 8, 704]⟩
abbrev S4096x5632 : Shape := ⟨2, ![4096, 5632]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S8x4096x704, .bf16⟩
  | .hbm, ⟨3, _⟩ => ⟨S8x4096x704, .bf16⟩
  | .hbm, ⟨4, _⟩ => ⟨S8x4096x704, .f32⟩
  | .hbm, ⟨5, _⟩ => ⟨S4096x8x704, .f32⟩
  | .hbm, ⟨6, _⟩ => ⟨S4096x5632, .f32⟩
  | .hbm, ⟨7, _⟩ => ⟨S8x4096x704, .f32⟩
  | .hbm, ⟨8, _⟩ => ⟨S4096x8x704, .f32⟩
  | .hbm, ⟨9, _⟩ => ⟨S4096x5632, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S5632x2048, .f32⟩
  | .hbm, ⟨21, _⟩ => ⟨S4096x2048, .f32⟩
  | .hbm, ⟨22, _⟩ => ⟨S4096x2048, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S_, .f32⟩
  | .hbm, ⟨29, _⟩ => ⟨S4096x5632, .f32⟩
  | .hbm, ⟨30, _⟩ => ⟨S4096x5632, .f32⟩
  | .hbm, ⟨31, _⟩ => ⟨S_, .f32⟩
  | .hbm, ⟨32, _⟩ => ⟨S4096x5632, .f32⟩
  | .hbm, ⟨33, _⟩ => ⟨S4096x5632, .f32⟩
  | .hbm, ⟨34, _⟩ => ⟨S_, .f32⟩
  | .hbm, ⟨35, _⟩ => ⟨S4096x5632, .f32⟩
  | .hbm, ⟨36, _⟩ => ⟨S4096x5632, .f32⟩
  | .hbm, ⟨37, _⟩ => ⟨S4096x5632, .f32⟩
  | .hbm, ⟨38, _⟩ => ⟨S4096x5632, .f32⟩
  | .hbm, ⟨39, _⟩ => ⟨S_, .f32⟩
  | .hbm, ⟨40, _⟩ => ⟨S4096x5632, .f32⟩
  | .hbm, ⟨41, _⟩ => ⟨S4096x5632, .f32⟩
  | .hbm, ⟨42, _⟩ => ⟨S4096x5632, .f32⟩
  | .hbm, ⟨43, _⟩ => ⟨S4096x5632, .f32⟩
  | .hbm, ⟨44, _⟩ => ⟨S4096x5632, .f32⟩
  | .hbm, ⟨45, _⟩ => ⟨S4096x5632, .f32⟩
  | .hbm, ⟨46, _⟩ => ⟨S4096x8x704, .f32⟩
  | .hbm, ⟨47, _⟩ => ⟨S8x4096x704, .f32⟩
  | .hbm, ⟨48, _⟩ => ⟨S8x4096x704, .bf16⟩
  | .hbm, ⟨49, _⟩ => ⟨S4096x8x704, .f32⟩
  | .hbm, ⟨50, _⟩ => ⟨S8x4096x704, .f32⟩
  | .hbm, ⟨51, _⟩ => ⟨S8x4096x704, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_v14_2 : Ref sig .tc := ⟨.hbm, 33, rfl⟩
abbrev main_call1_cst_1 : Ref sig .tc := ⟨.hbm, 34, rfl⟩
abbrev main_call1_v6 : Ref sig .tc := ⟨.hbm, 35, rfl⟩
abbrev main_call1_v7 : Ref sig .tc := ⟨.hbm, 36, rfl⟩
abbrev main_v14_1 : Ref sig .tc := ⟨.hbm, 37, rfl⟩
abbrev main_v14_0 : Ref sig .tc := ⟨.hbm, 38, rfl⟩
abbrev main_cst : Ref sig .tc := ⟨.hbm, 39, rfl⟩
abbrev main_v15 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩

abbrev nD : Nat := 1
abbrev τ : Topo := Topo.v7x

variable {F : FTy → Type} [FloatOps F]
-- ==== Kernel7.lean ====
abbrev S8x4096x704 : Shape := ⟨3, ![8, 4096, 704]⟩
abbrev S8x704x2048 : Shape := ⟨3, ![8, 704, 2048]⟩
abbrev S4096x2048 : Shape := ⟨2, ![4096, 2048]⟩
abbrev S1x2048 : Shape := ⟨2, ![1, 2048]⟩
abbrev S5632x2048 : Shape := ⟨2, ![5632, 2048]⟩
abbrev S8x256x704 : Shape := ⟨3, ![8, 256, 704]⟩
abbrev S256x2048 : Shape := ⟨2, ![256, 2048]⟩
abbrev S1x256x704 : Shape := ⟨3, ![1, 256, 704]⟩
abbrev S256x704 : Shape := ⟨2, ![256, 704]⟩
abbrev S704x2048 : Shape := ⟨2, ![704, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 15
  | .smem => 0
  | _ => 0

abbrev bufTy : (tb : Table) → Fin (tcTables nBuf tb) → BufTy
  | .hbm, ⟨0, _⟩ => ⟨S8x4096x704, .bf16⟩
  | .hbm, ⟨1, _⟩ => ⟨S8x704x2048, .bf16⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S1x2048, .f32⟩
  | .hbm, ⟨6, _⟩ => ⟨S5632x2048, .bf16⟩
  | .hbm, ⟨7, _⟩ => ⟨S4096x2048, .f32⟩
  | .hbm, ⟨8, _⟩ => ⟨S4096x2048, .bf16⟩
  | .hbm, ⟨9, _⟩ => ⟨S1x2048, .f32⟩
  | .local _ .vmem, ⟨0, _⟩ => ⟨S8x256x704, .bf16⟩
  | .local _ .vmem, ⟨1, _⟩ => ⟨S8x256x704, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S1x2048, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference7Ideal.lean ====
abbrev S8x4096x704 : Shape := ⟨3, ![8, 4096, 704]⟩
abbrev S8x704x2048 : Shape := ⟨3, ![8, 704, 2048]⟩
abbrev S4096x2048 : Shape := ⟨2, ![4096, 2048]⟩
abbrev S1x2048 : Shape := ⟨2, ![1, 2048]⟩
abbrev S5632x2048 : Shape := ⟨2, ![5632, 2048]⟩
abbrev S2048x5632 : Shape := ⟨2, ![2048, 5632]⟩
abbrev S2048 : Shape := ⟨1, ![2048]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x8x704 : Shape := ⟨3, ![4096, 8, 704]⟩

abbrev nBuf : Space → Nat
  | .hbm => 64
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S8x704x2048, .bf16⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S1x2048, .f32⟩
  | .hbm, ⟨6, _⟩ => ⟨S8x704x2048, .f32⟩
  | .hbm, ⟨7, _⟩ => ⟨S5632x2048, .f32⟩
  | .hbm, ⟨8, _⟩ => ⟨S2048x5632, .f32⟩
  | .hbm, ⟨9, _⟩ => ⟨S2048, .f32⟩
  | .hbm, ⟨10, _⟩ => ⟨S4096x2048, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x2048, .f32⟩
  | .hbm, ⟨26, _⟩ => ⟨S4096x2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x5632, .f32⟩
  | .hbm, ⟨31, _⟩ => ⟨S8x4096x704, .f32⟩
  | .hbm, ⟨32, _⟩ => ⟨S4096x8x704, .f32⟩
  | .hbm, ⟨33, _⟩ => ⟨S4096x5632, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S2048, .f32⟩
  | .hbm, ⟨44, _⟩ => ⟨S4096x2048, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x2048, .f32⟩
  | .hbm, ⟨49, _⟩ => ⟨S4096x2048, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S4096x2048, .bf16⟩
  | .hbm, ⟨63, _⟩ => ⟨S1x2048, .f32⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== Kernel8.lean ====
abbrev S4096x2048 : Shape := ⟨2, ![4096, 2048]⟩
abbrev S2048x2048 : Shape := ⟨2, ![2048, 2048]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4096x7168 : Shape := ⟨2, ![4096, 7168]⟩
abbrev S8x2048x896 : Shape := ⟨3, ![8, 2048, 896]⟩
abbrev S4096x2048 : Shape := ⟨2, ![4096, 2048]⟩
abbrev S1x2048 : Shape := ⟨2, ![1, 2048]⟩
abbrev S256x7168 : Shape := ⟨2, ![256, 7168]⟩
abbrev S256x2048 : Shape := ⟨2, ![256, 2048]⟩
abbrev S256x896 : Shape := ⟨2, ![256, 896]⟩
abbrev S1x2048x896 : Shape := ⟨3, ![1, 2048, 896]⟩
abbrev S2048x896 : Shape := ⟨2, ![2048, 896]⟩
abbrev S256 : Shape := ⟨1, ![256]⟩
abbrev S256x1 : Shape := ⟨2, ![256, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S4096x7168, .bf16⟩
  | .hbm, ⟨1, _⟩ => ⟨S8x2048x896, .bf16⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S1x2048, .f32⟩
  | .local _ .vmem, ⟨0, _⟩ => ⟨S256x7168, .bf16⟩
  | .local _ .vmem, ⟨1, _⟩ => ⟨S256x7168, .bf16⟩
  | .local _ .vmem, ⟨2, _⟩ => ⟨S8x2048x896, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference9Ideal.lean ====
abbrev S4096x7168 : Shape := ⟨2, ![4096, 7168]⟩
abbrev S8x2048x896 : Shape := ⟨3, ![8, 2048, 896]⟩
abbrev S4096x2048 : Shape := ⟨2, ![4096, 2048]⟩
abbrev S1x2048 : Shape := ⟨2, ![1, 2048]⟩
abbrev S2048x8x896 : Shape := ⟨3, ![2048, 8, 896]⟩
abbrev S2048x7168 : Shape := ⟨2, ![2048, 7168]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 59
  | .vmem => 0
  | .smem => 0
  | _ => 0

abbrev bufTy : (tb : Table) → Fin (tcTables nBuf tb) → BufTy
  | .hbm, ⟨0, _⟩ => ⟨S4096x7168, .bf16⟩
  | .hbm, ⟨1, _⟩ => ⟨S8x2048x896, .bf16⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S8x2048x896, .f32⟩
  | .hbm, ⟨6, _⟩ => ⟨S2048x8x896, .f32⟩
  | .hbm, ⟨7, _⟩ => ⟨S2048x7168, .f32⟩
  | .hbm, ⟨8, _⟩ => ⟨S2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x7168, .f32⟩
  | .hbm, ⟨30, _⟩ => ⟨S4096x7168, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S2048, .f32⟩
  | .hbm, ⟨40, _⟩ => ⟨S4096x2048, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x2048, .f32⟩
  | .hbm, ⟨45, _⟩ => ⟨S4096x2048, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S1x2048, .f32⟩
  | _, _ => ⟨S4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel10.lean ====
abbrev S4096x2048 : Shape := ⟨2, ![4096, 2048]⟩
abbrev S8x704x2048 : Shape := ⟨3, ![8, 704, 2048]⟩
abbrev S8x4096x704 : Shape := ⟨3, ![8, 4096, 704]⟩
abbrev S1024x2048 : Shape := ⟨2, ![1024, 2048]⟩
abbrev S1x704x2048 : Shape := ⟨3, ![1, 704, 2048]⟩
abbrev S1x1024x704 : Shape := ⟨3, ![1, 1024, 704]⟩
abbrev S704x2048 : Shape := ⟨2, ![704, 2048]⟩
abbrev S1024x704 : Shape := ⟨2, ![1024, 704]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S8x704x2048, .bf16⟩
  | .hbm, ⟨2, _⟩ => ⟨S8x704x2048, .bf16⟩
  | .hbm, ⟨3, _⟩ => ⟨S8x4096x704, .bf16⟩
  | .hbm, ⟨4, _⟩ => ⟨S8x4096x704, .bf16⟩
  | .hbm, ⟨5, _⟩ => ⟨S8x4096x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference10Ideal.lean ====
abbrev S4096x2048 : Shape := ⟨2, ![4096, 2048]⟩
abbrev S8x704x2048 : Shape := ⟨3, ![8, 704, 2048]⟩
abbrev S5632x2048 : Shape := ⟨2, ![5632, 2048]⟩
abbrev S2048x5632 : Shape := ⟨2, ![2048, 5632]⟩
abbrev S4096x5632 : Shape := ⟨2, ![4096, 5632]⟩
abbrev S4096x8x704 : Shape := ⟨3, ![4096, 8, 704]⟩
abbrev S8x4096x704 : Shape := ⟨3, ![8, 4096, 704]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x704x2048, .bf16⟩
  | .hbm, ⟨2, _⟩ => ⟨S8x704x2048, .bf16⟩
  | .hbm, ⟨3, _⟩ => ⟨S8x704x2048, .f32⟩
  | .hbm, ⟨4, _⟩ => ⟨S5632x2048, .f32⟩
  | .hbm, ⟨5, _⟩ => ⟨S2048x5632, .f32⟩
  | .hbm, ⟨6, _⟩ => ⟨S8x704x2048, .f32⟩
  | .hbm, ⟨7, _⟩ => ⟨S5632x2048, .f32⟩
  | .hbm, ⟨8, _⟩ => ⟨S2048x5632, .f32⟩
  | .hbm, ⟨9, _⟩ => ⟨S4096x2048, .f32⟩
  | .hbm, ⟨10, _⟩ => ⟨S4096x5632, .f32⟩
  | .hbm, ⟨11, _⟩ => ⟨S4096x5632, .f32⟩
  | .hbm, ⟨12, _⟩ => ⟨S4096x8x704, .f32⟩
  | .hbm, ⟨13, _⟩ => ⟨S8x4096x704, .f32⟩
  | .hbm, ⟨14, _⟩ => ⟨S8x4096x704, .bf16⟩
  | .hbm, ⟨15, _⟩ => ⟨S4096x8x704, .f32⟩
  | .hbm, ⟨16, _⟩ => ⟨S8x4096x704, .f32⟩
  | .hbm, ⟨17, _⟩ => ⟨S8x4096x704, .bf16⟩
  | .hbm, ⟨18, _⟩ => ⟨S4096x5632, .f32⟩
  | .hbm, ⟨19, _⟩ => ⟨S4096x5632, .f32⟩
  | .hbm, ⟨20, _⟩ => ⟨S_, .f32⟩
  | .hbm, ⟨21, _⟩ => ⟨S4096x5632, .f32⟩
  | .hbm, ⟨22, _⟩ => ⟨S4096x5632, .f32⟩
  | .hbm, ⟨23, _⟩ => ⟨S_, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x8x704, .f32⟩
  | .hbm, ⟨29, _⟩ => ⟨S8x4096x704, .f32⟩
  | .hbm, ⟨30, _⟩ => ⟨S8x4096x704, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel11.lean ====
abbrev S4096x2048 : Shape := ⟨2, ![4096, 2048]⟩
abbrev S4096x1024 : Shape := ⟨2, ![4096, 1024]⟩
abbrev S2048x2048 : Shape := ⟨2, ![2048, 2048]⟩
abbrev S1x2048 : Shape := ⟨2, ![1, 2048]⟩
abbrev S512x2048 : Shape := ⟨2, ![512, 2048]⟩
abbrev S512x1024 : Shape := ⟨2, ![512, 1024]⟩
abbrev S1024x2048 : Shape := ⟨2, ![1024, 2048]⟩
abbrev S512 : Shape := ⟨1, ![512]⟩
abbrev S512x1 : Shape := ⟨2, ![512, 1]⟩

abbrev nBuf : Space → Nat
  | .hbm => 8
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S2048x2048, .bf16⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S2048x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S4096x2048 : Shape := ⟨2, ![4096, 2048]⟩
abbrev S4096x1024 : Shape := ⟨2, ![4096, 1024]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S2048x2048, .bf16⟩
  | .hbm, ⟨4, _⟩ => ⟨S1x2048, .f32⟩
  | .hbm, ⟨5, _⟩ => ⟨S4096x2048, .f32⟩
  | .hbm, ⟨6, _⟩ => ⟨S2048x2048, .f32⟩
  | .hbm, ⟨7, _⟩ => ⟨S4096x2048, .f32⟩
  | .hbm, ⟨8, _⟩ => ⟨S4096x2048, .f32⟩
  | .hbm, ⟨9, _⟩ => ⟨S4096x2048, .bf16⟩
  | .hbm, ⟨10, _⟩ => ⟨S2048, .f32⟩
  | .hbm, ⟨11, _⟩ => ⟨S4096x2048, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel12.lean ====
abbrev S8x4096x704 : Shape := ⟨3, ![8, 4096, 704]⟩
abbrev S8x704x2048 : Shape := ⟨3, ![8, 704, 2048]⟩
abbrev S5632x2048 : Shape := ⟨2, ![5632, 2048]⟩
abbrev S4096x2048 : Shape := ⟨2, ![4096, 2048]⟩
abbrev S8x256x704 : Shape := ⟨3, ![8, 256, 704]⟩
abbrev S256x2048 : Shape := ⟨2, ![256, 2048]⟩
abbrev S1x256x704 : Shape := ⟨3, ![1, 256, 704]⟩
abbrev S256x704 : Shape := ⟨2, ![256, 704]⟩
abbrev S704x2048 : Shape := ⟨2, ![704, 2048]⟩

abbrev nBuf : Space → Nat
  | .hbm => 4
  | .vmem => 5
  | .smem => 0
  | _ => 0

abbrev bufTy : (tb : Table) → Fin (tcTables nBuf tb) → BufTy
  | .hbm, ⟨0, _⟩ => ⟨S8x4096x704, .bf16⟩
  | .hbm, ⟨1, _⟩ => ⟨S8x704x2048, .bf16⟩
  | .hbm, ⟨2, _⟩ => ⟨S5632x2048, .bf16⟩
  | .hbm, ⟨3, _⟩ => ⟨S4096x2048, .f32⟩
  | .local _ .vmem, ⟨0, _⟩ => ⟨S8x256x704, .bf16⟩
  | .local _ .vmem, ⟨1, _⟩ => ⟨S8x256x704, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference12Ideal.lean ====
abbrev S8x4096x704 : Shape := ⟨3, ![8, 4096, 704]⟩
abbrev S8x704x2048 : Shape := ⟨3, ![8, 704, 2048]⟩
abbrev S5632x2048 : Shape := ⟨2, ![5632, 2048]⟩
abbrev S2048x5632 : Shape := ⟨2, ![2048, 5632]⟩
abbrev S_ : Shape := ⟨0, ![]⟩
abbrev S4096x2048 : Shape := ⟨2, ![4096, 2048]⟩
abbrev S4096x5632 : Shape := ⟨2, ![4096, 5632]⟩
abbrev S4096x8x704 : Shape := ⟨3, ![4096, 8, 704]⟩

abbrev nBuf : Space → Nat
  | .hbm => 12
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S8x704x2048, .bf16⟩
  | .hbm, ⟨2, _⟩ => ⟨S8x704x2048, .f32⟩
  | .hbm, ⟨3, _⟩ => ⟨S5632x2048, .f32⟩
  | .hbm, ⟨4, _⟩ => ⟨S2048x5632, .f32⟩
  | .hbm, ⟨5, _⟩ => ⟨S_, .f32⟩
  | .hbm, ⟨6, _⟩ => ⟨S4096x2048, .f32⟩
  | .hbm, ⟨7, _⟩ => ⟨S4096x5632, .f32⟩
  | .hbm, ⟨8, _⟩ => ⟨S8x4096x704, .f32⟩
  | .hbm, ⟨9, _⟩ => ⟨S4096x8x704, .f32⟩
  | .hbm, ⟨10, _⟩ => ⟨S4096x5632, .f32⟩
  | .hbm, ⟨11, _⟩ => ⟨S4096x2048, .f32⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel13.lean ====
abbrev S4096x2048 : Shape := ⟨2, ![4096, 2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel14.lean ====
abbrev S8x4096x704 : Shape := ⟨3, ![8, 4096, 704]⟩
abbrev S5632x2048 : Shape := ⟨2, ![5632, 2048]⟩
abbrev S4096x2048 : Shape := ⟨2, ![4096, 2048]⟩
abbrev S1x2048 : Shape := ⟨2, ![1, 2048]⟩
abbrev S128x128 : Shape := ⟨2, ![128, 128]⟩
abbrev S8x256x704 : Shape := ⟨3, ![8, 256, 704]⟩
abbrev S256x2048 : Shape := ⟨2, ![256, 2048]⟩
abbrev S8x128 : Shape := ⟨2, ![8, 128]⟩
abbrev S1x256x704 : Shape := ⟨3, ![1, 256, 704]⟩
abbrev S256x704 : Shape := ⟨2, ![256, 704]⟩
abbrev S704x2048 : Shape := ⟨2, ![704, 2048]⟩
abbrev S256 : Shape := ⟨1, ![256]⟩
abbrev S256x1 : Shape := ⟨2, ![256, 1]⟩
abbrev S1x256x2048 : Shape := ⟨3, ![1, 256, 2048]⟩
abbrev S1 : Shape := ⟨1, ![1]⟩
abbrev S1x1x1 : Shape := ⟨3, ![1, 1, 1]⟩
abbrev S2048 : Shape := ⟨1, ![2048]⟩

abbrev nBuf : Space → Nat
  | .hbm => 9
  | .vmem => 15
  | .smem => 0
  | _ => 0

abbrev bufTy : (tb : Table) → Fin (tcTables nBuf tb) → BufTy
  | .hbm, ⟨0, _⟩ => ⟨S8x4096x704, .bf16⟩
  | .hbm, ⟨1, _⟩ => ⟨S5632x2048, .bf16⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S128x128, .f32⟩
  | .hbm, ⟨8, _⟩ => ⟨S1x2048, .f32⟩
  | .local _ .vmem, ⟨0, _⟩ => ⟨S8x256x704, .bf16⟩
  | .local _ .vmem, ⟨1, _⟩ => ⟨S8x256x704, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S8x128, .f32⟩
  | .local _ .vmem, ⟨13, _⟩ => ⟨S8x128, .f32⟩
  | .local _ .vmem, ⟨14, _⟩ => ⟨S1x2048, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference14Ideal.lean ====
abbrev S8x4096x704 : Shape := ⟨3, ![8, 4096, 704]⟩
abbrev S5632x2048 : Shape := ⟨2, ![5632, 2048]⟩
abbrev S4096x2048 : Shape := ⟨2, ![4096, 2048]⟩
abbrev S1x2048 : Shape := ⟨2, ![1, 2048]⟩
abbrev S4096x8x704 : Shape := ⟨3, ![4096, 8, 704]⟩
abbrev S4096x5632 : Shape := ⟨2, ![4096, 5632]⟩
abbrev S2048 : Shape := ⟨1, ![2048]⟩
abbrev S_ : Shape := ⟨0, ![]⟩
abbrev S4096 : Shape := ⟨1, ![4096]⟩
abbrev S4096x1 : Shape := ⟨2, ![4096, 1]⟩
abbrev S16x256 : Shape := ⟨2, ![16, 256]⟩
abbrev S16 : Shape := ⟨1, ![16]⟩
abbrev S16x8 : Shape := ⟨2, ![16, 8]⟩
abbrev S128 : Shape := ⟨1, ![128]⟩
abbrev S128x1 : Shape := ⟨2, ![128, 1]⟩
abbrev S1x128 : Shape := ⟨2, ![1, 128]⟩
abbrev S128x128 : Shape := ⟨2, ![128, 128]⟩

abbrev nBuf : Space → Nat
  | .hbm => 93
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S5632x2048, .bf16⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S8x4096x704, .f32⟩
  | .hbm, ⟨6, _⟩ => ⟨S4096x8x704, .f32⟩
  | .hbm, ⟨7, _⟩ => ⟨S4096x5632, .f32⟩
  | .hbm, ⟨8, _⟩ => ⟨S5632x2048, .f32⟩
  | .hbm, ⟨9, _⟩ => ⟨S4096x2048, .f32⟩
  | .hbm, ⟨10, _⟩ => ⟨S4096x2048, .f32⟩
  | .hbm, ⟨11, _⟩ => ⟨S2048, .f32⟩
  | .hbm, ⟨12, _⟩ => ⟨S4096x2048, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x2048, .f32⟩
  | .hbm, ⟨28, _⟩ => ⟨S4096x2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S_, .f32⟩
  | .hbm, ⟨57, _⟩ => ⟨S2048, .f32⟩
  | .hbm, ⟨58, _⟩ => ⟨S1x2048, .f32⟩
  | .hbm, ⟨59, _⟩ => ⟨S4096x2048, .f32⟩
  | .hbm, ⟨60, _⟩ => ⟨S4096x2048, .f32⟩
  | .hbm, ⟨61, _⟩ => ⟨S_, .f32⟩
  | .hbm, ⟨62, _⟩ => ⟨S2048, .f32⟩
  | .hbm, ⟨63, _⟩ => ⟨S4096x2048, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S4096x2048, .f32⟩
  | .hbm, ⟨68, _⟩ => ⟨S4096x2048, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096, .f32⟩
  | .hbm, ⟨75, _⟩ => ⟨S4096x2048, .f32⟩
  | .hbm, ⟨76, _⟩ => ⟨S4096x2048, .f32⟩
  | .hbm, ⟨77, _⟩ => ⟨S4096x2048, .f32⟩
  | .hbm, ⟨78, _⟩ => ⟨S4096x2048, .f32⟩
  | .hbm, ⟨79, _⟩ => ⟨S4096x2048, .f32⟩
  | .hbm, ⟨80, _⟩ => ⟨S16x256, .f32⟩
  | .hbm, ⟨81, _⟩ => ⟨S_, .f32⟩
  | .hbm, ⟨82, _⟩ => ⟨S16, .f32⟩
  | .hbm, ⟨83, _⟩ => ⟨S4096x2048, .bf16⟩
  | .hbm, ⟨84, _⟩ => ⟨S16x8, .f32⟩
  | .hbm, ⟨85, _⟩ => ⟨S128, .f32⟩
  | .hbm, ⟨86, _⟩ => ⟨S128x1, .f32⟩
  | .hbm, ⟨87, _⟩ => ⟨S_, .f32⟩
  | .hbm, ⟨88, _⟩ => ⟨S1x128, .f32⟩
  | .hbm, ⟨89, _⟩ => ⟨S128x128, .f32⟩
  | .hbm, ⟨90, _⟩ => ⟨S128x128, .f32⟩
  | .hbm, ⟨91, _⟩ => ⟨S128x128, .f32⟩
  | .hbm, ⟨92, _⟩ => ⟨S1x2048, .f32⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_11 : Ref sig .tc := ⟨.hbm, 61, rfl⟩
abbrev main_v44 : Ref sig .tc := ⟨.hbm, 62, rfl⟩
abbrev main_v45 : Ref sig .tc := ⟨.hbm, 63, rfl⟩
abbrev main_cst_12 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_15 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_16 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩

abbrev nD : Nat := 1
abbrev τ : Topo := Topo.v7x

variable {F : FTy → Type} [FloatOps F]
-- ==== Kernel15.lean ====
abbrev S8x256x2048 : Shape := ⟨3, ![8, 256, 2048]⟩
abbrev S256x2048 : Shape := ⟨2, ![256, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel15Ideal.lean ====
abbrev S8x256x2048 : Shape := ⟨3, ![8, 256, 2048]⟩
abbrev S256x2048 : Shape := ⟨2, ![256, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S8x256x2048 : Shape := ⟨3, ![8, 256, 2048]⟩
abbrev S256x2048 : Shape := ⟨2, ![256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel16.lean ====
abbrev S8x704x2048 : Shape := ⟨3, ![8, 704, 2048]⟩
abbrev S704x2048 : Shape := ⟨2, ![704, 2048]⟩
abbrev S8x64x2048 : Shape := ⟨3, ![8, 64, 2048]⟩
abbrev S64x2048 : Shape := ⟨2, ![64, 2048]⟩
abbrev S1x64x2048 : Shape := ⟨3, ![1, 64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c11_i32 : BitVec 32 := 11#32
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg0 c11_i32
  let c0_i32_3 : BitVec 32 := 0#32
  let v13 : BitVec 1 := Scalar.cmpi .ne v12 c0_i32_3
  let v14 : BitVec 1 := Scalar.andi v11 v13
  let v0 : BitVec 32 := Scalar.divsi arg0 c11_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c10_i32 : BitVec 32 := 10#32
  let v1 : BitVec 32 := Scalar.maxsi c0_i32_0 v0
  let v2 : BitVec 32 := Scalar.minsi c10_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S8x704x2048 : Shape := ⟨3, ![8, 704, 2048]⟩
abbrev S704x2048 : Shape := ⟨2, ![704, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S8x704x2048, .f32⟩
  | .hbm, ⟨5, _⟩ => ⟨S_, .f32⟩
  | .hbm, ⟨6, _⟩ => ⟨S704x2048, .f32⟩
  | .hbm, ⟨7, _⟩ => ⟨S_, .f32⟩
  | .hbm, ⟨8, _⟩ => ⟨S704x2048, .f32⟩
  | .hbm, ⟨9, _⟩ => ⟨S704x2048, .f32⟩
  | .hbm, ⟨10, _⟩ => ⟨S_, .f32⟩
  | .hbm, ⟨11, _⟩ => ⟨S704x2048, .f32⟩
  | .hbm, ⟨12, _⟩ => ⟨S704x2048, .f32⟩
  | .hbm, ⟨13, _⟩ => ⟨S704x2048, .f32⟩
  | .hbm, ⟨14, _⟩ => ⟨S_, .f32⟩
  | .hbm, ⟨15, _⟩ => ⟨S704x2048, .f32⟩
  | .hbm, ⟨16, _⟩ => ⟨S704x2048, .f32⟩
  | .hbm, ⟨17, _⟩ => ⟨S704x2048, .f32⟩
  | .hbm, ⟨18, _⟩ => ⟨S_, .f32⟩
  | .hbm, ⟨19, _⟩ => ⟨S704x2048, .f32⟩
  | .hbm, ⟨20, _⟩ => ⟨S704x2048, .f32⟩
  | .hbm, ⟨21, _⟩ => ⟨S704x2048, .f32⟩
  | .hbm, ⟨22, _⟩ => ⟨S_, .f32⟩
  | .hbm, ⟨23, _⟩ => ⟨S704x2048, .f32⟩
  | .hbm, ⟨24, _⟩ => ⟨S704x2048, .f32⟩
  | .hbm, ⟨25, _⟩ => ⟨S_, .f32⟩
  | .hbm, ⟨26, _⟩ => ⟨S704x2048, .f32⟩
  | .hbm, ⟨27, _⟩ => ⟨S704x2048, .f32⟩
  | .hbm, ⟨28, _⟩ => ⟨S704x2048, .f32⟩
  | .hbm, ⟨29, _⟩ => ⟨S_, .f32⟩
  | .hbm, ⟨30, _⟩ => ⟨S704x2048, .f32⟩
  | .hbm, ⟨31, _⟩ => ⟨S704x2048, .f32⟩
  | .hbm, ⟨32, _⟩ => ⟨S704x2048, .f32⟩
  | .hbm, ⟨33, _⟩ => ⟨S_, .f32⟩
  | .hbm, ⟨34, _⟩ => ⟨S704x2048, .f32⟩
  | .hbm, ⟨35, _⟩ => ⟨S704x2048, .f32⟩
  | .hbm, ⟨36, _⟩ => ⟨S704x2048, .f32⟩
  | .hbm, ⟨37, _⟩ => ⟨S_, .f32⟩
  | .hbm, ⟨38, _⟩ => ⟨S704x2048, .f32⟩
  | .hbm, ⟨39, _⟩ => ⟨S704x2048, .f32⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel17.lean ====
abbrev S8x1024x896 : Shape := ⟨3, ![8, 1024, 896]⟩
abbrev S2048x896 : Shape := ⟨2, ![2048, 896]⟩
abbrev S8x256x896 : Shape := ⟨3, ![8, 256, 896]⟩
abbrev S256x896 : Shape := ⟨2, ![256, 896]⟩
abbrev S1x256x896 : Shape := ⟨3, ![1, 256, 896]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x896, .bf16⟩
  | .hbm, ⟨1, _⟩ => ⟨S8x1024x896, .bf16⟩
  | .hbm, ⟨2, _⟩ => ⟨S2048x896, .f32⟩
  | .hbm, ⟨3, _⟩ => ⟨S2048x896, .f32⟩
  | .hbm, ⟨4, _⟩ => ⟨S2048x896, .f32⟩
  | .hbm, ⟨5, _⟩ => ⟨S2048x896, .f32⟩
  | .hbm, ⟨6, _⟩ => ⟨S2048x896, .f32⟩
  | .hbm, ⟨7, _⟩ => ⟨S2048x896, .f32⟩
  | .hbm, ⟨8, _⟩ => ⟨S2048x896, .f32⟩
  | .local _ .vmem, ⟨0, _⟩ => ⟨S8x256x896, .bf16⟩
  | .local _ .vmem, ⟨1, _⟩ => ⟨S8x256x896, .bf16⟩
  | .local _ .vmem, ⟨2, _⟩ => ⟨S8x256x896, .bf16⟩
  | .local _ .vmem, ⟨3, _⟩ => ⟨S8x256x896, .bf16⟩
  | .local _ .vmem, ⟨4, _⟩ => ⟨S256x896, .f32⟩
  | .local _ .vmem, ⟨5, _⟩ => ⟨S256x896, .f32⟩
  | .local _ .vmem, ⟨6, _⟩ => ⟨S256x896, .f32⟩
  | .local _ .vmem, ⟨7, _⟩ => ⟨S256x896, .f32⟩
  | .local _ .vmem, ⟨8, _⟩ => ⟨S256x896, .f32⟩
  | .local _ .vmem, ⟨9, _⟩ => ⟨S256x896, .f32⟩
  | .local _ .vmem, ⟨10, _⟩ => ⟨S256x896, .f32⟩
  | .local _ .vmem, ⟨11, _⟩ => ⟨S256x896, .f32⟩
  | .local _ .vmem, ⟨12, _⟩ => ⟨S256x896, .f32⟩
  | .local _ .vmem, ⟨13, _⟩ => ⟨S256x896, .f32⟩
  | .local _ .vmem, ⟨14, _⟩ => ⟨S256x896, .f32⟩
  | .local _ .vmem, ⟨15, _⟩ => ⟨S256x896, .f32⟩
  | .local _ .vmem, ⟨16, _⟩ => ⟨S256x896, .f32⟩
  | .local _ .vmem, ⟨17, _⟩ => ⟨S256x896, .f32⟩
  | _, _ => ⟨S8x1024x896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32_7 : BitVec 32 := 0#32
  let v21 : BitVec 1 := Scalar.cmpi .sgt arg0 c0_i32_7
  let v22 : BitVec 32 := Scalar.extui v21
  let c0_i32_8 : BitVec 32 := 0#32
  let v23 : BitVec 1 := Scalar.cmpi .slt arg0 c0_i32_8
  let v24 : BitVec 32 := Scalar.extui v23
  let v25 : BitVec 32 := Scalar.subi v22 v24
  let c4_i32_6 : BitVec 32 := 4#32
  let c0_i32_9 : BitVec 32 := 0#32
  let v26 : BitVec 1 := Scalar.cmpi .sgt c4_i32_6 c0_i32_9
  let v27 : BitVec 32 := Scalar.extui v26
  let c0_i32_10 : BitVec 32 := 0#32
  let v28 : BitVec 1 := Scalar.cmpi .slt c4_i32_6 c0_i32_10
  let v29 : BitVec 32 := Scalar.extui v28
  let v30 : BitVec 32 := Scalar.subi v27 v29
  let v31 : BitVec 1 := Scalar.cmpi .ne v25 v30
  let v32 : BitVec 32 := Scalar.remsi arg0 c4_i32_6
  let c0_i32_11 : BitVec 32 := 0#32
  let v33 : BitVec 1 := Scalar.cmpi .ne v32 c0_i32_11
  let v34 : BitVec 1 := Scalar.andi v31 v33
  let v20 : BitVec 32 := Scalar.divsi arg0 c4_i32_6
  let c1_i32_12 : BitVec 32 := 1#32
  let v35 : BitVec 32 := Scalar.subi v20 c1_i32_12
  let v36 : BitVec 32 := Scalar.select v34 v35 v20
  let c1_i32_13 : BitVec 32 := 1#32
  let v37 : BitVec 1 := Scalar.cmpi .eq v36 c1_i32_13
  let v38 : BitVec 32 := Scalar.extui v37
  let c0_i32_14 : BitVec 32 := 0#32
  let v39 : BitVec 1 := Scalar.cmpi .ne v38 c0_i32_14
  v39

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x896 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference17Ideal.lean ====
abbrev S8x1024x896 : Shape := ⟨3, ![8, 1024, 896]⟩
abbrev S2048x896 : Shape := ⟨2, ![2048, 896]⟩
abbrev S8x2048x896 : Shape := ⟨3, ![8, 2048, 896]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8x1024x896, .bf16⟩
  | .hbm, ⟨1, _⟩ => ⟨S8x1024x896, .bf16⟩
  | .hbm, ⟨2, _⟩ => ⟨S2048x896, .f32⟩
  | .hbm, ⟨3, _⟩ => ⟨S2048x896, .f32⟩
  | .hbm, ⟨4, _⟩ => ⟨S2048x896, .f32⟩
  | .hbm, ⟨5, _⟩ => ⟨S8x2048x896, .bf16⟩
  | .hbm, ⟨6, _⟩ => ⟨S8x2048x896, .f32⟩
  | .hbm, ⟨7, _⟩ => ⟨S_, .f32⟩
  | .hbm, ⟨8, _⟩ => ⟨S2048x896, .f32⟩
  | .hbm, ⟨9, _⟩ => ⟨S_, .f32⟩
  | .hbm, ⟨10, _⟩ => ⟨S2048x896, .f32⟩
  | .hbm, ⟨11, _⟩ => ⟨S2048x896, .f32⟩
  | .hbm, ⟨12, _⟩ => ⟨S_, .f32⟩
  | .hbm, ⟨13, _⟩ => ⟨S2048x896, .f32⟩
  | .hbm, ⟨14, _⟩ => ⟨S2048x896, .f32⟩
  | .hbm, ⟨15, _⟩ => ⟨S2048x896, .f32⟩
  | .hbm, ⟨16, _⟩ => ⟨S_, .f32⟩
  | .hbm, ⟨17, _⟩ => ⟨S2048x896, .f32⟩
  | .hbm, ⟨18, _⟩ => ⟨S2048x896, .f32⟩
  | .hbm, ⟨19, _⟩ => ⟨S2048x896, .f32⟩
  | .hbm, ⟨20, _⟩ => ⟨S_, .f32⟩
  | .hbm, ⟨21, _⟩ => ⟨S2048x896, .f32⟩
  | .hbm, ⟨22, _⟩ => ⟨S2048x896, .f32⟩
  | .hbm, ⟨23, _⟩ => ⟨S2048x896, .f32⟩
  | .hbm, ⟨24, _⟩ => ⟨S_, .f32⟩
  | .hbm, ⟨25, _⟩ => ⟨S2048x896, .f32⟩
  | .hbm, ⟨26, _⟩ => ⟨S2048x896, .f32⟩
  | .hbm, ⟨27, _⟩ => ⟨S_, .f32⟩
  | .hbm, ⟨28, _⟩ => ⟨S2048x896, .f32⟩
  | .hbm, ⟨29, _⟩ => ⟨S2048x896, .f32⟩
  | .hbm, ⟨30, _⟩ => ⟨S2048x896, .f32⟩
  | .hbm, ⟨31, _⟩ => ⟨S_, .f32⟩
  | .hbm, ⟨32, _⟩ => ⟨S2048x896, .f32⟩
  | .hbm, ⟨33, _⟩ => ⟨S2048x896, .f32⟩
  | .hbm, ⟨34, _⟩ => ⟨S2048x896, .f32⟩
  | .hbm, ⟨35, _⟩ => ⟨S_, .f32⟩
  | .hbm, ⟨36, _⟩ => ⟨S2048x896, .f32⟩
  | .hbm, ⟨37, _⟩ => ⟨S2048x896, .f32⟩
  | .hbm, ⟨38, _⟩ => ⟨S2048x896, .f32⟩
  | .hbm, ⟨39, _⟩ => ⟨S_, .f32⟩
  | .hbm, ⟨40, _⟩ => ⟨S2048x896, .f32⟩
  | .hbm, ⟨41, _⟩ => ⟨S2048x896, .f32⟩
  | _, _ => ⟨S8x1024x896, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel18.lean ====
abbrev S4096x2048 : Shape := ⟨2, ![4096, 2048]⟩
abbrev S2x2048x896 : Shape := ⟨3, ![2, 2048, 896]⟩
abbrev S4096x7168 : Shape := ⟨2, ![4096, 7168]⟩
abbrev S_ : Shape := ⟨0, ![]⟩
abbrev S1 : Shape := ⟨1, ![1]⟩
abbrev S1024x2048 : Shape := ⟨2, ![1024, 2048]⟩
abbrev S1x2048x896 : Shape := ⟨3, ![1, 2048, 896]⟩
abbrev S1024x896 : Shape := ⟨2, ![1024, 896]⟩
abbrev S2048x896 : Shape := ⟨2, ![2048, 896]⟩

abbrev nBuf : Space → Nat
  | .hbm => 6
  | .vmem => 5
  | .smem => 2
  | _ => 0

abbrev bufTy : (tb : Table) → Fin (tcTables nBuf tb) → BufTy
  | .hbm, ⟨0, _⟩ => ⟨S4096x2048, .bf16⟩
  | .hbm, ⟨1, _⟩ => ⟨S2x2048x896, .bf16⟩
  | .hbm, ⟨2, _⟩ => ⟨S4096x7168, .f32⟩
  | .hbm, ⟨3, _⟩ => ⟨S_, .i32⟩
  | .hbm, ⟨4, _⟩ => ⟨S_, .i32⟩
  | .hbm, ⟨5, _⟩ => ⟨S4096x7168, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x896, .bf16⟩
  | .local _ .vmem, ⟨3, _⟩ => ⟨S1024x896, .f32⟩
  | .local _ .vmem, ⟨4, _⟩ => ⟨S1024x896, .f32⟩
  | .local _ .smem, ⟨0, _⟩ => ⟨S1, .i32⟩
  | .local _ .smem, ⟨1, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v2 : Ref sig .tc := ⟨.hbm, 5, rfl⟩
abbrev main_v0 : Ref sig .tc := ⟨.smem, 0, rfl⟩
abbrev main_v1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

abbrev pre0 : Pipeline.Prefetch sig := ⟨2, ![main_v0.idx, main_v1.idx], fun | 0 => main_v0.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S1) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S1) ![v0.toNat] S1.size (k0_off1_inb i)) numel1_S1
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference18Ideal.lean ====
abbrev S4096x2048 : Shape := ⟨2, ![4096, 2048]⟩
abbrev S2x2048x896 : Shape := ⟨3, ![2, 2048, 896]⟩
abbrev S4096x7168 : Shape := ⟨2, ![4096, 7168]⟩
abbrev S4096x896 : Shape := ⟨2, ![4096, 896]⟩
abbrev S1x2048x896 : Shape := ⟨3, ![1, 2048, 896]⟩
abbrev S2048x896 : Shape := ⟨2, ![2048, 896]⟩
abbrev S4096x5376 : Shape := ⟨2, ![4096, 5376]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x2048x896, .bf16⟩
  | .hbm, ⟨2, _⟩ => ⟨S4096x7168, .f32⟩
  | .hbm, ⟨3, _⟩ => ⟨S4096x2048, .f32⟩
  | .hbm, ⟨4, _⟩ => ⟨S4096x896, .f32⟩
  | .hbm, ⟨5, _⟩ => ⟨S1x2048x896, .bf16⟩
  | .hbm, ⟨6, _⟩ => ⟨S2048x896, .bf16⟩
  | .hbm, ⟨7, _⟩ => ⟨S2048x896, .f32⟩
  | .hbm, ⟨8, _⟩ => ⟨S4096x896, .f32⟩
  | .hbm, ⟨9, _⟩ => ⟨S4096x5376, .f32⟩
  | .hbm, ⟨10, _⟩ => ⟨S4096x7168, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel19.lean ====
abbrev S4096x2048 : Shape := ⟨2, ![4096, 2048]⟩
abbrev S4x2048x896 : Shape := ⟨3, ![4, 2048, 896]⟩
abbrev S4096x7168 : Shape := ⟨2, ![4096, 7168]⟩
abbrev S_ : Shape := ⟨0, ![]⟩
abbrev S1 : Shape := ⟨1, ![1]⟩
abbrev S4 : Shape := ⟨1, ![4]⟩
abbrev S1024x2048 : Shape := ⟨2, ![1024, 2048]⟩
abbrev S1x2048x896 : Shape := ⟨3, ![1, 2048, 896]⟩
abbrev S1024x896 : Shape := ⟨2, ![1024, 896]⟩
abbrev S2048x896 : Shape := ⟨2, ![2048, 896]⟩

abbrev nBuf : Space → Nat
  | .hbm => 20
  | .vmem => 6
  | .smem => 2
  | _ => 0

abbrev bufTy : (tb : Table) → Fin (tcTables nBuf tb) → BufTy
  | .hbm, ⟨0, _⟩ => ⟨S4096x2048, .bf16⟩
  | .hbm, ⟨1, _⟩ => ⟨S4x2048x896, .bf16⟩
  | .hbm, ⟨2, _⟩ => ⟨S4096x7168, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S1, .i32⟩
  | .hbm, ⟨10, _⟩ => ⟨S1, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1, .i32⟩
  | .hbm, ⟨16, _⟩ => ⟨S1, .i32⟩
  | .hbm, ⟨17, _⟩ => ⟨S1, .i32⟩
  | .hbm, ⟨18, _⟩ => ⟨S1, .i32⟩
  | .hbm, ⟨19, _⟩ => ⟨S4096x7168, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x896, .bf16⟩
  | .local _ .vmem, ⟨3, _⟩ => ⟨S1x2048x896, .bf16⟩
  | .local _ .vmem, ⟨4, _⟩ => ⟨S1024x896, .f32⟩
  | .local _ .vmem, ⟨5, _⟩ => ⟨S1024x896, .f32⟩
  | .local _ .smem, ⟨0, _⟩ => ⟨S4, .i32⟩
  | .local _ .smem, ⟨1, _⟩ => ⟨S4, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_3 : Ref sig .tc := ⟨.hbm, 11, rfl⟩
abbrev main_c_4 : Ref sig .tc := ⟨.hbm, 12, rfl⟩
abbrev main_c_5 : Ref sig .tc := ⟨.hbm, 13, rfl⟩
abbrev main_c_6 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v10 : Ref sig .tc := ⟨.hbm, 19, rfl⟩
abbrev main_v4 : Ref sig .tc := ⟨.smem, 0, rfl⟩
abbrev main_v9 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

abbrev pre0 : Pipeline.Prefetch sig := ⟨2, ![main_v4.idx, main_v9.idx], fun | 0 => main_v4.names | 1 => main_v9.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S4) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S4) ![v0.toNat] S1.size (k0_off1_inb i)) numel1_S1
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference19Ideal.lean ====
abbrev S4096x2048 : Shape := ⟨2, ![4096, 2048]⟩
abbrev S4x2048x896 : Shape := ⟨3, ![4, 2048, 896]⟩
abbrev S4096x7168 : Shape := ⟨2, ![4096, 7168]⟩
abbrev S1x2048x896 : Shape := ⟨3, ![1, 2048, 896]⟩
abbrev S2048x896 : Shape := ⟨2, ![2048, 896]⟩
abbrev S2048x1792 : Shape := ⟨2, ![2048, 1792]⟩
abbrev S4096x1792 : Shape := ⟨2, ![4096, 1792]⟩

abbrev nBuf : Space → Nat
  | .hbm => 21
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x896, .bf16⟩
  | .hbm, ⟨2, _⟩ => ⟨S4096x7168, .f32⟩
  | .hbm, ⟨3, _⟩ => ⟨S4096x2048, .f32⟩
  | .hbm, ⟨4, _⟩ => ⟨S1x2048x896, .bf16⟩
  | .hbm, ⟨5, _⟩ => ⟨S2048x896, .bf16⟩
  | .hbm, ⟨6, _⟩ => ⟨S1x2048x896, .bf16⟩
  | .hbm, ⟨7, _⟩ => ⟨S2048x896, .bf16⟩
  | .hbm, ⟨8, _⟩ => ⟨S2048x1792, .bf16⟩
  | .hbm, ⟨9, _⟩ => ⟨S2048x1792, .f32⟩
  | .hbm, ⟨10, _⟩ => ⟨S1x2048x896, .bf16⟩
  | .hbm, ⟨11, _⟩ => ⟨S2048x896, .bf16⟩
  | .hbm, ⟨12, _⟩ => ⟨S1x2048x896, .bf16⟩
  | .hbm, ⟨13, _⟩ => ⟨S2048x896, .bf16⟩
  | .hbm, ⟨14, _⟩ => ⟨S2048x1792, .bf16⟩
  | .hbm, ⟨15, _⟩ => ⟨S2048x1792, .f32⟩
  | .hbm, ⟨16, _⟩ => ⟨S4096x1792, .f32⟩
  | .hbm, ⟨17, _⟩ => ⟨S4096x1792, .f32⟩
  | .hbm, ⟨18, _⟩ => ⟨S4096x1792, .f32⟩
  | .hbm, ⟨19, _⟩ => ⟨S4096x1792, .f32⟩
  | .hbm, ⟨20, _⟩ => ⟨S4096x7168, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]
-- ==== Kernel20.lean ====
abbrev S4096x2048 : Shape := ⟨2, ![4096, 2048]⟩
abbrev S2x2048x896 : Shape := ⟨3, ![2, 2048, 896]⟩
abbrev S4096x7168 : Shape := ⟨2, ![4096, 7168]⟩
abbrev S_ : Shape := ⟨0, ![]⟩
abbrev S1 : Shape := ⟨1, ![1]⟩
abbrev S2 : Shape := ⟨1, ![2]⟩
abbrev S1024x2048 : Shape := ⟨2, ![1024, 2048]⟩
abbrev S1x2048x896 : Shape := ⟨3, ![1, 2048, 896]⟩
abbrev S1024x896 : Shape := ⟨2, ![1024, 896]⟩
abbrev S2048x896 : Shape := ⟨2, ![2048, 896]⟩

abbrev nBuf : Space → Nat
  | .hbm => 12
  | .vmem => 6
  | .smem => 2
  | _ => 0

abbrev bufTy : (tb : Table) → Fin (tcTables nBuf tb) → BufTy
  | .hbm, ⟨0, _⟩ => ⟨S4096x2048, .bf16⟩
  | .hbm, ⟨1, _⟩ => ⟨S2x2048x896, .bf16⟩
  | .hbm, ⟨2, _⟩ => ⟨S4096x7168, .f32⟩
  | .hbm, ⟨3, _⟩ => ⟨S_, .i32⟩
  | .hbm, ⟨4, _⟩ => ⟨S_, .i32⟩
  | .hbm, ⟨5, _⟩ => ⟨S1, .i32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S1, .i32⟩
  | .hbm, ⟨10, _⟩ => ⟨S1, .i32⟩
  | .hbm, ⟨11, _⟩ => ⟨S4096x7168, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x896, .bf16⟩
  | .local _ .vmem, ⟨3, _⟩ => ⟨S1x2048x896, .bf16⟩
  | .local _ .vmem, ⟨4, _⟩ => ⟨S1024x896, .f32⟩
  | .local _ .vmem, ⟨5, _⟩ => ⟨S1024x896, .f32⟩
  | .local _ .smem, ⟨0, _⟩ => ⟨S2, .i32⟩
  | .local _ .smem, ⟨1, _⟩ => ⟨S2, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_c_1 : Ref sig .tc := ⟨.hbm, 7, rfl⟩
abbrev main_c_2 : Ref sig .tc := ⟨.hbm, 8, rfl⟩
abbrev main_v3 : Ref sig .tc := ⟨.hbm, 9, rfl⟩
abbrev main_v4 : Ref sig .tc := ⟨.hbm, 10, rfl⟩
abbrev main_v6 : Ref sig .tc := ⟨.hbm, 11, rfl⟩
abbrev main_v2 : Ref sig .tc := ⟨.smem, 0, rfl⟩
abbrev main_v5 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨2, ![main_v2.idx, main_v5.idx], fun | 0 => main_v2.names | 1 => main_v5.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S2) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S2) ![v0.toNat] S1.size (k0_off1_inb i)) numel1_S1
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference20Ideal.lean ====
abbrev S4096x2048 : Shape := ⟨2, ![4096, 2048]⟩
abbrev S2x2048x896 : Shape := ⟨3, ![2, 2048, 896]⟩
abbrev S4096x7168 : Shape := ⟨2, ![4096, 7168]⟩
abbrev S1x2048x896 : Shape := ⟨3, ![1, 2048, 896]⟩
abbrev S2048x896 : Shape := ⟨2, ![2048, 896]⟩
abbrev S2048x1792 : Shape := ⟨2, ![2048, 1792]⟩
abbrev S4096x5376 : Shape := ⟨2, ![4096, 5376]⟩
abbrev S4096x1792 : Shape := ⟨2, ![4096, 1792]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x2048x896, .bf16⟩
  | .hbm, ⟨2, _⟩ => ⟨S4096x7168, .f32⟩
  | .hbm, ⟨3, _⟩ => ⟨S4096x2048, .f32⟩
  | .hbm, ⟨4, _⟩ => ⟨S1x2048x896, .bf16⟩
  | .hbm, ⟨5, _⟩ => ⟨S2048x896, .bf16⟩
  | .hbm, ⟨6, _⟩ => ⟨S1x2048x896, .bf16⟩
  | .hbm, ⟨7, _⟩ => ⟨S2048x896, .bf16⟩
  | .hbm, ⟨8, _⟩ => ⟨S2048x1792, .bf16⟩
  | .hbm, ⟨9, _⟩ => ⟨S2048x1792, .f32⟩
  | .hbm, ⟨10, _⟩ => ⟨S4096x5376, .f32⟩
  | .hbm, ⟨11, _⟩ => ⟨S4096x1792, .f32⟩
  | .hbm, ⟨12, _⟩ => ⟨S4096x7168, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel21.lean ====
abbrev S4096x7168 : Shape := ⟨2, ![4096, 7168]⟩
abbrev S4096x1024 : Shape := ⟨2, ![4096, 1024]⟩
abbrev S4096x2048 : Shape := ⟨2, ![4096, 2048]⟩
abbrev S1x1024 : Shape := ⟨2, ![1, 1024]⟩
abbrev S8x8x128 : Shape := ⟨3, ![8, 8, 128]⟩
abbrev S4096x128 : Shape := ⟨2, ![4096, 128]⟩
abbrev S1x128 : Shape := ⟨2, ![1, 128]⟩
abbrev S1x8x128 : Shape := ⟨3, ![1, 8, 128]⟩
abbrev S1x4096x128 : Shape := ⟨3, ![1, 4096, 128]⟩
abbrev S1 : Shape := ⟨1, ![1]⟩
abbrev S4096 : Shape := ⟨1, ![4096]⟩
abbrev S4096x1 : Shape := ⟨2, ![4096, 1]⟩
abbrev S128 : Shape := ⟨1, ![128]⟩
abbrev S8x128 : Shape := ⟨2, ![8, 128]⟩
abbrev S_ : Shape := ⟨0, ![]⟩

abbrev nBuf : Space → Nat
  | .hbm => 8
  | .vmem => 13
  | .smem => 0
  | _ => 0

abbrev bufTy : (tb : Table) → Fin (tcTables nBuf tb) → BufTy
  | .hbm, ⟨0, _⟩ => ⟨S4096x7168, .f32⟩
  | .hbm, ⟨1, _⟩ => ⟨S4096x1024, .f32⟩
  | .hbm, ⟨2, _⟩ => ⟨S4096x2048, .f32⟩
  | .hbm, ⟨3, _⟩ => ⟨S1x1024, .f32⟩
  | .hbm, ⟨4, _⟩ => ⟨S4096x7168, .bf16⟩
  | .hbm, ⟨5, _⟩ => ⟨S4096x1024, .f32⟩
  | .hbm, ⟨6, _⟩ => ⟨S8x8x128, .f32⟩
  | .hbm, ⟨7, _⟩ => ⟨S4096x7168, .bf16⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x128, .f32⟩
  | .local _ .vmem, ⟨7, _⟩ => ⟨S1x128, .f32⟩
  | .local _ .vmem, ⟨8, _⟩ => ⟨S4096x128, .f32⟩
  | .local _ .vmem, ⟨9, _⟩ => ⟨S4096x128, .f32⟩
  | .local _ .vmem, ⟨10, _⟩ => ⟨S1x8x128, .f32⟩
  | .local _ .vmem, ⟨11, _⟩ => ⟨S1x8x128, .f32⟩
  | .local _ .vmem, ⟨12, _⟩ => ⟨S1x4096x128, .bf16⟩
  | _, _ => ⟨S4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def k0_mult1 (i : grid0.Coords) : BitVec 32 :=
  let c48_i32 : BitVec 32 := 48#32
  let arg0 : BitVec 32 := BitVec.ofNat 32 (i 0).val
  let v63 : BitVec 32 := Scalar.addi c48_i32 arg0
  let c128_i32 : BitVec 32 := 128#32
  let v64 : BitVec 32 := Scalar.muli v63 c128_i32
  v64
def k0_off1 (i : grid0.Coords) : Fin 2 → Nat :=
  let c0_i32_26 : BitVec 32 := 0#32
  let c48_i32 : BitVec 32 := 48#32
  let arg0 : BitVec 32 := BitVec.ofNat 32 (i 0).val
  let v63 : BitVec 32 := Scalar.addi c48_i32 arg0
  let c128_i32 : BitVec 32 := 128#32
  let v64 : BitVec 32 := Scalar.muli v63 c128_i32
  let v65 : BitVec 32 := v64
  ![0, v65.toNat]
def cc0_transform_0 (i : grid0.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference21Ideal.lean ====
abbrev S4096x7168 : Shape := ⟨2, ![4096, 7168]⟩
abbrev S4096x1024 : Shape := ⟨2, ![4096, 1024]⟩
abbrev S4096x2048 : Shape := ⟨2, ![4096, 2048]⟩
abbrev S1x1024 : Shape := ⟨2, ![1, 1024]⟩
abbrev S_ : Shape := ⟨0, ![]⟩
abbrev S4096x8x128 : Shape := ⟨3, ![4096, 8, 128]⟩
abbrev S4096x8 : Shape := ⟨2, ![4096, 8]⟩
abbrev S4096x8x1 : Shape := ⟨3, ![4096, 8, 1]⟩
abbrev S1024 : Shape := ⟨1, ![1024]⟩
abbrev S8x1x128 : Shape := ⟨3, ![8, 1, 128]⟩
abbrev S8x8x128 : Shape := ⟨3, ![8, 8, 128]⟩
abbrev S4096x6144 : Shape := ⟨2, ![4096, 6144]⟩

abbrev nBuf : Space → Nat
  | .hbm => 90
  | .vmem => 0
  | .smem => 0
  | _ => 0

abbrev bufTy : (tb : Table) → Fin (tcTables nBuf tb) → BufTy
  | .hbm, ⟨0, _⟩ => ⟨S4096x7168, .f32⟩
  | .hbm, ⟨1, _⟩ => ⟨S4096x1024, .f32⟩
  | .hbm, ⟨2, _⟩ => ⟨S4096x2048, .f32⟩
  | .hbm, ⟨3, _⟩ => ⟨S1x1024, .f32⟩
  | .hbm, ⟨4, _⟩ => ⟨S4096x7168, .bf16⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x8x128, .f32⟩
  | .hbm, ⟨17, _⟩ => ⟨S4096x8x128, .f32⟩
  | .hbm, ⟨18, _⟩ => ⟨S_, .f32⟩
  | .hbm, ⟨19, _⟩ => ⟨S4096x8, .f32⟩
  | .hbm, ⟨20, _⟩ => ⟨S4096x8x1, .f32⟩
  | .hbm, ⟨21, _⟩ => ⟨S_, .f32⟩
  | .hbm, ⟨22, _⟩ => ⟨S4096x8x1, .f32⟩
  | .hbm, ⟨23, _⟩ => ⟨S4096x8x1, .f32⟩
  | .hbm, ⟨24, _⟩ => ⟨S_, .f32⟩
  | .hbm, ⟨25, _⟩ => ⟨S4096x8x1, .f32⟩
  | .hbm, ⟨26, _⟩ => ⟨S4096x8x1, .f32⟩
  | .hbm, ⟨27, _⟩ => ⟨S4096x8x1, .f32⟩
  | .hbm, ⟨28, _⟩ => ⟨S4096x8x1, .f32⟩
  | .hbm, ⟨29, _⟩ => ⟨S_, .f32⟩
  | .hbm, ⟨30, _⟩ => ⟨S4096x8x1, .f32⟩
  | .hbm, ⟨31, _⟩ => ⟨S4096x8x1, .f32⟩
  | .hbm, ⟨32, _⟩ => ⟨S4096x8x128, .f32⟩
  | .hbm, ⟨33, _⟩ => ⟨S4096x8x128, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x8x128, .f32⟩
  | .hbm, ⟨47, _⟩ => ⟨S4096x8x128, .f32⟩
  | .hbm, ⟨48, _⟩ => ⟨S_, .f32⟩
  | .hbm, ⟨49, _⟩ => ⟨S4096x8, .f32⟩
  | .hbm, ⟨50, _⟩ => ⟨S4096x8x1, .f32⟩
  | .hbm, ⟨51, _⟩ => ⟨S4096x8x128, .f32⟩
  | .hbm, ⟨52, _⟩ => ⟨S4096x8x128, .f32⟩
  | .hbm, ⟨53, _⟩ => ⟨S4096x8x1, .f32⟩
  | .hbm, ⟨54, _⟩ => ⟨S_, .f32⟩
  | .hbm, ⟨55, _⟩ => ⟨S4096x8x1, .f32⟩
  | .hbm, ⟨56, _⟩ => ⟨S4096x8x1, .f32⟩
  | .hbm, ⟨57, _⟩ => ⟨S_, .f32⟩
  | .hbm, ⟨58, _⟩ => ⟨S4096x8, .f32⟩
  | .hbm, ⟨59, _⟩ => ⟨S4096x8x128, .f32⟩
  | .hbm, ⟨60, _⟩ => ⟨S4096x8x128, .f32⟩
  | .hbm, ⟨61, _⟩ => ⟨S4096x8x128, .f32⟩
  | .hbm, ⟨62, _⟩ => ⟨S4096x8x128, .f32⟩
  | .hbm, ⟨63, _⟩ => ⟨S4096x8x128, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S8x1x128, .f32⟩
  | .hbm, ⟨85, _⟩ => ⟨S8x8x128, .f32⟩
  | .hbm, ⟨86, _⟩ => ⟨S4096x6144, .bf16⟩
  | .hbm, ⟨87, _⟩ => ⟨S4096x1024, .f32⟩
  | .hbm, ⟨88, _⟩ => ⟨S4096x1024, .bf16⟩
  | .hbm, ⟨89, _⟩ => ⟨S4096x7168, .bf16⟩
  | _, _ => ⟨S4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call1_v0 : Ref sig .tc := ⟨.hbm, 65, rfl⟩
abbrev main_call1_v1 : Ref sig .tc := ⟨.hbm, 66, rfl⟩
abbrev main_call1_cst : Ref sig .tc := ⟨.hbm, 67, rfl⟩
abbrev main_call1_v2 : Ref sig .tc := ⟨.hbm, 68, rfl⟩
abbrev main_call1_v3 : Ref sig .tc := ⟨.hbm, 69, rfl⟩
abbrev main_call1_cst_0 : Ref sig .tc := ⟨.hbm, 70, rfl⟩
abbrev main_call1_v4 : Ref sig .tc := ⟨.hbm, 71, rfl⟩
abbrev main_v44_2 : Ref sig .tc := ⟨.hbm, 72, rfl⟩
abbrev main_call1_cst_1 : Ref sig .tc := ⟨.hbm, 73, rfl⟩
abbrev main_call1_v6 : Ref sig .tc := ⟨.hbm, 74, rfl⟩
abbrev main_call1_v7 : Ref sig .tc := ⟨.hbm, 75, rfl⟩
abbrev main_v44_1 : Ref sig .tc := ⟨.hbm, 76, rfl⟩
abbrev main_v44_0 : Ref sig .tc := ⟨.hbm, 77, rfl⟩
abbrev main_cst_7 : Ref sig .tc := ⟨.hbm, 78, rfl⟩
abbrev main_v45 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩

abbrev nD : Nat := 1
abbrev τ : Topo := Topo.v7x

variable {F : FTy → Type} [FloatOps F]
-- ==== Proof.Vals.lean ====
module

public import proofs.«01_k».proof.Proof.Gen.KernelIdeal.Skeleton
public import Idealize.ShloMosaic.Lib.ValueIdxCore

/-! What the kernel computes at one head, as plain functions of the four blocks it is given (queries, keys, values and
the incoming gradient, each 4096 x 128) and of the decay constants of the head, over any floating-point values. -/

@[expose] public section

set_option maxRecDepth 16384

noncomputable section

namespace Cert.KernelIdeal.RetBwd

open Idealize.ShloMosaic Idealize.ShloMosaic.ValueIdx
open Cert.KernelIdeal Cert.KernelIdeal.Gen

variable {F : FTy → Type} [FloatOps F]

/-- The constants of one head: the logarithms of the two decays, the masks and the decay columns. -/
structure Cst (F : FTy → Type) where
  v5 : FVec F S1x1 .f32
  v11 : FVec F S1x1 .f32
  v19 : FVec F S128x128 .f32
  v24 : FVec F S128x128 .f32
  v28 : FVec F S128x1 .f32
  v30 : FVec F S128x1 .f32
  v33 : FVec F S128x1 .f32
  v36 : FVec F S128x1 .f32
  v39 : FVec F S1x1 .f32
  v44 : IVec S128x128 1
  v46 : IVec S128x128 32

/-- The four blocks of one head. -/
structure Blk (F : FTy → Type) where
  q : Vec F S4096x128 .f32
  k : Vec F S4096x128 .f32
  v : Vec F S4096x128 .f32
  g : Vec F S4096x128 .f32

/-- The constants of a head as the kernel forms them from the two decay parameters. -/
def cstOf (a b : Elt F .f32) : Cst F where
  v5 := k0_pay44 a
  v11 := k0_pay45 b
  v19 := k0_pay47
  v24 := k0_pay48 a
  v28 := k0_pay50
  v30 := k0_pay51
  v33 := k0_pay52 a
  v36 := k0_pay53 a
  v39 := k0_pay54 a
  v44 := k0_pay56
  v46 := k0_pay57

/-- Rows `2048 h …` of a block. -/
def half (x : Vec F S4096x128 .f32) (h : ℕ) : Vec F S2048x128 .f32 := fun y =>
  x (ix2 (n0 := 4096) (n1 := 128) ⟨2048 * (h % 2) + (y 0).val, by have := idx2_lt0 y; omega⟩ (y 1))

/-- Sixteen chunk states of direction `w`, from chunk `16 h`. -/
def half4 (x : Vec F S2x32x128x128 .f32) (w : Fin 2) (h : ℕ) : Vec F S1x16x128x128 .f32 := fun y =>
  x (ix4 (n0 := 2) (n1 := 32) (n2 := 128) (n3 := 128) w ⟨16 * (h % 2) + (y 1).val, by have := (y 1).isLt; change (y 1).val < 16 at this; omega⟩ (y 2) (y 3))

/-- One chunk state of direction `w`. -/
def chunk (x : Vec F S2x32x128x128 .f32) (w : Fin 2) (n : ℕ) : Vec F S1x1x128x128 .f32 := fun y =>
  x (ix4 (n0 := 2) (n1 := 32) (n2 := 128) (n3 := 128) w ⟨n % 32, Nat.mod_lt _ (by decide)⟩ (y 2) (y 3))

section One

variable (C : Cst F) (B : Blk F)

/-- The terms of the states (keys with values), sixteen chunks at a time. -/
def stTerm (w : Fin 2) (h : ℕ) : FVec F S1x16x128x128 .f32 :=
  if w = 0 then k0_pay5 C.v36 (half B.k h) (half B.v h) else k0_pay65 (k0_pay3 (half B.v h)) (k0_pay7 (k0_pay63 C.v11) (half B.k h))

/-- The terms of the states' gradients (queries with the incoming gradient), sixteen chunks at a time. -/
def dsTerm (w : Fin 2) (h : ℕ) : FVec F S1x16x128x128 .f32 :=
  if w = 0 then k0_pay6 C.v33 (half B.q h) (half B.g h) else k0_pay66 C.v11 (k0_pay1 (half B.q h)) (k0_pay4 (half B.g h))

/-- All 32 chunks of both directions, from terms given sixteen at a time. -/
def glue (T : Fin 2 → ℕ → FVec F S1x16x128x128 .f32) : Vec F S2x32x128x128 .f32 := fun j =>
  T (j 0) ((j 1).val / 16) (ix4 (n0 := 1) (n1 := 16) (n2 := 128) (n3 := 128) 0 ⟨(j 1).val % 16, Nat.mod_lt _ (by decide)⟩ (j 2) (j 3))

/-- The terms of the states. -/
def stT : Vec F S2x32x128x128 .f32 := glue (stTerm C B)
/-- The terms of the states' gradients. -/
def dsT : Vec F S2x32x128x128 .f32 := glue (dsTerm C B)

/-- The state the forward direction carries into chunk `n`. -/
def st0 : ℕ → FVec F S128x128 .f32
  | 0 => k0_pay67
  | n + 1 => k0_pay69 C.v39 (st0 n) (chunk (stT C B) 0 n)
/-- The state the backward direction carries into the `n`-th chunk it meets, chunk `31 - n`. -/
def st1 : ℕ → FVec F S128x128 .f32
  | 0 => k0_pay67
  | n + 1 => k0_pay71 C.v11 (st1 n) (chunk (stT C B) 1 (31 - n))
/-- The states, per direction and chunk. -/
def stS : Vec F S2x32x128x128 .f32 := fun j =>
  if (j 0).val = 0 then k0_pay68 (st0 C B (j 1).val) (ix4 (n0 := 1) (n1 := 1) (n2 := 128) (n3 := 128) 0 0 (j 2) (j 3))
  else k0_pay70 (st1 C B (31 - (j 1).val)) (ix4 (n0 := 1) (n1 := 1) (n2 := 128) (n3 := 128) 0 0 (j 2) (j 3))

/-- The state gradient of the forward direction after the `n`-th chunk from the end. -/
def ds0 : ℕ → FVec F S128x128 .f32
  | 0 => k0_pay72
  | n + 1 => k0_pay74 C.v39 (ds0 n) (chunk (dsT C B) 0 (31 - n))
/-- The state gradient of the backward direction after `n` chunks. -/
def ds1 : ℕ → FVec F S128x128 .f32
  | 0 => k0_pay72
  | n + 1 => k0_pay76 C.v11 (ds1 n) (chunk (dsT C B) 1 n)
/-- The states' gradients, per direction and chunk. -/
def dsS : Vec F S2x32x128x128 .f32 := fun j =>
  if (j 0).val = 0 then k0_pay73 (ds0 C B (31 - (j 1).val)) (ix4 (n0 := 1) (n1 := 1) (n2 := 128) (n3 := 128) 0 0 (j 2) (j 3))
  else k0_pay75 (ds1 C B (j 1).val) (ix4 (n0 := 1) (n1 := 1) (n2 := 128) (n3 := 128) 0 0 (j 2) (j 3))

/-- The query gradient of half `h`. -/
def dqH (h : ℕ) : FVec F S1x2048x128 .bf16 :=
  let q := half B.q h; let k := half B.k h; let v := half B.v h; let g := half B.g h
  k0_pay41 (k0_pay36 (k0_pay59 C.v11 C.v44 C.v46) (k0_pay62 C.v11) (k0_pay11 k) (k0_pay13 g) (k0_pay15 v g)
    (k0_pay24 (k0_pay20 g (half4 (stS C B) 0 h)) (k0_pay22 C.v24 k v g) (k0_pay23 C.v33)) (half4 (stS C B) 1 h))

/-- The key gradient of half `h`. -/
def dkH (h : ℕ) : FVec F S1x2048x128 .bf16 :=
  let q := half B.q h; let k := half B.k h; let v := half B.v h; let g := half B.g h
  k0_pay42 (k0_pay37 (k0_pay59 C.v11 C.v44 C.v46) (k0_pay63 C.v11) (k0_pay10 q) (k0_pay12 v) (k0_pay15 v g)
    (k0_pay25 C.v36 (k0_pay10 q) (k0_pay19 C.v24 v g) (k0_pay21 v (half4 (dsS C B) 0 h))) (half4 (dsS C B) 1 h))

/-- The value gradient of half `h`. -/
def dvH (h : ℕ) : FVec F S1x2048x128 .bf16 :=
  let q := half B.q h; let k := half B.k h; let v := half B.v h; let g := half B.g h
  k0_pay43 (k0_pay38 (k0_pay59 C.v11 C.v44 C.v46) (k0_pay63 C.v11) (k0_pay9 k) (k0_pay13 g) (k0_pay14 q k)
    (k0_pay26 C.v24 C.v36 (k0_pay9 k) (k0_pay13 g) (k0_pay14 q k) (k0_pay17 (half4 (dsS C B) 0 h))) (half4 (dsS C B) 1 h))

/-- The forward direction's decay gradient, lane by lane, after half `h` from `a`. -/
def dl0H (h : ℕ) (a : FVec F S1x128 .f32) : FVec F S1x128 .f32 :=
  let q := half B.q h; let k := half B.k h; let v := half B.v h; let g := half B.g h
  k0_pay29 (k0_pay27 C.v19 C.v28 C.v30 C.v33 C.v36 a (k0_pay8 q) (k0_pay9 k) (k0_pay14 q k) (k0_pay18 C.v24 v g)
      (k0_pay20 g (half4 (stS C B) 0 h)) (k0_pay21 v (half4 (dsS C B) 0 h)))
    (k0_pay28 C.v39 (k0_pay16 (half4 (stS C B) 0 h)) (k0_pay17 (half4 (dsS C B) 0 h)))

/-- The backward direction's decay gradient, lane by lane, after half `h` from `a`. -/
def dl1H (h : ℕ) (a : FVec F S1x128 .f32) : FVec F S1x128 .f32 :=
  let q := half B.q h; let k := half B.k h; let v := half B.v h; let g := half B.g h
  k0_pay40 (k0_pay60 (F := F)) (k0_pay61 (F := F)) (k0_pay62 C.v11) (k0_pay63 C.v11) (k0_pay64 C.v11) a (k0_pay8 q) (k0_pay9 k)
    (k0_pay30 (half4 (stS C B) 1 h)) (k0_pay31 (half4 (dsS C B) 1 h)) (k0_pay34 (k0_pay13 g) (half4 (stS C B) 1 h))
    (k0_pay35 (k0_pay12 v) (half4 (dsS C B) 1 h))
    (k0_pay39 (k0_pay58 (F := F) C.v46) (k0_pay59 C.v11 C.v44 C.v46) (k0_pay14 q k) (k0_pay15 v g))

/-- Both decay gradients after `n` halves. -/
def dl : ℕ → FVec F S1x128 .f32 × FVec F S1x128 .f32
  | 0 => (k0_pay77, k0_pay77)
  | n + 1 => (dl0H C B n (dl n).1, dl1H C B n (dl n).2)

/-- The three gradients of the head, one above the other. -/
def grads : Vec F S3x4096x128 .bf16 := fun j =>
  (if (j 0).val = 0 then dqH C B ((j 1).val / 2048) else if (j 0).val = 1 then dkH C B ((j 1).val / 2048) else dvH C B ((j 1).val / 2048))
    (ix3 (n0 := 1) (n1 := 2048) (n2 := 128) 0 ⟨(j 1).val % 2048, Nat.mod_lt _ (by decide)⟩ (j 2))

/-- The head's row of decay gradients: two rows of results, six of zeros. -/
def small : Vec F S1x8x128 .f32 := fun j =>
  if (j 1).val = 0 then k0_pay79 (k0_pay78 C.v5 (dl C B 2).1) (ix3 (n0 := 1) (n1 := 1) (n2 := 128) 0 0 (j 2))
  else if (j 1).val = 1 then k0_pay80 C.v11 (dl C B 2).2 (ix3 (n0 := 1) (n1 := 1) (n2 := 128) 0 0 (j 2))
  else k0_pay81 (F := F) (ix3 (n0 := 1) (n1 := 6) (n2 := 128) 0 ⟨((j 1).val - 2) % 6, Nat.mod_lt _ (by decide)⟩ (j 2))

end One

end Cert.KernelIdeal.RetBwd
-- ==== Proof.Loop1.lean ====
module

public import proofs.«01_k».proof.Proof.Vals
public import proofs.«01_k».proof.Proof.Gen.KernelIdeal.Loops
public import Idealize.ShloMosaic.Lib.Exec
public import Idealize.ShloMosaic.Lib.Tactic
public import Idealize.ShloMosaic.Lib.Pipeline.Routed
public import Idealize.ShloMosaic.Lib.Pipeline.Kit
public import Idealize.ShloMosaic.Lib.WritesUnit
public import Idealize.ShloMosaic.Lib.VecWindow

/-! The first loop: the terms of the states and of their gradients, sixteen chunks a trip. -/

@[expose] public section

set_option maxRecDepth 16384

noncomputable section

namespace Cert.KernelIdeal.RetBwd

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- The resource algebra of the run: the pipeline's, with counters for the copies in flight. -/
local notation "𝕄" => MT nD τ sig Unit (Elt F) ℕ (Pipeline.UC sig nD τ) ℕ

/-- The first `n` chunks of `f` are those of `X`. -/
def Upto (X f : Vec F S2x32x128x128 .f32) (n : ℕ) : Prop := ∀ j, (j 1).val < n → f j = X j

/-- Two stores of sixteen chunks each, one per direction, extend what is known by sixteen chunks. -/
theorem upto_step (v : View sig .tc .vmem S2x32x128x128 .f32) (f : v.ty.Contents (Elt F)) (T : Fin 2 → ℕ → FVec F S1x16x128x128 .f32) (k : ℕ) (hk : k < 2)
    {o3 o4 : Fin 4 → ℕ} (i3 : ∀ a, o3 a + S1x16x128x128.size a ≤ S2x32x128x128.size a) (i4 : ∀ a, o4 a + S1x16x128x128.size a ≤ S2x32x128x128.size a)
    (h3 : o3 = ![0, 16 * k, 0, 0]) (h4 : o4 = ![1, 16 * k, 0, 0]) (hf : Upto (glue T) (v.read (Elt F) f) (16 * k))
    {p0 p1 : FVec F S1x16x128x128 .f32} (e0 : p0 = T 0 k) (e1 : p1 = T 1 k) :
    Upto (glue T) (v.read (Elt F) (v.writes (Elt F) f [⟨Rect.unit (s := S2x32x128x128) o4 S1x16x128x128.size i4, p1⟩, ⟨Rect.unit (s := S2x32x128x128) o3 S1x16x128x128.size i3, p0⟩])) (16 * (k + 1)) := by
  intro j hj
  obtain ⟨w, n, a, b, rfl⟩ : ∃ (w : Fin 2) (n : Fin 32) (a b : Fin 128), j = ix4 w n a b := ⟨j 0, j 1, j 2, j 3, eq_ix4 j⟩
  replace hj : n.val < 16 * (k + 1) := hj
  by_cases hn : n.val < 16 * k
  · have step : ∀ (o : Fin 4 → ℕ) (i : ∀ a, o a + S1x16x128x128.size a ≤ S2x32x128x128.size a) (p) (L) (w0 : ℕ) (ho : o = ![w0, 16 * k, 0, 0]),
        v.read (Elt F) (v.writes (Elt F) f ((⟨Rect.unit (s := S2x32x128x128) o S1x16x128x128.size i, p⟩ : View.Piece (Elt F) S2x32x128x128 .f32) :: L)) (ix4 w n a b)
          = v.read (Elt F) (v.writes (Elt F) f L) (ix4 w n a b) := fun o i p L w0 ho =>
      View.read_writes_cons_unit_of_not_mem v f i p L _ ho 1 (Or.inl (by simpa using hn))
    rw [step _ i4 _ _ 1 h4, step _ i3 _ _ 0 h3]
    exact hf _ hn
  · have hlt : n.val / 16 = k := by omega
    have hmod : n.val = 16 * k + n.val % 16 := by omega
    have hm : n.val % 16 < 16 := Nat.mod_lt _ (by decide)
    match w with
    | ⟨0, _⟩ =>
      rw [View.read_writes_cons_unit_of_not_mem v f i4 p1 _ _ h4 0 (Or.inl (by simp))]
      rw [View.read_writes_cons_unit_of_mem v f i3 p0 [] _ (ix4 (n0 := 1) (n1 := 16) (n2 := 128) (n3 := 128) 0 ⟨n.val % 16, hm⟩ a b) h3
        (fun d => by match d with | ⟨0, _⟩ => rfl | ⟨1, _⟩ => exact hmod | ⟨2, _⟩ => exact (Nat.zero_add _).symm | ⟨3, _⟩ => exact (Nat.zero_add _).symm)]
      rw [e0]; show _ = T 0 (n.val / 16) _; rw [hlt]
    | ⟨1, _⟩ =>
      rw [View.read_writes_cons_unit_of_mem v f i4 p1 _ _ (ix4 (n0 := 1) (n1 := 16) (n2 := 128) (n3 := 128) 0 ⟨n.val % 16, hm⟩ a b) h4
        (fun d => by match d with | ⟨0, _⟩ => rfl | ⟨1, _⟩ => exact hmod | ⟨2, _⟩ => exact (Nat.zero_add _).symm | ⟨3, _⟩ => exact (Nat.zero_add _).symm)]
      rw [e1]; show _ = T 1 (n.val / 16) _; rw [hlt]

/-- A load of rows `2048 k …` of a block is that half of what the block reads. -/
theorem readAt_half (v : View sig .tc .vmem S4096x128 .f32) (f : v.ty.Contents (Elt F)) (k : ℕ) (hk : k < 2) {o : Fin 2 → ℕ}
    (i : ∀ a, o a + S2048x128.size a ≤ S4096x128.size a) (h : o = ![2048 * k, 0]) :
    v.readAt (Elt F) (Rect.unit (s := S4096x128) o S2048x128.size i).toLoadRect f = half (v.read (Elt F) f) k := by
  rw [View.readAt_unit v f i h (h ▸ i)]
  funext y
  show v.read (Elt F) f _ = v.read (Elt F) f _
  congr 1
  funext d; apply Fin.ext
  match d with
  | ⟨0, _⟩ => show 2048 * k + 1 * (y 0).val = 2048 * (k % 2) + (y 0).val; rw [Nat.mod_eq_of_lt hk, Nat.one_mul]
  | ⟨1, _⟩ => show 0 + 1 * (y 1).val = (y 1).val; omega

/-- What the first loop reads and writes, before trip `n`. -/
abbrev inv1 (c : Dev nD) (arg3 : Memref sig .tc .vmem S4096x128 .f32) (arg4 : Memref sig .tc .vmem S4096x128 .f32) (arg5 : Memref sig .tc .vmem S4096x128 .f32) (arg6 : Memref sig .tc .vmem S4096x128 .f32) (arg10 : Memref sig .tc .vmem S2x32x128x128 .f32) (arg11 : Memref sig .tc .vmem S2x32x128x128 .f32) (v5 : FVec F S1x1 .f32) (v11 : FVec F S1x1 .f32) (v19 : FVec F S128x128 .f32) (v24 : FVec F S128x128 .f32) (v28 : FVec F S128x1 .f32) (v30 : FVec F S128x1 .f32) (v33 : FVec F S128x1 .f32) (v36 : FVec F S128x1 .f32) (v39 : FVec F S1x1 .f32) (v44 : IVec S128x128 1) (v46 : IVec S128x128 32) (X3 : BufTy.Contents (Elt F) arg3.view.ty) (X4 : BufTy.Contents (Elt F) arg4.view.ty) (X5 : BufTy.Contents (Elt F) arg5.view.ty) (X6 : BufTy.Contents (Elt F) arg6.view.ty) (n : ℕ) : sProp 𝕄 :=
  iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
    ∗ (∃ f, (arg10.view.loc (c : Thread nD τ) ↦[arg10.view.set]{fullShare} f) ∗ ⌜Upto (stT (F := F) ⟨v5, v11, v19, v24, v28, v30, v33, v36, v39, v44, v46⟩ ⟨arg3.view.read (Elt F) X3, arg4.view.read (Elt F) X4, arg5.view.read (Elt F) X5, arg6.view.read (Elt F) X6⟩) (arg10.view.read (Elt F) f) (16 * n)⌝)
    ∗ (∃ f, (arg11.view.loc (c : Thread nD τ) ↦[arg11.view.set]{fullShare} f) ∗ ⌜Upto (dsT (F := F) ⟨v5, v11, v19, v24, v28, v30, v33, v36, v39, v44, v46⟩ ⟨arg3.view.read (Elt F) X3, arg4.view.read (Elt F) X4, arg5.view.read (Elt F) X5, arg6.view.read (Elt F) X6⟩) (arg11.view.read (Elt F) f) (16 * n)⌝))

set_option warn.classDefReducibility false in
/-- The first loop by its invariant. -/
def loop1 (𝒱 : Variants) (c : Dev nD) (bd : Option 𝒱.V) (E : Set ℕ) (i : grid0.Coords) (arg1 : Memref sig .tc .smem S1x8 .f32) (harg1 : arg1.IsWhole) (arg2 : Memref sig .tc .smem S1x8 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .hbm S4096x7168 .bf16) (harg7 : arg7.IsWhole) (arg8 : Memref sig .tc .vmem S1x8x128 .f32) (harg8 : arg8.IsWhole) (arg9 : Memref sig .tc .hbm S4096x7168 .bf16) (harg9 : arg9.IsWhole) (arg10 : Memref sig .tc .vmem S2x32x128x128 .f32) (harg10 : arg10.IsWhole) (arg11 : Memref sig .tc .vmem S2x32x128x128 .f32) (harg11 : arg11.IsWhole) (arg12 : Memref sig .tc .vmem S3x4096x128 .bf16) (harg12 : arg12.IsWhole) (arg13 : DmaSems sig S3) (v5 : FVec F S1x1 .f32) (v11 : FVec F S1x1 .f32) (v19 : FVec F S128x128 .f32) (v24 : FVec F S128x128 .f32) (v28 : FVec F S128x1 .f32) (v30 : FVec F S128x1 .f32) (v33 : FVec F S128x1 .f32) (v36 : FVec F S128x1 .f32) (v39 : FVec F S1x1 .f32) (v44 : IVec S128x128 1) (v46 : IVec S128x128 32) (X3 : BufTy.Contents (Elt F) arg3.view.ty) (X4 : BufTy.Contents (Elt F) arg4.view.ty) (X5 : BufTy.Contents (Elt F) arg5.view.ty) (X6 : BufTy.Contents (Elt F) arg6.view.ty) :
    LoopInvTy_k0_t1 (F := F) Unit ℕ (Pipeline.UC sig nD τ) ℕ 𝒱 c bd E i arg1 harg1 arg2 harg2 arg3 harg3 arg4 harg4 arg5 harg5 arg6 harg6 arg7 harg7 arg8 harg8 arg9 harg9 arg10 harg10 arg11 harg11 arg12 harg12 arg13 v5 v11 v19 v24 v28 v30 v33 v36 v39 v44 v46 where
  inv n _ := inv1 c arg3 arg4 arg5 arg6 arg10 arg11 v5 v11 v19 v24 v28 v30 v33 v36 v39 v44 v46 X3 X4 X5 X6 n
  step k acc := by
    have hk : k.val < 2 := Nat.lt_of_lt_of_le k.isLt k0_t1_abs.2.1
    unfold k0_t1_body inv1
    iintro ⟨H3, H4, H5, H6, ⟨%f10, H10, %h10⟩, ⟨%f11, H11, %h11⟩⟩
    sl_exec
    sl_step
    isplitl [H3]; · iexact H3
    isplitl [H4]; · iexact H4
    isplitl [H5]; · iexact H5
    isplitl [H6]; · iexact H6
    isplitl [H10]
    · iexists _; isplitl [H10]; · iexact H10
      ipureintro
      refine upto_step arg10.view f10 _ k.val hk _ _ (k0_off3_eq k) (k0_off4_eq k) h10 ?_ ?_
      · rw [readAt_half arg4.view X4 k.val hk _ (k0_off2_eq k), readAt_half arg5.view X5 k.val hk _ (k0_off2_eq k)]; rfl
      · delta loop1.sl.r_1 loop1.sl.r_3; rw [readAt_half arg4.view X4 k.val hk _ (k0_off2_eq k), readAt_half arg5.view X5 k.val hk _ (k0_off2_eq k)]; rfl
    · iexists _; isplitl [H11]; · iexact H11
      ipureintro
      refine upto_step arg11.view f11 _ k.val hk _ _ (k0_off3_eq k) (k0_off4_eq k) h11 ?_ ?_
      · rw [readAt_half arg3.view X3 k.val hk _ (k0_off2_eq k), readAt_half arg6.view X6 k.val hk _ (k0_off2_eq k)]; rfl
      · delta loop1.sl.r loop1.sl.r_2; rw [readAt_half arg3.view X3 k.val hk _ (k0_off2_eq k), readAt_half arg6.view X6 k.val hk _ (k0_off2_eq k)]; rfl

end Cert.KernelIdeal.RetBwd
-- ==== Proof.Loop2.lean ====
module

public import proofs.«01_k».proof.Proof.Loop1
public import proofs.«01_k».proof.Proof.Gen.KernelIdeal.Loops
public import Idealize.ShloMosaic.Lib.Exec
public import Idealize.ShloMosaic.Lib.Tactic
public import Idealize.ShloMosaic.Lib.Pipeline.Routed
public import Idealize.ShloMosaic.Lib.Pipeline.Kit
public import Idealize.ShloMosaic.Lib.WritesUnit
public import Idealize.ShloMosaic.Lib.VecWindow

/-! The two scans: the states from first to last chunk, the state gradients from last to first (and the other way round for the other direction). -/

@[expose] public section

set_option maxRecDepth 16384

noncomputable section

namespace Cert.KernelIdeal.RetBwd

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- The resource algebra of the run: the pipeline's, with counters for the copies in flight. -/
local notation "𝕄" => MT nD τ sig Unit (Elt F) ℕ (Pipeline.UC sig nD τ) ℕ

/-- Chunk `m` of direction `w` has been met in the first `n` trips of a scan in which direction `a` runs upwards. -/
def Met (a n : ℕ) (w : Fin 2) (m : Fin 32) : Prop := (w.val = a ∧ m.val < n) ∨ (w.val ≠ a ∧ 32 ≤ m.val + n)

/-- `f` holds `S` in the chunks met and `X` in the others. -/
def Mix (a : ℕ) (X S f : Vec F S2x32x128x128 .f32) (n : ℕ) : Prop := ∀ (w : Fin 2) (m : Fin 32) (x y : Fin 128),
  (Met a n w m → f (ix4 w m x y) = S (ix4 w m x y)) ∧ (¬ Met a n w m → f (ix4 w m x y) = X (ix4 w m x y))

theorem mix_zero (a : ℕ) (X S f : Vec F S2x32x128x128 .f32) (h : Upto X f 32) : Mix a X S f 0 := fun w m x y =>
  ⟨fun hm => absurd hm (by unfold Met; have := m.isLt; omega), fun _ => h _ m.isLt⟩

theorem mix_last (a : ℕ) (X S f : Vec F S2x32x128x128 .f32) (h : Mix a X S f 32) : f = S := by
  funext j
  rw [eq_ix4 j]
  refine (h (j 0) (j 1) (j 2) (j 3)).1 ?_
  unfold Met
  have : (j 1).val < 32 := (j 1).isLt
  omega

/-- What a load of one chunk's state reads. -/
theorem readAt_chunk (v : View sig .tc .vmem S2x32x128x128 .f32) (f : v.ty.Contents (Elt F)) (w : Fin 2) (n : ℕ) (hn : n < 32) {o : Fin 4 → ℕ}
    (i : ∀ a, o a + S1x1x128x128.size a ≤ S2x32x128x128.size a) (h : o = ![w.val, n, 0, 0]) :
    v.readAt (Elt F) (Rect.unit (s := S2x32x128x128) o S1x1x128x128.size i).toLoadRect f = chunk (v.read (Elt F) f) w n := by
  rw [View.readAt_unit v f i h (h ▸ i)]
  funext y
  show v.read (Elt F) f _ = v.read (Elt F) f _
  congr 1
  have h0 : (y 0).val = 0 := Nat.lt_one_iff.mp (y 0).isLt
  have h1 : (y 1).val = 0 := Nat.lt_one_iff.mp (y 1).isLt
  funext d; apply Fin.ext
  match d with
  | ⟨0, _⟩ => show w.val + 1 * (y 0).val = w.val; omega
  | ⟨1, _⟩ => show n + 1 * (y 1).val = n % 32; rw [Nat.mod_eq_of_lt hn]; omega
  | ⟨2, _⟩ => show 0 + 1 * (y 2).val = (y 2).val; omega
  | ⟨3, _⟩ => show 0 + 1 * (y 3).val = (y 3).val; omega

/-- A chunk not met yet still holds its term. -/
theorem Mix.chunk {a : ℕ} {X S f : Vec F S2x32x128x128 .f32} {n : ℕ} (h : Mix a X S f n) (w : Fin 2) (m : ℕ) (hm : m < 32) (hw : ¬ Met a n w ⟨m, hm⟩) :
    chunk f w m = RetBwd.chunk X w m := by
  funext y
  have e : (⟨m % 32, Nat.mod_lt _ (by decide)⟩ : Fin 32) = ⟨m, hm⟩ := Fin.ext (Nat.mod_eq_of_lt hm)
  show f (ix4 w (⟨m % 32, Nat.mod_lt _ (by decide)⟩ : Fin 32) (y 2) (y 3)) = X (ix4 w (⟨m % 32, Nat.mod_lt _ (by decide)⟩ : Fin 32) (y 2) (y 3))
  rw [e]
  exact (h w ⟨m, hm⟩ (y 2) (y 3)).2 hw

/-- Storing the states of the two chunks of trip `n` (chunk `n` upwards, chunk `31 - n` downwards) extends what is met by them. -/
theorem mix_step (v : View sig .tc .vmem S2x32x128x128 .f32) (f : v.ty.Contents (Elt F)) (a b : Fin 2) (hab : b.val + a.val = 1) (X S : Vec F S2x32x128x128 .f32) (n : ℕ) (hn : n < 32)
    {oa ob : Fin 4 → ℕ} (ia : ∀ d, oa d + S1x1x128x128.size d ≤ S2x32x128x128.size d) (ib : ∀ d, ob d + S1x1x128x128.size d ≤ S2x32x128x128.size d)
    (ha : oa = ![a.val, n, 0, 0]) (hb : ob = ![b.val, 31 - n, 0, 0]) (hf : Mix a.val X S (v.read (Elt F) f) n)
    {pa pb : FVec F S1x1x128x128 .f32}
    (ea : ∀ x y, pa (ix4 (n0 := 1) (n1 := 1) (n2 := 128) (n3 := 128) 0 0 x y) = S (ix4 (n0 := 2) (n1 := 32) a ⟨n, hn⟩ x y))
    (eb : ∀ x y, pb (ix4 (n0 := 1) (n1 := 1) (n2 := 128) (n3 := 128) 0 0 x y) = S (ix4 (n0 := 2) (n1 := 32) b ⟨31 - n, by omega⟩ x y))
    (L : List (View.Piece (Elt F) S2x32x128x128 .f32))
    (hL : L = [⟨Rect.unit (s := S2x32x128x128) ob S1x1x128x128.size ib, pb⟩, ⟨Rect.unit (s := S2x32x128x128) oa S1x1x128x128.size ia, pa⟩]
      ∨ L = [⟨Rect.unit (s := S2x32x128x128) oa S1x1x128x128.size ia, pa⟩, ⟨Rect.unit (s := S2x32x128x128) ob S1x1x128x128.size ib, pb⟩]) :
    Mix a.val X S (v.read (Elt F) (v.writes (Elt F) f L)) (n + 1) := by
  have hit : ∀ {o : Fin 4 → ℕ} (i : ∀ d, o d + S1x1x128x128.size d ≤ S2x32x128x128.size d) (p) (L) (w : Fin 2) (m : Fin 32) (ho : o = ![w.val, m.val, 0, 0]) (x y : Fin 128),
      v.read (Elt F) (v.writes (Elt F) f ((⟨Rect.unit (s := S2x32x128x128) o S1x1x128x128.size i, p⟩ : View.Piece (Elt F) S2x32x128x128 .f32) :: L)) (ix4 w m x y)
        = p (ix4 (n0 := 1) (n1 := 1) (n2 := 128) (n3 := 128) 0 0 x y) := fun i p L w m ho x y =>
    View.read_writes_cons_unit_of_mem v f i p L _ (ix4 (n0 := 1) (n1 := 1) (n2 := 128) (n3 := 128) 0 0 x y) ho
      (fun d => by match d with | ⟨0, _⟩ => rfl | ⟨1, _⟩ => rfl | ⟨2, _⟩ => exact (Nat.zero_add _).symm | ⟨3, _⟩ => exact (Nat.zero_add _).symm)
  have miss : ∀ {o : Fin 4 → ℕ} (i : ∀ d, o d + S1x1x128x128.size d ≤ S2x32x128x128.size d) (p) (L) (w w' : Fin 2) (m : Fin 32) (m' : ℕ) (ho : o = ![w'.val, m', 0, 0]) (x y : Fin 128)
      (hne : w.val ≠ w'.val ∨ m.val ≠ m'),
      v.read (Elt F) (v.writes (Elt F) f ((⟨Rect.unit (s := S2x32x128x128) o S1x1x128x128.size i, p⟩ : View.Piece (Elt F) S2x32x128x128 .f32) :: L)) (ix4 w m x y)
        = v.read (Elt F) (v.writes (Elt F) f L) (ix4 w m x y) := fun i p L w w' m m' ho x y hne => by
    rcases hne with h | h
    · exact View.read_writes_cons_unit_of_not_mem v f i p L _ ho 0 (by show w.val < w'.val ∨ w'.val + 1 ≤ w.val; omega)
    · exact View.read_writes_cons_unit_of_not_mem v f i p L _ ho 1 (by show m.val < m' ∨ m' + 1 ≤ m.val; omega)
  have hn' : 31 - n < 32 := by omega
  intro w m x y
  have ha1 := a.isLt
  have hb1 := b.isLt
  have hw1 := w.isLt
  have hm1 := m.isLt
  have hv : v.read (Elt F) (v.writes (Elt F) f L) (ix4 w m x y) = if (w = a ∧ m.val = n) ∨ (w = b ∧ m.val = 31 - n) then S (ix4 w m x y) else v.read (Elt F) f (ix4 w m x y) := by
    by_cases h1 : w = a
    · subst h1
      by_cases h2 : m.val = n
      · rw [if_pos (Or.inl ⟨rfl, h2⟩)]
        obtain rfl : m = ⟨n, hn⟩ := Fin.ext h2
        rcases hL with rfl | rfl
        · rw [miss ib _ _ w b _ _ hb x y (Or.inl (by omega)), hit ia _ _ w _ ha, ea]
        · rw [hit ia _ _ w _ ha, ea]
      · rw [if_neg (by rintro (⟨_, h⟩ | ⟨h, _⟩); exact h2 h; rw [h] at hab; omega)]
        rcases hL with rfl | rfl
        · rw [miss ib _ _ w b _ _ hb x y (Or.inl (by omega)), miss ia _ _ w w _ _ ha x y (Or.inr h2)]; rfl
        · rw [miss ia _ _ w w _ _ ha x y (Or.inr h2), miss ib _ _ w b _ _ hb x y (Or.inl (by omega))]; rfl
    · have h1v : w.val ≠ a.val := fun h => h1 (Fin.ext h)
      obtain rfl : w = b := Fin.ext (by omega)
      by_cases h2 : m.val = 31 - n
      · rw [if_pos (Or.inr ⟨rfl, h2⟩)]
        obtain rfl : m = ⟨31 - n, hn'⟩ := Fin.ext h2
        rcases hL with rfl | rfl
        · rw [hit ib _ _ w _ hb, eb]
        · rw [miss ia _ _ w a _ _ ha x y (Or.inl h1v), hit ib _ _ w _ hb, eb]
      · rw [if_neg (by rintro (⟨h, _⟩ | ⟨_, h⟩); exact h1 h; exact h2 h)]
        rcases hL with rfl | rfl
        · rw [miss ib _ _ w w _ _ hb x y (Or.inr h2), miss ia _ _ w a _ _ ha x y (Or.inl h1v)]; rfl
        · rw [miss ia _ _ w a _ _ ha x y (Or.inl h1v), miss ib _ _ w w _ _ hb x y (Or.inr h2)]; rfl
  rw [hv]
  by_cases hc : (w = a ∧ m.val = n) ∨ (w = b ∧ m.val = 31 - n)
  · rw [if_pos hc]
    refine ⟨fun _ => rfl, fun hm => absurd ?_ hm⟩
    unfold Met
    rcases hc with ⟨rfl, h⟩ | ⟨rfl, h⟩ <;> omega
  · rw [if_neg hc]
    have hc' : ¬((w.val = a.val ∧ m.val = n) ∨ (w.val = b.val ∧ m.val = 31 - n)) := fun h => hc (by
      rcases h with ⟨h, h'⟩ | ⟨h, h'⟩
      · exact Or.inl ⟨Fin.ext h, h'⟩
      · exact Or.inr ⟨Fin.ext h, h'⟩)
    have : Met a.val (n + 1) w m ↔ Met a.val n w m := by unfold Met; omega
    rw [this]
    exact hf w m x y

/-- What scan 2 reads, writes and carries, before trip `n`. -/
abbrev inv2 (c : Dev nD) (arg10 : Memref sig .tc .vmem S2x32x128x128 .f32) (C : Cst F) (B : Blk F) (n : ℕ) (acc : FVec F S128x128 .f32 × FVec F S128x128 .f32) : sProp 𝕄 :=
  iprop((∃ f, (arg10.view.loc (c : Thread nD τ) ↦[arg10.view.set]{fullShare} f) ∗ ⌜Mix 0 (stT C B) (stS C B) (arg10.view.read (Elt F) f) n⌝) ∗ ⌜acc = (st0 C B n, st1 C B n)⌝)

set_option warn.classDefReducibility false in
/-- The loop by its invariant. -/
def loop2 (𝒱 : Variants) (c : Dev nD) (bd : Option 𝒱.V) (E : Set ℕ) (i : grid0.Coords) (arg1 : Memref sig .tc .smem S1x8 .f32) (harg1 : arg1.IsWhole) (arg2 : Memref sig .tc .smem S1x8 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .hbm S4096x7168 .bf16) (harg7 : arg7.IsWhole) (arg8 : Memref sig .tc .vmem S1x8x128 .f32) (harg8 : arg8.IsWhole) (arg9 : Memref sig .tc .hbm S4096x7168 .bf16) (harg9 : arg9.IsWhole) (arg10 : Memref sig .tc .vmem S2x32x128x128 .f32) (harg10 : arg10.IsWhole) (arg11 : Memref sig .tc .vmem S2x32x128x128 .f32) (harg11 : arg11.IsWhole) (arg12 : Memref sig .tc .vmem S3x4096x128 .bf16) (harg12 : arg12.IsWhole) (arg13 : DmaSems sig S3) (v5 : FVec F S1x1 .f32) (v11 : FVec F S1x1 .f32) (v19 : FVec F S128x128 .f32) (v24 : FVec F S128x128 .f32) (v28 : FVec F S128x1 .f32) (v30 : FVec F S128x1 .f32) (v33 : FVec F S128x1 .f32) (v36 : FVec F S128x1 .f32) (v39 : FVec F S1x1 .f32) (v44 : IVec S128x128 1) (v46 : IVec S128x128 32) (B : Blk F) :
    LoopInvTy_k0_t2 (F := F) Unit ℕ (Pipeline.UC sig nD τ) ℕ 𝒱 c bd E i arg1 harg1 arg2 harg2 arg3 harg3 arg4 harg4 arg5 harg5 arg6 harg6 arg7 harg7 arg8 harg8 arg9 harg9 arg10 harg10 arg11 harg11 arg12 harg12 arg13 v5 v11 v19 v24 v28 v30 v33 v36 v39 v44 v46 (k0_pay67 (F := F), k0_pay67 (F := F)) where
  inv n acc := inv2 c arg10 ⟨v5, v11, v19, v24, v28, v30, v33, v36, v39, v44, v46⟩ B n acc
  step k acc := by
    have hk : k.val < 32 := Nat.lt_of_lt_of_le k.isLt k0_t2_abs.2.1
    unfold k0_t2_body inv2
    iintro ⟨⟨%f, H, %h⟩, %hacc⟩
    subst hacc
    sl_exec
    sl_step
    isplitl [H]
    · iexists _; isplitl [H]; · iexact H
      ipureintro
      exact mix_step arg10.view f 0 1 rfl _ _ k.val hk _ _ (k0_off5_eq k) (k0_off6_eq k) h (fun x y => by
        show _ = (if (0 : ℕ) = 0 then _ else _); rw [if_pos rfl]) (fun x y => by
        show _ = (if (1 : ℕ) = 0 then _ else _); rw [if_neg (by decide), show 31 - (31 - k.val) = k.val by omega]) _ (Or.inl rfl)
    · ipureintro
      delta loop2.sl.v147
      rw [readAt_chunk arg10.view f 0 k.val hk _ (k0_off5_eq k), readAt_chunk arg10.view f 1 (31 - k.val) (by omega) _ (k0_off6_eq k),
        h.chunk 0 k.val hk (by unfold Met; show ¬((0 : ℕ) = 0 ∧ k.val < k.val ∨ _); simp), h.chunk 1 (31 - k.val) (by omega) (by unfold Met; show ¬((1 : ℕ) = 0 ∧ _ ∨ _ ∧ 32 ≤ 31 - k.val + k.val); omega)]
      rfl

/-- What scan 3 reads, writes and carries, before trip `n`. -/
abbrev inv3 (c : Dev nD) (arg11 : Memref sig .tc .vmem S2x32x128x128 .f32) (C : Cst F) (B : Blk F) (n : ℕ) (acc : FVec F S128x128 .f32 × FVec F S128x128 .f32) : sProp 𝕄 :=
  iprop((∃ f, (arg11.view.loc (c : Thread nD τ) ↦[arg11.view.set]{fullShare} f) ∗ ⌜Mix 1 (dsT C B) (dsS C B) (arg11.view.read (Elt F) f) n⌝) ∗ ⌜acc = (ds0 C B n, ds1 C B n)⌝)

set_option warn.classDefReducibility false in
/-- The loop by its invariant. -/
def loop3 (𝒱 : Variants) (c : Dev nD) (bd : Option 𝒱.V) (E : Set ℕ) (i : grid0.Coords) (arg1 : Memref sig .tc .smem S1x8 .f32) (harg1 : arg1.IsWhole) (arg2 : Memref sig .tc .smem S1x8 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .hbm S4096x7168 .bf16) (harg7 : arg7.IsWhole) (arg8 : Memref sig .tc .vmem S1x8x128 .f32) (harg8 : arg8.IsWhole) (arg9 : Memref sig .tc .hbm S4096x7168 .bf16) (harg9 : arg9.IsWhole) (arg10 : Memref sig .tc .vmem S2x32x128x128 .f32) (harg10 : arg10.IsWhole) (arg11 : Memref sig .tc .vmem S2x32x128x128 .f32) (harg11 : arg11.IsWhole) (arg12 : Memref sig .tc .vmem S3x4096x128 .bf16) (harg12 : arg12.IsWhole) (arg13 : DmaSems sig S3) (v5 : FVec F S1x1 .f32) (v11 : FVec F S1x1 .f32) (v19 : FVec F S128x128 .f32) (v24 : FVec F S128x128 .f32) (v28 : FVec F S128x1 .f32) (v30 : FVec F S128x1 .f32) (v33 : FVec F S128x1 .f32) (v36 : FVec F S128x1 .f32) (v39 : FVec F S1x1 .f32) (v44 : IVec S128x128 1) (v46 : IVec S128x128 32) (B : Blk F) :
    LoopInvTy_k0_t3 (F := F) Unit ℕ (Pipeline.UC sig nD τ) ℕ 𝒱 c bd E i arg1 harg1 arg2 harg2 arg3 harg3 arg4 harg4 arg5 harg5 arg6 harg6 arg7 harg7 arg8 harg8 arg9 harg9 arg10 harg10 arg11 harg11 arg12 harg12 arg13 v5 v11 v19 v24 v28 v30 v33 v36 v39 v44 v46 (k0_pay72 (F := F), k0_pay72 (F := F)) where
  inv n acc := inv3 c arg11 ⟨v5, v11, v19, v24, v28, v30, v33, v36, v39, v44, v46⟩ B n acc
  step k acc := by
    have hk : k.val < 32 := Nat.lt_of_lt_of_le k.isLt k0_t3_abs.2.1
    unfold k0_t3_body inv3
    iintro ⟨⟨%f, H, %h⟩, %hacc⟩
    subst hacc
    sl_exec
    sl_step
    isplitl [H]
    · iexists _; isplitl [H]; · iexact H
      ipureintro
      exact mix_step arg11.view f 1 0 rfl _ _ k.val hk _ _ (k0_off8_eq k) (k0_off7_eq k) h (fun x y => by
        show _ = (if (1 : ℕ) = 0 then _ else _); rw [if_neg (by decide)]) (fun x y => by
        show _ = (if (0 : ℕ) = 0 then _ else _); rw [if_pos rfl, show 31 - (31 - k.val) = k.val by omega]) _ (Or.inr rfl)
    · ipureintro
      delta loop3.sl.v147
      rw [readAt_chunk arg11.view f 1 k.val hk _ (k0_off8_eq k), readAt_chunk arg11.view f 0 (31 - k.val) (by omega) _ (k0_off7_eq k),
        h.chunk 1 k.val hk (by unfold Met; show ¬((1 : ℕ) = 1 ∧ k.val < k.val ∨ _); simp), h.chunk 0 (31 - k.val) (by omega) (by unfold Met; show ¬((0 : ℕ) = 1 ∧ _ ∨ _ ∧ 32 ≤ 31 - k.val + k.val); omega)]
      rfl

end Cert.KernelIdeal.RetBwd
-- ==== Proof.Loop4.lean ====
module

public import proofs.«01_k».proof.Proof.Loop2
public import proofs.«01_k».proof.Proof.Gen.KernelIdeal.Loops
public import Idealize.ShloMosaic.Lib.Exec
public import Idealize.ShloMosaic.Lib.Tactic
public import Idealize.ShloMosaic.Lib.Pipeline.Routed
public import Idealize.ShloMosaic.Lib.Pipeline.Kit
public import Idealize.ShloMosaic.Lib.WritesUnit
public import Idealize.ShloMosaic.Lib.VecWindow

/-! The main loop: the three gradients and the decay gradients, sixteen chunks a trip. -/

@[expose] public section

set_option maxRecDepth 16384

noncomputable section

namespace Cert.KernelIdeal.RetBwd

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- The resource algebra of the run: the pipeline's, with counters for the copies in flight. -/
local notation "𝕄" => MT nD τ sig Unit (Elt F) ℕ (Pipeline.UC sig nD τ) ℕ

/-- What a load of sixteen chunk states reads. -/
theorem readAt_half4 (v : View sig .tc .vmem S2x32x128x128 .f32) (f : v.ty.Contents (Elt F)) (w : Fin 2) (n : ℕ) (hn : n < 2) {o : Fin 4 → ℕ}
    (i : ∀ a, o a + S1x16x128x128.size a ≤ S2x32x128x128.size a) (h : o = ![w.val, 16 * n, 0, 0]) :
    v.readAt (Elt F) (Rect.unit (s := S2x32x128x128) o S1x16x128x128.size i).toLoadRect f = half4 (v.read (Elt F) f) w n := by
  rw [View.readAt_unit v f i h (h ▸ i)]
  funext y
  show v.read (Elt F) f _ = v.read (Elt F) f _
  congr 1
  have h0 : (y 0).val = 0 := Nat.lt_one_iff.mp (y 0).isLt
  funext d; apply Fin.ext
  match d with
  | ⟨0, _⟩ => show w.val + 1 * (y 0).val = w.val; omega
  | ⟨1, _⟩ => show 16 * n + 1 * (y 1).val = 16 * (n % 2) + (y 1).val; rw [Nat.mod_eq_of_lt hn]; omega
  | ⟨2, _⟩ => show 0 + 1 * (y 2).val = (y 2).val; omega
  | ⟨3, _⟩ => show 0 + 1 * (y 3).val = (y 3).val; omega

/-- The first `n` rows of the three planes of `f` are the gradients. -/
def RowsUpto (C : Cst F) (B : Blk F) (f : Vec F S3x4096x128 .bf16) (n : ℕ) : Prop :=
  ∀ (p : Fin 3) (r : Fin 4096) (x : Fin 128), r.val < n → f (ix3 p r x) = grads C B (ix3 p r x)

/-- Three stores of 2048 rows, one per plane, extend what is known by 2048 rows. -/
theorem rows_step (v : View sig .tc .vmem S3x4096x128 .bf16) (f : v.ty.Contents (Elt F)) (C : Cst F) (B : Blk F) (k : ℕ) (hk : k < 2)
    {o0 o1 o2 : Fin 3 → ℕ} (i0 : ∀ a, o0 a + S1x2048x128.size a ≤ S3x4096x128.size a) (i1 : ∀ a, o1 a + S1x2048x128.size a ≤ S3x4096x128.size a)
    (i2 : ∀ a, o2 a + S1x2048x128.size a ≤ S3x4096x128.size a)
    (h0 : o0 = ![0, 2048 * k, 0]) (h1 : o1 = ![1, 2048 * k, 0]) (h2 : o2 = ![2, 2048 * k, 0]) (hf : RowsUpto C B (v.read (Elt F) f) (2048 * k))
    {p0 p1 p2 : FVec F S1x2048x128 .bf16} (e0 : p0 = dqH C B k) (e1 : p1 = dkH C B k) (e2 : p2 = dvH C B k) :
    RowsUpto C B (v.read (Elt F) (v.writes (Elt F) f [⟨Rect.unit (s := S3x4096x128) o2 S1x2048x128.size i2, p2⟩,
      ⟨Rect.unit (s := S3x4096x128) o1 S1x2048x128.size i1, p1⟩, ⟨Rect.unit (s := S3x4096x128) o0 S1x2048x128.size i0, p0⟩])) (2048 * (k + 1)) := by
  intro p r x hr
  have miss : ∀ {o : Fin 3 → ℕ} (i : ∀ d, o d + S1x2048x128.size d ≤ S3x4096x128.size d) (P) (L) (p' : ℕ) (ho : o = ![p', 2048 * k, 0])
      (hne : p.val ≠ p' ∨ r.val < 2048 * k),
      v.read (Elt F) (v.writes (Elt F) f ((⟨Rect.unit (s := S3x4096x128) o S1x2048x128.size i, P⟩ : View.Piece (Elt F) S3x4096x128 .bf16) :: L)) (ix3 p r x)
        = v.read (Elt F) (v.writes (Elt F) f L) (ix3 p r x) := fun i P L p' ho hne => by
    rcases hne with h | h
    · exact View.read_writes_cons_unit_of_not_mem v f i P L _ ho 0 (by show p.val < p' ∨ p' + 1 ≤ p.val; omega)
    · exact View.read_writes_cons_unit_of_not_mem v f i P L _ ho 1 (Or.inl h)
  by_cases hn : r.val < 2048 * k
  · rw [miss i2 _ _ 2 h2 (Or.inr hn), miss i1 _ _ 1 h1 (Or.inr hn), miss i0 _ _ 0 h0 (Or.inr hn)]
    exact hf p r x hn
  · have hlt : r.val / 2048 = k := by omega
    have hmod : r.val = 2048 * k + r.val % 2048 := by omega
    have hm : r.val % 2048 < 2048 := Nat.mod_lt _ (by decide)
    have hit : ∀ {o : Fin 3 → ℕ} (i : ∀ d, o d + S1x2048x128.size d ≤ S3x4096x128.size d) (P) (L) (ho : o = ![p.val, 2048 * k, 0]),
        v.read (Elt F) (v.writes (Elt F) f ((⟨Rect.unit (s := S3x4096x128) o S1x2048x128.size i, P⟩ : View.Piece (Elt F) S3x4096x128 .bf16) :: L)) (ix3 p r x)
          = P (ix3 (n0 := 1) (n1 := 2048) (n2 := 128) 0 ⟨r.val % 2048, hm⟩ x) := fun i P L ho =>
      View.read_writes_cons_unit_of_mem v f i P L _ (ix3 (n0 := 1) (n1 := 2048) (n2 := 128) 0 ⟨r.val % 2048, hm⟩ x) ho
        (fun d => by match d with | ⟨0, _⟩ => rfl | ⟨1, _⟩ => exact hmod | ⟨2, _⟩ => exact (Nat.zero_add _).symm)
    match p with
    | ⟨0, _⟩ =>
      rw [miss i2 _ _ 2 h2 (Or.inl (by simp)), miss i1 _ _ 1 h1 (Or.inl (by simp)), hit i0 _ _ h0, e0]
      show _ = dqH C B (r.val / 2048) _; rw [hlt]
    | ⟨1, _⟩ =>
      rw [miss i2 _ _ 2 h2 (Or.inl (by simp)), hit i1 _ _ h1, e1]
      show _ = dkH C B (r.val / 2048) _; rw [hlt]
    | ⟨2, _⟩ =>
      rw [hit i2 _ _ h2, e2]
      show _ = dvH C B (r.val / 2048) _; rw [hlt]

/-- What the main loop reads, writes and carries, before trip `n`. -/
abbrev inv4 (c : Dev nD) (arg3 : Memref sig .tc .vmem S4096x128 .f32) (arg4 : Memref sig .tc .vmem S4096x128 .f32) (arg5 : Memref sig .tc .vmem S4096x128 .f32) (arg6 : Memref sig .tc .vmem S4096x128 .f32) (arg10 : Memref sig .tc .vmem S2x32x128x128 .f32) (arg11 : Memref sig .tc .vmem S2x32x128x128 .f32) (arg12 : Memref sig .tc .vmem S3x4096x128 .bf16) (v5 : FVec F S1x1 .f32) (v11 : FVec F S1x1 .f32) (v19 : FVec F S128x128 .f32) (v24 : FVec F S128x128 .f32) (v28 : FVec F S128x1 .f32) (v30 : FVec F S128x1 .f32) (v33 : FVec F S128x1 .f32) (v36 : FVec F S128x1 .f32) (v39 : FVec F S1x1 .f32) (v44 : IVec S128x128 1) (v46 : IVec S128x128 32) (X3 : BufTy.Contents (Elt F) arg3.view.ty) (X4 : BufTy.Contents (Elt F) arg4.view.ty) (X5 : BufTy.Contents (Elt F) arg5.view.ty) (X6 : BufTy.Contents (Elt F) arg6.view.ty) (f10 : BufTy.Contents (Elt F) arg10.view.ty) (f11 : BufTy.Contents (Elt F) arg11.view.ty)
    (n : ℕ) (acc : FVec F S1x128 .f32 × FVec F S1x128 .f32) : sProp 𝕄 :=
  iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg10.view.loc (c : Thread nD τ) ↦[arg10.view.set]{fullShare} f10) ∗ (arg11.view.loc (c : Thread nD τ) ↦[arg11.view.set]{fullShare} f11)
    ∗ (∃ f, (arg12.view.loc (c : Thread nD τ) ↦[arg12.view.set]{fullShare} f) ∗ ⌜RowsUpto (F := F) ⟨v5, v11, v19, v24, v28, v30, v33, v36, v39, v44, v46⟩ ⟨arg3.view.read (Elt F) X3, arg4.view.read (Elt F) X4, arg5.view.read (Elt F) X5, arg6.view.read (Elt F) X6⟩ (arg12.view.read (Elt F) f) (2048 * n)⌝)
    ∗ ⌜acc = dl (F := F) ⟨v5, v11, v19, v24, v28, v30, v33, v36, v39, v44, v46⟩ ⟨arg3.view.read (Elt F) X3, arg4.view.read (Elt F) X4, arg5.view.read (Elt F) X5, arg6.view.read (Elt F) X6⟩ n⌝)

set_option maxHeartbeats 1000000 in
set_option warn.classDefReducibility false in
/-- The main loop by its invariant. -/
def loop4 (𝒱 : Variants) (c : Dev nD) (bd : Option 𝒱.V) (E : Set ℕ) (i : grid0.Coords) (arg1 : Memref sig .tc .smem S1x8 .f32) (harg1 : arg1.IsWhole) (arg2 : Memref sig .tc .smem S1x8 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .hbm S4096x7168 .bf16) (harg7 : arg7.IsWhole) (arg8 : Memref sig .tc .vmem S1x8x128 .f32) (harg8 : arg8.IsWhole) (arg9 : Memref sig .tc .hbm S4096x7168 .bf16) (harg9 : arg9.IsWhole) (arg10 : Memref sig .tc .vmem S2x32x128x128 .f32) (harg10 : arg10.IsWhole) (arg11 : Memref sig .tc .vmem S2x32x128x128 .f32) (harg11 : arg11.IsWhole) (arg12 : Memref sig .tc .vmem S3x4096x128 .bf16) (harg12 : arg12.IsWhole) (arg13 : DmaSems sig S3) (v5 : FVec F S1x1 .f32) (v11 : FVec F S1x1 .f32) (v19 : FVec F S128x128 .f32) (v24 : FVec F S128x128 .f32) (v28 : FVec F S128x1 .f32) (v30 : FVec F S128x1 .f32) (v33 : FVec F S128x1 .f32) (v36 : FVec F S128x1 .f32) (v39 : FVec F S1x1 .f32) (v44 : IVec S128x128 1) (v46 : IVec S128x128 32) (X3 : BufTy.Contents (Elt F) arg3.view.ty) (X4 : BufTy.Contents (Elt F) arg4.view.ty) (X5 : BufTy.Contents (Elt F) arg5.view.ty) (X6 : BufTy.Contents (Elt F) arg6.view.ty)
    (f10 : BufTy.Contents (Elt F) arg10.view.ty) (f11 : BufTy.Contents (Elt F) arg11.view.ty)
    (h10 : arg10.view.read (Elt F) f10 = stS (F := F) ⟨v5, v11, v19, v24, v28, v30, v33, v36, v39, v44, v46⟩ ⟨arg3.view.read (Elt F) X3, arg4.view.read (Elt F) X4, arg5.view.read (Elt F) X5, arg6.view.read (Elt F) X6⟩) (h11 : arg11.view.read (Elt F) f11 = dsS (F := F) ⟨v5, v11, v19, v24, v28, v30, v33, v36, v39, v44, v46⟩ ⟨arg3.view.read (Elt F) X3, arg4.view.read (Elt F) X4, arg5.view.read (Elt F) X5, arg6.view.read (Elt F) X6⟩) :
    LoopInvTy_k0_t4 (F := F) Unit ℕ (Pipeline.UC sig nD τ) ℕ 𝒱 c bd E i arg1 harg1 arg2 harg2 arg3 harg3 arg4 harg4 arg5 harg5 arg6 harg6 arg7 harg7 arg8 harg8 arg9 harg9 arg10 harg10 arg11 harg11 arg12 harg12 arg13 v5 v11 v19 v24 v28 v30 v33 v36 v39 v44 v46 (k0_pay77 (F := F), k0_pay77 (F := F)) where
  inv n acc := inv4 c arg3 arg4 arg5 arg6 arg10 arg11 arg12 v5 v11 v19 v24 v28 v30 v33 v36 v39 v44 v46 X3 X4 X5 X6 f10 f11 n acc
  step k acc := by
    have hk : k.val < 2 := Nat.lt_of_lt_of_le k.isLt k0_t4_abs.2.1
    unfold k0_t4_body inv4
    iintro ⟨H3, H4, H5, H6, H10, H11, ⟨%f, H, %h⟩, %hacc⟩
    subst hacc
    sl_exec
    sl_step
    isplitl [H3]; · iexact H3
    isplitl [H4]; · iexact H4
    isplitl [H5]; · iexact H5
    isplitl [H6]; · iexact H6
    isplitl [H10]; · iexact H10
    isplitl [H11]; · iexact H11
    isplitl [H]
    · iexists _; isplitl [H]; · iexact H
      ipureintro
      refine rows_step arg12.view f _ _ k.val hk _ _ _ (k0_off12_eq k) (k0_off13_eq k) (k0_off14_eq k) h ?_ ?_ ?_
      · symm; dsimp only [dqH]; rw [← readAt_half arg4.view X4 k.val hk (k0_off9_inb k) (k0_off9_eq k), ← readAt_half arg5.view X5 k.val hk (k0_off9_inb k) (k0_off9_eq k), ← readAt_half arg6.view X6 k.val hk (k0_off9_inb k) (k0_off9_eq k), ← h10, ← readAt_half4 arg10.view f10 0 k.val hk (k0_off10_inb k) (k0_off10_eq k), ← readAt_half4 arg10.view f10 1 k.val hk (k0_off11_inb k) (k0_off11_eq k)]; rfl
      · symm; dsimp only [dkH]; rw [← readAt_half arg3.view X3 k.val hk (k0_off9_inb k) (k0_off9_eq k), ← readAt_half arg5.view X5 k.val hk (k0_off9_inb k) (k0_off9_eq k), ← readAt_half arg6.view X6 k.val hk (k0_off9_inb k) (k0_off9_eq k), ← h11, ← readAt_half4 arg11.view f11 0 k.val hk (k0_off10_inb k) (k0_off10_eq k), ← readAt_half4 arg11.view f11 1 k.val hk (k0_off11_inb k) (k0_off11_eq k)]; rfl
      · symm; dsimp only [dvH]; rw [← readAt_half arg3.view X3 k.val hk (k0_off9_inb k) (k0_off9_eq k), ← readAt_half arg4.view X4 k.val hk (k0_off9_inb k) (k0_off9_eq k), ← readAt_half arg6.view X6 k.val hk (k0_off9_inb k) (k0_off9_eq k), ← h11, ← readAt_half4 arg11.view f11 0 k.val hk (k0_off10_inb k) (k0_off10_eq k), ← readAt_half4 arg11.view f11 1 k.val hk (k0_off11_inb k) (k0_off11_eq k)]; rfl
    · ipureintro
      refine Prod.ext ?_ ?_
      · show _ = dl0H _ _ k.val _
        symm; dsimp only [dl0H]; rw [← readAt_half arg3.view X3 k.val hk (k0_off9_inb k) (k0_off9_eq k), ← readAt_half arg4.view X4 k.val hk (k0_off9_inb k) (k0_off9_eq k), ← readAt_half arg5.view X5 k.val hk (k0_off9_inb k) (k0_off9_eq k), ← readAt_half arg6.view X6 k.val hk (k0_off9_inb k) (k0_off9_eq k), ← h10, ← h11, ← readAt_half4 arg10.view f10 0 k.val hk (k0_off10_inb k) (k0_off10_eq k), ← readAt_half4 arg11.view f11 0 k.val hk (k0_off10_inb k) (k0_off10_eq k)]; rfl
      · show _ = dl1H _ _ k.val _
        symm; dsimp only [dl1H]; rw [← readAt_half arg3.view X3 k.val hk (k0_off9_inb k) (k0_off9_eq k), ← readAt_half arg4.view X4 k.val hk (k0_off9_inb k) (k0_off9_eq k), ← readAt_half arg5.view X5 k.val hk (k0_off9_inb k) (k0_off9_eq k), ← readAt_half arg6.view X6 k.val hk (k0_off9_inb k) (k0_off9_eq k), ← h10, ← h11, ← readAt_half4 arg10.view f10 1 k.val hk (k0_off11_inb k) (k0_off11_eq k), ← readAt_half4 arg11.view f11 1 k.val hk (k0_off11_inb k) (k0_off11_eq k)]; rfl

end Cert.KernelIdeal.RetBwd
-- ==== Proof.Loops7.lean ====
module

public import proofs.«01_k».proof.Proof.Loop4
public import proofs.«01_k».proof.Proof.Gen.KernelIdeal.Loops
public import Idealize.ShloMosaic.Lib.Exec
public import Idealize.ShloMosaic.Lib.Tactic
public import Idealize.ShloMosaic.Lib.Pipeline.Routed
public import Idealize.ShloMosaic.Lib.Pipeline.Kit
public import Idealize.ShloMosaic.Lib.WritesUnit
public import Idealize.ShloMosaic.Lib.VecWindow

/-! The four loops of the kernel body, one after another. -/

@[expose] public section

set_option maxRecDepth 16384

noncomputable section

namespace Cert.KernelIdeal.RetBwd

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- The resource algebra of the run: the pipeline's, with counters for the copies in flight. -/
local notation "𝕄" => MT nD τ sig Unit (Elt F) ℕ (Pipeline.UC sig nD τ) ℕ

open Idealize.ShloMosaic in
/-- A counted loop by an invariant, read off its instance. -/
theorem for_run {c : Dev nD} {𝒱 : Variants} {bd : Option 𝒱.V} {E : Set ℕ} {w : ℕ} {σ β : Type} {l : Scf.Loop w} {ok : Scf.OK l.lb l.ub l.st} {init : σ}
    {body : Fin (Scf.trips l.lb l.ub l.st) → σ → Prog (TpuEff nD τ sig (Elt F) Λ₀ .tc) σ}
    (L : LoopInv (M := 𝕄) Idealize.ShloMosaic.frame (wpE (defs₀ (F := F)) 𝒱 (c : Thread nD τ) bd) E l.lb l.ub l.st ok init body)
    (I : ℕ → σ → sProp 𝕄) (hI : L.inv = I) (N : ℕ) (hN : Scf.trips l.lb l.ub l.st = N) {kk : σ → Prog (TpuEff nD τ sig (Elt F) Λ₀ .tc) β} {Q : β → sProp 𝕄} :
    I 0 init ⊢ iprop((∀ acc, I N acc -∗ wp Idealize.ShloMosaic.frame (wpE (defs₀ (F := F)) 𝒱 (c : Thread nD τ) bd) E (kk acc) Q)
      -∗ wp Idealize.ShloMosaic.frame (wpE (defs₀ (F := F)) 𝒱 (c : Thread nD τ) bd) E (Scf.Loop.for l ok init body >>= kk) Q) := by
  subst hI; subst hN; exact exec_loop _ _ _ _ _ _ _ _ _ L

theorem upto_zero (X f : Vec F S2x32x128x128 .f32) : Upto X f (16 * 0) := fun _ h => absurd h (Nat.not_lt_zero _)

/-- What the four loops leave: the three gradients staged and the two decay sums carried. -/
theorem loops_run (𝒱 : Variants) (c : Dev nD) (bd : Option 𝒱.V) (E : Set ℕ) (i : grid0.Coords) (arg1 : Memref sig .tc .smem S1x8 .f32) (harg1 : arg1.IsWhole) (arg2 : Memref sig .tc .smem S1x8 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .hbm S4096x7168 .bf16) (harg7 : arg7.IsWhole) (arg8 : Memref sig .tc .vmem S1x8x128 .f32) (harg8 : arg8.IsWhole) (arg9 : Memref sig .tc .hbm S4096x7168 .bf16) (harg9 : arg9.IsWhole) (arg10 : Memref sig .tc .vmem S2x32x128x128 .f32) (harg10 : arg10.IsWhole) (arg11 : Memref sig .tc .vmem S2x32x128x128 .f32) (harg11 : arg11.IsWhole) (arg12 : Memref sig .tc .vmem S3x4096x128 .bf16) (harg12 : arg12.IsWhole) (arg13 : DmaSems sig S3) (v5 : FVec F S1x1 .f32) (v11 : FVec F S1x1 .f32) (v19 : FVec F S128x128 .f32) (v24 : FVec F S128x128 .f32) (v28 : FVec F S128x1 .f32) (v30 : FVec F S128x1 .f32) (v33 : FVec F S128x1 .f32) (v36 : FVec F S128x1 .f32) (v39 : FVec F S1x1 .f32) (v44 : IVec S128x128 1) (v46 : IVec S128x128 32) (X3 : BufTy.Contents (Elt F) arg3.view.ty) (X4 : BufTy.Contents (Elt F) arg4.view.ty) (X5 : BufTy.Contents (Elt F) arg5.view.ty) (X6 : BufTy.Contents (Elt F) arg6.view.ty) (X10 : BufTy.Contents (Elt F) arg10.view.ty) (X11 : BufTy.Contents (Elt F) arg11.view.ty) (X12 : BufTy.Contents (Elt F) arg12.view.ty)
    (K : (Σ' (v75_1 : FVec F S1x128 .f32), FVec F S1x128 .f32) → sProp 𝕄) :
    iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12)
      ∗ (∀ f10, ∀ f11, ∀ f12, iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)
          ∗ ⌜arg12.view.read (Elt F) f12 = grads (F := F) ⟨v5, v11, v19, v24, v28, v30, v33, v36, v39, v44, v46⟩ ⟨arg3.view.read (Elt F) X3, arg4.view.read (Elt F) X4, arg5.view.read (Elt F) X5, arg6.view.read (Elt F) X6⟩⌝)
        -∗ K ⟨(dl (F := F) ⟨v5, v11, v19, v24, v28, v30, v33, v36, v39, v44, v46⟩ ⟨arg3.view.read (Elt F) X3, arg4.view.read (Elt F) X4, arg5.view.read (Elt F) X5, arg6.view.read (Elt F) X6⟩ 2).2, k0_pay78 v5 (dl (F := F) ⟨v5, v11, v19, v24, v28, v30, v33, v36, v39, v44, v46⟩ ⟨arg3.view.read (Elt F) X3, arg4.view.read (Elt F) X4, arg5.view.read (Elt F) X5, arg6.view.read (Elt F) X6⟩ 2).1⟩))
    ⊢ wp frame (wpE (defs₀ (F := F)) 𝒱 c bd) E (k0_part7_skel i arg1 harg1 arg2 harg2 arg3 harg3 arg4 harg4 arg5 harg5 arg6 harg6 arg7 harg7 arg8 harg8 arg9 harg9 arg10 harg10 arg11 harg11 arg12 harg12 arg13 v5 v11 v19 v24 v28 v30 v33 v36 v39 v44 v46) K := by
  unfold k0_part7_skel
  iintro ⟨H3, H4, H5, H6, H10, H11, H12, HK⟩
  iapply (for_run (loop1 (F := F) 𝒱 c bd E i arg1 harg1 arg2 harg2 arg3 harg3 arg4 harg4 arg5 harg5 arg6 harg6 arg7 harg7 arg8 harg8 arg9 harg9 arg10 harg10 arg11 harg11 arg12 harg12 arg13 v5 v11 v19 v24 v28 v30 v33 v36 v39 v44 v46 X3 X4 X5 X6) (fun n _ => inv1 c arg3 arg4 arg5 arg6 arg10 arg11 v5 v11 v19 v24 v28 v30 v33 v36 v39 v44 v46 X3 X4 X5 X6 n) rfl 2 (by decide)) $$ [H3 H4 H5 H6 H10 H11]
  · unfold inv1
    isplitl [H3]; · iexact H3
    isplitl [H4]; · iexact H4
    isplitl [H5]; · iexact H5
    isplitl [H6]; · iexact H6
    isplitl [H10]
    · iexists _; isplitl [H10]; · iexact H10
      ipureintro; exact upto_zero _ _
    · iexists _; isplitl [H11]; · iexact H11
      ipureintro; exact upto_zero _ _
  iintro %acc HI
  icases HI with ⟨H3, H4, H5, H6, ⟨%f10, H10, %h10⟩, ⟨%f11, H11, %h11⟩⟩
  have h10' := mix_zero 0 _ (stS (F := F) ⟨v5, v11, v19, v24, v28, v30, v33, v36, v39, v44, v46⟩ ⟨arg3.view.read (Elt F) X3, arg4.view.read (Elt F) X4, arg5.view.read (Elt F) X5, arg6.view.read (Elt F) X6⟩) _ h10
  have h11' := mix_zero 1 _ (dsS (F := F) ⟨v5, v11, v19, v24, v28, v30, v33, v36, v39, v44, v46⟩ ⟨arg3.view.read (Elt F) X3, arg4.view.read (Elt F) X4, arg5.view.read (Elt F) X5, arg6.view.read (Elt F) X6⟩) _ h11
  iapply (for_run (loop2 (F := F) 𝒱 c bd E i arg1 harg1 arg2 harg2 arg3 harg3 arg4 harg4 arg5 harg5 arg6 harg6 arg7 harg7 arg8 harg8 arg9 harg9 arg10 harg10 arg11 harg11 arg12 harg12 arg13 v5 v11 v19 v24 v28 v30 v33 v36 v39 v44 v46 ⟨arg3.view.read (Elt F) X3, arg4.view.read (Elt F) X4, arg5.view.read (Elt F) X5, arg6.view.read (Elt F) X6⟩) (inv2 c arg10 ⟨v5, v11, v19, v24, v28, v30, v33, v36, v39, v44, v46⟩ ⟨arg3.view.read (Elt F) X3, arg4.view.read (Elt F) X4, arg5.view.read (Elt F) X5, arg6.view.read (Elt F) X6⟩) rfl 32 (by decide)) $$ [H10]
  · unfold inv2
    isplitl [H10]
    · iexists _; isplitl [H10]; · iexact H10
      ipureintro; exact h10'
    · ipureintro; rfl
  iintro %acc2 HI
  icases HI with ⟨⟨%g10, H10, %e10⟩, %ea2⟩
  iapply (for_run (loop3 (F := F) 𝒱 c bd E i arg1 harg1 arg2 harg2 arg3 harg3 arg4 harg4 arg5 harg5 arg6 harg6 arg7 harg7 arg8 harg8 arg9 harg9 arg10 harg10 arg11 harg11 arg12 harg12 arg13 v5 v11 v19 v24 v28 v30 v33 v36 v39 v44 v46 ⟨arg3.view.read (Elt F) X3, arg4.view.read (Elt F) X4, arg5.view.read (Elt F) X5, arg6.view.read (Elt F) X6⟩) (inv3 c arg11 ⟨v5, v11, v19, v24, v28, v30, v33, v36, v39, v44, v46⟩ ⟨arg3.view.read (Elt F) X3, arg4.view.read (Elt F) X4, arg5.view.read (Elt F) X5, arg6.view.read (Elt F) X6⟩) rfl 32 (by decide)) $$ [H11]
  · unfold inv3
    isplitl [H11]
    · iexists _; isplitl [H11]; · iexact H11
      ipureintro; exact h11'
    · ipureintro; rfl
  iintro %acc3 HI
  icases HI with ⟨⟨%g11, H11, %e11⟩, %ea3⟩
  have e10' := mix_last _ _ _ _ e10
  have e11' := mix_last _ _ _ _ e11
  iapply (for_run (loop4 (F := F) 𝒱 c bd E i arg1 harg1 arg2 harg2 arg3 harg3 arg4 harg4 arg5 harg5 arg6 harg6 arg7 harg7 arg8 harg8 arg9 harg9 arg10 harg10 arg11 harg11 arg12 harg12 arg13 v5 v11 v19 v24 v28 v30 v33 v36 v39 v44 v46 X3 X4 X5 X6 g10 g11 e10' e11') (inv4 c arg3 arg4 arg5 arg6 arg10 arg11 arg12 v5 v11 v19 v24 v28 v30 v33 v36 v39 v44 v46 X3 X4 X5 X6 g10 g11) rfl 2 (by decide)) $$ [H3 H4 H5 H6 H10 H11 H12]
  · unfold inv4
    isplitl [H3]; · iexact H3
    isplitl [H4]; · iexact H4
    isplitl [H5]; · iexact H5
    isplitl [H6]; · iexact H6
    isplitl [H10]; · iexact H10
    isplitl [H11]; · iexact H11
    isplitl [H12]
    · iexists _; isplitl [H12]; · iexact H12
      ipureintro; exact fun _ _ _ h => absurd h (Nat.not_lt_zero _)
    · ipureintro; rfl
  iintro %acc4 HI
  icases HI with ⟨H3, H4, H5, H6, H10, H11, ⟨%f12, H12, %h12⟩, %ea4⟩
  obtain ⟨w0, w1⟩ := acc4
  have ea : (w0, w1) = dl (F := F) ⟨v5, v11, v19, v24, v28, v30, v33, v36, v39, v44, v46⟩ ⟨arg3.view.read (Elt F) X3, arg4.view.read (Elt F) X4, arg5.view.read (Elt F) X5, arg6.view.read (Elt F) X6⟩ 2 := ea4
  dsimp only
  sl_step
  rw [← ea]
  iapply HK
  isplitl [H3]; · iexact H3
  isplitl [H4]; · iexact H4
  isplitl [H5]; · iexact H5
  isplitl [H6]; · iexact H6
  isplitl [H10]; · iexact H10
  isplitl [H11]; · iexact H11
  isplitl [H12]; · iexact H12
  ipureintro
  funext j
  rw [eq_ix3 j]
  exact h12 (j 0) (j 1) (j 2) (j 1).isLt

end Cert.KernelIdeal.RetBwd
-- ==== Proof.Copies.lean ====
module

public import proofs.«01_k».proof.Proof.Loop4
public import proofs.«01_k».proof.Proof.Gen.KernelIdeal.Loops
public import Idealize.ShloMosaic.Lib.Exec
public import Idealize.ShloMosaic.Lib.Tactic
public import Idealize.ShloMosaic.Lib.Pipeline.Routed
public import Idealize.ShloMosaic.Lib.Pipeline.Kit
public import Idealize.ShloMosaic.Lib.WritesUnit
public import Idealize.ShloMosaic.Lib.VecWindow
public import Idealize.ShloMosaic.Lib.ValueLayout
public import Idealize.ShloMosaic.Lib.ReshapeSlab

/-! The three column windows that the kernel body copies the staged gradients into. -/

@[expose] public section

set_option maxRecDepth 16384

noncomputable section

namespace Cert.KernelIdeal.RetBwd

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- The resource algebra of the run: the pipeline's, with counters for the copies in flight. -/
local notation "𝕄" => MT nD τ sig Unit (Elt F) ℕ (Pipeline.UC sig nD τ) ℕ

/-- Column block `24 + 8 r + i` of the packed gradients, as the offset the copies name. -/
theorem k0_off15_eq (i : grid0.Coords) (r : Fin 3) :
    k0_off15 i (BitVec.ofNat 32 (24 + 8 * r.val)) = ![0, (24 + 8 * r.val + (i 0).val) * 128] := by
  have h : ∀ (x : Fin 8) (r : Fin 3), (((BitVec.ofNat 32 (24 + 8 * r.val) + BitVec.ofNat 32 x.val) * 128#32 : BitVec 32)).toNat = (24 + 8 * r.val + x.val) * 128 := by decide
  funext a
  match a with
  | ⟨0, _⟩ => rfl
  | ⟨1, _⟩ => exact h (i 0) r

/-- The column window a copy writes. -/
abbrev win (M : Memref sig .tc .hbm S4096x7168 .bf16) (i : grid0.Coords) (w : BitVec 32) (h : ∀ a, k0_off15 i w a + S4096x128.size a ≤ S4096x7168.size a) : Memref sig .tc .hbm S4096x128 .bf16 :=
  M.slice (Rect.unit (s := S4096x7168) (k0_off15 i w) S4096x128.size h) (fun _ => rfl)

/-- Two column blocks share no element. -/
theorem block_disjoint (M : Memref sig .tc .hbm S4096x7168 .bf16) {o o' : Fin 2 → ℕ} (b b' : ℕ) (h : ∀ a, o a + S4096x128.size a ≤ S4096x7168.size a) (h' : ∀ a, o' a + S4096x128.size a ≤ S4096x7168.size a)
    (ho : o = ![0, b * 128]) (ho' : o' = ![0, b' * 128]) (hb : b < b') :
    Disjoint (M.slice (Rect.unit (s := S4096x7168) o S4096x128.size h) (fun _ => rfl)).view.set (M.slice (Rect.unit (s := S4096x7168) o' S4096x128.size h') (fun _ => rfl)).view.set := by
  subst ho; subst ho'
  refine View.disjoint_slice_of_sep M.view _ _ 1 rfl rfl (Or.inl ?_)
  show b * 128 + 128 ≤ b' * 128
  omega

/-- Two of the windows share no element. -/
theorem win_disjoint (M : Memref sig .tc .hbm S4096x7168 .bf16) (i : grid0.Coords) (r r' : Fin 3) (hr : r < r') :
    Disjoint (win M i (BitVec.ofNat 32 (24 + 8 * r.val)) (k0_off15_inb i r)).view.set (win M i (BitVec.ofNat 32 (24 + 8 * r'.val)) (k0_off15_inb i r')).view.set := by
  exact block_disjoint M _ _ _ _ (k0_off15_eq i r) (k0_off15_eq i r') (by have : r.val < r'.val := hr; omega)

/-- What is read after a column block is written: the payload in it, the old contents elsewhere. -/
theorem read_block (M : Memref sig .tc .hbm S4096x7168 .bf16) {o : Fin 2 → ℕ} (b : ℕ) (hb : ∀ a, o a + S4096x128.size a ≤ S4096x7168.size a) (ho : o = ![0, b * 128])
    (f : M.view.ty.Contents (Elt F)) (p : Vec F S4096x128 .bf16) (x : Fin 4096) (y : Fin 7168) :
    M.view.read (Elt F) ((M.slice (Rect.unit (s := S4096x7168) o S4096x128.size hb) (fun _ => rfl)).view.write (Elt F) f p Finset.univ) (ix2 x y)
      = if y.val / 128 = b then p (ix2 x (⟨y.val % 128, Nat.mod_lt _ (by decide)⟩ : Fin 128)) else M.view.read (Elt F) f (ix2 x y) := by
  subst ho
  by_cases h : y.val / 128 = b
  · rw [if_pos h]
    have e : ix2 x y = (Rect.unit (s := S4096x7168) ![0, b * 128] S4096x128.size hb).emb
        (ix2 (n0 := 4096) (n1 := 128) x ⟨y.val % 128, Nat.mod_lt _ (by decide)⟩) := by
      funext d; apply Fin.ext
      match d with
      | ⟨0, _⟩ => show x.val = 0 + 1 * x.val; omega
      | ⟨1, _⟩ => show y.val = b * 128 + 1 * (y.val % 128); omega
    rw [e]
    exact View.read_slice_write_emb (v := M.view) (Rect.unit (s := S4096x7168) ![0, b * 128] S4096x128.size hb) f p (M := Finset.univ)
      (x := ix2 (n0 := 4096) (n1 := 128) x ⟨y.val % 128, Nat.mod_lt _ (by decide)⟩) (Finset.mem_univ _)
  · rw [if_neg h]
    refine View.read_slice_write_of_not_mem (v := M.view) (Rect.unit (s := S4096x7168) ![0, b * 128] S4096x128.size hb) f p Finset.univ (y := ix2 x y) fun hm => h ?_
    obtain ⟨z, -, hz'⟩ := Finset.mem_map.mp hm
    have h1 := congrArg Fin.val (congrFun hz' 1)
    have h2 : b * 128 + 1 * (z 1).val = y.val := h1
    have h3 : (z 1).val < 128 := (z 1).isLt
    omega

/-- Plane `r` of the staged gradients, read through the view a copy is taken from. -/
theorem read_plane (M : Memref sig .tc .vmem S3x4096x128 .bf16) (f : M.view.ty.Contents (Elt F)) {o : Fin 3 → ℕ} (r : Fin 3) (h : ∀ a, o a + S1x4096x128.size a ≤ S3x4096x128.size a)
    (ho : o = ![r.val, 0, 0]) (x : Fin 4096) (y : Fin 128) :
    ((M.slice (Rect.unit (s := S3x4096x128) o S1x4096x128.size h) (fun _ => rfl)).squeeze S4096x128 squeezes_S1x4096x128_S4096x128).view.read (Elt F) f (ix2 x y)
      = M.view.read (Elt F) f (ix3 r x y) := by
  subst ho
  show M.view.read (Elt F) f ((Rect.unit (s := S3x4096x128) ![r.val, 0, 0] S1x4096x128.size h).emb (Shape.reshapeEquiv squeezes_S1x4096x128_S4096x128.numel_eq (ix2 x y))) = _
  rw [reshapeEquiv_ix2_1ab]
  congr 1
  funext d; apply Fin.ext
  match d with
  | ⟨0, _⟩ => show r.val + 1 * 0 = r.val; omega
  | ⟨1, _⟩ => show 0 + 1 * x.val = x.val; omega
  | ⟨2, _⟩ => show 0 + 1 * y.val = y.val; omega

/-- The packed gradients once a head's three planes are copied in: column block `24 + 8 r + i` is plane `r`. -/
def put (G : Vec F S3x4096x128 .bf16) (i : ℕ) (X : Vec F S4096x7168 .bf16) : Vec F S4096x7168 .bf16 := fun j =>
  let b := (j 1).val / 128
  let y : Fin 128 := ⟨(j 1).val % 128, Nat.mod_lt _ (by decide)⟩
  if b = 24 + i then G (ix3 0 (j 0) y) else if b = 32 + i then G (ix3 1 (j 0) y) else if b = 40 + i then G (ix3 2 (j 0) y) else X j

end Cert.KernelIdeal.RetBwd
-- ==== Proof.Body.lean ====
module

public import proofs.«01_k».proof.Proof.Loops7
public import proofs.«01_k».proof.Proof.Copies
public import proofs.«01_k».proof.Proof.Gen.KernelIdeal.Loops
public import Idealize.ShloMosaic.Lib.Exec
public import Idealize.ShloMosaic.Lib.Tactic
public import Idealize.ShloMosaic.Lib.Pipeline.Routed
public import Idealize.ShloMosaic.Lib.Pipeline.Kit
public import Idealize.ShloMosaic.Lib.WritesUnit
public import Idealize.ShloMosaic.Lib.VecWindow

/-! The kernel body at one grid point: its loads, its four loops, its stores and its three copies. -/

@[expose] public section

set_option maxRecDepth 16384

noncomputable section

namespace Cert.KernelIdeal.RetBwd

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- The resource algebra of the run: the pipeline's, with counters for the copies in flight. -/
local notation "𝕄" => MT nD τ sig Unit (Elt F) ℕ (Pipeline.UC sig nD τ) ℕ

attribute [local irreducible] k0_off15 in
set_option maxHeartbeats 2000000 in
set_option sl_exec.dmaWindow true in
/-- The body at a grid point runs from its buffers to its buffers: the inputs are as they were, what it writes is held at some contents, the three semaphores are back at zero. -/
theorem body_run (𝒱 : Variants) (c : Dev nD) (i : grid0.Coords) (arg1 : Memref sig .tc .smem S1x8 .f32) (harg1 : arg1.IsWhole) (arg2 : Memref sig .tc .smem S1x8 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .hbm S4096x7168 .bf16) (harg7 : arg7.IsWhole) (arg8 : Memref sig .tc .vmem S1x8x128 .f32) (harg8 : arg8.IsWhole) (arg9 : Memref sig .tc .hbm S4096x7168 .bf16) (harg9 : arg9.IsWhole) (arg10 : Memref sig .tc .vmem S2x32x128x128 .f32) (harg10 : arg10.IsWhole) (arg11 : Memref sig .tc .vmem S2x32x128x128 .f32) (harg11 : arg11.IsWhole) (arg12 : Memref sig .tc .vmem S3x4096x128 .bf16) (harg12 : arg12.IsWhole)  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (W : Waits sig Unit)
    (K : PUnit → sProp 𝕄) :
    iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12)
      ∗ semVal ((c : Thread nD τ), SemLoc.dma 12) 0 ∗ semVal ((c : Thread nD τ), SemLoc.dma 13) 0 ∗ semVal ((c : Thread nD τ), SemLoc.dma 14) 0 ∗ owes (c : Thread nD τ) 0 W
      ∗ (((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
        ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f))
        ∗ semVal ((c : Thread nD τ), SemLoc.dma 12) 0 ∗ semVal ((c : Thread nD τ), SemLoc.dma 13) 0 ∗ semVal ((c : Thread nD τ), SemLoc.dma 14) 0 ∗ (∃ W', owes (c : Thread nD τ) 0 W')) -∗ K ⟨⟩))
    ⊢ wp frame (wpE (defs₀ (F := F)) 𝒱 c none) Set.univ (cc0_ret_bwd i arg1 harg1 arg2 harg2 arg3 harg3 arg4 harg4 arg5 harg5 arg6 harg6 arg7 harg7 arg8 harg8 arg9 harg9 arg10 harg10 arg11 harg11 arg12 harg12 cc0_scratch3) K := by
  simp only [cc0_ret_bwd_eq_skeleton]
  unfold cc0_ret_bwd_skel
  iintro ⟨H1, H2, H3, H4, H5, H6, H8, H9, H10, H11, H12, S0, S1, S2, HW, HK⟩
  sl_exec
  iapply (loops_run 𝒱 c none Set.univ i arg1 harg1 arg2 harg2 arg3 harg3 arg4 harg4 arg5 harg5 arg6 harg6 arg7 harg7 arg8 harg8 arg9 harg9 arg10 harg10 arg11 harg11 arg12 harg12 cc0_scratch3 _ _ _ _ _ _ _ _ _ _ _ X3 X4 X5 X6 X10 X11 X12)
  isplitl [H3]; · iexact H3
  isplitl [H4]; · iexact H4
  isplitl [H5]; · iexact H5
  isplitl [H6]; · iexact H6
  isplitl [H10]; · iexact H10
  isplitl [H11]; · iexact H11
  isplitl [H12]; · iexact H12
  iintro %f10 %f11 %f12 ⟨H3, H4, H5, H6, H10, H11, H12, %h12⟩
  have d01 : Disjoint (win arg9 i 24#32 (k0_off15_inb i 0)).view.set (win arg9 i 32#32 (k0_off15_inb i 1)).view.set := win_disjoint arg9 i 0 1 (by decide)
  have d02 : Disjoint (win arg9 i 24#32 (k0_off15_inb i 0)).view.set (win arg9 i 40#32 (k0_off15_inb i 2)).view.set := win_disjoint arg9 i 0 2 (by decide)
  have d12 : Disjoint (win arg9 i 32#32 (k0_off15_inb i 1)).view.set (win arg9 i 40#32 (k0_off15_inb i 2)).view.set := win_disjoint arg9 i 1 2 (by decide)
  sl_exec
  sl_step
  iapply HK
  isplitl [H1]; · iexact H1
  isplitl [H2]; · iexact H2
  isplitl [H3]; · iexact H3
  isplitl [H4]; · iexact H4
  isplitl [H5]; · iexact H5
  isplitl [H6]; · iexact H6
  isplitl [H8]; · iexists _; iexact H8
  isplitl [H9]; · iexists _; iexact H9
  isplitl [H10]; · iexists _; iexact H10
  isplitl [H11]; · iexists _; iexact H11
  isplitl [H12]; · iexists _; iexact H12
  isplitl [S0]; · iexact S0
  isplitl [S1]; · iexact S1
  isplitl [S2]; · iexact S2
  iexists _; iexact HW

end Cert.KernelIdeal.RetBwd
-- ==== Proof.Run.lean ====
module

public import proofs.«01_k».proof.Proof.Body
public import proofs.«01_k».proof.Proof.Gen.KernelIdeal.Frame
public import proofs.«01_k».proof.Proof.Gen.KernelIdeal.Launch
public import proofs.«01_k».proof.Proof.Gen.KernelIdeal.Points
public import Idealize.ShloMosaic.Lib.Pipeline.FrameBody
public import proofs.«01_k».proof.Proof.Gen.KernelIdeal.Loops
public import Idealize.ShloMosaic.Lib.Exec
public import Idealize.ShloMosaic.Lib.Tactic
public import Idealize.ShloMosaic.Lib.Pipeline.Routed
public import Idealize.ShloMosaic.Lib.Pipeline.Kit
public import Idealize.ShloMosaic.Lib.WritesUnit
public import Idealize.ShloMosaic.Lib.VecWindow

/-! The kernel runs from its arguments to its arguments: the run of the whole call, at any float values. -/

@[expose] public section

set_option maxRecDepth 16384

noncomputable section

namespace Cert.KernelIdeal.RetBwd

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- The resource algebra of the run: the pipeline's, with counters for the copies in flight. -/
local notation "𝕄" => MT nD τ sig Unit (Elt F) ℕ (Pipeline.UD sig nD τ) ℕ

open Idealize.ShloMosaic.Pipeline (Dat Cfg Window BodyObligation)

variable (m : (ℓ : Loc nD τ sig) → Buf (Elt F) ℓ) (ρ : Dev nD → PrngReg)

/-- The packed gradients' buffer, which the body writes by its own copies. -/
def R0 : Finset (Ref sig .tc) := {main_v0_1}

/-- The three semaphores the copies signal. -/
abbrev osem0 : Fin 3 → SemLoc sig := fun j => (![SemLoc.dma 12, SemLoc.dma 13, SemLoc.dma 14] : Fin 3 → SemLoc sig) j

theorem ownSemFacts0 : Pipeline.OwnSemFacts spec0 osem0 := by decide

/-- What the body keeps between grid points: its scratch and the packed gradients at some contents, its semaphores at zero. -/
theorem kept_eq (c : Dev nD) :
    (Pipeline.ΦDR osem0 spec0 ∅ R0 (V m) c : sProp 𝕄)
      = iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f)) ∗ (∃ r, prngReg c r)
          ∗ (semVal ((c : Thread nD τ), SemLoc.dma 12) 0 ∗ semVal ((c : Thread nD τ), SemLoc.dma 13) 0 ∗ semVal ((c : Thread nD τ), SemLoc.dma 14) 0)
          ∗ emp ∗ (∃ f : Buf (Elt F) ((c : Thread nD τ).loc main_v0_1), ((c : Thread nD τ).loc main_v0_1) ↦{fullShare} f)) := by
  rw [Pipeline.ΦDR_eq, scopedRest0_eq, Pipeline.ownSems0_eq_of_list c osem0 [0, 1, 2] (by decide) (by decide)]
  unfold Pipeline.owned
  rw [BI.bigSep_eq_bigSepL_of_eq [] (by decide) (by decide), BI.bigSep_eq_bigSepL_of_eq [main_v0_1] (by decide) (by decide)]
  rfl

/-- The pipeline's account of the run: what a window holds is left open. -/
def dats (_ : Fin 1) (c : Dev nD) : Dat τ (Elt F) Unit ℕ (Pipeline.UD sig nD τ) ℕ cfg0 c where
  A w := V m c (Pipeline.arrRef spec0 w)
  after w t := Pipeline.Dat.unnamed (cfg := cfg0) w t
  Φ _ := Pipeline.ΦDR osem0 spec0 ∅ R0 (V m) c
  q := Pipeline.shareOf spec0
  owed _ := 0

/-- A buffer held through its whole view is the buffer held. -/
theorem whole_held (c : Dev nD) (b : Ref sig .tc) (f : Buf (Elt F) ((c : Thread nD τ).loc b)) :
    (((Memref.whole b).view.loc (c : Thread nD τ) ↦[(Memref.whole b).view.set]{fullShare} f : sProp 𝕄))
      ⊢ (((c : Thread nD τ).loc b) ↦{fullShare} f) := by
  rw [View.set_whole]

/-- The body at a grid point, from the buffers the pipeline hands it to the same buffers. -/
theorem sound_body (c : Dev nD) (t : Fin cfg0.N) :
    iprop((dats m 0 c).Φ t.castSucc ∗ (dats m 0 c).owesAt () t.castSucc ∗ (∃ X, owns (c : Thread nD τ) (st0_0 t) fullShare X) ∗ (∃ X, owns (c : Thread nD τ) (st0_1 t) fullShare X) ∗ (∃ X, owns (c : Thread nD τ) (st0_2 t) fullShare X) ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X))
      ⊢ wp frame (wpE (defs₀ (F := F)) Variants.none c none) Set.univ (bodyAt0 t)
          (fun _ => iprop((dats m 0 c).Φ t.succ ∗ (dats m 0 c).owesAt () t.succ ∗ (∃ X, owns (c : Thread nD τ) (st0_0 t) fullShare X) ∗ (∃ X, owns (c : Thread nD τ) (st0_1 t) fullShare X) ∗ (∃ X, owns (c : Thread nD τ) (st0_2 t) fullShare X) ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X))) := by
  rw [show (dats m 0 c).Φ t.succ = Pipeline.ΦDR osem0 spec0 ∅ R0 (V m) c from rfl, show (dats m 0 c).Φ t.castSucc = Pipeline.ΦDR osem0 spec0 ∅ R0 (V m) c from rfl, kept_eq]
  unfold bodyAt0 Dat.owesAt Pipeline.owesWithin
  rw [show (dats m 0 c).owed t.castSucc = 0 from rfl, show (dats m 0 c).owed t.succ = 0 from rfl]
  unfold owns
  iintro ⟨⟨⟨⟨%X10, H10⟩, ⟨%X11, H11⟩, ⟨%X12, H12⟩⟩, Hg, ⟨S0, S1, S2⟩, -, ⟨%X9, H9⟩⟩, ⟨%W, -, HW⟩, ⟨%D1, %X1, -, H1⟩, ⟨%D2, %X2, -, H2⟩, ⟨%D3, %X3, -, H3⟩, ⟨%D4, %X4, -, H4⟩, ⟨%D5, %X5, -, H5⟩, ⟨%D6, %X6, -, H6⟩, ⟨%D8, %X8, -, H8⟩⟩
  iapply (body_run Variants.none c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole main_v0_1) (Memref.isWhole_whole _) (win0_6.stage (cfg0.slots t 6)) (hstage0_6 ((cfg0.slots t 6).cast nbuf0_6)) (Memref.whole main_v0_1) (Memref.isWhole_whole _) (Memref.whole cc0_scratch0) (Memref.isWhole_whole _) (Memref.whole cc0_scratch1) (Memref.isWhole_whole _) (Memref.whole cc0_scratch2) (Memref.isWhole_whole _) X1 X2 X3 X4 X5 X6 X8 X9 X10 X11 X12 W _)
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · rw [View.set_whole]; iexact H9
  isplitl [H10]; · rw [View.set_whole]; iexact H10
  isplitl [H11]; · rw [View.set_whole]; iexact H11
  isplitl [H12]; · rw [View.set_whole]; iexact H12
  isplitl [S0]; · iexact S0
  isplitl [S1]; · iexact S1
  isplitl [S2]; · iexact S2
  isplitl [HW]; · iexact HW
  iintro ⟨H1, H2, H3, H4, H5, H6, ⟨%Y8, H8⟩, ⟨%Y9, H9⟩, ⟨%Y10, H10⟩, ⟨%Y11, H11⟩, ⟨%Y12, H12⟩, S0, S1, S2, ⟨%W', HW⟩⟩
  isplitl [H9 H10 H11 H12 Hg S0 S1 S2]
  · isplitl [H10 H11 H12]
    · isplitl [H10]; · iexists Y10; iapply (whole_held c cc0_scratch0 Y10); iexact H10
      isplitl [H11]; · iexists Y11; iapply (whole_held c cc0_scratch1 Y11); iexact H11
      iexists Y12; iapply (whole_held c cc0_scratch2 Y12); iexact H12
    isplitl [Hg]; · iexact Hg
    isplitl [S0 S1 S2]
    · isplitl [S0]; · iexact S0
      isplitl [S1]; · iexact S1
      iexact S2
    isplitr; · iempintro
    iexists Y9; iapply (whole_held c main_v0_1 Y9); iexact H9
  isplitl [HW]
  · iexists W'; isplitr; · ipureintro; exact fun _ _ => Or.inl trivial
    iexact HW
  isplitl [H1]
  · iexists ((st0_0 t).view.read (Elt F) X1), X1; isplitr; · ipureintro; rfl
    iexact H1
  isplitl [H2]
  · iexists ((st0_1 t).view.read (Elt F) X2), X2; isplitr; · ipureintro; rfl
    iexact H2
  isplitl [H3]
  · iexists ((st0_2 t).view.read (Elt F) X3), X3; isplitr; · ipureintro; rfl
    iexact H3
  isplitl [H4]
  · iexists ((st0_3 t).view.read (Elt F) X4), X4; isplitr; · ipureintro; rfl
    iexact H4
  isplitl [H5]
  · iexists ((st0_4 t).view.read (Elt F) X5), X5; isplitr; · ipureintro; rfl
    iexact H5
  isplitl [H6]
  · iexists ((st0_5 t).view.read (Elt F) X6), X6; isplitr; · ipureintro; rfl
    iexact H6
  iexists ((st0_6 t).view.read (Elt F) Y8), Y8; isplitr; · ipureintro; rfl
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ (fun _ => true) := fun t => by
  rw [bigSep_W0, defs₀_row]
  exact triple_restated (sound_body m c t) rfl .rfl fun _ => .rfl

theorem hmain0 (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The whole call ends with its arguments as they were and every counter at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨
      (Pipeline.RDat.FramePostR.arr_in h.1 c 4 rfl).trans (V_main_arg0 m c),
      (Pipeline.RDat.FramePostR.arr_in h.1 c 5 rfl).trans (V_main_arg1 m c),
      (Pipeline.RDat.FramePostR.arr_in h.1 c 0 rfl).trans (V_main_arg2 m c),
      (Pipeline.RDat.FramePostR.arr_in h.1 c 1 rfl).trans (V_main_arg3 m c),
      ((h.1 c).2 main_arg4 (Finset.mem_sdiff.mpr ⟨Pipeline.mem_restRefs_of main_arg4 (by decide) (by decide), by decide⟩)).trans (V_main_arg4 m c)⟩, h.2⟩)
    (Pipeline.θ_run_frame_dmaR_forget_shared (Q' := fun r => Pipeline.RDat.FramePostR cfg0 (fun c => (dats m 0 c).toRForget fun _ => true) R0 (V m) r ∧ r.2.sem = fun _ => 0)
      cfgs (dats m) (0 : Fin 1) launch₀0 osem0 defs₀ Variants.none (fun _ => true) ownSemFacts0 ∅ R0 (by decide) (by decide) m ρ main
      (hbody := fun c => (body_obligation m c).loose) (hq := fun _ _ _ => rfl)
      (howed := fun _ _ => rfl) (V := V m) (hmain := hmain0 m Variants.none) (hA := fun _ _ => rfl)
      (hin := fun _ => .rfl) (hout := fun _ => .rfl) (hQ' := fun _ h => h))

end Cert.KernelIdeal.RetBwd
-- ==== Proof.WgradFfn.lean ====
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Pipeline.ValueKit.Point
public import Idealize.ShloMosaic.Lib.Pointwise

/-! The gradient of one weight of the feed-forward part: the kernel and the reference agree over the reals. -/

@[expose] public section

noncomputable section

namespace Cert.Kernel2Ideal.Wgrad

open Idealize.ShloMosaic Idealize.ShloMosaic.TcCoe Idealize.SL.Sem
open Cert.Kernel2Ideal Cert.Kernel2Ideal.Gen

variable (m : (ℓ : Loc nD τ sig) → Buf (Elt Ideal) ℓ) (ρ : Dev nD → PrngReg)

/-- Column block by column block, the gradient: the product of a block of gradients, transposed, with the inputs. -/
def grad (a : Vec Ideal S8x4096x704 .bf16) (b : Vec Ideal S4096x2048 .bf16) : Vec Ideal S8x704x2048 .bf16 :=
  fun i => ∑ k : Fin 4096, a (ix3 (i 0) k (i 1)) * b (ix2 k (i 2))

theorem index_a : ∀ t : Fin cfg0.N, win0_0.index t = ![(grid0.coords t 0).val, 0, 0] := (by decide +kernel : ∀ t : Fin grid0.N, _)
theorem index_b : ∀ t : Fin cfg0.N, win0_1.index t = ![0, (grid0.coords t 1).val] := (by decide +kernel : ∀ t : Fin grid0.N, _)
theorem index_o : ∀ t : Fin cfg0.N, win0_2.index t = ![(grid0.coords t 0).val, 0, (grid0.coords t 1).val] := (by decide +kernel : ∀ t : Fin grid0.N, _)

/-- After the run the result array is the gradient of the two argument arrays. -/
theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay3, k0_pay2, k0_pay1, grad]
  blk_point [iblk, V, index_a, index_b, index_o]

/-- The kernel's run: its result is the gradient, its arguments end as they were. -/
theorem run : θ_run defs (onTc (τ := τ) (main (F := Ideal))) ⟨m, fun _ => 0, ρ⟩ fun r => ∀ c : Dev nD,
      r.2.mem ((c : Thread nD τ).loc main_v0) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

/-- The reference's term, read at an index, is the same gradient. -/
theorem ref_eq (a : Vec Ideal S8x4096x704 .bf16) (b : Vec Ideal S4096x2048 .bf16) :
    Cert.Reference2Ideal.Read.val_main_v10 (F := Ideal) a b = grad a b := by
  funext i
  pointwise [Cert.Reference2Ideal.Read.val_main_v10, Cert.Reference2Ideal.Read.val_main_v9, Cert.Reference2Ideal.Read.val_main_v8, Cert.Reference2Ideal.Read.val_main_v7, Cert.Reference2Ideal.Read.val_main_v6, Cert.Reference2Ideal.Read.val_main_v3, Cert.Reference2Ideal.Read.val_main_v2, Cert.Reference2Ideal.Read.val_main_v1, Cert.Reference2Ideal.Read.val_main_v0, grad]

/-- Over the reals the call and the reference give the same result from the same arguments. -/
theorem agrees : Cert.algebraic_Kernel2Ideal_Reference2Ideal := by
  intro m g m' g' _ hargs
  refine ⟨fun c => grad (m ((c : Thread nD τ).loc main_arg0)) (m ((c : Thread nD τ).loc main_arg1)), run m g, ?_⟩
  refine (θ_run Cert.Reference2Ideal.defs _ _).mono (fun r h c => ⟨(h c).1.trans ?_, (h c).2⟩) (Cert.Reference2Ideal.Value.run (F := Ideal) m' g')
  rw [(hargs c).1, (hargs c).2]
  exact ref_eq _ _

/-- The reference leaves its arguments as they were, every counter at zero. -/
theorem ref_frame : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

end Cert.Kernel2Ideal.Wgrad

end
-- ==== Proof.WgradInLo.lean ====
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Pipeline.ValueKit.Point
public import Idealize.ShloMosaic.Lib.Pointwise

/-! The gradient of the first half of the rows of the input weight: the kernel and the reference agree over the reals. -/

@[expose] public section

noncomputable section

namespace Cert.Kernel3Ideal.Wgrad

open Idealize.ShloMosaic Idealize.ShloMosaic.TcCoe Idealize.SL.Sem
open Cert.Kernel3Ideal Cert.Kernel3Ideal.Gen

variable (m : (ℓ : Loc nD τ sig) → Buf (Elt Ideal) ℓ) (ρ : Dev nD → PrngReg)

/-- One block of columns after another, the first half of the rows of the product of the transposed inputs with the gradients. -/
def grad (a : Vec Ideal S4096x2048 .bf16) (b : Vec Ideal S4096x7168 .bf16) : Vec Ideal S8x1024x896 .bf16 :=
  fun i => ∑ k : Fin 4096, a (ix2 k ⟨(i 1).val, by have h : (i 1).val < 1024 := (i 1).isLt; omega⟩) * b (ix2 k ⟨(i 0).val * 896 + (i 2).val, by have h : (i 0).val < 8 := (i 0).isLt; have h' : (i 2).val < 896 := (i 2).isLt; omega⟩)

theorem index_a : ∀ t : Fin cfg0.N, win0_0.index t = ![0, (grid0.coords t 1).val] := (by decide +kernel : ∀ t : Fin grid0.N, _)
theorem index_b : ∀ t : Fin cfg0.N, win0_1.index t = ![0, (grid0.coords t 0).val] := (by decide +kernel : ∀ t : Fin grid0.N, _)
theorem index_o : ∀ t : Fin cfg0.N, win0_2.index t = ![(grid0.coords t 0).val, (grid0.coords t 1).val, 0] := (by decide +kernel : ∀ t : Fin grid0.N, _)

/-- After the run the result array is the gradient of the two argument arrays. -/
theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay3, k0_pay2, k0_pay1, grad]
  blk_point [iblk, V, index_a, index_b, index_o]

/-- The kernel's run: its result is the gradient, its arguments end as they were. -/
theorem run : θ_run defs (onTc (τ := τ) (main (F := Ideal))) ⟨m, fun _ => 0, ρ⟩ fun r => ∀ c : Dev nD,
      r.2.mem ((c : Thread nD τ).loc main_v0) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

/-- The reference's term, read at an index, is the same gradient. -/
theorem ref_eq (a : Vec Ideal S4096x2048 .bf16) (b : Vec Ideal S4096x7168 .bf16) :
    Cert.Reference3Ideal.Read.val_main_v10 (F := Ideal) a b = grad a b := by
  funext i
  pointwise [Cert.Reference3Ideal.Read.val_main_v10, Cert.Reference3Ideal.Read.val_main_v9, Cert.Reference3Ideal.Read.val_main_v8, Cert.Reference3Ideal.Read.val_main_v7, Cert.Reference3Ideal.Read.val_main_v6, Cert.Reference3Ideal.Read.val_main_v5, Cert.Reference3Ideal.Read.val_main_v4, Cert.Reference3Ideal.Read.val_main_v3, Cert.Reference3Ideal.Read.val_main_v0, grad]
  exact Finset.sum_congr rfl fun k _ => mul_comm _ _

/-- Over the reals the call and the reference give the same result from the same arguments. -/
theorem agrees : Cert.algebraic_Kernel3Ideal_Reference3Ideal := by
  intro m g m' g' _ hargs
  refine ⟨fun c => grad (m ((c : Thread nD τ).loc main_arg0)) (m ((c : Thread nD τ).loc main_arg1)), run m g, ?_⟩
  refine (θ_run Cert.Reference3Ideal.defs _ _).mono (fun r h c => ⟨(h c).1.trans ?_, (h c).2⟩) (Cert.Reference3Ideal.Value.run (F := Ideal) m' g')
  rw [(hargs c).1, (hargs c).2]
  exact ref_eq _ _

/-- The reference leaves its arguments as they were, every counter at zero. -/
theorem ref_frame : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

end Cert.Kernel3Ideal.Wgrad

end
-- ==== Proof.WgradInHi.lean ====
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pipeline.ValueKit.Point
public import Idealize.ShloMosaic.Lib.Pointwise

/-! The gradient of the second half of the rows of the input weight: the kernel and the reference agree over the reals. -/

@[expose] public section

noncomputable section

namespace Cert.Kernel4Ideal.Wgrad

open Idealize.ShloMosaic Idealize.ShloMosaic.TcCoe Idealize.SL.Sem
open Cert.Kernel4Ideal Cert.Kernel4Ideal.Gen

variable (m : (ℓ : Loc nD τ sig) → Buf (Elt Ideal) ℓ) (ρ : Dev nD → PrngReg)

/-- One block of columns after another, the second half of the rows of the product of the transposed inputs with the gradients. -/
def grad (a : Vec Ideal S4096x2048 .bf16) (b : Vec Ideal S4096x7168 .bf16) : Vec Ideal S8x1024x896 .bf16 :=
  fun i => ∑ k : Fin 4096, a (ix2 k ⟨1024 + (i 1).val, by have h : (i 1).val < 1024 := (i 1).isLt; omega⟩) * b (ix2 k ⟨(i 0).val * 896 + (i 2).val, by have h : (i 0).val < 8 := (i 0).isLt; have h' : (i 2).val < 896 := (i 2).isLt; omega⟩)

theorem index_a : ∀ t : Fin cfg0.N, win0_0.index t = ![0, (grid0.coords t 1).val + 2] := (by decide +kernel : ∀ t : Fin grid0.N, _)
theorem index_b : ∀ t : Fin cfg0.N, win0_1.index t = ![0, (grid0.coords t 0).val] := (by decide +kernel : ∀ t : Fin grid0.N, _)
theorem index_o : ∀ t : Fin cfg0.N, win0_2.index t = ![(grid0.coords t 0).val, (grid0.coords t 1).val, 0] := (by decide +kernel : ∀ t : Fin grid0.N, _)

/-- After the run the result array is the gradient of the two argument arrays. -/
theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay3, k0_pay2, k0_pay1, grad]
  blk_point [iblk, V, index_a, index_b, index_o]

/-- The kernel's run: its result is the gradient, its arguments end as they were. -/
theorem run : θ_run defs (onTc (τ := τ) (main (F := Ideal))) ⟨m, fun _ => 0, ρ⟩ fun r => ∀ c : Dev nD,
      r.2.mem ((c : Thread nD τ).loc main_v0) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

/-- The reference's term, read at an index, is the same gradient. -/
theorem ref_eq (a : Vec Ideal S4096x2048 .bf16) (b : Vec Ideal S4096x7168 .bf16) :
    Cert.Reference4Ideal.Read.val_main_v10 (F := Ideal) a b = grad a b := by
  funext i
  pointwise [Cert.Reference4Ideal.Read.val_main_v10, Cert.Reference4Ideal.Read.val_main_v9, Cert.Reference4Ideal.Read.val_main_v8, Cert.Reference4Ideal.Read.val_main_v7, Cert.Reference4Ideal.Read.val_main_v6, Cert.Reference4Ideal.Read.val_main_v5, Cert.Reference4Ideal.Read.val_main_v4, Cert.Reference4Ideal.Read.val_main_v3, Cert.Reference4Ideal.Read.val_main_v0, grad]
  exact Finset.sum_congr rfl fun k _ => mul_comm _ _

/-- Over the reals the call and the reference give the same result from the same arguments. -/
theorem agrees : Cert.algebraic_Kernel4Ideal_Reference4Ideal := by
  intro m g m' g' _ hargs
  refine ⟨fun c => grad (m ((c : Thread nD τ).loc main_arg0)) (m ((c : Thread nD τ).loc main_arg1)), run m g, ?_⟩
  refine (θ_run Cert.Reference4Ideal.defs _ _).mono (fun r h c => ⟨(h c).1.trans ?_, (h c).2⟩) (Cert.Reference4Ideal.Value.run (F := Ideal) m' g')
  rw [(hargs c).1, (hargs c).2]
  exact ref_eq _ _

/-- The reference leaves its arguments as they were, every counter at zero. -/
theorem ref_frame : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

end Cert.Kernel4Ideal.Wgrad

end
-- ==== Proof.WgradOut.lean ====
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Pipeline.ValueKit.Point
public import Idealize.ShloMosaic.Lib.Pointwise

/-! The gradient of the output weight: the kernel and the reference agree over the reals. -/

@[expose] public section

noncomputable section

namespace Cert.Kernel5Ideal.Wgrad

open Idealize.ShloMosaic Idealize.ShloMosaic.TcCoe Idealize.SL.Sem
open Cert.Kernel5Ideal Cert.Kernel5Ideal.Gen

variable (m : (ℓ : Loc nD τ sig) → Buf (Elt Ideal) ℓ) (ρ : Dev nD → PrngReg)

/-- The product of the transposed inputs with the gradients. -/
def grad (a : Vec Ideal S4096x2048 .bf16) (b : Vec Ideal S4096x2048 .bf16) : Vec Ideal S2048x2048 .bf16 :=
  fun i => ∑ k : Fin 4096, a (ix2 k (i 0)) * b (ix2 k (i 1))

theorem index_a : ∀ t : Fin cfg0.N, win0_0.index t = ![t.val % 2, t.val / 2] := (by decide +kernel : ∀ t : Fin grid0.N, _)
theorem index_b : ∀ t : Fin cfg0.N, win0_1.index t = ![t.val % 2, 0] := (by decide +kernel : ∀ t : Fin grid0.N, _)
theorem index_o : ∀ t : Fin cfg0.N, win0_2.index t = ![t.val / 2, 0] := (by decide +kernel : ∀ t : Fin grid0.N, _)

theorem halves (f : Fin 4096 → EReal) : (∑ k : Fin 2048, f ⟨k.val, by omega⟩) + (∑ k : Fin 2048, f ⟨2048 + k.val, by omega⟩) = ∑ k, f k := by
  rw [← Fin.sum_mul_add_fin 2 2048 f, Fin.sum_univ_two]
  refine congrArg₂ (· + ·) (Finset.sum_congr rfl fun k _ => ?_) (Finset.sum_congr rfl fun k _ => ?_) <;> exact congrArg f (Fin.ext (by simp))

/-- After the run the result array is the gradient of the two argument arrays. -/
theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  have hN : t.val < 8 := lt_of_lt_of_eq t.isLt N_0
  have hp : t.val - 1 < cfg0.N := lt_of_lt_of_eq (by omega) N_0.symm
  blk_simp
  rw [after0_2, outsAt0_B m c t (by omega) ht]
  frame_out
  rw [outsAt0_A m c ⟨t.val - 1, hp⟩ (by show (t.val - 1) % 2 = 0; omega) (by show ¬(t.val - 1) % 2 = 1; omega)]
  frame_out
  have hs : ∀ X : Vec Ideal S512x2048 .f32, (View.whole cc0_scratch0).read (Elt Ideal) ((Memref.isWhole_whole cc0_scratch0).unread X) = X :=
    fun X => (Memref.isWhole_whole cc0_scratch0).read_unread X
  rw [hs]
  pointwise [k0_pay3, k0_pay2, k0_pay1, grad]
  rw [← halves]
  blk_point [iblk, V, index_a, index_b, index_o]

/-- The kernel's run: its result is the gradient, its arguments end as they were. -/
theorem run : θ_run defs (onTc (τ := τ) (main (F := Ideal))) ⟨m, fun _ => 0, ρ⟩ fun r => ∀ c : Dev nD,
      r.2.mem ((c : Thread nD τ).loc main_v0) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

/-- The reference's term, read at an index, is the same gradient. -/
theorem ref_eq (a : Vec Ideal S4096x2048 .bf16) (b : Vec Ideal S4096x2048 .bf16) :
    Cert.Reference5Ideal.Read.val_main_v6 (F := Ideal) a b = grad a b := by
  funext i
  pointwise [Cert.Reference5Ideal.Read.val_main_v6, Cert.Reference5Ideal.Read.val_main_v5, Cert.Reference5Ideal.Read.val_main_v4, Cert.Reference5Ideal.Read.val_main_v3, Cert.Reference5Ideal.Read.val_main_v0, grad]
  exact Finset.sum_congr rfl fun k _ => mul_comm _ _

/-- Over the reals the call and the reference give the same result from the same arguments. -/
theorem agrees : Cert.algebraic_Kernel5Ideal_Reference5Ideal := by
  intro m g m' g' _ hargs
  refine ⟨fun c => grad (m ((c : Thread nD τ).loc main_arg0)) (m ((c : Thread nD τ).loc main_arg1)), run m g, ?_⟩
  refine (θ_run Cert.Reference5Ideal.defs _ _).mono (fun r h c => ⟨(h c).1.trans ?_, (h c).2⟩) (Cert.Reference5Ideal.Value.run (F := Ideal) m' g')
  rw [(hargs c).1, (hargs c).2]
  exact ref_eq _ _

/-- The reference leaves its arguments as they were, every counter at zero. -/
theorem ref_frame : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

end Cert.Kernel5Ideal.Wgrad

end
-- ==== Proof.FfnBwdAct.lean ====
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Pipeline.ValueKit.Point
public import Idealize.ShloMosaic.Lib.Pointwise

/-! The gradients at the two products of the feed-forward part: the kernel and the reference agree over the reals. -/

@[expose] public section

noncomputable section

namespace Cert.Kernel6Ideal.Act

open Idealize.ShloMosaic Idealize.ShloMosaic.TcCoe Idealize.SL.Sem
open Cert.Kernel6Ideal Cert.Kernel6Ideal.Gen

variable (m : (ℓ : Loc nD τ sig) → Buf (Elt Ideal) ℓ) (ρ : Dev nD → PrngReg)

/-- The logistic of a value. -/
def logi (g : EReal) : EReal := Ideal.div 1 (1 + Ideal.exp (-g))

/-- The slope of `x` times its logistic, in either of the two forms, at every value, infinities included. -/
theorem slope (g : EReal) : logi g * (1 + g * (1 - logi g)) = logi g + g * (logi g * (1 - logi g)) := by
  have hs : logi g = Ideal.logistic g := rfl
  induction g using EReal.rec with
  | bot => rw [hs, Ideal.logistic_bot]; simp
  | top => rw [hs, Ideal.logistic_top]; simp
  | coe r =>
    rw [hs, Ideal.logistic_coe]
    generalize (1 + Real.exp (-r))⁻¹ = q
    norm_cast
    ring

/-- The gradient at the activations: the rows of the incoming gradient against the rows of the weight. -/
def back (y : Vec Ideal S4096x2048 .bf16) (w : Vec Ideal S5632x2048 .bf16) (i : S8x4096x704.Idx) : EReal :=
  ∑ k : Fin 2048, y (ix2 (i 1) k) * w (ix2 ⟨(i 0).val * 704 + (i 2).val, by have h0 : (i 0).val < 8 := (i 0).isLt; have h2 : (i 2).val < 704 := (i 2).isLt; omega⟩ k)

/-- The gradient at the first product. -/
def dgate (y : Vec Ideal S4096x2048 .bf16) (w : Vec Ideal S5632x2048 .bf16) (g u : Vec Ideal S8x4096x704 .bf16) : Vec Ideal S8x4096x704 .bf16 :=
  fun i => back y w i * u i * (logi (g i) * (1 + g i * (1 - logi (g i))))

/-- The gradient at the second product. -/
def dup (y : Vec Ideal S4096x2048 .bf16) (w : Vec Ideal S5632x2048 .bf16) (g : Vec Ideal S8x4096x704 .bf16) : Vec Ideal S8x4096x704 .bf16 :=
  fun i => back y w i * (g i * logi (g i))

theorem index_y : ∀ t : Fin cfg0.N, win0_0.index t = ![(grid0.coords t 1).val, 0] := (by decide +kernel : ∀ t : Fin grid0.N, _)
theorem index_w : ∀ t : Fin cfg0.N, win0_1.index t = ![(grid0.coords t 0).val, 0] := (by decide +kernel : ∀ t : Fin grid0.N, _)
theorem index_2 : ∀ t : Fin cfg0.N, win0_2.index t = ![(grid0.coords t 0).val, (grid0.coords t 1).val, 0] := (by decide +kernel : ∀ t : Fin grid0.N, _)
theorem index_3 : ∀ t : Fin cfg0.N, win0_3.index t = ![(grid0.coords t 0).val, (grid0.coords t 1).val, 0] := (by decide +kernel : ∀ t : Fin grid0.N, _)
theorem index_4 : ∀ t : Fin cfg0.N, win0_4.index t = ![(grid0.coords t 0).val, (grid0.coords t 1).val, 0] := (by decide +kernel : ∀ t : Fin grid0.N, _)
theorem index_5 : ∀ t : Fin cfg0.N, win0_5.index t = ![(grid0.coords t 0).val, (grid0.coords t 1).val, 0] := (by decide +kernel : ∀ t : Fin grid0.N, _)

/-- After the run this result array is `dgate` of the argument arrays. -/
theorem final_g (c : Dev nD) : (dats m 0 c).arrAt 4 cfg0.N
    = dgate (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  unfold out0_4
  frame_out
  pointwise [k0_pay4, k0_pay3, k0_pay2, k0_pay1, dgate, back, logi, zero_sub]
  blk_point [iblk, V, index_y, index_w, index_2, index_3, index_4, index_5]

/-- After the run this result array is `dup` of the argument arrays. -/
theorem final_u (c : Dev nD) : (dats m 0 c).arrAt 5 cfg0.N
    = dup (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  unfold out0_5
  frame_out
  pointwise [k0_pay5, k0_pay3, k0_pay2, k0_pay1, dup, back, logi, zero_sub]
  blk_point [iblk, V, index_y, index_w, index_2, index_3, index_4, index_5]

/-- The reference's gradient at the first product, read at an index. -/
theorem ref_dgate (y : Vec Ideal S4096x2048 .bf16) (w : Vec Ideal S5632x2048 .bf16) (g u : Vec Ideal S8x4096x704 .bf16) :
    Cert.Reference6Ideal.Read.val_main_v20 (F := Ideal) y w g u = dgate y w g u := by
  funext i
  pointwise [Cert.Reference6Ideal.Read.val_main_v23, Cert.Reference6Ideal.Read.val_main_v22, Cert.Reference6Ideal.Read.val_main_v21, Cert.Reference6Ideal.Read.val_main_v20, Cert.Reference6Ideal.Read.val_main_v19, Cert.Reference6Ideal.Read.val_main_v18, Cert.Reference6Ideal.Read.val_main_v17, Cert.Reference6Ideal.Read.val_main_v16, Cert.Reference6Ideal.Read.val_main_call2_v2, Cert.Reference6Ideal.Read.val_main_call2_v1, Cert.Reference6Ideal.Read.val_main_call2_v0, Cert.Reference6Ideal.Read.val_main_v15, Cert.Reference6Ideal.Read.val_main_cst, Cert.Reference6Ideal.Read.val_main_v14_0, Cert.Reference6Ideal.Read.val_main_v14_1, Cert.Reference6Ideal.Read.val_main_call1_v7, Cert.Reference6Ideal.Read.val_main_call1_v6, Cert.Reference6Ideal.Read.val_main_call1_cst_1, Cert.Reference6Ideal.Read.val_main_v14_2, Cert.Reference6Ideal.Read.val_main_call1_v4, Cert.Reference6Ideal.Read.val_main_call1_cst_0, Cert.Reference6Ideal.Read.val_main_call1_v3, Cert.Reference6Ideal.Read.val_main_call1_v2, Cert.Reference6Ideal.Read.val_main_call1_cst, Cert.Reference6Ideal.Read.val_main_call1_v1, Cert.Reference6Ideal.Read.val_main_call1_v0, Cert.Reference6Ideal.Read.val_main_v13, Cert.Reference6Ideal.Read.val_main_v12, Cert.Reference6Ideal.Read.val_main_v11, Cert.Reference6Ideal.Read.val_main_v10, Cert.Reference6Ideal.Read.val_main_v9, Cert.Reference6Ideal.Read.val_main_v8, Cert.Reference6Ideal.Read.val_main_v7, Cert.Reference6Ideal.Read.val_main_v6, Cert.Reference6Ideal.Read.val_main_call0_v5, Cert.Reference6Ideal.Read.val_main_call0_v4, Cert.Reference6Ideal.Read.val_main_call0_cst_0, Cert.Reference6Ideal.Read.val_main_call0_v3, Cert.Reference6Ideal.Read.val_main_call0_v2, Cert.Reference6Ideal.Read.val_main_call0_cst, Cert.Reference6Ideal.Read.val_main_call0_v1, Cert.Reference6Ideal.Read.val_main_call0_v0, Cert.Reference6Ideal.Read.val_main_v5, Cert.Reference6Ideal.Read.val_main_v4, Cert.Reference6Ideal.Read.val_main_v3, Cert.Reference6Ideal.Read.val_main_v2, Cert.Reference6Ideal.Read.val_main_v1, Cert.Reference6Ideal.Read.val_main_v0, dgate, back]
  exact congrArg _ (slope _).symm

/-- The reference's gradient at the second product, read at an index. -/
theorem ref_dup (y : Vec Ideal S4096x2048 .bf16) (w : Vec Ideal S5632x2048 .bf16) (g : Vec Ideal S8x4096x704 .bf16) :
    Cert.Reference6Ideal.Read.val_main_v23 (F := Ideal) y w g = dup y w g := by
  funext i
  pointwise [Cert.Reference6Ideal.Read.val_main_v23, Cert.Reference6Ideal.Read.val_main_v22, Cert.Reference6Ideal.Read.val_main_v21, Cert.Reference6Ideal.Read.val_main_v20, Cert.Reference6Ideal.Read.val_main_v19, Cert.Reference6Ideal.Read.val_main_v18, Cert.Reference6Ideal.Read.val_main_v17, Cert.Reference6Ideal.Read.val_main_v16, Cert.Reference6Ideal.Read.val_main_call2_v2, Cert.Reference6Ideal.Read.val_main_call2_v1, Cert.Reference6Ideal.Read.val_main_call2_v0, Cert.Reference6Ideal.Read.val_main_v15, Cert.Reference6Ideal.Read.val_main_cst, Cert.Reference6Ideal.Read.val_main_v14_0, Cert.Reference6Ideal.Read.val_main_v14_1, Cert.Reference6Ideal.Read.val_main_call1_v7, Cert.Reference6Ideal.Read.val_main_call1_v6, Cert.Reference6Ideal.Read.val_main_call1_cst_1, Cert.Reference6Ideal.Read.val_main_v14_2, Cert.Reference6Ideal.Read.val_main_call1_v4, Cert.Reference6Ideal.Read.val_main_call1_cst_0, Cert.Reference6Ideal.Read.val_main_call1_v3, Cert.Reference6Ideal.Read.val_main_call1_v2, Cert.Reference6Ideal.Read.val_main_call1_cst, Cert.Reference6Ideal.Read.val_main_call1_v1, Cert.Reference6Ideal.Read.val_main_call1_v0, Cert.Reference6Ideal.Read.val_main_v13, Cert.Reference6Ideal.Read.val_main_v12, Cert.Reference6Ideal.Read.val_main_v11, Cert.Reference6Ideal.Read.val_main_v10, Cert.Reference6Ideal.Read.val_main_v9, Cert.Reference6Ideal.Read.val_main_v8, Cert.Reference6Ideal.Read.val_main_v7, Cert.Reference6Ideal.Read.val_main_v6, Cert.Reference6Ideal.Read.val_main_call0_v5, Cert.Reference6Ideal.Read.val_main_call0_v4, Cert.Reference6Ideal.Read.val_main_call0_cst_0, Cert.Reference6Ideal.Read.val_main_call0_v3, Cert.Reference6Ideal.Read.val_main_call0_v2, Cert.Reference6Ideal.Read.val_main_call0_cst, Cert.Reference6Ideal.Read.val_main_call0_v1, Cert.Reference6Ideal.Read.val_main_call0_v0, Cert.Reference6Ideal.Read.val_main_v5, Cert.Reference6Ideal.Read.val_main_v4, Cert.Reference6Ideal.Read.val_main_v3, Cert.Reference6Ideal.Read.val_main_v2, Cert.Reference6Ideal.Read.val_main_v1, Cert.Reference6Ideal.Read.val_main_v0, dup, back, logi]
  exact mul_comm _ _

/-- The kernel's run: each result is the array named for it, its arguments end as they were. -/
theorem run : θ_run defs (onTc (τ := τ) (main (F := Ideal))) ⟨m, fun _ => 0, ρ⟩ fun r => ∀ c : Dev nD,
      r.2.mem ((c : Thread nD τ).loc main_v0_0) = dgate (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = dup (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_g m c), (h c).2.1.trans (final_u m c), (h c).2.2⟩) (Value.run_blocks m ρ)

/-- Over the reals the call and the reference give the same results from the same arguments. -/
theorem agrees : Cert.algebraic_Kernel6Ideal_Reference6Ideal := by
  intro m g m' g' _ hargs
  refine ⟨fun c => dgate (m ((c : Thread nD τ).loc main_arg0)) (m ((c : Thread nD τ).loc main_arg1)) (m ((c : Thread nD τ).loc main_arg2)) (m ((c : Thread nD τ).loc main_arg3)), fun c => dup (m ((c : Thread nD τ).loc main_arg0)) (m ((c : Thread nD τ).loc main_arg1)) (m ((c : Thread nD τ).loc main_arg2)), run m g, ?_⟩
  refine (θ_run Cert.Reference6Ideal.defs _ _).mono (fun r h c => ⟨(h c).1.trans ?_, (h c).2.1.trans ?_, (h c).2.2⟩) (Cert.Reference6Ideal.Value.run (F := Ideal) m' g')
  · rw [(hargs c).1, (hargs c).2.1, (hargs c).2.2.1, (hargs c).2.2.2]
    exact ref_dgate _ _ _ _
  · rw [(hargs c).1, (hargs c).2.1, (hargs c).2.2.1]
    exact ref_dup _ _ _

/-- The reference's run on its own: its arguments end as they were. -/
theorem ref_frame : Cert.quiescent_Reference6Ideal := fun m g _ =>
  (θ_run Cert.Reference6Ideal.defs _ _).mono (fun r h => ⟨fun c => (h c).2.2, sem_eq_zero_of_no_sems (by decide) r.2⟩)
    (Cert.Reference6Ideal.Value.run (F := Ideal) m g)

end Cert.Kernel6Ideal.Act

end
-- ==== Proof.NormBack.lean ====
module

public import Idealize.ShloMosaic.Lib.Pointwise

/-! The cotangents of a row of a root-mean-square norm, over the extended reals: the form a derivative rule
gives and the closed form are one. -/

@[expose] public section

noncomputable section

namespace Cert.NormBack

open Idealize.ShloMosaic

/-- The row's length, as a value. -/
theorem len_eq : Ideal.ofBits .f32 0x45000000#32 = ((2048 : ℝ) : EReal) := by
  simp [Ideal.ofBits, Ideal.ieee, -EReal.coe_mul]; norm_num

/-- The exponent of the root's derivative. -/
theorem half_eq : Ideal.ofBits .f32 0xBF000000#32 = ((-(1 / 2) : ℝ) : EReal) := by
  simp [Ideal.ofBits, Ideal.ieee, -EReal.coe_mul, -EReal.coe_neg]; norm_num

/-- What is added under the root is not negative. -/
theorem eps_nonneg : 0 ≤ Ideal.ofBits .f32 0x358637BD#32 := by
  have h : ∃ r : ℝ, 0 ≤ r ∧ Ideal.ofBits .f32 0x358637BD#32 = (r : EReal) := by
    refine ⟨_, ?_, by simp [Ideal.ofBits, Ideal.ieee, -EReal.coe_mul]; rfl⟩
    positivity
  obtain ⟨r, hr, e⟩ := h
  rw [e]
  exact EReal.coe_nonneg.mpr hr

/-- A quotient by the row's length is a product. -/
theorem div_len (a : EReal) : Ideal.div a (Ideal.ofBits .f32 0x45000000#32) = a * ((1 / 2048 : ℝ) : EReal) := by
  rw [len_eq, Ideal.div_coe (by norm_num)]

/-- A square is not negative. -/
theorem sq_nonneg (a : EReal) : 0 ≤ a * a := by
  rcases le_total 0 a with h | h
  · exact mul_nonneg h h
  · have h' : 0 ≤ -a := EReal.neg_nonneg.mpr h
    have := mul_nonneg h' h'
    rwa [neg_mul_neg] at this

/-- The mean of squares with what is added is not negative. -/
theorem mean_nonneg (f : Fin 2048 → EReal) :
    0 ≤ Ideal.div (∑ k, f k * f k) (Ideal.ofBits .f32 0x45000000#32) + Ideal.ofBits .f32 0x358637BD#32 := by
  rw [div_len]
  refine add_nonneg (mul_nonneg (Finset.sum_nonneg fun k _ => sq_nonneg (f k)) ?_) eps_nonneg
  exact EReal.coe_nonneg.mpr (by norm_num)

/-- The root's reciprocal over its operand is its cube. -/
theorem cube (X : EReal) (h : 0 ≤ X) : Ideal.div (Ideal.rsqrt X) X = Ideal.rsqrt X * Ideal.rsqrt X * Ideal.rsqrt X := by
  induction X with
  | bot => exact absurd h (by simp)
  | top => simp [Ideal.div]
  | coe r =>
    have hr : 0 ≤ r := EReal.coe_nonneg.mp h
    rcases hr.eq_or_lt with h0 | h0
    · subst h0
      have hi : Ideal.rsqrt ((0 : ℝ) : EReal) = ⊤ := by rw [Ideal.rsqrt_coe, if_neg (lt_irrefl _), if_pos rfl]
      rw [hi]
      simp [Ideal.div]
    · rw [Ideal.div_coe h0.ne', Ideal.rsqrt_coe, if_neg (not_lt.mpr hr), if_neg h0.ne', ← EReal.coe_mul, ← EReal.coe_mul, ← EReal.coe_mul]
      congr 1
      have hs : Real.sqrt r * Real.sqrt r = r := Real.mul_self_sqrt hr
      have hp : 0 < Real.sqrt r := Real.sqrt_pos.mpr h0
      rw [mul_assoc, ← mul_inv, hs, one_div, mul_comm]

/-- A value and itself. -/
theorem twice (a : EReal) : a + a = ((2 : ℝ) : EReal) * a := by
  induction a with
  | bot => rw [EReal.coe_mul_bot_of_pos (by norm_num)]; rfl
  | top => rw [EReal.coe_mul_top_of_pos (by norm_num)]; rfl
  | coe r => rw [← EReal.coe_add, ← EReal.coe_mul, two_mul]

/-- The derivative rule's form of a row's cotangents is the closed form. -/
theorem back_eq (f : Fin 2048 → EReal) (e x G S : EReal) :
    e + ((G * Ideal.rsqrt (Ideal.div (∑ k, f k * f k) (Ideal.ofBits .f32 0x45000000#32) + Ideal.ofBits .f32 0x358637BD#32)
      + x * ∑ _k : Fin 1, Ideal.div (S * (Ideal.ofBits .f32 0xBF000000#32 * Ideal.div (Ideal.rsqrt (Ideal.div (∑ k, f k * f k) (Ideal.ofBits .f32 0x45000000#32) + Ideal.ofBits .f32 0x358637BD#32))
          (Ideal.div (∑ k, f k * f k) (Ideal.ofBits .f32 0x45000000#32) + Ideal.ofBits .f32 0x358637BD#32))) (Ideal.ofBits .f32 0x45000000#32))
      + (∑ _k : Fin 1, Ideal.div (S * (Ideal.ofBits .f32 0xBF000000#32 * Ideal.div (Ideal.rsqrt (Ideal.div (∑ k, f k * f k) (Ideal.ofBits .f32 0x45000000#32) + Ideal.ofBits .f32 0x358637BD#32))
          (Ideal.div (∑ k, f k * f k) (Ideal.ofBits .f32 0x45000000#32) + Ideal.ofBits .f32 0x358637BD#32))) (Ideal.ofBits .f32 0x45000000#32)) * x)
    = e + (Ideal.rsqrt (Ideal.div (∑ k, f k * f k) (Ideal.ofBits .f32 0x45000000#32) + Ideal.ofBits .f32 0x358637BD#32) * G
      - x * (Ideal.rsqrt (Ideal.div (∑ k, f k * f k) (Ideal.ofBits .f32 0x45000000#32) + Ideal.ofBits .f32 0x358637BD#32)
          * Ideal.rsqrt (Ideal.div (∑ k, f k * f k) (Ideal.ofBits .f32 0x45000000#32) + Ideal.ofBits .f32 0x358637BD#32)
          * Ideal.rsqrt (Ideal.div (∑ k, f k * f k) (Ideal.ofBits .f32 0x45000000#32) + Ideal.ofBits .f32 0x358637BD#32))
        * Ideal.div S (Ideal.ofBits .f32 0x45000000#32)) := by
  have hX := mean_nonneg f
  revert hX
  generalize Ideal.div (∑ k, f k * f k) (Ideal.ofBits .f32 0x45000000#32) + Ideal.ofBits .f32 0x358637BD#32 = X
  intro hX
  rw [cube X hX]
  generalize Ideal.rsqrt X = r
  simp only [Fin.sum_univ_one, div_len, half_eq]
  rw [add_assoc (G * r), mul_comm (S * _ * _) x, twice, sub_eq_add_neg, mul_comm G r]
  congr 2
  have h2 : ((2 : ℝ) : EReal) * ((-(1 / 2) : ℝ) : EReal) = -1 := by
    rw [← EReal.coe_mul]; norm_num
  calc ((2 : ℝ) : EReal) * (x * (S * (((-(1 / 2) : ℝ) : EReal) * (r * r * r)) * ((1 / 2048 : ℝ) : EReal)))
      = (((2 : ℝ) : EReal) * ((-(1 / 2) : ℝ) : EReal)) * (x * (r * r * r) * (S * ((1 / 2048 : ℝ) : EReal))) := by ac_rfl
    _ = -(x * (r * r * r) * (S * ((1 / 2048 : ℝ) : EReal))) := by rw [h2, neg_one_mul]

end Cert.NormBack

end
-- ==== Proof.FfnBwdIn.lean ====
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pipeline.ValueKit.Point
public import Idealize.ShloMosaic.Lib.Pointwise
public import proofs.«01_k».proof.Proof.NormBack

/-! The product behind the feed-forward part's inner columns backwards, and the norm before it backwards: the kernel and the reference agree over the reals. -/

@[expose] public section

noncomputable section

namespace Cert.Kernel7Ideal.BwdIn

open Idealize.ShloMosaic Idealize.ShloMosaic.TcCoe Idealize.SL.Sem
open Cert.Kernel7Ideal Cert.Kernel7Ideal.Gen

variable (m : (ℓ : Loc nD τ sig) → Buf (Elt Ideal) ℓ) (ρ : Dev nD → PrngReg)

/-- The cotangents of the normalized rows: the part given, and the inner columns' cotangents times the transposed weights, column block by column block. -/
def dn (d : Vec Ideal S8x4096x704 .bf16) (w : Vec Ideal S8x704x2048 .bf16) (b : Vec Ideal S4096x2048 .f32) (i : S4096x2048.Idx) : EReal :=
  b i + ∑ p : Fin 8, ∑ k : Fin 704, d (ix3 p (i 0) k) * w (ix3 p k (i 1))

/-- One over the root mean square of a row. -/
def rinv (x : Vec Ideal S4096x2048 .f32) (a : Fin 4096) : EReal :=
  Ideal.rsqrt (Ideal.div (∑ k : Fin 2048, x (ix2 a k) * x (ix2 a k)) (Ideal.ofBits .f32 0x45000000#32) + Ideal.ofBits .f32 0x358637BD#32)

/-- The norm's cotangents of its rows, added to those that came past it. -/
def drows (d : Vec Ideal S8x4096x704 .bf16) (w : Vec Ideal S8x704x2048 .bf16) (b x e : Vec Ideal S4096x2048 .f32) (v : Vec Ideal S1x2048 .f32) : Vec Ideal S4096x2048 .f32 :=
  fun i => e i + (rinv x (i 0) * (dn d w b i * v (ix2 0 (i 1)))
    - x i * (rinv x (i 0) * rinv x (i 0) * rinv x (i 0)) * Ideal.div (∑ k : Fin 2048, dn d w b (ix2 (i 0) k) * v (ix2 0 k) * x (ix2 (i 0) k)) (Ideal.ofBits .f32 0x45000000#32))

/-- The same in the narrow format. -/
def dlow (d : Vec Ideal S8x4096x704 .bf16) (w : Vec Ideal S8x704x2048 .bf16) (b x e : Vec Ideal S4096x2048 .f32) (v : Vec Ideal S1x2048 .f32) : Vec Ideal S4096x2048 .bf16 :=
  fun i => drows d w b x e v i

/-- The norm's cotangents of its weights, a sum over the rows. -/
def dgain (d : Vec Ideal S8x4096x704 .bf16) (w : Vec Ideal S8x704x2048 .bf16) (b x : Vec Ideal S4096x2048 .f32) : Vec Ideal S1x2048 .f32 :=
  fun i => ∑ a : Fin 4096, dn d w b (ix2 a (i 1)) * x (ix2 a (i 1)) * rinv x a

/-- What one block of rows adds to the cotangents of the weights. -/
def dpart (d : Vec Ideal S8x4096x704 .bf16) (w : Vec Ideal S8x704x2048 .bf16) (b x : Vec Ideal S4096x2048 .f32) (t : Fin 16) (i : S1x2048.Idx) : EReal :=
  ∑ a : Fin 256, dn d w b (ix2 ⟨t.val * 256 + a.val, by omega⟩ (i 1)) * x (ix2 ⟨t.val * 256 + a.val, by omega⟩ (i 1)) * rinv x ⟨t.val * 256 + a.val, by omega⟩

/-- The weights as the call gets them, the column blocks one under another. -/
theorem V_stacked (c : Dev nD) : V m c main_v0 = shapeCast S5632x2048 (m ((c : Thread nD τ).loc main_arg1)) shapeCasts_S8x704x2048_S5632x2048 := rfl

theorem index_2 : ∀ t : Fin cfg0.N, win0_2.index t = ![(grid0.coords t 0).val, 0] := (by decide +kernel : ∀ t : Fin grid0.N, _)
theorem index_3 : ∀ t : Fin cfg0.N, win0_3.index t = ![(grid0.coords t 0).val, 0] := (by decide +kernel : ∀ t : Fin grid0.N, _)
theorem index_4 : ∀ t : Fin cfg0.N, win0_4.index t = ![(grid0.coords t 0).val, 0] := (by decide +kernel : ∀ t : Fin grid0.N, _)
theorem index_6 : ∀ t : Fin cfg0.N, win0_6.index t = ![(grid0.coords t 0).val, 0] := (by decide +kernel : ∀ t : Fin grid0.N, _)
theorem index_7 : ∀ t : Fin cfg0.N, win0_7.index t = ![(grid0.coords t 0).val, 0] := (by decide +kernel : ∀ t : Fin grid0.N, _)
theorem index_0 : ∀ t : Fin cfg0.N, win0_0.index t = ![0, (grid0.coords t 0).val, 0] := (by decide +kernel : ∀ t : Fin grid0.N, _)
theorem index_1 : ∀ t : Fin cfg0.N, win0_1.index t = ![0, 0] := (by decide +kernel : ∀ t : Fin grid0.N, _)
theorem index_5 : ∀ t : Fin cfg0.N, win0_5.index t = ![0, 0] := (by decide +kernel : ∀ t : Fin grid0.N, _)
theorem index_8 : ∀ t : Fin cfg0.N, win0_8.index t = ![0, 0] := (by decide +kernel : ∀ t : Fin grid0.N, _)
theorem coord_0 : ∀ t : Fin cfg0.N, (grid0.coords t 0).val = t.val := (by decide +kernel : ∀ t : Fin grid0.N, _)

set_option maxHeartbeats 4000000 in
/-- After the run this result array is `drows` of the argument arrays. -/
theorem final_x (c : Dev nD) : (dats m 0 c).arrAt 6 cfg0.N
    = drows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  by_cases h0 : t.val % 16 = 0
  · rw [outsAt0_A m c t h0]
    frame_out
    pointwise [k0_pay3, k0_pay2, k0_pay1, k0_pay8, k0_pay7, k0_pay6, dlow, drows, dn, rinv, Fin.sum_univ_eight]
    blk_point [iblk, V_stacked, index_0, index_1, index_2, index_3, index_4, index_5, index_6, index_7, index_8, V]
  · rw [outsAt0_B m c t h0]
    frame_out
    pointwise [k0_pay3, k0_pay2, k0_pay1, k0_pay8, k0_pay7, k0_pay6, dlow, drows, dn, rinv, Fin.sum_univ_eight]
    blk_point [iblk, V_stacked, index_0, index_1, index_2, index_3, index_4, index_5, index_6, index_7, index_8, V]

set_option maxHeartbeats 4000000 in
/-- After the run this result array is `dlow` of the argument arrays. -/
theorem final_l (c : Dev nD) : (dats m 0 c).arrAt 7 cfg0.N
    = dlow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  by_cases h0 : t.val % 16 = 0
  · rw [outsAt0_A m c t h0]
    frame_out
    pointwise [k0_pay3, k0_pay2, k0_pay1, k0_pay8, k0_pay7, k0_pay6, dlow, drows, dn, rinv, Fin.sum_univ_eight]
    blk_point [iblk, V_stacked, index_0, index_1, index_2, index_3, index_4, index_5, index_6, index_7, index_8, V]
  · rw [outsAt0_B m c t h0]
    frame_out
    pointwise [k0_pay3, k0_pay2, k0_pay1, k0_pay8, k0_pay7, k0_pay6, dlow, drows, dn, rinv, Fin.sum_univ_eight]
    blk_point [iblk, V_stacked, index_0, index_1, index_2, index_3, index_4, index_5, index_6, index_7, index_8, V]

set_option maxHeartbeats 4000000 in
/-- After the run the last result array is `dgain` of the argument arrays. -/
theorem final_w (c : Dev nD) : (dats m 0 c).arrAt 8 cfg0.N
    = dgain (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp
  have ht : t.val % 16 = 15 := (flush0_8 t).mp hf
  have ht' : t.val + 1 = cfg0.N := by
    have hN : cfg0.N = 16 := N_0
    have h16 : t.val < 16 := lt_of_lt_of_eq t.isLt hN
    rw [hN]
    omega
  rw [after0_8, Pipeline.eq_sum_fin_of_reset_step_apply_last (fun n h => (outsAt0 m c n h).2.2) 16 (fun _ => (0 : EReal))
    (fun t j => dpart (m ((c : Thread nD τ).loc main_arg0)) (m ((c : Thread nD τ).loc main_arg1)) (m ((c : Thread nD τ).loc main_arg2)) (m ((c : Thread nD τ).loc main_arg3)) ⟨t.val, Nat.lt_of_lt_of_eq t.isLt N_0⟩ j)
    (fun t h j => by
      rw [outsAt0_A m c t h]
      frame_out
      pointwise [k0_pay4, k0_pay5, k0_pay1, k0_pay8, k0_pay7, k0_pay6, dpart, dn, rinv, Fin.sum_univ_eight]
      blk_point [iblk, V_stacked, index_0, index_1, index_2, index_3, index_4, index_5, index_6, index_7, index_8, coord_0, V])
    (fun t h j => by
      rw [outsAt0_B m c t h]
      frame_out
      pointwise [k0_pay4, k0_pay5, k0_pay1, k0_pay8, k0_pay7, k0_pay6, dpart, dn, rinv, Fin.sum_univ_eight]
      blk_point [iblk, V_stacked, index_0, index_1, index_2, index_3, index_4, index_5, index_6, index_7, index_8, coord_0, V])
    (le_of_eq N_0) t ht' y]
  rw [zero_add]
  have hy : (((View.whole main_v1_2).slice (win0_8.rect t)).emb y) 1 = y 1 := by
    apply Fin.ext
    blk_point [index_8]
  pointwise [dgain]
  rw [hy]
  exact Fin.sum_mul_add_fin 16 256 (fun a : Fin 4096 => dn (m ((c : Thread nD τ).loc main_arg0)) (m ((c : Thread nD τ).loc main_arg1)) (m ((c : Thread nD τ).loc main_arg2)) (ix2 a (y 1)) * (m ((c : Thread nD τ).loc main_arg3)) (ix2 a (y 1)) * rinv (m ((c : Thread nD τ).loc main_arg3)) a)

/-- The reference's cotangents of the normalized rows, read at an index. -/
theorem ref_dn (d : Vec Ideal S8x4096x704 .bf16) (w : Vec Ideal S8x704x2048 .bf16) (b : Vec Ideal S4096x2048 .f32) (i : S4096x2048.Idx) :
    Cert.Reference7Ideal.Read.val_main_v25 (F := Ideal) d w b i = dn d w b i := by
  pointwise [Cert.Reference7Ideal.Read.val_main_v25, Cert.Reference7Ideal.Read.val_main_v24, Cert.Reference7Ideal.Read.val_main_v23, Cert.Reference7Ideal.Read.val_main_v22, Cert.Reference7Ideal.Read.val_main_v21, Cert.Reference7Ideal.Read.val_main_v2, Cert.Reference7Ideal.Read.val_main_v1, Cert.Reference7Ideal.Read.val_main_v0, dn]
  rw [← Fin.sum_mul_add_fin 8 704]
  refine congrArg (b i + ·) (Finset.sum_congr rfl fun p _ => Finset.sum_congr rfl fun k _ => ?_)
  have hd : (p.val * 704 + k.val) / 704 = p.val := by omega
  have hm : (p.val * 704 + k.val) % 704 = k.val := by omega
  simp only [hd, hm]

/-- The reference's cotangents of the weights, read at an index. -/
theorem ref_dgain (d : Vec Ideal S8x4096x704 .bf16) (w : Vec Ideal S8x704x2048 .bf16) (b : Vec Ideal S4096x2048 .f32) (x : Vec Ideal S4096x2048 .f32) :
    Cert.Reference7Ideal.Read.val_main_v48 (F := Ideal) d w b x = dgain d w b x := by
  funext i
  pointwise [Cert.Reference7Ideal.Read.val_main_v48, Cert.Reference7Ideal.Read.val_main_v47, Cert.Reference7Ideal.Read.val_main_v46, Cert.Reference7Ideal.Read.val_main_v45, Cert.Reference7Ideal.Read.val_main_v44, Cert.Reference7Ideal.Read.val_main_v43, Cert.Reference7Ideal.Read.val_main_v42, Cert.Reference7Ideal.Read.val_main_v41, Cert.Reference7Ideal.Read.val_main_v40, Cert.Reference7Ideal.Read.val_main_cst_7, Cert.Reference7Ideal.Read.val_main_v39, Cert.Reference7Ideal.Read.val_main_v38, Cert.Reference7Ideal.Read.val_main_cst_6, Cert.Reference7Ideal.Read.val_main_v37, Cert.Reference7Ideal.Read.val_main_v36, Cert.Reference7Ideal.Read.val_main_v35, Cert.Reference7Ideal.Read.val_main_v34, Cert.Reference7Ideal.Read.val_main_v33, Cert.Reference7Ideal.Read.val_main_cst_5, Cert.Reference7Ideal.Read.val_main_v32, Cert.Reference7Ideal.Read.val_main_v31, Cert.Reference7Ideal.Read.val_main_cst_4, Cert.Reference7Ideal.Read.val_main_v30, Cert.Reference7Ideal.Read.val_main_v29, Cert.Reference7Ideal.Read.val_main_v28, Cert.Reference7Ideal.Read.val_main_v27, Cert.Reference7Ideal.Read.val_main_cst_3, Cert.Reference7Ideal.Read.val_main_v26, Cert.Reference7Ideal.Read.val_main_v20, Cert.Reference7Ideal.Read.val_main_v19, Cert.Reference7Ideal.Read.val_main_v18, Cert.Reference7Ideal.Read.val_main_v17, Cert.Reference7Ideal.Read.val_main_v16, Cert.Reference7Ideal.Read.val_main_v15, Cert.Reference7Ideal.Read.val_main_v14, Cert.Reference7Ideal.Read.val_main_v13, Cert.Reference7Ideal.Read.val_main_cst_2, Cert.Reference7Ideal.Read.val_main_v12, Cert.Reference7Ideal.Read.val_main_v11, Cert.Reference7Ideal.Read.val_main_v10, Cert.Reference7Ideal.Read.val_main_v9, Cert.Reference7Ideal.Read.val_main_cst_1, Cert.Reference7Ideal.Read.val_main_v8, Cert.Reference7Ideal.Read.val_main_v7, Cert.Reference7Ideal.Read.val_main_cst_0, Cert.Reference7Ideal.Read.val_main_v6, Cert.Reference7Ideal.Read.val_main_v5, Cert.Reference7Ideal.Read.val_main_cst, Cert.Reference7Ideal.Read.val_main_v4, Cert.Reference7Ideal.Read.val_main_v3, Cert.Reference7Ideal.Read.val_main_v2, Cert.Reference7Ideal.Read.val_main_v1, Cert.Reference7Ideal.Read.val_main_v0, ref_dn, dgain, rinv]
  rw [Fin.sum_univ_one]
  refine Finset.sum_congr rfl fun a _ => ?_
  ac_rfl

/-- The reference's cotangents of the rows, read at an index. -/
theorem ref_drows (d : Vec Ideal S8x4096x704 .bf16) (w : Vec Ideal S8x704x2048 .bf16) (b : Vec Ideal S4096x2048 .f32) (x e : Vec Ideal S4096x2048 .f32) (v : Vec Ideal S1x2048 .f32) :
    Cert.Reference7Ideal.Read.val_main_v46 (F := Ideal) d w b x e v = drows d w b x e v := by
  funext i
  pointwise [Cert.Reference7Ideal.Read.val_main_v48, Cert.Reference7Ideal.Read.val_main_v47, Cert.Reference7Ideal.Read.val_main_v46, Cert.Reference7Ideal.Read.val_main_v45, Cert.Reference7Ideal.Read.val_main_v44, Cert.Reference7Ideal.Read.val_main_v43, Cert.Reference7Ideal.Read.val_main_v42, Cert.Reference7Ideal.Read.val_main_v41, Cert.Reference7Ideal.Read.val_main_v40, Cert.Reference7Ideal.Read.val_main_cst_7, Cert.Reference7Ideal.Read.val_main_v39, Cert.Reference7Ideal.Read.val_main_v38, Cert.Reference7Ideal.Read.val_main_cst_6, Cert.Reference7Ideal.Read.val_main_v37, Cert.Reference7Ideal.Read.val_main_v36, Cert.Reference7Ideal.Read.val_main_v35, Cert.Reference7Ideal.Read.val_main_v34, Cert.Reference7Ideal.Read.val_main_v33, Cert.Reference7Ideal.Read.val_main_cst_5, Cert.Reference7Ideal.Read.val_main_v32, Cert.Reference7Ideal.Read.val_main_v31, Cert.Reference7Ideal.Read.val_main_cst_4, Cert.Reference7Ideal.Read.val_main_v30, Cert.Reference7Ideal.Read.val_main_v29, Cert.Reference7Ideal.Read.val_main_v28, Cert.Reference7Ideal.Read.val_main_v27, Cert.Reference7Ideal.Read.val_main_cst_3, Cert.Reference7Ideal.Read.val_main_v26, Cert.Reference7Ideal.Read.val_main_v20, Cert.Reference7Ideal.Read.val_main_v19, Cert.Reference7Ideal.Read.val_main_v18, Cert.Reference7Ideal.Read.val_main_v17, Cert.Reference7Ideal.Read.val_main_v16, Cert.Reference7Ideal.Read.val_main_v15, Cert.Reference7Ideal.Read.val_main_v14, Cert.Reference7Ideal.Read.val_main_v13, Cert.Reference7Ideal.Read.val_main_cst_2, Cert.Reference7Ideal.Read.val_main_v12, Cert.Reference7Ideal.Read.val_main_v11, Cert.Reference7Ideal.Read.val_main_v10, Cert.Reference7Ideal.Read.val_main_v9, Cert.Reference7Ideal.Read.val_main_cst_1, Cert.Reference7Ideal.Read.val_main_v8, Cert.Reference7Ideal.Read.val_main_v7, Cert.Reference7Ideal.Read.val_main_cst_0, Cert.Reference7Ideal.Read.val_main_v6, Cert.Reference7Ideal.Read.val_main_v5, Cert.Reference7Ideal.Read.val_main_cst, Cert.Reference7Ideal.Read.val_main_v4, Cert.Reference7Ideal.Read.val_main_v3, Cert.Reference7Ideal.Read.val_main_v2, Cert.Reference7Ideal.Read.val_main_v1, Cert.Reference7Ideal.Read.val_main_v0, ref_dn, drows, rinv]
  rw [Finset.sum_congr rfl fun k _ => mul_comm (dn d w b (ix2 (i 0) k) * v (ix2 0 k)) (x (ix2 (i 0) k))]
  exact Cert.NormBack.back_eq (fun k => x (ix2 (i 0) k)) (e i) (x i) _ _

/-- The reference's cotangents of the rows in the narrow format. -/
theorem ref_dlow (d : Vec Ideal S8x4096x704 .bf16) (w : Vec Ideal S8x704x2048 .bf16) (b : Vec Ideal S4096x2048 .f32) (x e : Vec Ideal S4096x2048 .f32) (v : Vec Ideal S1x2048 .f32) :
    Cert.Reference7Ideal.Read.val_main_v47 (F := Ideal) d w b x e v = dlow d w b x e v := by
  funext i
  exact congrFun (ref_drows d w b x e v) i

/-- The kernel's run: each result is the array named for it, its arguments end as they were. -/
theorem run : θ_run defs (onTc (τ := τ) (main (F := Ideal))) ⟨m, fun _ => 0, ρ⟩ fun r => ∀ c : Dev nD,
      r.2.mem ((c : Thread nD τ).loc main_v1_0) = drows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v1_1) = dlow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v1_2) = dgain (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final_x m c), (h c).2.1.trans (final_l m c), (h c).2.2.1.trans (final_w m c), (h c).2.2.2⟩) (Value.run_blocks m ρ)

/-- Over the reals the call and the reference give the same results from the same arguments. -/
theorem agrees : Cert.algebraic_Kernel7Ideal_Reference7Ideal := by
  intro m g m' g' _ hargs
  refine ⟨fun c => drows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)), fun c => dlow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)), fun c => dgain (m ((c : Thread nD τ).loc main_arg0)) (m ((c : Thread nD τ).loc main_arg1)) (m ((c : Thread nD τ).loc main_arg2)) (m ((c : Thread nD τ).loc main_arg3)), run m g, ?_⟩
  refine (θ_run Cert.Reference7Ideal.defs _ _).mono (fun r h c => ⟨(h c).1.trans ?_, (h c).2.1.trans ?_, (h c).2.2.1.trans ?_, (h c).2.2.2⟩) (Cert.Reference7Ideal.Value.run (F := Ideal) m' g')
  · rw [Cert.Reference7Ideal.Read.val_main_v46_eq, (hargs c).1, (hargs c).2.1, (hargs c).2.2.1, (hargs c).2.2.2.1, (hargs c).2.2.2.2.1, (hargs c).2.2.2.2.2]
    exact ref_drows _ _ _ _ _ _
  · rw [Cert.Reference7Ideal.Read.val_main_v47_eq, (hargs c).1, (hargs c).2.1, (hargs c).2.2.1, (hargs c).2.2.2.1, (hargs c).2.2.2.2.1, (hargs c).2.2.2.2.2]
    exact ref_dlow _ _ _ _ _ _
  · rw [(hargs c).1, (hargs c).2.1, (hargs c).2.2.1, (hargs c).2.2.2.1]
    exact ref_dgain _ _ _ _

/-- The reference's run on its own: its arguments end as they were. -/
theorem ref_frame : Cert.quiescent_Reference7Ideal := fun m g _ =>
  (θ_run Cert.Reference7Ideal.defs _ _).mono (fun r h => ⟨fun c => (h c).2.2.2, sem_eq_zero_of_no_sems (by decide) r.2⟩)
    (Cert.Reference7Ideal.Value.run (F := Ideal) m g)

end Cert.Kernel7Ideal.BwdIn

end
-- ==== Proof.Dmix.lean ====
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Pipeline.ValueKit.Point
public import Idealize.ShloMosaic.Lib.Pointwise

/-! The gradient through the output projection: the kernel and the reference agree over the reals. -/

@[expose] public section

noncomputable section

namespace Cert.Kernel8Ideal.Mix

open Idealize.ShloMosaic Idealize.ShloMosaic.TcCoe Idealize.SL.Sem
open Cert.Kernel8Ideal Cert.Kernel8Ideal.Gen

variable (m : (ℓ : Loc nD τ sig) → Buf (Elt Ideal) ℓ) (ρ : Dev nD → PrngReg)

/-- The gradient at the mixed heads: the rows of one array against the rows of the weight. -/
def mixed (a : Vec Ideal S4096x2048 .bf16) (b : Vec Ideal S2048x2048 .bf16) : Vec Ideal S4096x2048 .f32 :=
  fun i => ∑ k : Fin 2048, a (ix2 (i 0) k) * b (ix2 (i 1) k)

theorem index_a : ∀ t : Fin cfg0.N, win0_0.index t = ![(grid0.coords t 0).val, 0] := (by decide +kernel : ∀ t : Fin grid0.N, _)
theorem index_b : ∀ t : Fin cfg0.N, win0_1.index t = ![0, 0] := (by decide +kernel : ∀ t : Fin grid0.N, _)
theorem index_o : ∀ t : Fin cfg0.N, win0_2.index t = ![(grid0.coords t 0).val, 0] := (by decide +kernel : ∀ t : Fin grid0.N, _)

/-- After the run this result array is `mixed` of the argument arrays. -/
theorem final (c : Dev nD) : (dats m 0 c).arrAt 2 cfg0.N
    = mixed (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  pointwise [k0_pay1, mixed]
  blk_point [iblk, V, index_a, index_b, index_o]

/-- The reference's term, read at an index, is the same array. -/
theorem ref_mixed (a : Vec Ideal S4096x2048 .bf16) (b : Vec Ideal S2048x2048 .bf16) :
    Cert.Reference8Ideal.Read.val_main_v4 (F := Ideal) a b = mixed a b := by
  funext i
  pointwise [Cert.Reference8Ideal.Read.val_main_v4, Cert.Reference8Ideal.Read.val_main_v3, Cert.Reference8Ideal.Read.val_main_v2, Cert.Reference8Ideal.Read.val_main_v1, Cert.Reference8Ideal.Read.val_main_v0, Cert.Reference8Ideal.Read.val_main_cst, mixed]

/-- The kernel's run: each result is the array named for it, its arguments end as they were. -/
theorem run : θ_run defs (onTc (τ := τ) (main (F := Ideal))) ⟨m, fun _ => 0, ρ⟩ fun r => ∀ c : Dev nD,
      r.2.mem ((c : Thread nD τ).loc main_v0) = mixed (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

/-- Over the reals the call and the reference give the same results from the same arguments. -/
theorem agrees : Cert.algebraic_Kernel8Ideal_Reference8Ideal := by
  intro m g m' g' _ hargs
  refine ⟨fun c => mixed (m ((c : Thread nD τ).loc main_arg0)) (m ((c : Thread nD τ).loc main_arg1)), run m g, ?_⟩
  refine (θ_run Cert.Reference8Ideal.defs _ _).mono (fun r h c => ⟨(h c).1.trans ?_, (h c).2⟩) (Cert.Reference8Ideal.Value.run (F := Ideal) m' g')
  rw [(hargs c).1, (hargs c).2]
  exact ref_mixed _ _

/-- The reference's run on its own: its arguments end as they were. -/
theorem ref_frame : Cert.quiescent_Reference8Ideal := fun m g _ =>
  (θ_run Cert.Reference8Ideal.defs _ _).mono (fun r h => ⟨fun c => (h c).2, sem_eq_zero_of_no_sems (by decide) r.2⟩)
    (Cert.Reference8Ideal.Value.run (F := Ideal) m g)

end Cert.Kernel8Ideal.Mix

end
-- ==== Proof.InBwd.lean ====
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.Pipeline.ValueKit.Point
public import Idealize.ShloMosaic.Lib.Pointwise
public import proofs.«01_k».proof.Proof.NormBack

/-! The product behind the heads' projections backwards, and the norm before it backwards: the kernel and the reference agree over the reals. -/

@[expose] public section

noncomputable section

namespace Cert.Kernel9Ideal.In

open Idealize.ShloMosaic Idealize.ShloMosaic.TcCoe Idealize.SL.Sem
open Cert.Kernel9Ideal Cert.Kernel9Ideal.Gen

variable (m : (ℓ : Loc nD τ sig) → Buf (Elt Ideal) ℓ) (ρ : Dev nD → PrngReg)

/-- The cotangents of the normalized rows: the heads' cotangents times the transposed weights, column block by column block. -/
def dn (d : Vec Ideal S4096x7168 .bf16) (w : Vec Ideal S8x2048x896 .bf16) (i : S4096x2048.Idx) : EReal :=
  ∑ p : Fin 8, ∑ k : Fin 896, d (ix2 (i 0) ⟨p.val * 896 + k.val, by omega⟩) * w (ix3 p (i 1) k)

/-- One over the root mean square of a row. -/
def rinv (x : Vec Ideal S4096x2048 .f32) (a : Fin 4096) : EReal :=
  Ideal.rsqrt (Ideal.div (∑ k : Fin 2048, x (ix2 a k) * x (ix2 a k)) (Ideal.ofBits .f32 0x45000000#32) + Ideal.ofBits .f32 0x358637BD#32)

/-- The norm's cotangents of its rows, added to those that came past it. -/
def drows (d : Vec Ideal S4096x7168 .bf16) (w : Vec Ideal S8x2048x896 .bf16) (x e : Vec Ideal S4096x2048 .f32) (v : Vec Ideal S1x2048 .f32) : Vec Ideal S4096x2048 .f32 :=
  fun i => e i + (rinv x (i 0) * (dn d w i * v (ix2 0 (i 1)))
    - x i * (rinv x (i 0) * rinv x (i 0) * rinv x (i 0)) * Ideal.div (∑ k : Fin 2048, dn d w (ix2 (i 0) k) * v (ix2 0 k) * x (ix2 (i 0) k)) (Ideal.ofBits .f32 0x45000000#32))

/-- The norm's cotangents of its weights, a sum over the rows. -/
def dgain (d : Vec Ideal S4096x7168 .bf16) (w : Vec Ideal S8x2048x896 .bf16) (x : Vec Ideal S4096x2048 .f32) : Vec Ideal S1x2048 .f32 :=
  fun i => ∑ a : Fin 4096, dn d w (ix2 a (i 1)) * x (ix2 a (i 1)) * rinv x a

/-- What one block of rows adds to the cotangents of the weights. -/
def dpart (d : Vec Ideal S4096x7168 .bf16) (w : Vec Ideal S8x2048x896 .bf16) (x : Vec Ideal S4096x2048 .f32) (t : Fin 16) (i : S1x2048.Idx) : EReal :=
  ∑ a : Fin 256, dn d w (ix2 ⟨t.val * 256 + a.val, by omega⟩ (i 1)) * x (ix2 ⟨t.val * 256 + a.val, by omega⟩ (i 1)) * rinv x ⟨t.val * 256 + a.val, by omega⟩

theorem index_0 : ∀ t : Fin cfg0.N, win0_0.index t = ![(grid0.coords t 0).val, 0] := (by decide +kernel : ∀ t : Fin grid0.N, _)
theorem index_2 : ∀ t : Fin cfg0.N, win0_2.index t = ![(grid0.coords t 0).val, 0] := (by decide +kernel : ∀ t : Fin grid0.N, _)
theorem index_3 : ∀ t : Fin cfg0.N, win0_3.index t = ![(grid0.coords t 0).val, 0] := (by decide +kernel : ∀ t : Fin grid0.N, _)
theorem index_5 : ∀ t : Fin cfg0.N, win0_5.index t = ![(grid0.coords t 0).val, 0] := (by decide +kernel : ∀ t : Fin grid0.N, _)
theorem index_1 : ∀ t : Fin cfg0.N, win0_1.index t = ![0, 0, 0] := (by decide +kernel : ∀ t : Fin grid0.N, _)
theorem index_4 : ∀ t : Fin cfg0.N, win0_4.index t = ![0, 0] := (by decide +kernel : ∀ t : Fin grid0.N, _)
theorem index_6 : ∀ t : Fin cfg0.N, win0_6.index t = ![0, 0] := (by decide +kernel : ∀ t : Fin grid0.N, _)
theorem coord_0 : ∀ t : Fin cfg0.N, (grid0.coords t 0).val = t.val := (by decide +kernel : ∀ t : Fin grid0.N, _)

set_option maxHeartbeats 4000000 in
/-- After the run the first result array is `drows` of the argument arrays. -/
theorem final_x (c : Dev nD) : (dats m 0 c).arrAt 5 cfg0.N
    = drows (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  by_cases h0 : t.val % 16 = 0
  · rw [outsAt0_A m c t h0]
    frame_out
    pointwise [k0_pay1, k0_pay11, k0_pay10, k0_pay9, k0_pay8, k0_pay7, k0_pay6, k0_pay5, k0_pay4, drows, dn, rinv, Fin.sum_univ_eight]
    blk_point [iblk, V, index_0, index_1, index_2, index_3, index_4, index_5, index_6]
  · rw [outsAt0_B m c t h0]
    frame_out
    pointwise [k0_pay1, k0_pay11, k0_pay10, k0_pay9, k0_pay8, k0_pay7, k0_pay6, k0_pay5, k0_pay4, drows, dn, rinv, Fin.sum_univ_eight]
    blk_point [iblk, V, index_0, index_1, index_2, index_3, index_4, index_5, index_6]

set_option maxHeartbeats 4000000 in
/-- After the run the second result array is `dgain` of the argument arrays. -/
theorem final_w (c : Dev nD) : (dats m 0 c).arrAt 6 cfg0.N
    = dgain (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  have ht : t.val % 16 = 15 := (flush0_6 t).mp hf
  have ht' : t.val + 1 = cfg0.N := by
    have := t.isLt
    have hN : cfg0.N = 16 := N_0
    have h16 : t.val < 16 := lt_of_lt_of_eq t.isLt hN
    rw [hN]
    omega
  rw [after0_6, Pipeline.eq_sum_fin_of_reset_step_apply_last (fun n h => (outsAt0 m c n h).2) 16 (fun _ => (0 : EReal))
    (fun t j => dpart (m ((c : Thread nD τ).loc main_arg0)) (m ((c : Thread nD τ).loc main_arg1)) (m ((c : Thread nD τ).loc main_arg2)) ⟨t.val, Nat.lt_of_lt_of_eq t.isLt N_0⟩ j)
    (fun t h j => by
      rw [outsAt0_A m c t h]
      frame_out
      pointwise [k0_pay2, k0_pay3, k0_pay7, k0_pay6, k0_pay5, k0_pay4, dpart, dn, rinv, Fin.sum_univ_eight]
      blk_point [iblk, V, index_0, index_1, index_2, index_3, index_4, index_5, index_6, coord_0])
    (fun t h j => by
      rw [outsAt0_B m c t h]
      frame_out
      pointwise [k0_pay2, k0_pay3, k0_pay7, k0_pay6, k0_pay5, k0_pay4, dpart, dn, rinv, Fin.sum_univ_eight]
      blk_point [iblk, V, index_0, index_1, index_2, index_3, index_4, index_5, index_6, coord_0])
    (le_of_eq N_0) t ht' y]
  rw [zero_add]
  have hy : (((View.whole main_v0_1).slice (win0_6.rect t)).emb y) 1 = y 1 := by
    apply Fin.ext
    blk_point [index_6]
  pointwise [dgain]
  rw [hy]
  exact Fin.sum_mul_add_fin 16 256 (fun a : Fin 4096 => dn (m ((c : Thread nD τ).loc main_arg0)) (m ((c : Thread nD τ).loc main_arg1)) (ix2 a (y 1)) * (m ((c : Thread nD τ).loc main_arg2)) (ix2 a (y 1)) * rinv (m ((c : Thread nD τ).loc main_arg2)) a)

/-- The reference's cotangents of the normalized rows, read at an index. -/
theorem ref_dn (d : Vec Ideal S4096x7168 .bf16) (w : Vec Ideal S8x2048x896 .bf16) (i : S4096x2048.Idx) :
    Cert.Reference9Ideal.Read.val_main_v22 (F := Ideal) d w i = dn d w i := by
  pointwise [Cert.Reference9Ideal.Read.val_main_v22, Cert.Reference9Ideal.Read.val_main_v2, Cert.Reference9Ideal.Read.val_main_v1, Cert.Reference9Ideal.Read.val_main_v0, Cert.Reference9Ideal.Read.val_main_v21, Cert.Reference9Ideal.Read.val_main_v20, Cert.Reference9Ideal.Read.val_main_v19, dn]
  rw [← Fin.sum_mul_add_fin 8 896]
  refine Finset.sum_congr rfl fun p _ => Finset.sum_congr rfl fun k _ => ?_
  have hd : (p.val * 896 + k.val) / 896 = p.val := by omega
  have hm : (p.val * 896 + k.val) % 896 = k.val := by omega
  simp only [hd, hm]

/-- The reference's cotangents of the weights, read at an index. -/
theorem ref_dgain (d : Vec Ideal S4096x7168 .bf16) (w : Vec Ideal S8x2048x896 .bf16) (x : Vec Ideal S4096x2048 .f32) :
    Cert.Reference9Ideal.Read.val_main_v44 (F := Ideal) d w x = dgain d w x := by
  funext i
  pointwise [Cert.Reference9Ideal.Read.val_main_v44, Cert.Reference9Ideal.Read.val_main_v43, Cert.Reference9Ideal.Read.val_main_v42, Cert.Reference9Ideal.Read.val_main_v41, Cert.Reference9Ideal.Read.val_main_v40, Cert.Reference9Ideal.Read.val_main_v39, Cert.Reference9Ideal.Read.val_main_v38, Cert.Reference9Ideal.Read.val_main_v37, Cert.Reference9Ideal.Read.val_main_cst_7, Cert.Reference9Ideal.Read.val_main_v36, Cert.Reference9Ideal.Read.val_main_v35, Cert.Reference9Ideal.Read.val_main_cst_6, Cert.Reference9Ideal.Read.val_main_v34, Cert.Reference9Ideal.Read.val_main_v33, Cert.Reference9Ideal.Read.val_main_v32, Cert.Reference9Ideal.Read.val_main_v31, Cert.Reference9Ideal.Read.val_main_v30, Cert.Reference9Ideal.Read.val_main_cst_5, Cert.Reference9Ideal.Read.val_main_v29, Cert.Reference9Ideal.Read.val_main_v28, Cert.Reference9Ideal.Read.val_main_cst_4, Cert.Reference9Ideal.Read.val_main_v27, Cert.Reference9Ideal.Read.val_main_v26, Cert.Reference9Ideal.Read.val_main_v25, Cert.Reference9Ideal.Read.val_main_v24, Cert.Reference9Ideal.Read.val_main_cst_3, Cert.Reference9Ideal.Read.val_main_v23, Cert.Reference9Ideal.Read.val_main_v21, Cert.Reference9Ideal.Read.val_main_v20, Cert.Reference9Ideal.Read.val_main_v19, Cert.Reference9Ideal.Read.val_main_v18, Cert.Reference9Ideal.Read.val_main_v17, Cert.Reference9Ideal.Read.val_main_v16, Cert.Reference9Ideal.Read.val_main_v15, Cert.Reference9Ideal.Read.val_main_v14, Cert.Reference9Ideal.Read.val_main_v13, Cert.Reference9Ideal.Read.val_main_cst_2, Cert.Reference9Ideal.Read.val_main_v12, Cert.Reference9Ideal.Read.val_main_v11, Cert.Reference9Ideal.Read.val_main_v10, Cert.Reference9Ideal.Read.val_main_v9, Cert.Reference9Ideal.Read.val_main_cst_1, Cert.Reference9Ideal.Read.val_main_v8, Cert.Reference9Ideal.Read.val_main_v7, Cert.Reference9Ideal.Read.val_main_cst_0, Cert.Reference9Ideal.Read.val_main_v6, Cert.Reference9Ideal.Read.val_main_v5, Cert.Reference9Ideal.Read.val_main_cst, Cert.Reference9Ideal.Read.val_main_v4, Cert.Reference9Ideal.Read.val_main_v3, Cert.Reference9Ideal.Read.val_main_v2, Cert.Reference9Ideal.Read.val_main_v1, Cert.Reference9Ideal.Read.val_main_v0, ref_dn, dgain, rinv]
  rw [Fin.sum_univ_one]
  refine Finset.sum_congr rfl fun a _ => ?_
  ac_rfl

/-- The reference's cotangents of the rows, read at an index. -/
theorem ref_drows (d : Vec Ideal S4096x7168 .bf16) (w : Vec Ideal S8x2048x896 .bf16) (x e : Vec Ideal S4096x2048 .f32) (v : Vec Ideal S1x2048 .f32) :
    Cert.Reference9Ideal.Read.val_main_v43 (F := Ideal) d w x e v = drows d w x e v := by
  funext i
  pointwise [Cert.Reference9Ideal.Read.val_main_v44, Cert.Reference9Ideal.Read.val_main_v43, Cert.Reference9Ideal.Read.val_main_v42, Cert.Reference9Ideal.Read.val_main_v41, Cert.Reference9Ideal.Read.val_main_v40, Cert.Reference9Ideal.Read.val_main_v39, Cert.Reference9Ideal.Read.val_main_v38, Cert.Reference9Ideal.Read.val_main_v37, Cert.Reference9Ideal.Read.val_main_cst_7, Cert.Reference9Ideal.Read.val_main_v36, Cert.Reference9Ideal.Read.val_main_v35, Cert.Reference9Ideal.Read.val_main_cst_6, Cert.Reference9Ideal.Read.val_main_v34, Cert.Reference9Ideal.Read.val_main_v33, Cert.Reference9Ideal.Read.val_main_v32, Cert.Reference9Ideal.Read.val_main_v31, Cert.Reference9Ideal.Read.val_main_v30, Cert.Reference9Ideal.Read.val_main_cst_5, Cert.Reference9Ideal.Read.val_main_v29, Cert.Reference9Ideal.Read.val_main_v28, Cert.Reference9Ideal.Read.val_main_cst_4, Cert.Reference9Ideal.Read.val_main_v27, Cert.Reference9Ideal.Read.val_main_v26, Cert.Reference9Ideal.Read.val_main_v25, Cert.Reference9Ideal.Read.val_main_v24, Cert.Reference9Ideal.Read.val_main_cst_3, Cert.Reference9Ideal.Read.val_main_v23, Cert.Reference9Ideal.Read.val_main_v21, Cert.Reference9Ideal.Read.val_main_v20, Cert.Reference9Ideal.Read.val_main_v19, Cert.Reference9Ideal.Read.val_main_v18, Cert.Reference9Ideal.Read.val_main_v17, Cert.Reference9Ideal.Read.val_main_v16, Cert.Reference9Ideal.Read.val_main_v15, Cert.Reference9Ideal.Read.val_main_v14, Cert.Reference9Ideal.Read.val_main_v13, Cert.Reference9Ideal.Read.val_main_cst_2, Cert.Reference9Ideal.Read.val_main_v12, Cert.Reference9Ideal.Read.val_main_v11, Cert.Reference9Ideal.Read.val_main_v10, Cert.Reference9Ideal.Read.val_main_v9, Cert.Reference9Ideal.Read.val_main_cst_1, Cert.Reference9Ideal.Read.val_main_v8, Cert.Reference9Ideal.Read.val_main_v7, Cert.Reference9Ideal.Read.val_main_cst_0, Cert.Reference9Ideal.Read.val_main_v6, Cert.Reference9Ideal.Read.val_main_v5, Cert.Reference9Ideal.Read.val_main_cst, Cert.Reference9Ideal.Read.val_main_v4, Cert.Reference9Ideal.Read.val_main_v3, Cert.Reference9Ideal.Read.val_main_v2, Cert.Reference9Ideal.Read.val_main_v1, Cert.Reference9Ideal.Read.val_main_v0, ref_dn, drows, rinv]
  rw [Finset.sum_congr rfl fun k _ => mul_comm (dn d w (ix2 (i 0) k) * v (ix2 0 k)) (x (ix2 (i 0) k))]
  exact Cert.NormBack.back_eq (fun k => x (ix2 (i 0) k)) (e i) (x i) _ _

/-- The kernel's run: each result is the array named for it, its arguments end as they were. -/
theorem run : θ_run defs (onTc (τ := τ) (main (F := Ideal))) ⟨m, fun _ => 0, ρ⟩ fun r => ∀ c : Dev nD,
      r.2.mem ((c : Thread nD τ).loc main_v0_0) = drows (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_1) = dgain (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_x m c), (h c).2.1.trans (final_w m c), (h c).2.2⟩) (Value.run_blocks m ρ)

/-- Over the reals the call and the reference give the same results from the same arguments. -/
theorem agrees : Cert.algebraic_Kernel9Ideal_Reference9Ideal := by
  intro m g m' g' _ hargs
  refine ⟨fun c => drows (m ((c : Thread nD τ).loc main_arg0)) (m ((c : Thread nD τ).loc main_arg1)) (m ((c : Thread nD τ).loc main_arg2)) (m ((c : Thread nD τ).loc main_arg3)) (m ((c : Thread nD τ).loc main_arg4)), fun c => dgain (m ((c : Thread nD τ).loc main_arg0)) (m ((c : Thread nD τ).loc main_arg1)) (m ((c : Thread nD τ).loc main_arg2)), run m g, ?_⟩
  refine (θ_run Cert.Reference9Ideal.defs _ _).mono (fun r h c => ⟨(h c).1.trans ?_, (h c).2.1.trans ?_, (h c).2.2⟩) (Cert.Reference9Ideal.Value.run (F := Ideal) m' g')
  · rw [Cert.Reference9Ideal.Read.val_main_v43_eq, (hargs c).1, (hargs c).2.1, (hargs c).2.2.1, (hargs c).2.2.2.1, (hargs c).2.2.2.2]
    exact ref_drows _ _ _ _ _
  · rw [(hargs c).1, (hargs c).2.1, (hargs c).2.2.1]
    exact ref_dgain _ _ _

/-- The reference's run on its own: its arguments end as they were. -/
theorem ref_frame : Cert.quiescent_Reference9Ideal := fun m g _ =>
  (θ_run Cert.Reference9Ideal.defs _ _).mono (fun r h => ⟨fun c => (h c).2.2, sem_eq_zero_of_no_sems (by decide) r.2⟩)
    (Cert.Reference9Ideal.Value.run (F := Ideal) m g)

end Cert.Kernel9Ideal.In

end
-- ==== Proof.FfnUp.lean ====
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit
public import Idealize.ShloMosaic.Lib.Pipeline.ValueKit.Point
public import Idealize.ShloMosaic.Lib.Pointwise

/-! The two products of the feed-forward part and their gated activation: the kernel and the reference agree over the reals. -/

@[expose] public section

noncomputable section

namespace Cert.Kernel10Ideal.Up

open Idealize.ShloMosaic Idealize.ShloMosaic.TcCoe Idealize.SL.Sem
open Cert.Kernel10Ideal Cert.Kernel10Ideal.Gen

variable (m : (ℓ : Loc nD τ sig) → Buf (Elt Ideal) ℓ) (ρ : Dev nD → PrngReg)

/-- Column block by column block, the product of the inputs with one of the two weights. -/
def prod (x : Vec Ideal S4096x2048 .bf16) (w : Vec Ideal S8x704x2048 .bf16) : Vec Ideal S8x4096x704 .bf16 :=
  fun i => ∑ k : Fin 2048, x (ix2 (i 1) k) * w (ix3 (i 0) (i 2) k)

/-- The gated activation of two values: the first times its logistic, times the second. -/
def gated (g u : EReal) : EReal := g * Ideal.div 1 (1 + Ideal.exp (-g)) * u

/-- The activations, column block by column block. -/
def acts (x : Vec Ideal S4096x2048 .bf16) (w v : Vec Ideal S8x704x2048 .bf16) : Vec Ideal S8x4096x704 .bf16 :=
  fun i => gated (prod x w i) (prod x v i)

theorem index_x : ∀ t : Fin cfg0.N, win0_0.index t = ![(grid0.coords t 1).val, 0] := (by decide +kernel : ∀ t : Fin grid0.N, _)
theorem index_w : ∀ t : Fin cfg0.N, win0_1.index t = ![(grid0.coords t 0).val, 0, 0] := (by decide +kernel : ∀ t : Fin grid0.N, _)
theorem index_v : ∀ t : Fin cfg0.N, win0_2.index t = ![(grid0.coords t 0).val, 0, 0] := (by decide +kernel : ∀ t : Fin grid0.N, _)
theorem index_3 : ∀ t : Fin cfg0.N, win0_3.index t = ![(grid0.coords t 0).val, (grid0.coords t 1).val, 0] := (by decide +kernel : ∀ t : Fin grid0.N, _)
theorem index_4 : ∀ t : Fin cfg0.N, win0_4.index t = ![(grid0.coords t 0).val, (grid0.coords t 1).val, 0] := (by decide +kernel : ∀ t : Fin grid0.N, _)
theorem index_5 : ∀ t : Fin cfg0.N, win0_5.index t = ![(grid0.coords t 0).val, (grid0.coords t 1).val, 0] := (by decide +kernel : ∀ t : Fin grid0.N, _)

/-- After the run this result array is `prod` of the argument arrays. -/
theorem final_g (c : Dev nD) : (dats m 0 c).arrAt 3 cfg0.N
    = prod (m ((c : Thread nD τ).loc main_arg0)) (m ((c : Thread nD τ).loc main_arg1)) := by
  refine (dats m 0 c).arrAt_eq_of_covers 3 _ (by decide +kernel) fun t hf y => ?_
  blk_simp
  rw [after0_3]
  unfold out0_3
  frame_out
  pointwise [k0_pay3, k0_pay1, prod]
  blk_point [iblk, V, index_x, index_w, index_v, index_3, index_4, index_5]

/-- After the run this result array is `prod` of the argument arrays. -/
theorem final_u (c : Dev nD) : (dats m 0 c).arrAt 4 cfg0.N
    = prod (m ((c : Thread nD τ).loc main_arg0)) (m ((c : Thread nD τ).loc main_arg2)) := by
  refine (dats m 0 c).arrAt_eq_of_covers 4 _ (by decide +kernel) fun t hf y => ?_
  blk_simp
  rw [after0_4]
  unfold out0_4
  frame_out
  pointwise [k0_pay4, k0_pay2, prod]
  blk_point [iblk, V, index_x, index_w, index_v, index_3, index_4, index_5]

/-- After the run this result array is `acts` of the argument arrays. -/
theorem final_a (c : Dev nD) : (dats m 0 c).arrAt 5 cfg0.N
    = acts (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  unfold out0_5
  frame_out
  pointwise [k0_pay5, k0_pay1, k0_pay2, acts, gated, prod, zero_sub]
  blk_point [iblk, V, index_x, index_w, index_v, index_3, index_4, index_5]

/-- The reference's products, read at an index. -/
theorem ref_prod (x : Vec Ideal S4096x2048 .bf16) (w : Vec Ideal S8x704x2048 .bf16) :
    Cert.Reference10Ideal.Read.val_main_v11 (F := Ideal) x w = prod x w := by
  funext i
  pointwise [Cert.Reference10Ideal.Read.val_main_v19, Cert.Reference10Ideal.Read.val_main_v18, Cert.Reference10Ideal.Read.val_main_v17, Cert.Reference10Ideal.Read.val_main_v16, Cert.Reference10Ideal.Read.val_main_v15, Cert.Reference10Ideal.Read.val_main_call0_v5, Cert.Reference10Ideal.Read.val_main_call0_v4, Cert.Reference10Ideal.Read.val_main_call0_cst_0, Cert.Reference10Ideal.Read.val_main_call0_v3, Cert.Reference10Ideal.Read.val_main_call0_v2, Cert.Reference10Ideal.Read.val_main_call0_cst, Cert.Reference10Ideal.Read.val_main_call0_v1, Cert.Reference10Ideal.Read.val_main_call0_v0, Cert.Reference10Ideal.Read.val_main_v14, Cert.Reference10Ideal.Read.val_main_v13, Cert.Reference10Ideal.Read.val_main_v12, Cert.Reference10Ideal.Read.val_main_v11, Cert.Reference10Ideal.Read.val_main_v10, Cert.Reference10Ideal.Read.val_main_v9, Cert.Reference10Ideal.Read.val_main_v8, Cert.Reference10Ideal.Read.val_main_v7, Cert.Reference10Ideal.Read.val_main_v6, Cert.Reference10Ideal.Read.val_main_v5, Cert.Reference10Ideal.Read.val_main_v4, Cert.Reference10Ideal.Read.val_main_v3, Cert.Reference10Ideal.Read.val_main_v2, Cert.Reference10Ideal.Read.val_main_v1, Cert.Reference10Ideal.Read.val_main_v0, prod]

/-- The reference's activations, read at an index. -/
theorem ref_acts (x : Vec Ideal S4096x2048 .bf16) (w v : Vec Ideal S8x704x2048 .bf16) :
    Cert.Reference10Ideal.Read.val_main_v19 (F := Ideal) x w v = acts x w v := by
  funext i
  pointwise [Cert.Reference10Ideal.Read.val_main_v19, Cert.Reference10Ideal.Read.val_main_v18, Cert.Reference10Ideal.Read.val_main_v17, Cert.Reference10Ideal.Read.val_main_v16, Cert.Reference10Ideal.Read.val_main_v15, Cert.Reference10Ideal.Read.val_main_call0_v5, Cert.Reference10Ideal.Read.val_main_call0_v4, Cert.Reference10Ideal.Read.val_main_call0_cst_0, Cert.Reference10Ideal.Read.val_main_call0_v3, Cert.Reference10Ideal.Read.val_main_call0_v2, Cert.Reference10Ideal.Read.val_main_call0_cst, Cert.Reference10Ideal.Read.val_main_call0_v1, Cert.Reference10Ideal.Read.val_main_call0_v0, Cert.Reference10Ideal.Read.val_main_v14, Cert.Reference10Ideal.Read.val_main_v13, Cert.Reference10Ideal.Read.val_main_v12, Cert.Reference10Ideal.Read.val_main_v11, Cert.Reference10Ideal.Read.val_main_v10, Cert.Reference10Ideal.Read.val_main_v9, Cert.Reference10Ideal.Read.val_main_v8, Cert.Reference10Ideal.Read.val_main_v7, Cert.Reference10Ideal.Read.val_main_v6, Cert.Reference10Ideal.Read.val_main_v5, Cert.Reference10Ideal.Read.val_main_v4, Cert.Reference10Ideal.Read.val_main_v3, Cert.Reference10Ideal.Read.val_main_v2, Cert.Reference10Ideal.Read.val_main_v1, Cert.Reference10Ideal.Read.val_main_v0, acts, gated, prod]

/-- The kernel's run: each result is the array named for it, its arguments end as they were. -/
theorem run : θ_run defs (onTc (τ := τ) (main (F := Ideal))) ⟨m, fun _ => 0, ρ⟩ fun r => ∀ c : Dev nD,
      r.2.mem ((c : Thread nD τ).loc main_v0_0) = prod (m ((c : Thread nD τ).loc main_arg0)) (m ((c : Thread nD τ).loc main_arg1))
      ∧ r.2.mem ((c : Thread nD τ).loc main_v0_1) = prod (m ((c : Thread nD τ).loc main_arg0)) (m ((c : Thread nD τ).loc main_arg2))
      ∧ r.2.mem ((c : Thread nD τ).loc main_v0_2) = acts (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_g m c), (h c).2.1.trans (final_u m c), (h c).2.2.1.trans (final_a m c), (h c).2.2.2⟩) (Value.run_blocks m ρ)

/-- Over the reals the call and the reference give the same results from the same arguments. -/
theorem agrees : Cert.algebraic_Kernel10Ideal_Reference10Ideal := by
  intro m g m' g' _ hargs
  refine ⟨fun c => prod (m ((c : Thread nD τ).loc main_arg0)) (m ((c : Thread nD τ).loc main_arg1)), fun c => prod (m ((c : Thread nD τ).loc main_arg0)) (m ((c : Thread nD τ).loc main_arg2)), fun c => acts (m ((c : Thread nD τ).loc main_arg0)) (m ((c : Thread nD τ).loc main_arg1)) (m ((c : Thread nD τ).loc main_arg2)), run m g, ?_⟩
  refine (θ_run Cert.Reference10Ideal.defs _ _).mono (fun r h c => ⟨(h c).1.trans ?_, (h c).2.1.trans ?_, (h c).2.2.1.trans ?_, (h c).2.2.2⟩) (Cert.Reference10Ideal.Value.run (F := Ideal) m' g')
  · rw [(hargs c).1, (hargs c).2.1]
    exact ref_prod _ _
  · rw [(hargs c).1, (hargs c).2.2]
    exact ref_prod _ _
  · rw [(hargs c).1, (hargs c).2.1, (hargs c).2.2]
    exact ref_acts _ _ _

/-- The reference's run on its own: its arguments end as they were. -/
theorem ref_frame : Cert.quiescent_Reference10Ideal := fun m g _ =>
  (θ_run Cert.Reference10Ideal.defs _ _).mono (fun r h => ⟨fun c => (h c).2.2.2, sem_eq_zero_of_no_sems (by decide) r.2⟩)
    (Cert.Reference10Ideal.Value.run (F := Ideal) m g)

end Cert.Kernel10Ideal.Up

end
-- ==== Proof.OutFwd.lean ====
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit
public import Idealize.ShloMosaic.Lib.Pipeline.ValueKit.Point
public import Idealize.ShloMosaic.Lib.Pointwise

/-! The output projection, the residual sum and the norm after it: the kernel and the reference agree over the reals. -/

@[expose] public section

noncomputable section

namespace Cert.Kernel11Ideal.Out

open Idealize.ShloMosaic Idealize.ShloMosaic.TcCoe Idealize.SL.Sem
open Cert.Kernel11Ideal Cert.Kernel11Ideal.Gen

variable (m : (ℓ : Loc nD τ sig) → Buf (Elt Ideal) ℓ) (ρ : Dev nD → PrngReg)

/-- The two halves of the heads side by side. -/
def mixed (a r : Vec Ideal S4096x1024 .f32) : Vec Ideal S4096x2048 .bf16 :=
  fun i => if h : (i 1).val < 1024 then a (ix2 (i 0) ⟨(i 1).val, h⟩) else r (ix2 (i 0) ⟨(i 1).val - 1024, by have h1 : (i 1).val < 2048 := (i 1).isLt; omega⟩)

/-- The hidden rows: the input plus the products of the two halves with the two halves of the weight. -/
def hid (x : Vec Ideal S4096x2048 .f32) (a r : Vec Ideal S4096x1024 .f32) (w : Vec Ideal S2048x2048 .bf16) : Vec Ideal S4096x2048 .f32 :=
  fun i => x i + (∑ k : Fin 1024, a (ix2 (i 0) k) * w (ix2 ⟨k.val, by omega⟩ (i 1))) + ∑ k : Fin 1024, r (ix2 (i 0) k) * w (ix2 ⟨1024 + k.val, by omega⟩ (i 1))

/-- Each row of an array divided by its root mean square, times a row of weights. -/
def normed (h : Vec Ideal S4096x2048 .f32) (v : Vec Ideal S1x2048 .f32) : Vec Ideal S4096x2048 .bf16 :=
  fun i => h i * Ideal.rsqrt (Ideal.div (∑ k : Fin 2048, h (ix2 (i 0) k) * h (ix2 (i 0) k)) (Ideal.ofBits .f32 0x45000000#32) + Ideal.ofBits .f32 0x358637BD#32) * v (ix2 0 (i 1))

/-- The normalized hidden rows. -/
def next (x : Vec Ideal S4096x2048 .f32) (a r : Vec Ideal S4096x1024 .f32) (w : Vec Ideal S2048x2048 .bf16) (v : Vec Ideal S1x2048 .f32) : Vec Ideal S4096x2048 .bf16 :=
  normed (hid x a r w) v

/-- A block stored as two halves side by side, the left one first, read at an index. -/
theorem sides (p q : Vec Ideal S512x1024 .bf16) (y : S512x2048.Idx) :
    View.canon (Val := Elt Ideal) [⟨r0_2, p⟩, ⟨r0_1, q⟩] y
      = if h : (y 1).val < 1024 then q (ix2 (y 0) ⟨(y 1).val, h⟩)
        else p (ix2 (y 0) ⟨(y 1).val - 1024, by have h1 : (y 1).val < 2048 := (y 1).isLt; omega⟩) := by
  have h1 : (y 1).val < 2048 := (y 1).isLt
  split_ifs with h
  · have he : r0_1.emb (ix2 (y 0) ⟨(y 1).val, h⟩) = y := by
      funext x; apply Fin.ext
      fin_cases x
      · show 0 + 1 * (y 0).val = (y 0).val; omega
      · show 0 + 1 * (y 1).val = (y 1).val; omega
    refine (View.canon_cons_of_not_mem _ _ ?_).trans ?_
    · intro hm
      obtain ⟨i, hi, he'⟩ := (LoadRect.mem_set _).mp hm (1 : Fin 2)
      have he'' : (y 1).val = 1024 + 1 * i := he'
      omega
    · exact (congrArg _ he.symm).trans (View.canon_cons_emb r0_1 q [] (ix2 (y 0) ⟨(y 1).val, h⟩))
  · have he : r0_2.emb (ix2 (y 0) ⟨(y 1).val - 1024, by omega⟩) = y := by
      funext x; apply Fin.ext
      fin_cases x
      · show 0 + 1 * (y 0).val = (y 0).val; omega
      · show 1024 + 1 * ((y 1).val - 1024) = (y 1).val; omega
    exact (congrArg _ he.symm).trans (View.canon_cons_emb r0_2 p _ (ix2 (y 0) ⟨(y 1).val - 1024, by omega⟩))

theorem index_0 : ∀ t : Fin cfg0.N, win0_0.index t = ![(grid0.coords t 0).val, 0] := (by decide +kernel : ∀ t : Fin grid0.N, _)
theorem index_1 : ∀ t : Fin cfg0.N, win0_1.index t = ![(grid0.coords t 0).val, 0] := (by decide +kernel : ∀ t : Fin grid0.N, _)
theorem index_2 : ∀ t : Fin cfg0.N, win0_2.index t = ![(grid0.coords t 0).val, 0] := (by decide +kernel : ∀ t : Fin grid0.N, _)
theorem index_5 : ∀ t : Fin cfg0.N, win0_5.index t = ![(grid0.coords t 0).val, 0] := (by decide +kernel : ∀ t : Fin grid0.N, _)
theorem index_6 : ∀ t : Fin cfg0.N, win0_6.index t = ![(grid0.coords t 0).val, 0] := (by decide +kernel : ∀ t : Fin grid0.N, _)
theorem index_7 : ∀ t : Fin cfg0.N, win0_7.index t = ![(grid0.coords t 0).val, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)

/-- After the run this result array is `hid` of the argument arrays. -/
theorem final_h (c : Dev nD) : (dats m 0 c).arrAt 5 cfg0.N
    = hid (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  unfold out0_5
  frame_out
  pointwise [k0_pay3, k0_pay2, k0_pay1, hid]
  blk_point [iblk, V, index_0, index_1, index_2, index_3, index_4, index_5, index_6, index_7]

/-- After the run this result array is `mixed` of the argument arrays. -/
theorem final_m (c : Dev nD) : (dats m 0 c).arrAt 6 cfg0.N
    = mixed (m ((c : Thread nD τ).loc main_arg1)) (m ((c : Thread nD τ).loc main_arg2)) := by
  refine (dats m 0 c).arrAt_eq_of_covers 6 _ (by decide +kernel) fun t hf y => ?_
  blk_simp
  rw [after0_6]
  unfold out0_6
  rw [sides]
  have hv : (((View.whole main_v0_1).slice (win0_6.rect t)).emb y 1).val = (y 1).val := by
    blk_point [index_6]
  pointwise [k0_pay2, k0_pay1, mixed]
  blk_point [iblk, V, index_0, index_1, index_2, index_3, index_4, index_5, index_6, index_7]
  all_goals omega

/-- After the run this result array is `next` of the argument arrays. -/
theorem final_n (c : Dev nD) : (dats m 0 c).arrAt 7 cfg0.N
    = next (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  unfold out0_7
  frame_out
  pointwise [k0_pay4, k0_pay3, k0_pay2, k0_pay1, next, normed, hid]
  blk_point [iblk, V, index_0, index_1, index_2, index_3, index_4, index_5, index_6, index_7]

/-- The reference's two halves side by side, read at an index. -/
theorem ref_mixed (a r : Vec Ideal S4096x1024 .f32) : Cert.Reference11Ideal.Read.val_main_v4 (F := Ideal) a r = mixed a r := by
  funext i
  pointwise [Cert.Reference11Ideal.Read.val_main_v4, Cert.Reference11Ideal.Read.val_main_v0, mixed]

/-- The reference's hidden rows, read at an index. -/
theorem ref_hid (x : Vec Ideal S4096x2048 .f32) (a r : Vec Ideal S4096x1024 .f32) (w : Vec Ideal S2048x2048 .bf16) :
    Cert.Reference11Ideal.Read.val_main_v3 (F := Ideal) x a r w = hid x a r w := by
  funext i
  pointwise [Cert.Reference11Ideal.Read.val_main_v3, Cert.Reference11Ideal.Read.val_main_v2, Cert.Reference11Ideal.Read.val_main_v1, Cert.Reference11Ideal.Read.val_main_v0, hid]
  rw [add_assoc]

/-- The reference's normalized rows, read at an index. -/
theorem ref_next (x : Vec Ideal S4096x2048 .f32) (a r : Vec Ideal S4096x1024 .f32) (w : Vec Ideal S2048x2048 .bf16) (v : Vec Ideal S1x2048 .f32) :
    Cert.Reference11Ideal.Read.val_main_v19 (F := Ideal) x a r w v = next x a r w v := by
  funext i
  pointwise [Cert.Reference11Ideal.Read.val_main_v19, Cert.Reference11Ideal.Read.val_main_v18, Cert.Reference11Ideal.Read.val_main_v17, Cert.Reference11Ideal.Read.val_main_v16, Cert.Reference11Ideal.Read.val_main_v15, Cert.Reference11Ideal.Read.val_main_v14, Cert.Reference11Ideal.Read.val_main_v13, Cert.Reference11Ideal.Read.val_main_v12, Cert.Reference11Ideal.Read.val_main_v11, Cert.Reference11Ideal.Read.val_main_cst_1, Cert.Reference11Ideal.Read.val_main_v10, Cert.Reference11Ideal.Read.val_main_v9, Cert.Reference11Ideal.Read.val_main_cst_0, Cert.Reference11Ideal.Read.val_main_v8, Cert.Reference11Ideal.Read.val_main_v7, Cert.Reference11Ideal.Read.val_main_cst, Cert.Reference11Ideal.Read.val_main_v6, Cert.Reference11Ideal.Read.val_main_v5, next, normed, ref_hid]

/-- The kernel's run: each result is the array named for it, its arguments end as they were. -/
theorem run : θ_run defs (onTc (τ := τ) (main (F := Ideal))) ⟨m, fun _ => 0, ρ⟩ fun r => ∀ c : Dev nD,
      r.2.mem ((c : Thread nD τ).loc main_v0_0) = hid (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = mixed (m ((c : Thread nD τ).loc main_arg1)) (m ((c : Thread nD τ).loc main_arg2))
      ∧ r.2.mem ((c : Thread nD τ).loc main_v0_2) = next (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_h m c), (h c).2.1.trans (final_m m c), (h c).2.2.1.trans (final_n m c), (h c).2.2.2⟩) (Value.run_blocks m ρ)

/-- Over the reals the call and the reference give the same results from the same arguments. -/
theorem agrees : Cert.algebraic_Kernel11Ideal_Reference11Ideal := by
  intro m g m' g' _ hargs
  refine ⟨fun c => hid (m ((c : Thread nD τ).loc main_arg0)) (m ((c : Thread nD τ).loc main_arg1)) (m ((c : Thread nD τ).loc main_arg2)) (m ((c : Thread nD τ).loc main_arg3)), fun c => mixed (m ((c : Thread nD τ).loc main_arg1)) (m ((c : Thread nD τ).loc main_arg2)), fun c => next (m ((c : Thread nD τ).loc main_arg0)) (m ((c : Thread nD τ).loc main_arg1)) (m ((c : Thread nD τ).loc main_arg2)) (m ((c : Thread nD τ).loc main_arg3)) (m ((c : Thread nD τ).loc main_arg4)), run m g, ?_⟩
  refine (θ_run Cert.Reference11Ideal.defs _ _).mono (fun r h c => ⟨(h c).1.trans ?_, (h c).2.1.trans ?_, (h c).2.2.1.trans ?_, (h c).2.2.2⟩) (Cert.Reference11Ideal.Value.run (F := Ideal) m' g')
  · rw [(hargs c).1, (hargs c).2.1, (hargs c).2.2.1, (hargs c).2.2.2.1]
    exact ref_hid _ _ _ _
  · rw [(hargs c).2.1, (hargs c).2.2.1]
    exact ref_mixed _ _
  · rw [(hargs c).1, (hargs c).2.1, (hargs c).2.2.1, (hargs c).2.2.2.1, (hargs c).2.2.2.2]
    exact ref_next _ _ _ _ _

/-- The reference's run on its own: its arguments end as they were. -/
theorem ref_frame : Cert.quiescent_Reference11Ideal := fun m g _ =>
  (θ_run Cert.Reference11Ideal.defs _ _).mono (fun r h => ⟨fun c => (h c).2.2.2, sem_eq_zero_of_no_sems (by decide) r.2⟩)
    (Cert.Reference11Ideal.Value.run (F := Ideal) m g)

end Cert.Kernel11Ideal.Out

end
-- ==== Proof.FfnBwdGate.lean ====
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Lib.Pipeline.ValueKit.Point
public import Idealize.ShloMosaic.Lib.Pointwise

/-! One product of the gradient at the feed-forward part's inputs: the kernel and the reference agree over the reals. -/

@[expose] public section

noncomputable section

namespace Cert.Kernel12Ideal.Gate

open Idealize.ShloMosaic Idealize.ShloMosaic.TcCoe Idealize.SL.Sem
open Cert.Kernel12Ideal Cert.Kernel12Ideal.Gen

variable (m : (ℓ : Loc nD τ sig) → Buf (Elt Ideal) ℓ) (ρ : Dev nD → PrngReg)

/-- The gradient at the inputs through one weight: eight products, one a column block, added. -/
def back (d : Vec Ideal S8x4096x704 .bf16) (w : Vec Ideal S8x704x2048 .bf16) : Vec Ideal S4096x2048 .f32 :=
  fun i => ∑ j : Fin 8, ∑ k : Fin 704, d (ix3 j (i 0) k) * w (ix3 j k (i 1))

/-- The weight the kernel reads is the argument with its blocks stacked. -/
theorem V_stacked (c : Dev nD) : V m c main_v0 = shapeCast S5632x2048 (m ((c : Thread nD τ).loc main_arg1)) shapeCasts_S8x704x2048_S5632x2048 := rfl

theorem index_d : ∀ t : Fin cfg0.N, win0_0.index t = ![0, (grid0.coords t 0).val, 0] := (by decide +kernel : ∀ t : Fin grid0.N, _)
theorem index_w : ∀ t : Fin cfg0.N, win0_1.index t = ![0, 0] := (by decide +kernel : ∀ t : Fin grid0.N, _)
theorem index_o : ∀ t : Fin cfg0.N, win0_2.index t = ![(grid0.coords t 0).val, 0] := (by decide +kernel : ∀ t : Fin grid0.N, _)

/-- After the run this result array is `back` of the argument arrays. -/
theorem final (c : Dev nD) : (dats m 0 c).arrAt 2 cfg0.N
    = back (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  pointwise [k0_pay1, k0_pay2, back, Fin.sum_univ_eight]
  blk_point [iblk, V, V_stacked, index_d, index_w, index_o]

/-- The reference's gradient, read at an index. -/
theorem ref_back (d : Vec Ideal S8x4096x704 .bf16) (w : Vec Ideal S8x704x2048 .bf16) :
    Cert.Reference12Ideal.Read.val_main_v8 (F := Ideal) d w = back d w := by
  funext i
  pointwise [Cert.Reference12Ideal.Read.val_main_v8, Cert.Reference12Ideal.Read.val_main_v7, Cert.Reference12Ideal.Read.val_main_v6, Cert.Reference12Ideal.Read.val_main_v5, Cert.Reference12Ideal.Read.val_main_v4, Cert.Reference12Ideal.Read.val_main_v3, Cert.Reference12Ideal.Read.val_main_cst, Cert.Reference12Ideal.Read.val_main_v2, Cert.Reference12Ideal.Read.val_main_v1, Cert.Reference12Ideal.Read.val_main_v0, back]
  rw [← Fin.sum_mul_add_fin 8 704]
  refine Finset.sum_congr rfl fun j _ => Finset.sum_congr rfl fun k _ => ?_
  have hd : (j.val * 704 + k.val) / 704 = j.val := by omega
  have hm : (j.val * 704 + k.val) % 704 = k.val := by omega
  simp only [hd, hm]

/-- The kernel's run: each result is the array named for it, its arguments end as they were. -/
theorem run : θ_run defs (onTc (τ := τ) (main (F := Ideal))) ⟨m, fun _ => 0, ρ⟩ fun r => ∀ c : Dev nD,
      r.2.mem ((c : Thread nD τ).loc main_v1) = back (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

/-- Over the reals the call and the reference give the same results from the same arguments. -/
theorem agrees : Cert.algebraic_Kernel12Ideal_Reference12Ideal := by
  intro m g m' g' _ hargs
  refine ⟨fun c => back (m ((c : Thread nD τ).loc main_arg0)) (m ((c : Thread nD τ).loc main_arg1)), run m g, ?_⟩
  refine (θ_run Cert.Reference12Ideal.defs _ _).mono (fun r h c => ⟨(h c).1.trans ?_, (h c).2⟩) (Cert.Reference12Ideal.Value.run (F := Ideal) m' g')
  rw [(hargs c).1, (hargs c).2]
  exact ref_back _ _

/-- The reference's run on its own: its arguments end as they were. -/
theorem ref_frame : Cert.quiescent_Reference12Ideal := fun m g _ =>
  (θ_run Cert.Reference12Ideal.defs _ _).mono (fun r h => ⟨fun c => (h c).2, sem_eq_zero_of_no_sems (by decide) r.2⟩)
    (Cert.Reference12Ideal.Value.run (F := Ideal) m g)

end Cert.Kernel12Ideal.Gate

end
-- ==== Proof.NormFwd.lean ====
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit
public import Idealize.ShloMosaic.Lib.Pipeline.ValueKit.Point
public import Idealize.ShloMosaic.Lib.Pointwise

/-! The norm before the projections: the kernel and the reference agree over the reals. -/

@[expose] public section

noncomputable section

namespace Cert.Kernel13Ideal.Norm

open Idealize.ShloMosaic Idealize.ShloMosaic.TcCoe Idealize.SL.Sem
open Cert.Kernel13Ideal Cert.Kernel13Ideal.Gen

variable (m : (ℓ : Loc nD τ sig) → Buf (Elt Ideal) ℓ) (ρ : Dev nD → PrngReg)

/-- Each row of an array divided by its root mean square, times a row of weights. -/
def normed (h : Vec Ideal S4096x2048 .f32) (v : Vec Ideal S1x2048 .f32) : Vec Ideal S4096x2048 .bf16 :=
  fun i => h i * Ideal.rsqrt (Ideal.div (∑ k : Fin 2048, h (ix2 (i 0) k) * h (ix2 (i 0) k)) (Ideal.ofBits .f32 0x45000000#32) + Ideal.ofBits .f32 0x358637BD#32) * v (ix2 0 (i 1))

theorem index_0 : ∀ t : Fin cfg0.N, win0_0.index t = ![(grid0.coords t 0).val, 0] := (by decide +kernel : ∀ t : Fin grid0.N, _)
theorem index_2 : ∀ t : Fin cfg0.N, win0_2.index t = ![(grid0.coords t 0).val, 0] := (by decide +kernel : ∀ t : Fin grid0.N, _)
theorem index_1 : ∀ t : Fin cfg0.N, win0_1.index t = ![0, 0] := (by decide +kernel : ∀ t : Fin grid0.N, _)

/-- After the run this result array is `normed` of the argument arrays. -/
theorem final_n (c : Dev nD) : (dats m 0 c).arrAt 2 cfg0.N
    = normed (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  pointwise [k0_pay1, normed]
  blk_point [iblk, V, index_0, index_1, index_2]

/-- The reference's normalized rows, read at an index. -/
theorem ref_normed (x : Vec Ideal S4096x2048 .f32) (v : Vec Ideal S1x2048 .f32) :
    Cert.Reference13Ideal.Read.val_main_v14 (F := Ideal) x v = normed x v := by
  funext i
  pointwise [Cert.Reference13Ideal.Read.val_main_v14, Cert.Reference13Ideal.Read.val_main_v13, Cert.Reference13Ideal.Read.val_main_v12, Cert.Reference13Ideal.Read.val_main_v11, Cert.Reference13Ideal.Read.val_main_v10, Cert.Reference13Ideal.Read.val_main_v9, Cert.Reference13Ideal.Read.val_main_v8, Cert.Reference13Ideal.Read.val_main_v7, Cert.Reference13Ideal.Read.val_main_v6, Cert.Reference13Ideal.Read.val_main_cst_1, Cert.Reference13Ideal.Read.val_main_v5, Cert.Reference13Ideal.Read.val_main_v4, Cert.Reference13Ideal.Read.val_main_cst_0, Cert.Reference13Ideal.Read.val_main_v3, Cert.Reference13Ideal.Read.val_main_v2, Cert.Reference13Ideal.Read.val_main_cst, Cert.Reference13Ideal.Read.val_main_v1, Cert.Reference13Ideal.Read.val_main_v0, normed]

/-- The kernel's run: each result is the array named for it, its arguments end as they were. -/
theorem run : θ_run defs (onTc (τ := τ) (main (F := Ideal))) ⟨m, fun _ => 0, ρ⟩ fun r => ∀ c : Dev nD,
      r.2.mem ((c : Thread nD τ).loc main_v0) = normed (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_n m c), (h c).2⟩) (Value.run_blocks m ρ)

/-- Over the reals the call and the reference give the same results from the same arguments. -/
theorem agrees : Cert.algebraic_Kernel13Ideal_Reference13Ideal := by
  intro m g m' g' _ hargs
  refine ⟨fun c => normed (m ((c : Thread nD τ).loc main_arg0)) (m ((c : Thread nD τ).loc main_arg1)), run m g, ?_⟩
  refine (θ_run Cert.Reference13Ideal.defs _ _).mono (fun r h c => ⟨(h c).1.trans ?_, (h c).2⟩) (Cert.Reference13Ideal.Value.run (F := Ideal) m' g')
  rw [(hargs c).1, (hargs c).2]
  exact ref_normed _ _

/-- The reference's run on its own: its arguments end as they were. -/
theorem ref_frame : Cert.quiescent_Reference13Ideal := fun m g _ =>
  (θ_run Cert.Reference13Ideal.defs _ _).mono (fun r h => ⟨fun c => (h c).2, sem_eq_zero_of_no_sems (by decide) r.2⟩)
    (Cert.Reference13Ideal.Value.run (F := Ideal) m g)

end Cert.Kernel13Ideal.Norm

end
-- ==== Proof.DownLoss.lean ====
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit
public import Idealize.ShloMosaic.Lib.Pipeline.ValueKit.Point
public import Idealize.ShloMosaic.Lib.Pointwise
public import proofs.«01_k».proof.Proof.NormBack

/-! The last product of the feed-forward part, the norm after it, the loss of the rows and the cotangents behind it: the kernel and the reference agree over the reals. -/

@[expose] public section

noncomputable section

namespace Cert.Kernel14Ideal.Loss

open Idealize.ShloMosaic Idealize.ShloMosaic.TcCoe Idealize.SL.Sem
open Cert.Kernel14Ideal Cert.Kernel14Ideal.Gen

variable (m : (ℓ : Loc nD τ sig) → Buf (Elt Ideal) ℓ) (ρ : Dev nD → PrngReg)

/-- The rows before the last norm: what they were, and the inner columns times their weights, column block by column block. -/
def hs (a : Vec Ideal S8x4096x704 .bf16) (w : Vec Ideal S5632x2048 .bf16) (h : Vec Ideal S4096x2048 .f32) : Vec Ideal S4096x2048 .f32 :=
  fun i => h i + ∑ p : Fin 8, ∑ k : Fin 704, a (ix3 p (i 0) k) * w (ix2 ⟨p.val * 704 + k.val, by omega⟩ (i 1))

/-- One over the root mean square of a row. -/
def rinv (x : Vec Ideal S4096x2048 .f32) (r : Fin 4096) : EReal :=
  Ideal.rsqrt (Ideal.div (∑ k : Fin 2048, x (ix2 r k) * x (ix2 r k)) (Ideal.ofBits .f32 0x45000000#32) + Ideal.ofBits .f32 0x358637BD#32)

/-- How far the normalized rows are from the target. -/
def er (x t : Vec Ideal S4096x2048 .f32) (v : Vec Ideal S1x2048 .f32) : Vec Ideal S4096x2048 .f32 :=
  fun i => x i * rinv x (i 0) * v (ix2 0 (i 1)) - t i

/-- The loss's cotangents of the normalized rows. -/
def dn (x t : Vec Ideal S4096x2048 .f32) (v : Vec Ideal S1x2048 .f32) : Vec Ideal S4096x2048 .f32 :=
  fun i => er x t v i * Ideal.ofBits .f32 0x3A000000#32

/-- The norm's cotangents of its rows. -/
def drows (x t : Vec Ideal S4096x2048 .f32) (v : Vec Ideal S1x2048 .f32) : Vec Ideal S4096x2048 .f32 :=
  fun i => rinv x (i 0) * (dn x t v i * v (ix2 0 (i 1)))
    - x i * (rinv x (i 0) * rinv x (i 0) * rinv x (i 0)) * Ideal.div (∑ k : Fin 2048, dn x t v (ix2 (i 0) k) * v (ix2 0 k) * x (ix2 (i 0) k)) (Ideal.ofBits .f32 0x45000000#32)

/-- The cotangents of the rows, from the call's arguments. -/
def dh (a : Vec Ideal S8x4096x704 .bf16) (w : Vec Ideal S5632x2048 .bf16) (h t : Vec Ideal S4096x2048 .f32) (v : Vec Ideal S1x2048 .f32) : Vec Ideal S4096x2048 .f32 := drows (hs a w h) t v

/-- The same in the narrow format. -/
def dhl (a : Vec Ideal S8x4096x704 .bf16) (w : Vec Ideal S5632x2048 .bf16) (h t : Vec Ideal S4096x2048 .f32) (v : Vec Ideal S1x2048 .f32) : Vec Ideal S4096x2048 .bf16 := fun i => drows (hs a w h) t v i

/-- The norm's cotangents of its weights, a sum over the rows. -/
def dgain (a : Vec Ideal S8x4096x704 .bf16) (w : Vec Ideal S5632x2048 .bf16) (h t : Vec Ideal S4096x2048 .f32) (v : Vec Ideal S1x2048 .f32) : Vec Ideal S1x2048 .f32 :=
  fun i => ∑ r : Fin 4096, dn (hs a w h) t v (ix2 r (i 1)) * hs a w h (ix2 r (i 1)) * rinv (hs a w h) r

/-- What one block of rows adds to the cotangents of the weights. -/
def dpart (a : Vec Ideal S8x4096x704 .bf16) (w : Vec Ideal S5632x2048 .bf16) (h t : Vec Ideal S4096x2048 .f32) (v : Vec Ideal S1x2048 .f32) (b : Fin 16) (i : S1x2048.Idx) : EReal :=
  ∑ r : Fin 256, dn (hs a w h) t v (ix2 ⟨b.val * 256 + r.val, by omega⟩ (i 1)) * hs a w h (ix2 ⟨b.val * 256 + r.val, by omega⟩ (i 1)) * rinv (hs a w h) ⟨b.val * 256 + r.val, by omega⟩

/-- The loss of each block of 256 rows, in a tile of its own. -/
def dloss (a : Vec Ideal S8x4096x704 .bf16) (w : Vec Ideal S5632x2048 .bf16) (h t : Vec Ideal S4096x2048 .f32) (v : Vec Ideal S1x2048 .f32) : Vec Ideal S128x128 .f32 :=
  fun i => Ideal.div (Ideal.ofBits .f32 0x3F000000#32 * ∑ r : Fin 256, ∑ k : Fin 2048,
    er (hs a w h) t v (ix2 ⟨(i 0).val / 8 * 256 + r.val, by have h8 : (i 0).val < 128 := (i 0).isLt; omega⟩ k) * er (hs a w h) t v (ix2 ⟨(i 0).val / 8 * 256 + r.val, by have h8 : (i 0).val < 128 := (i 0).isLt; omega⟩ k)) (Ideal.ofBits .f32 0x45000000#32)

theorem index_2 : ∀ t : Fin cfg0.N, win0_2.index t = ![(grid0.coords t 0).val, 0] := (by decide +kernel : ∀ t : Fin grid0.N, _)
theorem index_3 : ∀ t : Fin cfg0.N, win0_3.index t = ![(grid0.coords t 0).val, 0] := (by decide +kernel : ∀ t : Fin grid0.N, _)
theorem index_5 : ∀ t : Fin cfg0.N, win0_5.index t = ![(grid0.coords t 0).val, 0] := (by decide +kernel : ∀ t : Fin grid0.N, _)
theorem index_6 : ∀ t : Fin cfg0.N, win0_6.index t = ![(grid0.coords t 0).val, 0] := (by decide +kernel : ∀ t : Fin grid0.N, _)
theorem index_7 : ∀ t : Fin cfg0.N, win0_7.index t = ![(grid0.coords t 0).val, 0] := (by decide +kernel : ∀ t : Fin grid0.N, _)
theorem index_0 : ∀ t : Fin cfg0.N, win0_0.index t = ![0, (grid0.coords t 0).val, 0] := (by decide +kernel : ∀ t : Fin grid0.N, _)
theorem index_1 : ∀ t : Fin cfg0.N, win0_1.index t = ![0, 0] := (by decide +kernel : ∀ t : Fin grid0.N, _)
theorem index_4 : ∀ t : Fin cfg0.N, win0_4.index t = ![0, 0] := (by decide +kernel : ∀ t : Fin grid0.N, _)
theorem index_8 : ∀ t : Fin cfg0.N, win0_8.index t = ![0, 0] := (by decide +kernel : ∀ t : Fin grid0.N, _)
theorem coord_0 : ∀ t : Fin cfg0.N, (grid0.coords t 0).val = t.val := (by decide +kernel : ∀ t : Fin grid0.N, _)

/-- The grid has sixteen points. -/
theorem point_lt (t : Fin cfg0.N) : t.val < 16 := lt_of_lt_of_eq t.isLt N_0

/-- The rows before the norm that one point makes are its block of them. -/
theorem block_h (c : Dev nD) (t : Fin cfg0.N) :
    k0_pay5 (F := Ideal) (iblk m c 2 t)
      (k0_pay3 (View.ld (iblk m c 0 t) (Rect.unit ![0, 0, 0] ![1, 256, 704] inb_S8x256x704_S1x256x704_0_0_0)) (View.ld (iblk m c 1 t) (Rect.unit ![0, 0] ![704, 2048] inb_S5632x2048_S704x2048_0_0))
        (View.ld (iblk m c 0 t) (Rect.unit ![1, 0, 0] ![1, 256, 704] inb_S8x256x704_S1x256x704_1_0_0)) (View.ld (iblk m c 1 t) (Rect.unit ![704, 0] ![704, 2048] inb_S5632x2048_S704x2048_704_0))
        (View.ld (iblk m c 0 t) (Rect.unit ![2, 0, 0] ![1, 256, 704] inb_S8x256x704_S1x256x704_2_0_0)) (View.ld (iblk m c 1 t) (Rect.unit ![1408, 0] ![704, 2048] inb_S5632x2048_S704x2048_1408_0))
        (View.ld (iblk m c 0 t) (Rect.unit ![3, 0, 0] ![1, 256, 704] inb_S8x256x704_S1x256x704_3_0_0)) (View.ld (iblk m c 1 t) (Rect.unit ![2112, 0] ![704, 2048] inb_S5632x2048_S704x2048_2112_0)))
      (k0_pay4 (View.ld (iblk m c 0 t) (Rect.unit ![4, 0, 0] ![1, 256, 704] inb_S8x256x704_S1x256x704_4_0_0))) (View.ld (iblk m c 1 t) (Rect.unit ![2816, 0] ![704, 2048] inb_S5632x2048_S704x2048_2816_0))
      (View.ld (iblk m c 0 t) (Rect.unit ![5, 0, 0] ![1, 256, 704] inb_S8x256x704_S1x256x704_5_0_0)) (View.ld (iblk m c 1 t) (Rect.unit ![3520, 0] ![704, 2048] inb_S5632x2048_S704x2048_3520_0))
      (View.ld (iblk m c 0 t) (Rect.unit ![6, 0, 0] ![1, 256, 704] inb_S8x256x704_S1x256x704_6_0_0)) (View.ld (iblk m c 1 t) (Rect.unit ![4224, 0] ![704, 2048] inb_S5632x2048_S704x2048_4224_0))
      (View.ld (iblk m c 0 t) (Rect.unit ![7, 0, 0] ![1, 256, 704] inb_S8x256x704_S1x256x704_7_0_0)) (View.ld (iblk m c 1 t) (Rect.unit ![4928, 0] ![704, 2048] inb_S5632x2048_S704x2048_4928_0))
    = fun j => hs (m ((c : Thread nD τ).loc main_arg0)) (m ((c : Thread nD τ).loc main_arg1)) (m ((c : Thread nD τ).loc main_arg2)) (ix2 ⟨t.val * 256 + (j 0).val, by have := point_lt t; have h8 : (j 0).val < 256 := (j 0).isLt; omega⟩ (j 1)) := by
  funext j
  pointwise [k0_pay5, k0_pay4, k0_pay3, hs, Fin.sum_univ_eight]
  blk_point [iblk, V, index_0, index_1, index_2, index_3, index_4, coord_0]

/-- How far one point's normalized rows are from its target. -/
theorem block_e (c : Dev nD) (t : Fin cfg0.N) :
    k0_pay6 (F := Ideal) (iblk m c 2 t)
      (k0_pay3 (View.ld (iblk m c 0 t) (Rect.unit ![0, 0, 0] ![1, 256, 704] inb_S8x256x704_S1x256x704_0_0_0)) (View.ld (iblk m c 1 t) (Rect.unit ![0, 0] ![704, 2048] inb_S5632x2048_S704x2048_0_0))
        (View.ld (iblk m c 0 t) (Rect.unit ![1, 0, 0] ![1, 256, 704] inb_S8x256x704_S1x256x704_1_0_0)) (View.ld (iblk m c 1 t) (Rect.unit ![704, 0] ![704, 2048] inb_S5632x2048_S704x2048_704_0))
        (View.ld (iblk m c 0 t) (Rect.unit ![2, 0, 0] ![1, 256, 704] inb_S8x256x704_S1x256x704_2_0_0)) (View.ld (iblk m c 1 t) (Rect.unit ![1408, 0] ![704, 2048] inb_S5632x2048_S704x2048_1408_0))
        (View.ld (iblk m c 0 t) (Rect.unit ![3, 0, 0] ![1, 256, 704] inb_S8x256x704_S1x256x704_3_0_0)) (View.ld (iblk m c 1 t) (Rect.unit ![2112, 0] ![704, 2048] inb_S5632x2048_S704x2048_2112_0)))
      (k0_pay4 (View.ld (iblk m c 0 t) (Rect.unit ![4, 0, 0] ![1, 256, 704] inb_S8x256x704_S1x256x704_4_0_0))) (View.ld (iblk m c 1 t) (Rect.unit ![2816, 0] ![704, 2048] inb_S5632x2048_S704x2048_2816_0))
      (View.ld (iblk m c 0 t) (Rect.unit ![5, 0, 0] ![1, 256, 704] inb_S8x256x704_S1x256x704_5_0_0)) (View.ld (iblk m c 1 t) (Rect.unit ![3520, 0] ![704, 2048] inb_S5632x2048_S704x2048_3520_0))
      (View.ld (iblk m c 0 t) (Rect.unit ![6, 0, 0] ![1, 256, 704] inb_S8x256x704_S1x256x704_6_0_0)) (View.ld (iblk m c 1 t) (Rect.unit ![4224, 0] ![704, 2048] inb_S5632x2048_S704x2048_4224_0))
      (View.ld (iblk m c 0 t) (Rect.unit ![7, 0, 0] ![1, 256, 704] inb_S8x256x704_S1x256x704_7_0_0)) (View.ld (iblk m c 1 t) (Rect.unit ![4928, 0] ![704, 2048] inb_S5632x2048_S704x2048_4928_0))
      (iblk m c 4 t) (iblk m c 3 t)
    = fun j => er (hs (m ((c : Thread nD τ).loc main_arg0)) (m ((c : Thread nD τ).loc main_arg1)) (m ((c : Thread nD τ).loc main_arg2))) (m ((c : Thread nD τ).loc main_arg3)) (m ((c : Thread nD τ).loc main_arg4)) (ix2 ⟨t.val * 256 + (j 0).val, by have := point_lt t; have h8 : (j 0).val < 256 := (j 0).isLt; omega⟩ (j 1)) := by
  unfold k0_pay6
  rw [block_h]
  funext j
  pointwise [er, rinv]
  blk_point [iblk, V, index_0, index_1, index_2, index_3, index_4, coord_0]

set_option maxHeartbeats 4000000 in
/-- After the run this result array is `dh` of the argument arrays. -/
theorem final_x (c : Dev nD) : (dats m 0 c).arrAt 5 cfg0.N
    = dh (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  by_cases h0 : t.val % 16 = 0
  · rw [outsAt0_A m c t h0]
    frame_out
    refine (congrFun (congrArg₂ (fun X E => k0_pay10 (F := Ideal) X (iblk m c 4 t) E) (block_h m c t) (block_e m c t)) y).trans ?_
    pointwise [k0_pay10, k0_pay8, k0_pay9, dh, drows, dn, rinv]
    blk_point [iblk, V, index_0, index_1, index_2, index_3, index_4, index_5, coord_0]
  · rw [outsAt0_B m c t h0]
    frame_out
    refine (congrFun (congrArg₂ (fun X E => k0_pay10 (F := Ideal) X (iblk m c 4 t) E) (block_h m c t) (block_e m c t)) y).trans ?_
    pointwise [k0_pay10, k0_pay8, k0_pay9, dh, drows, dn, rinv]
    blk_point [iblk, V, index_0, index_1, index_2, index_3, index_4, index_5, coord_0]

set_option maxHeartbeats 4000000 in
/-- After the run this result array is `dhl` of the argument arrays. -/
theorem final_l (c : Dev nD) : (dats m 0 c).arrAt 6 cfg0.N
    = dhl (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  by_cases h0 : t.val % 16 = 0
  · rw [outsAt0_A m c t h0]
    frame_out
    refine (congrFun (congrArg₂ (fun X E => k0_pay12 (F := Ideal) X (iblk m c 4 t) E) (block_h m c t) (block_e m c t)) y).trans ?_
    pointwise [k0_pay12, k0_pay10, k0_pay8, k0_pay9, dhl, drows, dn, rinv]
    blk_point [iblk, V, index_0, index_1, index_2, index_3, index_4, index_6, coord_0]
  · rw [outsAt0_B m c t h0]
    frame_out
    refine (congrFun (congrArg₂ (fun X E => k0_pay12 (F := Ideal) X (iblk m c 4 t) E) (block_h m c t) (block_e m c t)) y).trans ?_
    pointwise [k0_pay12, k0_pay10, k0_pay8, k0_pay9, dhl, drows, dn, rinv]
    blk_point [iblk, V, index_0, index_1, index_2, index_3, index_4, index_6, coord_0]

set_option maxHeartbeats 4000000 in
/-- After the run this result array is `dloss` of the argument arrays. -/
theorem final_s (c : Dev nD) : (dats m 0 c).arrAt 7 cfg0.N
    = dloss (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  by_cases h0 : t.val % 16 = 0
  · rw [outsAt0_A m c t h0]
    frame_out
    refine (congrFun (congrArg (fun E => k0_pay7 (F := Ideal) E) (block_e m c t)) y).trans ?_
    pointwise [k0_pay7, dloss]
    blk_point [iblk, V, index_0, index_1, index_2, index_3, index_4, index_7, coord_0]
    apply Fin.ext
    dsimp only
    omega
  · rw [outsAt0_B m c t h0]
    frame_out
    refine (congrFun (congrArg (fun E => k0_pay7 (F := Ideal) E) (block_e m c t)) y).trans ?_
    pointwise [k0_pay7, dloss]
    blk_point [iblk, V, index_0, index_1, index_2, index_3, index_4, index_7, coord_0]
    apply Fin.ext
    dsimp only
    omega

set_option maxHeartbeats 4000000 in
/-- After the run the last result array is `dgain` of the argument arrays. -/
theorem final_w (c : Dev nD) : (dats m 0 c).arrAt 8 cfg0.N
    = dgain (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  have ht : t.val % 16 = 15 := (flush0_8 t).mp hf
  have ht' : t.val + 1 = cfg0.N := by
    have hN : cfg0.N = 16 := N_0
    have h16 : t.val < 16 := lt_of_lt_of_eq t.isLt hN
    rw [hN]
    omega
  rw [after0_8, Pipeline.eq_sum_fin_of_reset_step_apply_last (fun n h => (outsAt0 m c n h).2.2.2) 16 (fun _ => (0 : EReal))
    (fun t j => dpart (m ((c : Thread nD τ).loc main_arg0)) (m ((c : Thread nD τ).loc main_arg1)) (m ((c : Thread nD τ).loc main_arg2)) (m ((c : Thread nD τ).loc main_arg3)) (m ((c : Thread nD τ).loc main_arg4)) ⟨t.val, Nat.lt_of_lt_of_eq t.isLt N_0⟩ j)
    (fun t h j => by
      rw [outsAt0_A m c t h]
      frame_out
      refine (congrFun (congrArg₂ (fun X E => k0_pay1 (F := Ideal) (k0_pay11 X E) (k0_pay2 (F := Ideal))) (block_h m c t) (block_e m c t)) j).trans ?_
      pointwise [k0_pay1, k0_pay2, k0_pay11, k0_pay8, k0_pay9, dpart, dn, rinv]
      try blk_point [iblk, V, index_0, index_1, index_2, index_3, index_4, coord_0])
    (fun t h j => by
      rw [outsAt0_B m c t h]
      frame_out
      refine (congrFun (congrArg₂ (fun X E => k0_pay1 (F := Ideal) (k0_pay11 X E) (outsAt0 m c (t.val - 1) (Nat.lt_of_le_of_lt (Nat.sub_le _ _) t.isLt)).2.2.2) (block_h m c t) (block_e m c t)) j).trans ?_
      pointwise [k0_pay1, k0_pay2, k0_pay11, k0_pay8, k0_pay9, dpart, dn, rinv]
      try blk_point [iblk, V, index_0, index_1, index_2, index_3, index_4, coord_0])
    (le_of_eq N_0) t ht' y]
  rw [zero_add]
  have hy : (((View.whole main_v0_3).slice (win0_8.rect t)).emb y) 1 = y 1 := by
    apply Fin.ext
    blk_point [index_8]
  pointwise [dgain]
  rw [hy]
  exact Fin.sum_mul_add_fin 16 256 (fun r : Fin 4096 => dn (hs (m ((c : Thread nD τ).loc main_arg0)) (m ((c : Thread nD τ).loc main_arg1)) (m ((c : Thread nD τ).loc main_arg2))) (m ((c : Thread nD τ).loc main_arg3)) (m ((c : Thread nD τ).loc main_arg4)) (ix2 r (y 1)) * hs (m ((c : Thread nD τ).loc main_arg0)) (m ((c : Thread nD τ).loc main_arg1)) (m ((c : Thread nD τ).loc main_arg2)) (ix2 r (y 1)) * rinv (hs (m ((c : Thread nD τ).loc main_arg0)) (m ((c : Thread nD τ).loc main_arg1)) (m ((c : Thread nD τ).loc main_arg2))) r)

/-- The half in the loss. -/
theorem half_pos : Ideal.ofBits .f32 0x3F000000#32 = ((1 / 2 : ℝ) : EReal) := by
  simp [Ideal.ofBits, Ideal.ieee, -EReal.coe_mul]; norm_num

/-- The factor two of a square's derivative. -/
theorem two_eq : Ideal.ofBits .f32 0x40000000#32 = ((2 : ℝ) : EReal) := by
  simp [Ideal.ofBits, Ideal.ieee, -EReal.coe_mul]; norm_num

/-- One over the row's length. -/
theorem inv_len : Ideal.ofBits .f32 0x3A000000#32 = ((1 / 2048 : ℝ) : EReal) := by
  simp [Ideal.ofBits, Ideal.ieee, -EReal.coe_mul]; norm_num

/-- The derivative of half a mean of squares. -/
theorem slope (e : EReal) : Ideal.div (Ideal.ofBits .f32 0x3F000000#32) (Ideal.ofBits .f32 0x45000000#32) * (Ideal.ofBits .f32 0x40000000#32 * e)
    = e * Ideal.ofBits .f32 0x3A000000#32 := by
  rw [Cert.NormBack.div_len, half_pos, two_eq, inv_len, ← mul_assoc, ← EReal.coe_mul, ← EReal.coe_mul, mul_comm e]
  congr 2
  norm_num

/-- A factor that is a nonnegative real number is pulled into a sum. -/
theorem scale_sum (c : ℝ) (hc : 0 ≤ c) (s : Finset (Fin 256)) (f : Fin 256 → EReal) : (c : EReal) * ∑ r ∈ s, f r = ∑ r ∈ s, (c : EReal) * f r := by
  classical
  induction s using Finset.induction_on with
  | empty => simp
  | insert r s hr ih =>
    rw [Finset.sum_insert hr, Finset.sum_insert hr, EReal.left_distrib_of_nonneg_of_ne_top (EReal.coe_nonneg.mpr hc) (EReal.coe_ne_top c), ih]

/-- Half a mean over a block of rows is the sum of the rows' own. -/
theorem block_loss (f : Fin 256 → EReal) :
    Ideal.div (Ideal.ofBits .f32 0x3F000000#32 * ∑ r, f r) (Ideal.ofBits .f32 0x45000000#32)
    = ∑ r, Ideal.ofBits .f32 0x3F000000#32 * Ideal.div (f r) (Ideal.ofBits .f32 0x45000000#32) := by
  have e : ∀ a : EReal, ((1 / 2 : ℝ) : EReal) * (a * ((1 / 2048 : ℝ) : EReal)) = ((1 / 4096 : ℝ) : EReal) * a := by
    intro a
    rw [mul_comm a, ← mul_assoc, ← EReal.coe_mul]
    congr 2
    norm_num
  simp only [Cert.NormBack.div_len, half_pos]
  rw [mul_assoc, e]
  simp only [e]
  exact scale_sum _ (by norm_num) _ _

/-- The reference's rows before the norm, read at an index. -/
theorem ref_hs (a : Vec Ideal S8x4096x704 .bf16) (w : Vec Ideal S5632x2048 .bf16) (h : Vec Ideal S4096x2048 .f32) :
    Cert.Reference14Ideal.Read.val_main_v5 (F := Ideal) a w h = hs a w h := by
  funext i
  pointwise [Cert.Reference14Ideal.Read.val_main_cst_16, Cert.Reference14Ideal.Read.val_main_cst_15, Cert.Reference14Ideal.Read.val_main_cst_14, Cert.Reference14Ideal.Read.val_main_cst_13, Cert.Reference14Ideal.Read.val_main_cst_12, Cert.Reference14Ideal.Read.val_main_cst_11, Cert.Reference14Ideal.Read.val_main_cst_10, Cert.Reference14Ideal.Read.val_main_cst_9, Cert.Reference14Ideal.Read.val_main_cst_8, Cert.Reference14Ideal.Read.val_main_cst_7, Cert.Reference14Ideal.Read.val_main_cst_6, Cert.Reference14Ideal.Read.val_main_cst_5, Cert.Reference14Ideal.Read.val_main_cst_4, Cert.Reference14Ideal.Read.val_main_cst_3, Cert.Reference14Ideal.Read.val_main_cst_2, Cert.Reference14Ideal.Read.val_main_cst_1, Cert.Reference14Ideal.Read.val_main_cst_0, Cert.Reference14Ideal.Read.val_main_cst, Cert.Reference14Ideal.Read.val_main_v5, Cert.Reference14Ideal.Read.val_main_v4, Cert.Reference14Ideal.Read.val_main_v3, Cert.Reference14Ideal.Read.val_main_v2, Cert.Reference14Ideal.Read.val_main_v1, Cert.Reference14Ideal.Read.val_main_v0, hs]
  rw [← Fin.sum_mul_add_fin 8 704]
  refine congrArg (h i + ·) (Finset.sum_congr rfl fun p _ => Finset.sum_congr rfl fun k _ => ?_)
  have hd : (p.val * 704 + k.val) / 704 = p.val := by omega
  have hm : (p.val * 704 + k.val) % 704 = k.val := by omega
  simp only [hd, hm]

/-- The reference's distance from the target, read at an index. -/
theorem ref_er (a : Vec Ideal S8x4096x704 .bf16) (w : Vec Ideal S5632x2048 .bf16) (h t : Vec Ideal S4096x2048 .f32) (v : Vec Ideal S1x2048 .f32) : Cert.Reference14Ideal.Read.val_main_v23 (F := Ideal) a w h t v = er (hs a w h) t v := by
  funext i
  pointwise [Cert.Reference14Ideal.Read.val_main_cst_16, Cert.Reference14Ideal.Read.val_main_cst_15, Cert.Reference14Ideal.Read.val_main_cst_14, Cert.Reference14Ideal.Read.val_main_cst_13, Cert.Reference14Ideal.Read.val_main_cst_12, Cert.Reference14Ideal.Read.val_main_cst_11, Cert.Reference14Ideal.Read.val_main_cst_10, Cert.Reference14Ideal.Read.val_main_cst_9, Cert.Reference14Ideal.Read.val_main_cst_8, Cert.Reference14Ideal.Read.val_main_cst_7, Cert.Reference14Ideal.Read.val_main_cst_6, Cert.Reference14Ideal.Read.val_main_cst_5, Cert.Reference14Ideal.Read.val_main_cst_4, Cert.Reference14Ideal.Read.val_main_cst_3, Cert.Reference14Ideal.Read.val_main_v23, Cert.Reference14Ideal.Read.val_main_v22, Cert.Reference14Ideal.Read.val_main_v21, Cert.Reference14Ideal.Read.val_main_v20, Cert.Reference14Ideal.Read.val_main_v19, Cert.Reference14Ideal.Read.val_main_v18, Cert.Reference14Ideal.Read.val_main_v17, Cert.Reference14Ideal.Read.val_main_v16, Cert.Reference14Ideal.Read.val_main_cst_2, Cert.Reference14Ideal.Read.val_main_v15, Cert.Reference14Ideal.Read.val_main_v14, Cert.Reference14Ideal.Read.val_main_v13, Cert.Reference14Ideal.Read.val_main_v12, Cert.Reference14Ideal.Read.val_main_cst_1, Cert.Reference14Ideal.Read.val_main_v11, Cert.Reference14Ideal.Read.val_main_v10, Cert.Reference14Ideal.Read.val_main_cst_0, Cert.Reference14Ideal.Read.val_main_v9, Cert.Reference14Ideal.Read.val_main_v8, Cert.Reference14Ideal.Read.val_main_cst, Cert.Reference14Ideal.Read.val_main_v7, Cert.Reference14Ideal.Read.val_main_v6, ref_hs, er, rinv]

/-- The reference's cotangents of the normalized rows, read at an index. -/
theorem ref_dn (a : Vec Ideal S8x4096x704 .bf16) (w : Vec Ideal S5632x2048 .bf16) (h t : Vec Ideal S4096x2048 .f32) (v : Vec Ideal S1x2048 .f32) : Cert.Reference14Ideal.Read.val_main_v38 (F := Ideal) a w h t v = dn (hs a w h) t v := by
  funext i
  pointwise [Cert.Reference14Ideal.Read.val_main_cst_16, Cert.Reference14Ideal.Read.val_main_cst_15, Cert.Reference14Ideal.Read.val_main_cst_14, Cert.Reference14Ideal.Read.val_main_cst_13, Cert.Reference14Ideal.Read.val_main_cst_12, Cert.Reference14Ideal.Read.val_main_cst_11, Cert.Reference14Ideal.Read.val_main_cst_10, Cert.Reference14Ideal.Read.val_main_v38, Cert.Reference14Ideal.Read.val_main_v37, Cert.Reference14Ideal.Read.val_main_v36, Cert.Reference14Ideal.Read.val_main_v35, Cert.Reference14Ideal.Read.val_main_cst_9, Cert.Reference14Ideal.Read.val_main_v34, Cert.Reference14Ideal.Read.val_main_v33, Cert.Reference14Ideal.Read.val_main_cst_8, Cert.Reference14Ideal.Read.val_main_v32, Cert.Reference14Ideal.Read.val_main_cst_7, Cert.Reference14Ideal.Read.val_main_v31, Cert.Reference14Ideal.Read.val_main_v30, Cert.Reference14Ideal.Read.val_main_cst_6, Cert.Reference14Ideal.Read.val_main_v29, Cert.Reference14Ideal.Read.val_main_v28, Cert.Reference14Ideal.Read.val_main_cst_5, Cert.Reference14Ideal.Read.val_main_v27, Cert.Reference14Ideal.Read.val_main_cst_4, Cert.Reference14Ideal.Read.val_main_v26, Cert.Reference14Ideal.Read.val_main_v25, Cert.Reference14Ideal.Read.val_main_cst_3, Cert.Reference14Ideal.Read.val_main_v24, Cert.Reference14Ideal.Read.val_main_cst_2, Cert.Reference14Ideal.Read.val_main_cst_1, Cert.Reference14Ideal.Read.val_main_cst_0, Cert.Reference14Ideal.Read.val_main_cst, ref_er, dn]
  exact slope _

/-- The reference's cotangents of the weights. -/
theorem ref_dgain (a : Vec Ideal S8x4096x704 .bf16) (w : Vec Ideal S5632x2048 .bf16) (h t : Vec Ideal S4096x2048 .f32) (v : Vec Ideal S1x2048 .f32) : Cert.Reference14Ideal.Read.val_main_v69 (F := Ideal) a w h t v = dgain a w h t v := by
  funext i
  pointwise [Cert.Reference14Ideal.Read.val_main_v69, Cert.Reference14Ideal.Read.val_main_v68, Cert.Reference14Ideal.Read.val_main_v67, Cert.Reference14Ideal.Read.val_main_v66, Cert.Reference14Ideal.Read.val_main_v65, Cert.Reference14Ideal.Read.val_main_cst_16, Cert.Reference14Ideal.Read.val_main_v64, Cert.Reference14Ideal.Read.val_main_v63, Cert.Reference14Ideal.Read.val_main_v62, Cert.Reference14Ideal.Read.val_main_v61, Cert.Reference14Ideal.Read.val_main_v60, Cert.Reference14Ideal.Read.val_main_cst_15, Cert.Reference14Ideal.Read.val_main_v59, Cert.Reference14Ideal.Read.val_main_v58, Cert.Reference14Ideal.Read.val_main_v57, Cert.Reference14Ideal.Read.val_main_v56, Cert.Reference14Ideal.Read.val_main_v55, Cert.Reference14Ideal.Read.val_main_v54, Cert.Reference14Ideal.Read.val_main_v53, Cert.Reference14Ideal.Read.val_main_cst_14, Cert.Reference14Ideal.Read.val_main_v52, Cert.Reference14Ideal.Read.val_main_v51, Cert.Reference14Ideal.Read.val_main_cst_13, Cert.Reference14Ideal.Read.val_main_v50, Cert.Reference14Ideal.Read.val_main_v49, Cert.Reference14Ideal.Read.val_main_v48, Cert.Reference14Ideal.Read.val_main_v47, Cert.Reference14Ideal.Read.val_main_v46, Cert.Reference14Ideal.Read.val_main_cst_12, Cert.Reference14Ideal.Read.val_main_v45, Cert.Reference14Ideal.Read.val_main_v44, Cert.Reference14Ideal.Read.val_main_cst_11, Cert.Reference14Ideal.Read.val_main_v43, Cert.Reference14Ideal.Read.val_main_v42, Cert.Reference14Ideal.Read.val_main_v41, Cert.Reference14Ideal.Read.val_main_v40, Cert.Reference14Ideal.Read.val_main_cst_10, Cert.Reference14Ideal.Read.val_main_v39, Cert.Reference14Ideal.Read.val_main_v37, Cert.Reference14Ideal.Read.val_main_v36, Cert.Reference14Ideal.Read.val_main_v35, Cert.Reference14Ideal.Read.val_main_cst_9, Cert.Reference14Ideal.Read.val_main_v34, Cert.Reference14Ideal.Read.val_main_v33, Cert.Reference14Ideal.Read.val_main_cst_8, Cert.Reference14Ideal.Read.val_main_v32, Cert.Reference14Ideal.Read.val_main_cst_7, Cert.Reference14Ideal.Read.val_main_v31, Cert.Reference14Ideal.Read.val_main_v30, Cert.Reference14Ideal.Read.val_main_cst_6, Cert.Reference14Ideal.Read.val_main_v29, Cert.Reference14Ideal.Read.val_main_v28, Cert.Reference14Ideal.Read.val_main_cst_5, Cert.Reference14Ideal.Read.val_main_v27, Cert.Reference14Ideal.Read.val_main_cst_4, Cert.Reference14Ideal.Read.val_main_v26, Cert.Reference14Ideal.Read.val_main_v25, Cert.Reference14Ideal.Read.val_main_cst_3, Cert.Reference14Ideal.Read.val_main_v24, Cert.Reference14Ideal.Read.val_main_v22, Cert.Reference14Ideal.Read.val_main_v21, Cert.Reference14Ideal.Read.val_main_v20, Cert.Reference14Ideal.Read.val_main_v19, Cert.Reference14Ideal.Read.val_main_v18, Cert.Reference14Ideal.Read.val_main_v17, Cert.Reference14Ideal.Read.val_main_v16, Cert.Reference14Ideal.Read.val_main_cst_2, Cert.Reference14Ideal.Read.val_main_v15, Cert.Reference14Ideal.Read.val_main_v14, Cert.Reference14Ideal.Read.val_main_v13, Cert.Reference14Ideal.Read.val_main_v12, Cert.Reference14Ideal.Read.val_main_cst_1, Cert.Reference14Ideal.Read.val_main_v11, Cert.Reference14Ideal.Read.val_main_v10, Cert.Reference14Ideal.Read.val_main_cst_0, Cert.Reference14Ideal.Read.val_main_v9, Cert.Reference14Ideal.Read.val_main_v8, Cert.Reference14Ideal.Read.val_main_cst, Cert.Reference14Ideal.Read.val_main_v7, Cert.Reference14Ideal.Read.val_main_v6, ref_hs, ref_dn, dgain, rinv]
  rw [Fin.sum_univ_one]
  refine Finset.sum_congr rfl fun r _ => ?_
  ac_rfl

/-- The reference's cotangents of the rows. -/
theorem ref_dh (a : Vec Ideal S8x4096x704 .bf16) (w : Vec Ideal S5632x2048 .bf16) (h t : Vec Ideal S4096x2048 .f32) (v : Vec Ideal S1x2048 .f32) : Cert.Reference14Ideal.Read.val_main_v58 (F := Ideal) a w h t v = dh a w h t v := by
  funext i
  pointwise [Cert.Reference14Ideal.Read.val_main_cst_16, Cert.Reference14Ideal.Read.val_main_cst_15, Cert.Reference14Ideal.Read.val_main_v58, Cert.Reference14Ideal.Read.val_main_v57, Cert.Reference14Ideal.Read.val_main_v56, Cert.Reference14Ideal.Read.val_main_v55, Cert.Reference14Ideal.Read.val_main_v54, Cert.Reference14Ideal.Read.val_main_v53, Cert.Reference14Ideal.Read.val_main_cst_14, Cert.Reference14Ideal.Read.val_main_v52, Cert.Reference14Ideal.Read.val_main_v51, Cert.Reference14Ideal.Read.val_main_cst_13, Cert.Reference14Ideal.Read.val_main_v50, Cert.Reference14Ideal.Read.val_main_v49, Cert.Reference14Ideal.Read.val_main_v48, Cert.Reference14Ideal.Read.val_main_v47, Cert.Reference14Ideal.Read.val_main_v46, Cert.Reference14Ideal.Read.val_main_cst_12, Cert.Reference14Ideal.Read.val_main_v45, Cert.Reference14Ideal.Read.val_main_v44, Cert.Reference14Ideal.Read.val_main_cst_11, Cert.Reference14Ideal.Read.val_main_v43, Cert.Reference14Ideal.Read.val_main_v42, Cert.Reference14Ideal.Read.val_main_v41, Cert.Reference14Ideal.Read.val_main_v40, Cert.Reference14Ideal.Read.val_main_cst_10, Cert.Reference14Ideal.Read.val_main_v39, Cert.Reference14Ideal.Read.val_main_v37, Cert.Reference14Ideal.Read.val_main_v36, Cert.Reference14Ideal.Read.val_main_v35, Cert.Reference14Ideal.Read.val_main_cst_9, Cert.Reference14Ideal.Read.val_main_v34, Cert.Reference14Ideal.Read.val_main_v33, Cert.Reference14Ideal.Read.val_main_cst_8, Cert.Reference14Ideal.Read.val_main_v32, Cert.Reference14Ideal.Read.val_main_cst_7, Cert.Reference14Ideal.Read.val_main_v31, Cert.Reference14Ideal.Read.val_main_v30, Cert.Reference14Ideal.Read.val_main_cst_6, Cert.Reference14Ideal.Read.val_main_v29, Cert.Reference14Ideal.Read.val_main_v28, Cert.Reference14Ideal.Read.val_main_cst_5, Cert.Reference14Ideal.Read.val_main_v27, Cert.Reference14Ideal.Read.val_main_cst_4, Cert.Reference14Ideal.Read.val_main_v26, Cert.Reference14Ideal.Read.val_main_v25, Cert.Reference14Ideal.Read.val_main_cst_3, Cert.Reference14Ideal.Read.val_main_v24, Cert.Reference14Ideal.Read.val_main_v22, Cert.Reference14Ideal.Read.val_main_v21, Cert.Reference14Ideal.Read.val_main_v20, Cert.Reference14Ideal.Read.val_main_v19, Cert.Reference14Ideal.Read.val_main_v18, Cert.Reference14Ideal.Read.val_main_v17, Cert.Reference14Ideal.Read.val_main_v16, Cert.Reference14Ideal.Read.val_main_cst_2, Cert.Reference14Ideal.Read.val_main_v15, Cert.Reference14Ideal.Read.val_main_v14, Cert.Reference14Ideal.Read.val_main_v13, Cert.Reference14Ideal.Read.val_main_v12, Cert.Reference14Ideal.Read.val_main_cst_1, Cert.Reference14Ideal.Read.val_main_v11, Cert.Reference14Ideal.Read.val_main_v10, Cert.Reference14Ideal.Read.val_main_cst_0, Cert.Reference14Ideal.Read.val_main_v9, Cert.Reference14Ideal.Read.val_main_v8, Cert.Reference14Ideal.Read.val_main_cst, Cert.Reference14Ideal.Read.val_main_v7, Cert.Reference14Ideal.Read.val_main_v6, ref_hs, ref_dn, dh, drows, rinv]
  rw [Finset.sum_congr rfl fun k _ => mul_comm (dn (hs a w h) t v (ix2 (i 0) k) * v (ix2 0 k)) (hs a w h (ix2 (i 0) k))]
  have key := Cert.NormBack.back_eq (fun k => hs a w h (ix2 (i 0) k)) 0 (hs a w h i) (dn (hs a w h) t v i * v (ix2 0 (i 1)))
    (∑ k : Fin 2048, hs a w h (ix2 (i 0) k) * (dn (hs a w h) t v (ix2 (i 0) k) * v (ix2 0 k)))
  rw [zero_add, zero_add] at key
  exact key

/-- The reference's cotangents of the rows in the narrow format. -/
theorem ref_dhl (a : Vec Ideal S8x4096x704 .bf16) (w : Vec Ideal S5632x2048 .bf16) (h t : Vec Ideal S4096x2048 .f32) (v : Vec Ideal S1x2048 .f32) : Cert.Reference14Ideal.Read.val_main_v61 (F := Ideal) a w h t v = dhl a w h t v := by
  funext i
  exact congrFun (ref_dh a w h t v) i

/-- The reference's losses of the blocks of rows. -/
theorem ref_dloss (a : Vec Ideal S8x4096x704 .bf16) (w : Vec Ideal S5632x2048 .bf16) (h t : Vec Ideal S4096x2048 .f32) (v : Vec Ideal S1x2048 .f32) : Cert.Reference14Ideal.Read.val_main_v68 (F := Ideal) a w h t v = dloss a w h t v := by
  funext i
  pointwise [Cert.Reference14Ideal.Read.val_main_v68, Cert.Reference14Ideal.Read.val_main_v67, Cert.Reference14Ideal.Read.val_main_v66, Cert.Reference14Ideal.Read.val_main_v65, Cert.Reference14Ideal.Read.val_main_cst_16, Cert.Reference14Ideal.Read.val_main_v64, Cert.Reference14Ideal.Read.val_main_v63, Cert.Reference14Ideal.Read.val_main_v62, Cert.Reference14Ideal.Read.val_main_v61, Cert.Reference14Ideal.Read.val_main_v60, Cert.Reference14Ideal.Read.val_main_cst_15, Cert.Reference14Ideal.Read.val_main_v59, Cert.Reference14Ideal.Read.val_main_v58, Cert.Reference14Ideal.Read.val_main_v57, Cert.Reference14Ideal.Read.val_main_v56, Cert.Reference14Ideal.Read.val_main_v55, Cert.Reference14Ideal.Read.val_main_v54, Cert.Reference14Ideal.Read.val_main_v53, Cert.Reference14Ideal.Read.val_main_cst_14, Cert.Reference14Ideal.Read.val_main_v52, Cert.Reference14Ideal.Read.val_main_v51, Cert.Reference14Ideal.Read.val_main_cst_13, Cert.Reference14Ideal.Read.val_main_v50, Cert.Reference14Ideal.Read.val_main_v49, Cert.Reference14Ideal.Read.val_main_v48, Cert.Reference14Ideal.Read.val_main_v47, Cert.Reference14Ideal.Read.val_main_v46, Cert.Reference14Ideal.Read.val_main_cst_12, Cert.Reference14Ideal.Read.val_main_v45, Cert.Reference14Ideal.Read.val_main_v44, Cert.Reference14Ideal.Read.val_main_cst_11, Cert.Reference14Ideal.Read.val_main_v43, Cert.Reference14Ideal.Read.val_main_v42, Cert.Reference14Ideal.Read.val_main_v41, Cert.Reference14Ideal.Read.val_main_v40, Cert.Reference14Ideal.Read.val_main_cst_10, Cert.Reference14Ideal.Read.val_main_v39, Cert.Reference14Ideal.Read.val_main_v37, Cert.Reference14Ideal.Read.val_main_v36, Cert.Reference14Ideal.Read.val_main_v35, Cert.Reference14Ideal.Read.val_main_cst_9, Cert.Reference14Ideal.Read.val_main_v34, Cert.Reference14Ideal.Read.val_main_v33, Cert.Reference14Ideal.Read.val_main_cst_8, Cert.Reference14Ideal.Read.val_main_v32, Cert.Reference14Ideal.Read.val_main_cst_7, Cert.Reference14Ideal.Read.val_main_v31, Cert.Reference14Ideal.Read.val_main_v30, Cert.Reference14Ideal.Read.val_main_cst_6, Cert.Reference14Ideal.Read.val_main_v29, Cert.Reference14Ideal.Read.val_main_v28, Cert.Reference14Ideal.Read.val_main_cst_5, Cert.Reference14Ideal.Read.val_main_v27, Cert.Reference14Ideal.Read.val_main_cst_4, Cert.Reference14Ideal.Read.val_main_v26, Cert.Reference14Ideal.Read.val_main_v25, Cert.Reference14Ideal.Read.val_main_cst_3, Cert.Reference14Ideal.Read.val_main_v24, Cert.Reference14Ideal.Read.val_main_cst_2, Cert.Reference14Ideal.Read.val_main_cst_1, Cert.Reference14Ideal.Read.val_main_cst_0, Cert.Reference14Ideal.Read.val_main_cst, ref_er, dloss]
  exact (block_loss _).symm

/-- The kernel's run: each result is the array named for it, its arguments end as they were. -/
theorem run : θ_run defs (onTc (τ := τ) (main (F := Ideal))) ⟨m, fun _ => 0, ρ⟩ fun r => ∀ c : Dev nD,
      r.2.mem ((c : Thread nD τ).loc main_v0_0) = dh (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_1) = dhl (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_2) = dloss (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_3) = dgain (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_x m c), (h c).2.1.trans (final_l m c), (h c).2.2.1.trans (final_s m c), (h c).2.2.2.1.trans (final_w m c), (h c).2.2.2.2⟩) (Value.run_blocks m ρ)

/-- Over the reals the call and the reference give the same results from the same arguments. -/
theorem agrees : Cert.algebraic_Kernel14Ideal_Reference14Ideal := by
  intro m g m' g' _ hargs
  refine ⟨fun c => dh (m ((c : Thread nD τ).loc main_arg0)) (m ((c : Thread nD τ).loc main_arg1)) (m ((c : Thread nD τ).loc main_arg2)) (m ((c : Thread nD τ).loc main_arg3)) (m ((c : Thread nD τ).loc main_arg4)), fun c => dhl (m ((c : Thread nD τ).loc main_arg0)) (m ((c : Thread nD τ).loc main_arg1)) (m ((c : Thread nD τ).loc main_arg2)) (m ((c : Thread nD τ).loc main_arg3)) (m ((c : Thread nD τ).loc main_arg4)), fun c => dloss (m ((c : Thread nD τ).loc main_arg0)) (m ((c : Thread nD τ).loc main_arg1)) (m ((c : Thread nD τ).loc main_arg2)) (m ((c : Thread nD τ).loc main_arg3)) (m ((c : Thread nD τ).loc main_arg4)), fun c => dgain (m ((c : Thread nD τ).loc main_arg0)) (m ((c : Thread nD τ).loc main_arg1)) (m ((c : Thread nD τ).loc main_arg2)) (m ((c : Thread nD τ).loc main_arg3)) (m ((c : Thread nD τ).loc main_arg4)), run m g, ?_⟩
  refine (θ_run Cert.Reference14Ideal.defs _ _).mono (fun r h c => ⟨(h c).1.trans ?_, (h c).2.1.trans ?_, (h c).2.2.1.trans ?_, (h c).2.2.2.1.trans ?_, (h c).2.2.2.2⟩) (Cert.Reference14Ideal.Value.run (F := Ideal) m' g')
  · rw [Cert.Reference14Ideal.Read.val_main_v58_eq, (hargs c).1, (hargs c).2.1, (hargs c).2.2.1, (hargs c).2.2.2.1, (hargs c).2.2.2.2]
    exact ref_dh _ _ _ _ _
  · rw [Cert.Reference14Ideal.Read.val_main_v61_eq, (hargs c).1, (hargs c).2.1, (hargs c).2.2.1, (hargs c).2.2.2.1, (hargs c).2.2.2.2]
    exact ref_dhl _ _ _ _ _
  · rw [Cert.Reference14Ideal.Read.val_main_v68_eq, (hargs c).1, (hargs c).2.1, (hargs c).2.2.1, (hargs c).2.2.2.1, (hargs c).2.2.2.2]
    exact ref_dloss _ _ _ _ _
  · rw [Cert.Reference14Ideal.Read.val_main_v69_eq, (hargs c).1, (hargs c).2.1, (hargs c).2.2.1, (hargs c).2.2.2.1, (hargs c).2.2.2.2]
    exact ref_dgain _ _ _ _ _

/-- The reference's run on its own: its arguments end as they were. -/
theorem ref_frame : Cert.quiescent_Reference14Ideal := fun m g _ =>
  (θ_run Cert.Reference14Ideal.defs _ _).mono (fun r h => ⟨fun c => (h c).2.2.2.2, sem_eq_zero_of_no_sems (by decide) r.2⟩)
    (Cert.Reference14Ideal.Value.run (F := Ideal) m g)

end Cert.Kernel14Ideal.Loss

end
-- ==== Proof.AdamStep.lean ====
module

public import Idealize.ShloMosaic.Lib.Pointwise

/-! One entry's step of the optimiser, over the extended reals. -/

@[expose] public section

noncomputable section

namespace Cert.AdamStep

open Idealize.ShloMosaic

/-- The new first moment. -/
def first (g m : EReal) : EReal := Ideal.ofBits .f32 0x3F666666#32 * m + Ideal.ofBits .f32 0x3DCCCCCD#32 * g

/-- The new second moment. -/
def second (g v : EReal) : EReal := Ideal.ofBits .f32 0x3F7FBE77#32 * v + Ideal.ofBits .f32 0x3A83126F#32 * (g * g)

/-- The change of the weight. -/
def change (g w m v : EReal) : EReal :=
  Ideal.ofBits .f32 0xBA83126F#32
    * (Ideal.div (Ideal.div (first g m) (Ideal.ofBits .f32 0x3F26BD02#32)) (Ideal.sqrt (Ideal.div (second g v) (Ideal.ofBits .f32 0x3C231ACC#32)) + Ideal.ofBits .f32 0x322BCC77#32)
      + Ideal.ofBits .f32 0x3C23D70A#32 * w)

end Cert.AdamStep

end
-- ==== Proof.AdamOut.lean ====
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ValueKit
public import Idealize.ShloMosaic.Lib.Pipeline.ValueKit.Point
public import Idealize.ShloMosaic.Lib.Pointwise
public import proofs.«01_k».proof.Proof.AdamStep

/-! The step of the optimiser for one device's rows of the output projection's weight: the kernel and the reference agree over the reals. -/

@[expose] public section

noncomputable section

namespace Cert.Kernel15Ideal.Adam

open Idealize.ShloMosaic Idealize.ShloMosaic.TcCoe Idealize.SL.Sem
open Cert.Kernel15Ideal Cert.Kernel15Ideal.Gen

variable (m : (ℓ : Loc nD τ sig) → Buf (Elt Ideal) ℓ) (ρ : Dev nD → PrngReg)

/-- The gradient: the sum of the devices' parts. -/
def grad (p : Vec Ideal S8x256x2048 .bf16) : Vec Ideal S256x2048 .f32 := fun i => ∑ d : Fin 8, p (ix3 d (i 0) (i 1))

/-- The first moments after the step. -/
def moment1 (p : Vec Ideal S8x256x2048 .bf16) (m : Vec Ideal S256x2048 .f32) : Vec Ideal S256x2048 .f32 := fun i => Cert.AdamStep.first (grad p i) (m i)

/-- The second moments after the step. -/
def moment2 (p : Vec Ideal S8x256x2048 .bf16) (v : Vec Ideal S256x2048 .f32) : Vec Ideal S256x2048 .f32 := fun i => Cert.AdamStep.second (grad p i) (v i)

/-- The changes of the weights. -/
def delta (p : Vec Ideal S8x256x2048 .bf16) (w m v : Vec Ideal S256x2048 .f32) : Vec Ideal S256x2048 .f32 := fun i => Cert.AdamStep.change (grad p i) (w i) (m i) (v i)

theorem index_1 : ∀ t : Fin cfg0.N, win0_1.index t = ![(grid0.coords t 0).val, 0] := (by decide +kernel : ∀ t : Fin grid0.N, _)
theorem index_2 : ∀ t : Fin cfg0.N, win0_2.index t = ![(grid0.coords t 0).val, 0] := (by decide +kernel : ∀ t : Fin grid0.N, _)
theorem index_3 : ∀ t : Fin cfg0.N, win0_3.index t = ![(grid0.coords t 0).val, 0] := (by decide +kernel : ∀ t : Fin grid0.N, _)
theorem index_4 : ∀ t : Fin cfg0.N, win0_4.index t = ![(grid0.coords t 0).val, 0] := (by decide +kernel : ∀ t : Fin grid0.N, _)
theorem index_5 : ∀ t : Fin cfg0.N, win0_5.index t = ![(grid0.coords t 0).val, 0] := (by decide +kernel : ∀ t : Fin grid0.N, _)
theorem index_6 : ∀ t : Fin cfg0.N, win0_6.index t = ![(grid0.coords t 0).val, 0] := (by decide +kernel : ∀ t : Fin grid0.N, _)
theorem index_7 : ∀ t : Fin cfg0.N, win0_7.index t = ![(grid0.coords t 0).val, 0] := (by decide +kernel : ∀ t : Fin grid0.N, _)
theorem index_0 : ∀ t : Fin cfg0.N, win0_0.index t = ![0, (grid0.coords t 0).val, 0] := (by decide +kernel : ∀ t : Fin grid0.N, _)

/-- After the run this result array is `grad` of the argument arrays. -/
theorem final_g (c : Dev nD) : (dats m 0 c).arrAt 4 cfg0.N
    = grad (m ((c : Thread nD τ).loc main_arg0)) := by
  refine (dats m 0 c).arrAt_eq_of_covers 4 _ (by decide +kernel) fun t hf y => ?_
  blk_simp
  rw [after0_4]
  unfold outsAt0 out0_A_4
  frame_out
  pointwise [k0_pay1, k0_pay2, k0_pay3, k0_pay4, grad, grad, Fin.sum_univ_eight, Cert.AdamStep.first, Cert.AdamStep.second, Cert.AdamStep.change]
  blk_point [iblk, V, index_0, index_1, index_2, index_3, index_4, index_5, index_6, index_7]

/-- After the run this result array is `delta` of the argument arrays. -/
theorem final_d (c : Dev nD) : (dats m 0 c).arrAt 5 cfg0.N
    = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  unfold outsAt0 out0_A_5
  frame_out
  pointwise [k0_pay1, k0_pay2, k0_pay3, k0_pay4, delta, grad, Fin.sum_univ_eight, Cert.AdamStep.first, Cert.AdamStep.second, Cert.AdamStep.change]
  blk_point [iblk, V, index_0, index_1, index_2, index_3, index_4, index_5, index_6, index_7]

/-- After the run this result array is `moment1` of the argument arrays. -/
theorem final_m (c : Dev nD) : (dats m 0 c).arrAt 6 cfg0.N
    = moment1 (m ((c : Thread nD τ).loc main_arg0)) (m ((c : Thread nD τ).loc main_arg2)) := by
  refine (dats m 0 c).arrAt_eq_of_covers 6 _ (by decide +kernel) fun t hf y => ?_
  blk_simp
  rw [after0_6]
  unfold outsAt0 out0_A_6
  frame_out
  pointwise [k0_pay1, k0_pay2, k0_pay3, k0_pay4, moment1, grad, Fin.sum_univ_eight, Cert.AdamStep.first, Cert.AdamStep.second, Cert.AdamStep.change]
  blk_point [iblk, V, index_0, index_1, index_2, index_3, index_4, index_5, index_6, index_7]

/-- After the run this result array is `moment2` of the argument arrays. -/
theorem final_v (c : Dev nD) : (dats m 0 c).arrAt 7 cfg0.N
    = moment2 (m ((c : Thread nD τ).loc main_arg0)) (m ((c : Thread nD τ).loc main_arg3)) := by
  refine (dats m 0 c).arrAt_eq_of_covers 7 _ (by decide +kernel) fun t hf y => ?_
  blk_simp
  rw [after0_7]
  unfold outsAt0 out0_A_7
  frame_out
  pointwise [k0_pay1, k0_pay2, k0_pay3, k0_pay4, moment2, grad, Fin.sum_univ_eight, Cert.AdamStep.first, Cert.AdamStep.second, Cert.AdamStep.change]
  blk_point [iblk, V, index_0, index_1, index_2, index_3, index_4, index_5, index_6, index_7]

/-- The reference's gradient, read at an index. -/
theorem ref_grad (p : Vec Ideal S8x256x2048 .bf16) : Cert.Reference15Ideal.Read.val_main_v1 (F := Ideal) p = grad p := by
  funext i
  pointwise [Cert.Reference15Ideal.Read.val_main_v1, Cert.Reference15Ideal.Read.val_main_cst, Cert.Reference15Ideal.Read.val_main_v0, grad]

/-- The reference's first moments. -/
theorem ref_moment1 (p : Vec Ideal S8x256x2048 .bf16) (m : Vec Ideal S256x2048 .f32) : Cert.Reference15Ideal.Read.val_main_v6 (F := Ideal) p m = moment1 p m := by
  funext i
  pointwise [Cert.Reference15Ideal.Read.val_main_v25, Cert.Reference15Ideal.Read.val_main_v24, Cert.Reference15Ideal.Read.val_main_cst_8, Cert.Reference15Ideal.Read.val_main_v23, Cert.Reference15Ideal.Read.val_main_v22, Cert.Reference15Ideal.Read.val_main_v21, Cert.Reference15Ideal.Read.val_main_cst_7, Cert.Reference15Ideal.Read.val_main_v20, Cert.Reference15Ideal.Read.val_main_v19, Cert.Reference15Ideal.Read.val_main_v18, Cert.Reference15Ideal.Read.val_main_cst_6, Cert.Reference15Ideal.Read.val_main_v17, Cert.Reference15Ideal.Read.val_main_v16, Cert.Reference15Ideal.Read.val_main_v15, Cert.Reference15Ideal.Read.val_main_cst_5, Cert.Reference15Ideal.Read.val_main_v14, Cert.Reference15Ideal.Read.val_main_v13, Cert.Reference15Ideal.Read.val_main_cst_4, Cert.Reference15Ideal.Read.val_main_v12, Cert.Reference15Ideal.Read.val_main_v11, Cert.Reference15Ideal.Read.val_main_v10, Cert.Reference15Ideal.Read.val_main_cst_3, Cert.Reference15Ideal.Read.val_main_v9, Cert.Reference15Ideal.Read.val_main_v8, Cert.Reference15Ideal.Read.val_main_v7, Cert.Reference15Ideal.Read.val_main_cst_2, Cert.Reference15Ideal.Read.val_main_v6, Cert.Reference15Ideal.Read.val_main_v5, Cert.Reference15Ideal.Read.val_main_v4, Cert.Reference15Ideal.Read.val_main_cst_1, Cert.Reference15Ideal.Read.val_main_v3, Cert.Reference15Ideal.Read.val_main_v2, Cert.Reference15Ideal.Read.val_main_cst_0, Cert.Reference15Ideal.Read.val_main_cst, ref_grad, moment1, Cert.AdamStep.first, Cert.AdamStep.second, Cert.AdamStep.change]

/-- The reference's second moments. -/
theorem ref_moment2 (p : Vec Ideal S8x256x2048 .bf16) (v : Vec Ideal S256x2048 .f32) : Cert.Reference15Ideal.Read.val_main_v12 (F := Ideal) p v = moment2 p v := by
  funext i
  pointwise [Cert.Reference15Ideal.Read.val_main_v25, Cert.Reference15Ideal.Read.val_main_v24, Cert.Reference15Ideal.Read.val_main_cst_8, Cert.Reference15Ideal.Read.val_main_v23, Cert.Reference15Ideal.Read.val_main_v22, Cert.Reference15Ideal.Read.val_main_v21, Cert.Reference15Ideal.Read.val_main_cst_7, Cert.Reference15Ideal.Read.val_main_v20, Cert.Reference15Ideal.Read.val_main_v19, Cert.Reference15Ideal.Read.val_main_v18, Cert.Reference15Ideal.Read.val_main_cst_6, Cert.Reference15Ideal.Read.val_main_v17, Cert.Reference15Ideal.Read.val_main_v16, Cert.Reference15Ideal.Read.val_main_v15, Cert.Reference15Ideal.Read.val_main_cst_5, Cert.Reference15Ideal.Read.val_main_v14, Cert.Reference15Ideal.Read.val_main_v13, Cert.Reference15Ideal.Read.val_main_cst_4, Cert.Reference15Ideal.Read.val_main_v12, Cert.Reference15Ideal.Read.val_main_v11, Cert.Reference15Ideal.Read.val_main_v10, Cert.Reference15Ideal.Read.val_main_cst_3, Cert.Reference15Ideal.Read.val_main_v9, Cert.Reference15Ideal.Read.val_main_v8, Cert.Reference15Ideal.Read.val_main_v7, Cert.Reference15Ideal.Read.val_main_cst_2, Cert.Reference15Ideal.Read.val_main_v6, Cert.Reference15Ideal.Read.val_main_v5, Cert.Reference15Ideal.Read.val_main_v4, Cert.Reference15Ideal.Read.val_main_cst_1, Cert.Reference15Ideal.Read.val_main_v3, Cert.Reference15Ideal.Read.val_main_v2, Cert.Reference15Ideal.Read.val_main_cst_0, Cert.Reference15Ideal.Read.val_main_cst, ref_grad, moment2, Cert.AdamStep.first, Cert.AdamStep.second, Cert.AdamStep.change]

/-- The reference's changes of the weights. -/
theorem ref_delta (p : Vec Ideal S8x256x2048 .bf16) (w m v : Vec Ideal S256x2048 .f32) : Cert.Reference15Ideal.Read.val_main_v25 (F := Ideal) p w m v = delta p w m v := by
  funext i
  pointwise [Cert.Reference15Ideal.Read.val_main_v25, Cert.Reference15Ideal.Read.val_main_v24, Cert.Reference15Ideal.Read.val_main_cst_8, Cert.Reference15Ideal.Read.val_main_v23, Cert.Reference15Ideal.Read.val_main_v22, Cert.Reference15Ideal.Read.val_main_v21, Cert.Reference15Ideal.Read.val_main_cst_7, Cert.Reference15Ideal.Read.val_main_v20, Cert.Reference15Ideal.Read.val_main_v19, Cert.Reference15Ideal.Read.val_main_v18, Cert.Reference15Ideal.Read.val_main_cst_6, Cert.Reference15Ideal.Read.val_main_v17, Cert.Reference15Ideal.Read.val_main_v16, Cert.Reference15Ideal.Read.val_main_v15, Cert.Reference15Ideal.Read.val_main_cst_5, Cert.Reference15Ideal.Read.val_main_v14, Cert.Reference15Ideal.Read.val_main_v13, Cert.Reference15Ideal.Read.val_main_cst_4, Cert.Reference15Ideal.Read.val_main_v12, Cert.Reference15Ideal.Read.val_main_v11, Cert.Reference15Ideal.Read.val_main_v10, Cert.Reference15Ideal.Read.val_main_cst_3, Cert.Reference15Ideal.Read.val_main_v9, Cert.Reference15Ideal.Read.val_main_v8, Cert.Reference15Ideal.Read.val_main_v7, Cert.Reference15Ideal.Read.val_main_cst_2, Cert.Reference15Ideal.Read.val_main_v6, Cert.Reference15Ideal.Read.val_main_v5, Cert.Reference15Ideal.Read.val_main_v4, Cert.Reference15Ideal.Read.val_main_cst_1, Cert.Reference15Ideal.Read.val_main_v3, Cert.Reference15Ideal.Read.val_main_v2, Cert.Reference15Ideal.Read.val_main_cst_0, Cert.Reference15Ideal.Read.val_main_cst, ref_grad, delta, Cert.AdamStep.first, Cert.AdamStep.second, Cert.AdamStep.change]

/-- The kernel's run: each result is the array named for it, its arguments end as they were. -/
theorem run : θ_run defs (onTc (τ := τ) (main (F := Ideal))) ⟨m, fun _ => 0, ρ⟩ fun r => ∀ c : Dev nD,
      r.2.mem ((c : Thread nD τ).loc main_v0_0) = grad (m ((c : Thread nD τ).loc main_arg0))
      ∧ r.2.mem ((c : Thread nD τ).loc main_v0_1) = delta (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = moment1 (m ((c : Thread nD τ).loc main_arg0)) (m ((c : Thread nD τ).loc main_arg2))
      ∧ r.2.mem ((c : Thread nD τ).loc main_v0_3) = moment2 (m ((c : Thread nD τ).loc main_arg0)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_g m c), (h c).2.1.trans (final_d m c), (h c).2.2.1.trans (final_m m c), (h c).2.2.2.1.trans (final_v m c), (h c).2.2.2.2⟩) (Value.run_blocks m ρ)

/-- Over the reals the call and the reference give the same results from the same arguments. -/
theorem agrees : Cert.algebraic_Kernel15Ideal_Reference15Ideal := by
  intro m g m' g' _ hargs
  refine ⟨fun c => grad (m ((c : Thread nD τ).loc main_arg0)), fun c => delta (m ((c : Thread nD τ).loc main_arg0)) (m ((c : Thread nD τ).loc main_arg1)) (m ((c : Thread nD τ).loc main_arg2)) (m ((c : Thread nD τ).loc main_arg3)), fun c => moment1 (m ((c : Thread nD τ).loc main_arg0)) (m ((c : Thread nD τ).loc main_arg2)), fun c => moment2 (m ((c : Thread nD τ).loc main_arg0)) (m ((c : Thread nD τ).loc main_arg3)), run m g, ?_⟩
  refine (θ_run Cert.Reference15Ideal.defs _ _).mono (fun r h c => ⟨(h c).1.trans ?_, (h c).2.1.trans ?_, (h c).2.2.1.trans ?_, (h c).2.2.2.1.trans ?_, (h c).2.2.2.2⟩) (Cert.Reference15Ideal.Value.run (F := Ideal) m' g')
  · rw [(hargs c).1]
    exact ref_grad _
  · rw [(hargs c).1, (hargs c).2.1, (hargs c).2.2.1, (hargs c).2.2.2]
    exact ref_delta _ _ _ _
  · rw [(hargs c).1, (hargs c).2.2.1]
    exact ref_moment1 _ _
  · rw [(hargs c).1, (hargs c).2.2.2]
    exact ref_moment2 _ _

/-- The reference's run on its own: its arguments end as they were. -/
theorem ref_frame : Cert.quiescent_Reference15Ideal := fun m g _ =>
  (θ_run Cert.Reference15Ideal.defs _ _).mono (fun r h => ⟨fun c => (h c).2.2.2.2, sem_eq_zero_of_no_sems (by decide) r.2⟩)
    (Cert.Reference15Ideal.Value.run (F := Ideal) m g)

end Cert.Kernel15Ideal.Adam

end
-- ==== Proof.AdamFfn.lean ====
module

public import proofs.«01_k».proof.Defs
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pipeline.ValueKit
public import Idealize.ShloMosaic.Lib.Pipeline.ValueKit.Point
public import Idealize.ShloMosaic.Lib.Pointwise
public import proofs.«01_k».proof.Proof.AdamStep

/-! The step of the optimiser for one device's rows of a weight of the feed-forward part: the kernel and the reference agree over the reals. -/

@[expose] public section

noncomputable section

namespace Cert.Kernel16Ideal.Adam

open Idealize.ShloMosaic Idealize.ShloMosaic.TcCoe Idealize.SL.Sem
open Cert.Kernel16Ideal Cert.Kernel16Ideal.Gen

variable (m : (ℓ : Loc nD τ sig) → Buf (Elt Ideal) ℓ) (ρ : Dev nD → PrngReg)

/-- The gradient: the sum of the devices' parts. -/
def grad (p : Vec Ideal S8x704x2048 .bf16) : Vec Ideal S704x2048 .f32 := fun i => ∑ d : Fin 8, p (ix3 d (i 0) (i 1))

/-- The first moments after the step. -/
def moment1 (p : Vec Ideal S8x704x2048 .bf16) (m : Vec Ideal S704x2048 .f32) : Vec Ideal S704x2048 .f32 := fun i => Cert.AdamStep.first (grad p i) (m i)

/-- The second moments after the step. -/
def moment2 (p : Vec Ideal S8x704x2048 .bf16) (v : Vec Ideal S704x2048 .f32) : Vec Ideal S704x2048 .f32 := fun i => Cert.AdamStep.second (grad p i) (v i)

/-- The changes of the weights. -/
def delta (p : Vec Ideal S8x704x2048 .bf16) (w m v : Vec Ideal S704x2048 .f32) : Vec Ideal S704x2048 .f32 := fun i => Cert.AdamStep.change (grad p i) (w i) (m i) (v i)

theorem index_1 : ∀ t : Fin cfg0.N, win0_1.index t = ![(grid0.coords t 0).val, 0] := (by decide +kernel : ∀ t : Fin grid0.N, _)
theorem index_2 : ∀ t : Fin cfg0.N, win0_2.index t = ![(grid0.coords t 0).val, 0] := (by decide +kernel : ∀ t : Fin grid0.N, _)
theorem index_3 : ∀ t : Fin cfg0.N, win0_3.index t = ![(grid0.coords t 0).val, 0] := (by decide +kernel : ∀ t : Fin grid0.N, _)
theorem index_4 : ∀ t : Fin cfg0.N, win0_4.index t = ![(grid0.coords t 0).val, 0] := (by decide +kernel : ∀ t : Fin grid0.N, _)
theorem index_5 : ∀ t : Fin cfg0.N, win0_5.index t = ![(grid0.coords t 0).val, 0] := (by decide +kernel : ∀ t : Fin grid0.N, _)
theorem index_6 : ∀ t : Fin cfg0.N, win0_6.index t = ![(grid0.coords t 0).val, 0] := (by decide +kernel : ∀ t : Fin grid0.N, _)
theorem index_7 : ∀ t : Fin cfg0.N, win0_7.index t = ![(grid0.coords t 0).val, 0] := (by decide +kernel : ∀ t : Fin grid0.N, _)
theorem index_0 : ∀ t : Fin cfg0.N, win0_0.index t = ![0, (grid0.coords t 0).val, 0] := (by decide +kernel : ∀ t : Fin grid0.N, _)

/-- After the run this result array is `grad` of the argument arrays. -/
theorem final_g (c : Dev nD) : (dats m 0 c).arrAt 4 cfg0.N
    = grad (m ((c : Thread nD τ).loc main_arg0)) := by
  refine (dats m 0 c).arrAt_eq_of_covers 4 _ (by decide +kernel) fun t hf y => ?_
  blk_simp
  rw [after0_4]
  unfold outsAt0 out0_A_4
  frame_out
  pointwise [k0_pay1, k0_pay2, k0_pay3, k0_pay4, grad, grad, Fin.sum_univ_eight, Cert.AdamStep.first, Cert.AdamStep.second, Cert.AdamStep.change]
  blk_point [iblk, V, index_0, index_1, index_2, index_3, index_4, index_5, index_6, index_7]

/-- After the run this result array is `delta` of the argument arrays. -/
theorem final_d (c : Dev nD) : (dats m 0 c).arrAt 5 cfg0.N
    = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  unfold outsAt0 out0_A_5
  frame_out
  pointwise [k0_pay1, k0_pay2, k0_pay3, k0_pay4, delta, grad, Fin.sum_univ_eight, Cert.AdamStep.first, Cert.AdamStep.second, Cert.AdamStep.change]
  blk_point [iblk, V, index_0, index_1, index_2, index_3, index_4, index_5, index_6, index_7]

/-- After the run this result array is `moment1` of the argument arrays. -/
theorem final_m (c : Dev nD) : (dats m 0 c).arrAt 6 cfg0.N
    = moment1 (m ((c : Thread nD τ).loc main_arg0)) (m ((c : Thread nD τ).loc main_arg2)) := by
  refine (dats m 0 c).arrAt_eq_of_covers 6 _ (by decide +kernel) fun t hf y => ?_
  blk_simp
  rw [after0_6]
  unfold outsAt0 out0_A_6
  frame_out
  pointwise [k0_pay1, k0_pay2, k0_pay3, k0_pay4, moment1, grad, Fin.sum_univ_eight, Cert.AdamStep.first, Cert.AdamStep.second, Cert.AdamStep.change]
  blk_point [iblk, V, index_0, index_1, index_2, index_3, index_4, index_5, index_6, index_7]

/-- After the run this result array is `moment2` of the argument arrays. -/
theorem final_v (c : Dev nD) : (dats m 0 c).arrAt 7 cfg0.N
    = moment2 (m ((c : Thread nD τ).loc main_arg0)) (m ((c : Thread nD τ).loc main_arg3)) := by
  refine (dats m 0 c).arrAt_eq_of_covers 7 _ (by decide +kernel) fun t hf y => ?_
  blk_simp
  rw [after0_7]
  unfold outsAt0 out0_A_7
  frame_out
  pointwise [k0_pay1, k0_pay2, k0_pay3, k0_pay4, moment2, grad, Fin.sum_univ_eight, Cert.AdamStep.first, Cert.AdamStep.second, Cert.AdamStep.change]
  blk_point [iblk, V, index_0, index_1, index_2, index_3, index_4, index_5, index_6, index_7]

/-- The reference's gradient, read at an index. -/
theorem ref_grad (p : Vec Ideal S8x704x2048 .bf16) : Cert.Reference16Ideal.Read.val_main_v1 (F := Ideal) p = grad p := by
  funext i
  pointwise [Cert.Reference16Ideal.Read.val_main_v1, Cert.Reference16Ideal.Read.val_main_cst, Cert.Reference16Ideal.Read.val_main_v0, grad]

/-- The reference's first moments. -/
theorem ref_moment1 (p : Vec Ideal S8x704x2048 .bf16) (m : Vec Ideal S704x2048 .f32) : Cert.Reference16Ideal.Read.val_main_v6 (F := Ideal) p m = moment1 p m := by
  funext i
  pointwise [Cert.Reference16Ideal.Read.val_main_v25, Cert.Reference16Ideal.Read.val_main_v24, Cert.Reference16Ideal.Read.val_main_cst_8, Cert.Reference16Ideal.Read.val_main_v23, Cert.Reference16Ideal.Read.val_main_v22, Cert.Reference16Ideal.Read.val_main_v21, Cert.Reference16Ideal.Read.val_main_cst_7, Cert.Reference16Ideal.Read.val_main_v20, Cert.Reference16Ideal.Read.val_main_v19, Cert.Reference16Ideal.Read.val_main_v18, Cert.Reference16Ideal.Read.val_main_cst_6, Cert.Reference16Ideal.Read.val_main_v17, Cert.Reference16Ideal.Read.val_main_v16, Cert.Reference16Ideal.Read.val_main_v15, Cert.Reference16Ideal.Read.val_main_cst_5, Cert.Reference16Ideal.Read.val_main_v14, Cert.Reference16Ideal.Read.val_main_v13, Cert.Reference16Ideal.Read.val_main_cst_4, Cert.Reference16Ideal.Read.val_main_v12, Cert.Reference16Ideal.Read.val_main_v11, Cert.Reference16Ideal.Read.val_main_v10, Cert.Reference16Ideal.Read.val_main_cst_3, Cert.Reference16Ideal.Read.val_main_v9, Cert.Reference16Ideal.Read.val_main_v8, Cert.Reference16Ideal.Read.val_main_v7, Cert.Reference16Ideal.Read.val_main_cst_2, Cert.Reference16Ideal.Read.val_main_v6, Cert.Reference16Ideal.Read.val_main_v5, Cert.Reference16Ideal.Read.val_main_v4, Cert.Reference16Ideal.Read.val_main_cst_1, Cert.Reference16Ideal.Read.val_main_v3, Cert.Reference16Ideal.Read.val_main_v2, Cert.Reference16Ideal.Read.val_main_cst_0, Cert.Reference16Ideal.Read.val_main_cst, ref_grad, moment1, Cert.AdamStep.first, Cert.AdamStep.second, Cert.AdamStep.change]

/-- The reference's second moments. -/
theorem ref_moment2 (p : Vec Ideal S8x704x2048 .bf16) (v : Vec Ideal S704x2048 .f32) : Cert.Reference16Ideal.Read.val_main_v12 (F := Ideal) p v = moment2 p v := by
  funext i
  pointwise [Cert.Reference16Ideal.Read.val_main_v25, Cert.Reference16Ideal.Read.val_main_v24, Cert.Reference16Ideal.Read.val_main_cst_8, Cert.Reference16Ideal.Read.val_main_v23, Cert.Reference16Ideal.Read.val_main_v22, Cert.Reference16Ideal.Read.val_main_v21, Cert.Reference16Ideal.Read.val_main_cst_7, Cert.Reference16Ideal.Read.val_main_v20, Cert.Reference16Ideal.Read.val_main_v19, Cert.Reference16Ideal.Read.val_main_v18, Cert.Reference16Ideal.Read.val_main_cst_6, Cert.Reference16Ideal.Read.val_main_v17, Cert.Reference16Ideal.Read.val_main_v16, Cert.Reference16Ideal.Read.val_main_v15, Cert.Reference16Ideal.Read.val_main_cst_5, Cert.Reference16Ideal.Read.val_main_v14, Cert.Reference16Ideal.Read.val_main_v13, Cert.Reference16Ideal.Read.val_main_cst_4, Cert.Reference16Ideal.Read.val_main_v12, Cert.Reference16Ideal.Read.val_main_v11, Cert.Reference16Ideal.Read.val_main_v10, Cert.Reference16Ideal.Read.val_main_cst_3, Cert.Reference16Ideal.Read.val_main_v9, Cert.Reference16Ideal.Read.val_main_v8, Cert.Reference16Ideal.Read.val_main_v7, Cert.Reference16Ideal.Read.val_main_cst_2, Cert.Reference16Ideal.Read.val_main_v6, Cert.Reference16Ideal.Read.val_main_v5, Cert.Reference16Ideal.Read.val_main_v4, Cert.Reference16Ideal.Read.val_main_cst_1, Cert.Reference16Ideal.Read.val_main_v3, Cert.Reference16Ideal.Read.val_main_v2, Cert.Reference16Ideal.Read.val_main_cst_0, Cert.Reference16Ideal.Read.val_main_cst, ref_grad, moment2, Cert.AdamStep.first, Cert.AdamStep.second, Cert.AdamStep.change]

/-- The reference's changes of the weights. -/
theorem ref_delta (p : Vec Ideal S8x704x2048 .bf16) (w m v : Vec Ideal S704x2048 .f32) : Cert.Reference16Ideal.Read.val_main_v25 (F := Ideal) p w m v = delta p w m v := by
  funext i
  pointwise [Cert.Reference16Ideal.Read.val_main_v25, Cert.Reference16Ideal.Read.val_main_v24, Cert.Reference16Ideal.Read.val_main_cst_8, Cert.Reference16Ideal.Read.val_main_v23, Cert.Reference16Ideal.Read.val_main_v22, Cert.Reference16Ideal.Read.val_main_v21, Cert.Reference16Ideal.Read.val_main_cst_7, Cert.Reference16Ideal.Read.val_main_v20, Cert.Reference16Ideal.Read.val_main_v19, Cert.Reference16Ideal.Read.val_main_v18, Cert.Reference16Ideal.Read.val_main_cst_6, Cert.Reference16Ideal.Read.val_main_v17, Cert.Reference16Ideal.Read.val_main_v16, Cert.Reference16Ideal.Read.val_main_v15, Cert.Reference16Ideal.Read.val_main_cst_5, Cert.Reference16Ideal.Read.val_main_v14, Cert.Reference16Ideal.Read.val_main_v13, Cert.Reference16Ideal.Read.val_main_cst_4, Cert.Reference16Ideal.Read.val_main_v12, Cert.Reference16Ideal.Read.val_main_v11, Cert.Reference16Ideal.Read.val_main_v10, Cert.Reference16Ideal.Read.val_main_cst_3, Cert.Reference16Ideal.Read.val_main_v9, Cert.Reference16Ideal.Read.val_main_v8, Cert.Reference16Ideal.Read.val_main_v7, Cert.Reference16Ideal.Read.val_main_cst_2, Cert.Reference16Ideal.Read.val_main_v6, Cert.Reference16Ideal.Read.val_main_v5, Cert.Reference16Ideal.Read.val_main_v4, Cert.Reference16Ideal.Read.val_main_cst_1, Cert.Reference16Ideal.Read.val_main_v3, Cert.Reference16Ideal.Read.val_main_v2, Cert.Reference16Ideal.Read.val_main_cst_0, Cert.Reference16Ideal.Read.val_main_cst, ref_grad, delta, Cert.AdamStep.first, Cert.AdamStep.second, Cert.AdamStep.change]

/-- The kernel's run: each result is the array named for it, its arguments end as they were. -/
theorem run : θ_run defs (onTc (τ := τ) (main (F := Ideal))) ⟨m, fun _ => 0, ρ⟩ fun r => ∀ c : Dev nD,
      r.2.mem ((c : Thread nD τ).loc main_v0_0) = grad (m ((c : Thread nD τ).loc main_arg0))
      ∧ r.2.mem ((c : Thread nD τ).loc main_v0_1) = delta (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = moment1 (m ((c : Thread nD τ).loc main_arg0)) (m ((c : Thread nD τ).loc main_arg2))
      ∧ r.2.mem ((c : Thread nD τ).loc main_v0_3) = moment2 (m ((c : Thread nD τ).loc main_arg0)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_g m c), (h c).2.1.trans (final_d m c), (h c).2.2.1.trans (final_m m c), (h c).2.2.2.1.trans (final_v m c), (h c).2.2.2.2⟩) (Value.run_blocks m ρ)

/-- Over the reals the call and the reference give the same results from the same arguments. -/
theorem agrees : Cert.algebraic_Kernel16Ideal_Reference16Ideal := by
  intro m g m' g' _ hargs
  refine ⟨fun c => grad (m ((c : Thread nD τ).loc main_arg0)), fun c => delta (m ((c : Thread nD τ).loc main_arg0)) (m ((c : Thread nD τ).loc main_arg1)) (m ((c : Thread nD τ).loc main_arg2)) (m ((c : Thread nD τ).loc main_arg3)), fun c => moment1 (m ((c : Thread nD τ).loc main_arg0)) (m ((c : Thread nD τ).loc main_arg2)), fun c => moment2 (m ((c : Thread nD τ).loc main_arg0)) (m ((c : Thread nD τ).loc main_arg3)), run m g, ?_⟩
  refine (θ_run Cert.Reference16Ideal.defs _ _).mono (fun r h c => ⟨(h c).1.trans ?_, (h c).2.1.trans ?_, (h c).2.2.1.trans ?_, (h c).2.2.2.1.trans ?_, (h c).2.2.2.2⟩) (Cert.Reference16Ideal.Value.run (F := Ideal) m' g')
  · rw [(hargs c).1]
    exact ref_grad _
  · rw [(hargs c).1, (hargs c).2.1, (hargs c).2.2.1, (hargs c).2.2.2]
    exact ref_delta _ _ _ _
  · rw [(hargs c).1, (hargs c).2.2.1]
    exact ref_moment1 _ _
  · rw [(hargs c).1, (hargs c).2.2.2]
    exact ref_moment2 _ _

/-- The reference's run on its own: its arguments end as they were. -/
theorem ref_frame : Cert.quiescent_Reference16Ideal := fun m g _ =>
  (θ_run Cert.Reference16Ideal.defs _ _).mono (fun r h => ⟨fun c => (h c).2.2.2.2, sem_eq_zero_of_no_sems (by decide) r.2⟩)
    (Cert.Reference16Ideal.Value.run (F := Ideal) m g)

end Cert.Kernel16Ideal.Adam

end
-- ==== Proof.AdamIn.lean ====
module

public import proofs.«01_k».proof.Defs
public import proofs.«01_k».proof.Proof.Gen.Kernel17Ideal.Value
public import proofs.«01_k».proof.Proof.Gen.Reference17Ideal.Run
public import proofs.«01_k».proof.Proof.Gen.Reference17Ideal.Read
public import Idealize.ShloMosaic.Lib.Pipeline.ValueKit
public import Idealize.ShloMosaic.Lib.Pipeline.ValueKit.Point
public import Idealize.ShloMosaic.Lib.Pointwise
public import proofs.«01_k».proof.Proof.AdamStep

/-! The step of the optimiser for one device's columns of the input projection's weight: the kernel and the reference agree over the reals. -/

@[expose] public section

noncomputable section

namespace Cert.Kernel17Ideal.Adam

open Idealize.ShloMosaic Idealize.ShloMosaic.TcCoe Idealize.SL.Sem
open Cert.Kernel17Ideal Cert.Kernel17Ideal.Gen

variable (m : (ℓ : Loc nD τ sig) → Buf (Elt Ideal) ℓ) (ρ : Dev nD → PrngReg)

/-- One entry of one device's part of the gradient: the rows come in two halves. -/
def entry (p q : Vec Ideal S8x1024x896 .bf16) (d : Fin 8) (i : S2048x896.Idx) : EReal :=
  if h : (i 0).val < 1024 then p (ix3 d ⟨(i 0).val, h⟩ (i 1)) else q (ix3 d ⟨(i 0).val - 1024, by have h0 : (i 0).val < 2048 := (i 0).isLt; omega⟩ (i 1))

/-- The gradient: the sum of the devices' parts. -/
def grad (p q : Vec Ideal S8x1024x896 .bf16) : Vec Ideal S2048x896 .f32 := fun i => ∑ d : Fin 8, entry p q d i

/-- The first moments after the step. -/
def moment1 (p q : Vec Ideal S8x1024x896 .bf16) (m : Vec Ideal S2048x896 .f32) : Vec Ideal S2048x896 .f32 := fun i => Cert.AdamStep.first (grad p q i) (m i)

/-- The second moments after the step. -/
def moment2 (p q : Vec Ideal S8x1024x896 .bf16) (v : Vec Ideal S2048x896 .f32) : Vec Ideal S2048x896 .f32 := fun i => Cert.AdamStep.second (grad p q i) (v i)

/-- The changes of the weights. -/
def delta (p q : Vec Ideal S8x1024x896 .bf16) (w m v : Vec Ideal S2048x896 .f32) : Vec Ideal S2048x896 .f32 := fun i => Cert.AdamStep.change (grad p q i) (w i) (m i) (v i)

theorem index_2 : ∀ t : Fin cfg0.N, win0_2.index t = ![(grid0.coords t 0).val, 0] := (by decide +kernel : ∀ t : Fin grid0.N, _)
theorem index_3 : ∀ t : Fin cfg0.N, win0_3.index t = ![(grid0.coords t 0).val, 0] := (by decide +kernel : ∀ t : Fin grid0.N, _)
theorem index_4 : ∀ t : Fin cfg0.N, win0_4.index t = ![(grid0.coords t 0).val, 0] := (by decide +kernel : ∀ t : Fin grid0.N, _)
theorem index_5 : ∀ t : Fin cfg0.N, win0_5.index t = ![(grid0.coords t 0).val, 0] := (by decide +kernel : ∀ t : Fin grid0.N, _)
theorem index_6 : ∀ t : Fin cfg0.N, win0_6.index t = ![(grid0.coords t 0).val, 0] := (by decide +kernel : ∀ t : Fin grid0.N, _)
theorem index_7 : ∀ t : Fin cfg0.N, win0_7.index t = ![(grid0.coords t 0).val, 0] := (by decide +kernel : ∀ t : Fin grid0.N, _)
theorem index_8 : ∀ t : Fin cfg0.N, win0_8.index t = ![(grid0.coords t 0).val, 0] := (by decide +kernel : ∀ t : Fin grid0.N, _)
theorem index_0 : ∀ t : Fin cfg0.N, win0_0.index t = ![0, min (grid0.coords t 0).val 3, 0] := (by decide +kernel : ∀ t : Fin grid0.N, _)
theorem index_1 : ∀ t : Fin cfg0.N, win0_1.index t = ![0, (grid0.coords t 0).val - 4, 0] := (by decide +kernel : ∀ t : Fin grid0.N, _)
theorem coord_0 : ∀ t : Fin cfg0.N, (grid0.coords t 0).val = t.val := (by decide +kernel : ∀ t : Fin grid0.N, _)

/-- The grid has eight points. -/
theorem point_lt (t : Fin cfg0.N) : t.val < 8 := lt_of_lt_of_eq t.isLt N_0

/-- The gradient that a point of the first half makes is its block of rows. -/
theorem block_lo (c : Dev nD) (t : Fin cfg0.N) (h0 : t.val < 4) :
    k0_pay4 (F := Ideal) (View.ld (iblk m c 0 t) (Rect.unit ![0, 0, 0] ![1, 256, 896] inb_S8x256x896_S1x256x896_0_0_0))
      (View.ld (iblk m c 0 t) (Rect.unit ![1, 0, 0] ![1, 256, 896] inb_S8x256x896_S1x256x896_1_0_0))
      (View.ld (iblk m c 0 t) (Rect.unit ![2, 0, 0] ![1, 256, 896] inb_S8x256x896_S1x256x896_2_0_0))
      (View.ld (iblk m c 0 t) (Rect.unit ![3, 0, 0] ![1, 256, 896] inb_S8x256x896_S1x256x896_3_0_0))
      (View.ld (iblk m c 0 t) (Rect.unit ![4, 0, 0] ![1, 256, 896] inb_S8x256x896_S1x256x896_4_0_0))
      (View.ld (iblk m c 0 t) (Rect.unit ![5, 0, 0] ![1, 256, 896] inb_S8x256x896_S1x256x896_5_0_0))
      (View.ld (iblk m c 0 t) (Rect.unit ![6, 0, 0] ![1, 256, 896] inb_S8x256x896_S1x256x896_6_0_0))
      (View.ld (iblk m c 0 t) (Rect.unit ![7, 0, 0] ![1, 256, 896] inb_S8x256x896_S1x256x896_7_0_0))
    = fun j => grad (m ((c : Thread nD τ).loc main_arg0)) (m ((c : Thread nD τ).loc main_arg1)) (ix2 ⟨t.val * 256 + (j 0).val, by have := point_lt t; have h8 : (j 0).val < 256 := (j 0).isLt; omega⟩ (j 1)) := by
  funext j
  have ht : t.val < 8 := point_lt t
  have hj : (j 0).val < 256 := (j 0).isLt
  have hl : t.val * 256 + (j 0).val < 1024 := by omega
  have hm : min t.val 3 = t.val ∨ ¬ t.val < 4 := by omega
  pointwise [k0_pay4, grad, entry, Fin.sum_univ_eight]
  simp only [dif_pos hl]
  blk_point [iblk, V, index_0, index_1, coord_0, hm.resolve_right (not_not.mpr h0)]

/-- The gradient that a point of the second half makes is its block of rows. -/
theorem block_hi (c : Dev nD) (t : Fin cfg0.N) (h0 : ¬ t.val < 4) :
    k0_pay5 (F := Ideal) (View.ld (iblk m c 1 t) (Rect.unit ![0, 0, 0] ![1, 256, 896] inb_S8x256x896_S1x256x896_0_0_0))
      (View.ld (iblk m c 1 t) (Rect.unit ![1, 0, 0] ![1, 256, 896] inb_S8x256x896_S1x256x896_1_0_0))
      (View.ld (iblk m c 1 t) (Rect.unit ![2, 0, 0] ![1, 256, 896] inb_S8x256x896_S1x256x896_2_0_0))
      (View.ld (iblk m c 1 t) (Rect.unit ![3, 0, 0] ![1, 256, 896] inb_S8x256x896_S1x256x896_3_0_0))
      (View.ld (iblk m c 1 t) (Rect.unit ![4, 0, 0] ![1, 256, 896] inb_S8x256x896_S1x256x896_4_0_0))
      (View.ld (iblk m c 1 t) (Rect.unit ![5, 0, 0] ![1, 256, 896] inb_S8x256x896_S1x256x896_5_0_0))
      (View.ld (iblk m c 1 t) (Rect.unit ![6, 0, 0] ![1, 256, 896] inb_S8x256x896_S1x256x896_6_0_0))
      (View.ld (iblk m c 1 t) (Rect.unit ![7, 0, 0] ![1, 256, 896] inb_S8x256x896_S1x256x896_7_0_0))
    = fun j => grad (m ((c : Thread nD τ).loc main_arg0)) (m ((c : Thread nD τ).loc main_arg1)) (ix2 ⟨t.val * 256 + (j 0).val, by have := point_lt t; have h8 : (j 0).val < 256 := (j 0).isLt; omega⟩ (j 1)) := by
  funext j
  have ht : t.val < 8 := point_lt t
  have hj : (j 0).val < 256 := (j 0).isLt
  have hl : ¬ t.val * 256 + (j 0).val < 1024 := by omega
  have hm : min t.val 3 = t.val ∨ ¬ t.val < 4 := by omega
  pointwise [k0_pay5, grad, entry, Fin.sum_univ_eight]
  simp only [dif_neg hl]
  blk_point [iblk, V, index_0, index_1, coord_0]

/-- After the run this result array is `grad` of the argument arrays. -/
theorem final_g (c : Dev nD) : (dats m 0 c).arrAt 5 cfg0.N
    = grad (m ((c : Thread nD τ).loc main_arg0)) (m ((c : Thread nD τ).loc main_arg1)) := by
  refine (dats m 0 c).arrAt_eq_of_covers 5 _ (by decide +kernel) fun t hf y => ?_
  blk_simp
  rw [after0_5]
  have h8 : t.val < 8 := point_lt t
  by_cases h0 : t.val < 4
  · rw [outsAt0_A m c t h0 (by omega)]
    frame_out
    refine (congrFun (congrArg (fun X => X) (block_lo m c t h0)) y).trans ?_
    pointwise [k0_pay6, k0_pay7, k0_pay8, Cert.AdamStep.first, Cert.AdamStep.second, Cert.AdamStep.change]
    blk_point [iblk, V, index_2, index_3, index_4, index_5, coord_0]
  · rw [outsAt0_B m c t h0 (by omega)]
    frame_out
    refine (congrFun (congrArg (fun X => X) (block_hi m c t h0)) y).trans ?_
    pointwise [k0_pay1, k0_pay2, k0_pay3, Cert.AdamStep.first, Cert.AdamStep.second, Cert.AdamStep.change]
    blk_point [iblk, V, index_2, index_3, index_4, index_5, coord_0]

/-- After the run this result array is `delta` of the argument arrays. -/
theorem final_d (c : Dev nD) : (dats m 0 c).arrAt 6 cfg0.N
    = delta (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  have h8 : t.val < 8 := point_lt t
  by_cases h0 : t.val < 4
  · rw [outsAt0_A m c t h0 (by omega)]
    frame_out
    refine (congrFun (congrArg (fun X => k0_pay8 (F := Ideal) X (iblk m c 2 t) (iblk m c 3 t) (iblk m c 4 t)) (block_lo m c t h0)) y).trans ?_
    pointwise [k0_pay6, k0_pay7, k0_pay8, delta, Cert.AdamStep.first, Cert.AdamStep.second, Cert.AdamStep.change]
    blk_point [iblk, V, index_2, index_3, index_4, index_6, coord_0]
  · rw [outsAt0_B m c t h0 (by omega)]
    frame_out
    refine (congrFun (congrArg (fun X => k0_pay3 (F := Ideal) X (iblk m c 2 t) (iblk m c 3 t) (iblk m c 4 t)) (block_hi m c t h0)) y).trans ?_
    pointwise [k0_pay1, k0_pay2, k0_pay3, delta, Cert.AdamStep.first, Cert.AdamStep.second, Cert.AdamStep.change]
    blk_point [iblk, V, index_2, index_3, index_4, index_6, coord_0]

/-- After the run this result array is `moment1` of the argument arrays. -/
theorem final_m (c : Dev nD) : (dats m 0 c).arrAt 7 cfg0.N
    = moment1 (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]
  have h8 : t.val < 8 := point_lt t
  by_cases h0 : t.val < 4
  · rw [outsAt0_A m c t h0 (by omega)]
    frame_out
    refine (congrFun (congrArg (fun X => k0_pay6 (F := Ideal) X (iblk m c 3 t)) (block_lo m c t h0)) y).trans ?_
    pointwise [k0_pay6, k0_pay7, k0_pay8, moment1, Cert.AdamStep.first, Cert.AdamStep.second, Cert.AdamStep.change]
    blk_point [iblk, V, index_2, index_3, index_4, index_7, coord_0]
  · rw [outsAt0_B m c t h0 (by omega)]
    frame_out
    refine (congrFun (congrArg (fun X => k0_pay1 (F := Ideal) X (iblk m c 3 t)) (block_hi m c t h0)) y).trans ?_
    pointwise [k0_pay1, k0_pay2, k0_pay3, moment1, Cert.AdamStep.first, Cert.AdamStep.second, Cert.AdamStep.change]
    blk_point [iblk, V, index_2, index_3, index_4, index_7, coord_0]

/-- After the run this result array is `moment2` of the argument arrays. -/
theorem final_v (c : Dev nD) : (dats m 0 c).arrAt 8 cfg0.N
    = moment2 (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  have h8 : t.val < 8 := point_lt t
  by_cases h0 : t.val < 4
  · rw [outsAt0_A m c t h0 (by omega)]
    frame_out
    refine (congrFun (congrArg (fun X => k0_pay7 (F := Ideal) X (iblk m c 4 t)) (block_lo m c t h0)) y).trans ?_
    pointwise [k0_pay6, k0_pay7, k0_pay8, moment2, Cert.AdamStep.first, Cert.AdamStep.second, Cert.AdamStep.change]
    blk_point [iblk, V, index_2, index_3, index_4, index_8, coord_0]
  · rw [outsAt0_B m c t h0 (by omega)]
    frame_out
    refine (congrFun (congrArg (fun X => k0_pay2 (F := Ideal) X (iblk m c 4 t)) (block_hi m c t h0)) y).trans ?_
    pointwise [k0_pay1, k0_pay2, k0_pay3, moment2, Cert.AdamStep.first, Cert.AdamStep.second, Cert.AdamStep.change]
    blk_point [iblk, V, index_2, index_3, index_4, index_8, coord_0]

/-- The reference's gradient, read at an index. -/
theorem ref_grad (p q : Vec Ideal S8x1024x896 .bf16) : Cert.Reference17Ideal.Read.val_main_v2 (F := Ideal) p q = grad p q := by
  funext i
  pointwise [Cert.Reference17Ideal.Read.val_main_v2, Cert.Reference17Ideal.Read.val_main_cst, Cert.Reference17Ideal.Read.val_main_v1, Cert.Reference17Ideal.Read.val_main_v0, grad, entry]

/-- The reference's first moments. -/
theorem ref_moment1 (p q : Vec Ideal S8x1024x896 .bf16) (m : Vec Ideal S2048x896 .f32) : Cert.Reference17Ideal.Read.val_main_v7 (F := Ideal) p q m = moment1 p q m := by
  funext i
  pointwise [Cert.Reference17Ideal.Read.val_main_v26, Cert.Reference17Ideal.Read.val_main_v25, Cert.Reference17Ideal.Read.val_main_cst_8, Cert.Reference17Ideal.Read.val_main_v24, Cert.Reference17Ideal.Read.val_main_v23, Cert.Reference17Ideal.Read.val_main_v22, Cert.Reference17Ideal.Read.val_main_cst_7, Cert.Reference17Ideal.Read.val_main_v21, Cert.Reference17Ideal.Read.val_main_v20, Cert.Reference17Ideal.Read.val_main_v19, Cert.Reference17Ideal.Read.val_main_cst_6, Cert.Reference17Ideal.Read.val_main_v18, Cert.Reference17Ideal.Read.val_main_v17, Cert.Reference17Ideal.Read.val_main_v16, Cert.Reference17Ideal.Read.val_main_cst_5, Cert.Reference17Ideal.Read.val_main_v15, Cert.Reference17Ideal.Read.val_main_v14, Cert.Reference17Ideal.Read.val_main_cst_4, Cert.Reference17Ideal.Read.val_main_v13, Cert.Reference17Ideal.Read.val_main_v12, Cert.Reference17Ideal.Read.val_main_v11, Cert.Reference17Ideal.Read.val_main_cst_3, Cert.Reference17Ideal.Read.val_main_v10, Cert.Reference17Ideal.Read.val_main_v9, Cert.Reference17Ideal.Read.val_main_v8, Cert.Reference17Ideal.Read.val_main_cst_2, Cert.Reference17Ideal.Read.val_main_v7, Cert.Reference17Ideal.Read.val_main_v6, Cert.Reference17Ideal.Read.val_main_v5, Cert.Reference17Ideal.Read.val_main_cst_1, Cert.Reference17Ideal.Read.val_main_v4, Cert.Reference17Ideal.Read.val_main_v3, Cert.Reference17Ideal.Read.val_main_cst_0, Cert.Reference17Ideal.Read.val_main_cst, ref_grad, moment1, Cert.AdamStep.first, Cert.AdamStep.second, Cert.AdamStep.change]

/-- The reference's second moments. -/
theorem ref_moment2 (p q : Vec Ideal S8x1024x896 .bf16) (v : Vec Ideal S2048x896 .f32) : Cert.Reference17Ideal.Read.val_main_v13 (F := Ideal) p q v = moment2 p q v := by
  funext i
  pointwise [Cert.Reference17Ideal.Read.val_main_v26, Cert.Reference17Ideal.Read.val_main_v25, Cert.Reference17Ideal.Read.val_main_cst_8, Cert.Reference17Ideal.Read.val_main_v24, Cert.Reference17Ideal.Read.val_main_v23, Cert.Reference17Ideal.Read.val_main_v22, Cert.Reference17Ideal.Read.val_main_cst_7, Cert.Reference17Ideal.Read.val_main_v21, Cert.Reference17Ideal.Read.val_main_v20, Cert.Reference17Ideal.Read.val_main_v19, Cert.Reference17Ideal.Read.val_main_cst_6, Cert.Reference17Ideal.Read.val_main_v18, Cert.Reference17Ideal.Read.val_main_v17, Cert.Reference17Ideal.Read.val_main_v16, Cert.Reference17Ideal.Read.val_main_cst_5, Cert.Reference17Ideal.Read.val_main_v15, Cert.Reference17Ideal.Read.val_main_v14, Cert.Reference17Ideal.Read.val_main_cst_4, Cert.Reference17Ideal.Read.val_main_v13, Cert.Reference17Ideal.Read.val_main_v12, Cert.Reference17Ideal.Read.val_main_v11, Cert.Reference17Ideal.Read.val_main_cst_3, Cert.Reference17Ideal.Read.val_main_v10, Cert.Reference17Ideal.Read.val_main_v9, Cert.Reference17Ideal.Read.val_main_v8, Cert.Reference17Ideal.Read.val_main_cst_2, Cert.Reference17Ideal.Read.val_main_v7, Cert.Reference17Ideal.Read.val_main_v6, Cert.Reference17Ideal.Read.val_main_v5, Cert.Reference17Ideal.Read.val_main_cst_1, Cert.Reference17Ideal.Read.val_main_v4, Cert.Reference17Ideal.Read.val_main_v3, Cert.Reference17Ideal.Read.val_main_cst_0, Cert.Reference17Ideal.Read.val_main_cst, ref_grad, moment2, Cert.AdamStep.first, Cert.AdamStep.second, Cert.AdamStep.change]

/-- The reference's changes of the weights. -/
theorem ref_delta (p q : Vec Ideal S8x1024x896 .bf16) (w m v : Vec Ideal S2048x896 .f32) : Cert.Reference17Ideal.Read.val_main_v26 (F := Ideal) p q w m v = delta p q w m v := by
  funext i
  pointwise [Cert.Reference17Ideal.Read.val_main_v26, Cert.Reference17Ideal.Read.val_main_v25, Cert.Reference17Ideal.Read.val_main_cst_8, Cert.Reference17Ideal.Read.val_main_v24, Cert.Reference17Ideal.Read.val_main_v23, Cert.Reference17Ideal.Read.val_main_v22, Cert.Reference17Ideal.Read.val_main_cst_7, Cert.Reference17Ideal.Read.val_main_v21, Cert.Reference17Ideal.Read.val_main_v20, Cert.Reference17Ideal.Read.val_main_v19, Cert.Reference17Ideal.Read.val_main_cst_6, Cert.Reference17Ideal.Read.val_main_v18, Cert.Reference17Ideal.Read.val_main_v17, Cert.Reference17Ideal.Read.val_main_v16, Cert.Reference17Ideal.Read.val_main_cst_5, Cert.Reference17Ideal.Read.val_main_v15, Cert.Reference17Ideal.Read.val_main_v14, Cert.Reference17Ideal.Read.val_main_cst_4, Cert.Reference17Ideal.Read.val_main_v13, Cert.Reference17Ideal.Read.val_main_v12, Cert.Reference17Ideal.Read.val_main_v11, Cert.Reference17Ideal.Read.val_main_cst_3, Cert.Reference17Ideal.Read.val_main_v10, Cert.Reference17Ideal.Read.val_main_v9, Cert.Reference17Ideal.Read.val_main_v8, Cert.Reference17Ideal.Read.val_main_cst_2, Cert.Reference17Ideal.Read.val_main_v7, Cert.Reference17Ideal.Read.val_main_v6, Cert.Reference17Ideal.Read.val_main_v5, Cert.Reference17Ideal.Read.val_main_cst_1, Cert.Reference17Ideal.Read.val_main_v4, Cert.Reference17Ideal.Read.val_main_v3, Cert.Reference17Ideal.Read.val_main_cst_0, Cert.Reference17Ideal.Read.val_main_cst, ref_grad, delta, Cert.AdamStep.first, Cert.AdamStep.second, Cert.AdamStep.change]

/-- The kernel's run: each result is the array named for it, its arguments end as they were. -/
theorem run : θ_run defs (onTc (τ := τ) (main (F := Ideal))) ⟨m, fun _ => 0, ρ⟩ fun r => ∀ c : Dev nD,
      r.2.mem ((c : Thread nD τ).loc main_v0_0) = grad (m ((c : Thread nD τ).loc main_arg0)) (m ((c : Thread nD τ).loc main_arg1))
      ∧ r.2.mem ((c : Thread nD τ).loc main_v0_1) = delta (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_2) = moment1 (m ((c : Thread nD τ).loc main_arg0)) (m ((c : Thread nD τ).loc main_arg1)) (m ((c : Thread nD τ).loc main_arg3))
      ∧ r.2.mem ((c : Thread nD τ).loc main_v0_3) = moment2 (m ((c : Thread nD τ).loc main_arg0)) (m ((c : Thread nD τ).loc main_arg1)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_g m c), (h c).2.1.trans (final_d m c), (h c).2.2.1.trans (final_m m c), (h c).2.2.2.1.trans (final_v m c), (h c).2.2.2.2⟩) (Value.run_blocks m ρ)

/-- Over the reals the call and the reference give the same results from the same arguments. -/
theorem agrees : Cert.algebraic_Kernel17Ideal_Reference17Ideal := by
  intro m g m' g' _ hargs
  refine ⟨fun c => grad (m ((c : Thread nD τ).loc main_arg0)) (m ((c : Thread nD τ).loc main_arg1)), fun c => delta (m ((c : Thread nD τ).loc main_arg0)) (m ((c : Thread nD τ).loc main_arg1)) (m ((c : Thread nD τ).loc main_arg2)) (m ((c : Thread nD τ).loc main_arg3)) (m ((c : Thread nD τ).loc main_arg4)), fun c => moment1 (m ((c : Thread nD τ).loc main_arg0)) (m ((c : Thread nD τ).loc main_arg1)) (m ((c : Thread nD τ).loc main_arg3)), fun c => moment2 (m ((c : Thread nD τ).loc main_arg0)) (m ((c : Thread nD τ).loc main_arg1)) (m ((c : Thread nD τ).loc main_arg4)), run m g, ?_⟩
  refine (θ_run Cert.Reference17Ideal.defs _ _).mono (fun r h c => ⟨(h c).1.trans ?_, (h c).2.1.trans ?_, (h c).2.2.1.trans ?_, (h c).2.2.2.1.trans ?_, (h c).2.2.2.2⟩) (Cert.Reference17Ideal.Value.run (F := Ideal) m' g')
  · rw [(hargs c).1, (hargs c).2.1]
    exact ref_grad _ _
  · rw [(hargs c).1, (hargs c).2.1, (hargs c).2.2.1, (hargs c).2.2.2.1, (hargs c).2.2.2.2]
    exact ref_delta _ _ _ _ _
  · rw [(hargs c).1, (hargs c).2.1, (hargs c).2.2.2.1]
    exact ref_moment1 _ _ _
  · rw [(hargs c).1, (hargs c).2.1, (hargs c).2.2.2.2]
    exact ref_moment2 _ _ _

/-- The reference's run on its own: its arguments end as they were. -/
theorem ref_frame : Cert.quiescent_Reference17Ideal := fun m g _ =>
  (θ_run Cert.Reference17Ideal.defs _ _).mono (fun r h => ⟨fun c => (h c).2.2.2.2, sem_eq_zero_of_no_sems (by decide) r.2⟩)
    (Cert.Reference17Ideal.Value.run (F := Ideal) m g)

end Cert.Kernel17Ideal.Adam

end
-- ==== Proof.ProjSibling.lean ====
module

public import proofs.«01_k».proof.Defs
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Reference18Ideal.Read
public import Idealize.ShloMosaic.Lib.Pipeline.ValueKit
public import Idealize.ShloMosaic.Lib.Pipeline.ValueKit.Point
public import Idealize.ShloMosaic.Lib.Pointwise
public import Idealize.ShloMosaic.Lib.StableHlo.RunRead

/-! One stage of the input projection: the columns it fills, and the ones it leaves as they were. -/

@[expose] public section

noncomputable section

namespace Cert.Kernel18.Stage

open Idealize.ShloMosaic Idealize.ShloMosaic.TcCoe Idealize.SL.Sem
open Cert.Kernel18 Cert.Kernel18.Gen

/-- The two tables' words: which piece of the weight a step takes, and which columns it fills. -/
def words : pre0.Contents (Elt Bits) :=
  fun | ⟨0, _⟩ => (fun x : S1.Idx => (![1#32] : Fin 1 → BitVec 32) (x (0 : Fin 1)) : S1.Idx → BitVec 32) | ⟨1, _⟩ => (fun x : S1.Idx => (![1#32] : Fin 1 → BitVec 32) (x (0 : Fin 1)) : S1.Idx → BitVec 32) | ⟨_ + 2, h⟩ => absurd h (Nat.not_lt.2 (Nat.le_add_left _ _))

theorem tbl_eq (m : (ℓ : Loc nD τ sig) → Buf (Elt Bits) ℓ) : tbl m = words := by
  funext j
  match j with
  | ⟨0, _⟩ =>
    show StableHlo.after hostOps0 (fun b => m ((0 : Dev nD), b)) (Proc.devRef .tc main_v0) = _
    after_reads_simp
    funext x
    exact ((by decide : ∀ j : Fin 1, (![1#32] : Fin 1 → BitVec 32) j = 1#32) (x (0 : Fin 1))).symm
  | ⟨1, _⟩ =>
    show StableHlo.after hostOps0 (fun b => m ((0 : Dev nD), b)) (Proc.devRef .tc main_v1) = _
    after_reads_simp
    funext x
    exact ((by decide : ∀ j : Fin 1, (![1#32] : Fin 1 → BitVec 32) j = 1#32) (x (0 : Fin 1))).symm

/-- At these words every block lies inside its array. -/
theorem words_ok : ok0 (F := Bits) words := by
  unfold ok0
  decide +kernel

theorem ok (m : (ℓ : Loc nD τ sig) → Buf (Elt Bits) ℓ) : Ok (F := Bits) m := by
  show ok0 (tbl m)
  rw [tbl_eq]
  exact words_ok

end Cert.Kernel18.Stage

namespace Cert.Kernel18Ideal.StageBits

open Idealize.ShloMosaic Idealize.ShloMosaic.TcCoe Idealize.SL.Sem
open Cert.Kernel18Ideal Cert.Kernel18Ideal.Gen

/-- The two tables' words: which piece of the weight a step takes, and which columns it fills. -/
def words : pre0.Contents (Elt Bits) :=
  fun | ⟨0, _⟩ => (fun x : S1.Idx => (![1#32] : Fin 1 → BitVec 32) (x (0 : Fin 1)) : S1.Idx → BitVec 32) | ⟨1, _⟩ => (fun x : S1.Idx => (![1#32] : Fin 1 → BitVec 32) (x (0 : Fin 1)) : S1.Idx → BitVec 32) | ⟨_ + 2, h⟩ => absurd h (Nat.not_lt.2 (Nat.le_add_left _ _))

theorem tbl_eq (m : (ℓ : Loc nD τ sig) → Buf (Elt Bits) ℓ) : tbl m = words := by
  funext j
  match j with
  | ⟨0, _⟩ =>
    show StableHlo.after hostOps0 (fun b => m ((0 : Dev nD), b)) (Proc.devRef .tc main_v0) = _
    after_reads_simp
    funext x
    exact ((by decide : ∀ j : Fin 1, (![1#32] : Fin 1 → BitVec 32) j = 1#32) (x (0 : Fin 1))).symm
  | ⟨1, _⟩ =>
    show StableHlo.after hostOps0 (fun b => m ((0 : Dev nD), b)) (Proc.devRef .tc main_v1) = _
    after_reads_simp
    funext x
    exact ((by decide : ∀ j : Fin 1, (![1#32] : Fin 1 → BitVec 32) j = 1#32) (x (0 : Fin 1))).symm

/-- At these words every block lies inside its array. -/
theorem words_ok : ok0 (F := Bits) words := by
  unfold ok0
  decide +kernel

theorem ok (m : (ℓ : Loc nD τ sig) → Buf (Elt Bits) ℓ) : Ok (F := Bits) m := by
  show ok0 (tbl m)
  rw [tbl_eq]
  exact words_ok

abbrev admW : (pcfg0 (F := Bits)).Adm := ⟨words, words_ok⟩

/-- Which columns a step fills, and which piece it takes. -/
abbrev col : Fin 1 → Nat := ![1]
abbrev piece : Fin 1 → Nat := ![1]

theorem index_0 : ∀ t : Fin grid0.N, ((cfg0 (F := Bits) admW).win 0).index t = ![(grid0.coords t 0).val, 0] := by decide +kernel
theorem index_1 : ∀ t : Fin grid0.N, ((cfg0 (F := Bits) admW).win 1).index t = ![piece (grid0.coords t 1), 0, 0] := by decide +kernel
theorem index_2 : ∀ t : Fin grid0.N, ((cfg0 (F := Bits) admW).win 2).index t = ![(grid0.coords t 0).val, col (grid0.coords t 1)] := by decide +kernel
theorem covers : ((cfg0 (F := Bits) admW).win 2).CoversWhere (fun β => 1 ≤ β (1 : Fin 2) ∧ β (1 : Fin 2) ≤ 1) := by decide +kernel
theorem piece_col : ∀ j, col j % 2 = piece j := by decide

end Cert.Kernel18Ideal.StageBits

namespace Cert.Kernel18Ideal.Stage

open Idealize.ShloMosaic Idealize.ShloMosaic.TcCoe Idealize.SL.Sem
open Cert.Kernel18Ideal Cert.Kernel18Ideal.Gen

/-- The two tables' words: which piece of the weight a step takes, and which columns it fills. -/
def words : pre0.Contents (Elt Ideal) :=
  fun | ⟨0, _⟩ => (fun x : S1.Idx => (![1#32] : Fin 1 → BitVec 32) (x (0 : Fin 1)) : S1.Idx → BitVec 32) | ⟨1, _⟩ => (fun x : S1.Idx => (![1#32] : Fin 1 → BitVec 32) (x (0 : Fin 1)) : S1.Idx → BitVec 32) | ⟨_ + 2, h⟩ => absurd h (Nat.not_lt.2 (Nat.le_add_left _ _))

theorem tbl_eq (m : (ℓ : Loc nD τ sig) → Buf (Elt Ideal) ℓ) : tbl m = words := by
  funext j
  match j with
  | ⟨0, _⟩ =>
    show StableHlo.after hostOps0 (fun b => m ((0 : Dev nD), b)) (Proc.devRef .tc main_v0) = _
    after_reads_simp
    funext x
    exact ((by decide : ∀ j : Fin 1, (![1#32] : Fin 1 → BitVec 32) j = 1#32) (x (0 : Fin 1))).symm
  | ⟨1, _⟩ =>
    show StableHlo.after hostOps0 (fun b => m ((0 : Dev nD), b)) (Proc.devRef .tc main_v1) = _
    after_reads_simp
    funext x
    exact ((by decide : ∀ j : Fin 1, (![1#32] : Fin 1 → BitVec 32) j = 1#32) (x (0 : Fin 1))).symm

/-- At these words every block lies inside its array. -/
theorem words_ok : ok0 (F := Ideal) words := StageBits.words_ok

theorem ok (m : (ℓ : Loc nD τ sig) → Buf (Elt Ideal) ℓ) : Ok (F := Ideal) m := by
  show ok0 (tbl m)
  rw [tbl_eq]
  exact words_ok

variable (m : (ℓ : Loc nD τ sig) → Buf (Elt Ideal) ℓ) (ρ : Dev nD → PrngReg)

/-- The rows times one column of one piece of the weight. -/
def prod (x : Vec Ideal S4096x2048 .bf16) (w : Vec Ideal S2x2048x896 .bf16) : Vec Ideal S4096x7168 .f32 :=
  fun i => ∑ k : Fin 2048, x (ix2 (i 0) k) * w (ix3 (⟨(i 1).val / 896 % 2, Nat.mod_lt _ (by decide)⟩ : Fin 2) k (⟨(i 1).val % 896, Nat.mod_lt _ (by decide)⟩ : Fin 896))

/-- The projection after the stage: the stage's own columns are new, the others are as given. -/
def filled (x : Vec Ideal S4096x2048 .bf16) (w : Vec Ideal S2x2048x896 .bf16) (p : Vec Ideal S4096x7168 .f32) : Vec Ideal S4096x7168 .f32 :=
  fun i => if 1 ≤ (i 1).val / 896 ∧ (i 1).val / 896 ≤ 1 then prod x w i else p i

abbrev admW : (pcfg0 (F := Ideal)).Adm := ⟨words, words_ok⟩

theorem adm_eq : adm m (ok m) = admW := Subtype.ext (tbl_eq m)

theorem index_0 : ∀ t : Fin grid0.N, ((cfg0 (adm m (ok m))).win 0).index t = ![(grid0.coords t 0).val, 0] := by
  rw [adm_eq]
  exact StageBits.index_0
theorem index_1 : ∀ t : Fin grid0.N, ((cfg0 (adm m (ok m))).win 1).index t = ![StageBits.piece (grid0.coords t 1), 0, 0] := by
  rw [adm_eq]
  exact StageBits.index_1
theorem index_2 : ∀ t : Fin grid0.N, ((cfg0 (adm m (ok m))).win 2).index t = ![(grid0.coords t 0).val, StageBits.col (grid0.coords t 1)] := by
  rw [adm_eq]
  exact StageBits.index_2

theorem covers : ((cfg0 (adm m (ok m))).win 2).CoversWhere (fun β => 1 ≤ β (1 : Fin 2) ∧ β (1 : Fin 2) ≤ 1) := by
  rw [adm_eq]
  exact StageBits.covers

/-- What the region finds in the result's array: the projection as given. -/
theorem entry (c : Dev nD) : V m c main_v2 = m ((c : Thread nD τ).loc main_arg2) := by
  show StableHlo.after hostOps0 (fun b => m (c, b)) (Proc.devRef .tc main_v2) = _
  after_reads_simp
  rfl

theorem sum_mul_eq {a b a' b' : Fin 2048 → EReal} (ha : ∀ x, a x = a' x) (hb : ∀ x, b x = b' x) : ∑ x, a x * b x = ∑ x, a' x * b' x :=
  Finset.sum_congr rfl fun x _ => by rw [ha x, hb x]

theorem final (c : Dev nD) : (dats m (ok m) 0 c).arrAt 2 (cfgM m (ok m)).N
    = filled (m ((c : Thread nD τ).loc main_arg0)) (m ((c : Thread nD τ).loc main_arg1)) (m ((c : Thread nD τ).loc main_arg2)) := by
  have h := (dats m (ok m) 0 c).arrAt_eq_of_coversWhere 2 (prod (m ((c : Thread nD τ).loc main_arg0)) (m ((c : Thread nD τ).loc main_arg1)))
    (P := fun i => 1 ≤ (i (1 : Fin 2)).val / 896 ∧ (i (1 : Fin 2)).val / 896 ≤ 1)
    (fun β => 1 ≤ β (1 : Fin 2) ∧ β (1 : Fin 2) ≤ 1) (covers m) (fun t hf y => ?_) (fun j => Iff.rfl)
  · rw [h]
    funext i
    unfold filled
    rw [A_eq]
    show (if _ then _ else V m c main_v2 i) = _
    rw [entry]
  · have e0 := index_0 m t
    have e1 := index_1 m t
    have e2 := index_2 m t
    blk_simp
    rw [after0_2]
    unfold outsAt0 out0_A_2
    frame_out
    pointwise [k0_pay1, prod]
    refine sum_mul_eq (fun x => ?_) (fun x => ?_)
    · refine (congrFun ((hs0_0 m (ok m) t).read_unread (iblk m (ok m) c 0 t)) _).trans ?_
      unfold iblk
      show V m c main_arg0 ((((cfgM m (ok m)).win 0).blk t).view.emb (ix2 (y (0 : Fin 2)) x)) = _
      rw [V_main_arg0]
      refine congrArg _ (funext fun a => ?_)
      match a with
      | ⟨0, _⟩ =>
        apply Fin.ext
        show ((cfg0 (adm m (ok m))).win 0).index t (0 : Fin 2) * 1024 + 1 * (y (0 : Fin 2)).val = ((cfg0 (adm m (ok m))).win 2).index t (0 : Fin 2) * 1024 + 1 * (y (0 : Fin 2)).val
        rw [e0, e2]
        rfl
      | ⟨1, _⟩ =>
        apply Fin.ext
        show ((cfg0 (adm m (ok m))).win 0).index t (1 : Fin 2) * 2048 + 1 * x.val = x.val
        rw [e0]
        show 0 * 2048 + 1 * x.val = x.val
        omega
    · refine (congrFun ((hs0_1 m (ok m) t).read_unread (iblk m (ok m) c 1 t)) _).trans ?_
      have hc := StageBits.piece_col (grid0.coords t 1)
      have hy : (y (1 : Fin 2)).val < 896 := (y (1 : Fin 2)).isLt
      unfold iblk
      show V m c main_arg1 ((((cfgM m (ok m)).win 1).blk t).view.emb (ix3 0 x (y (1 : Fin 2)))) = _
      rw [V_main_arg1]
      refine congrArg _ (funext fun a => ?_)
      match a with
      | ⟨0, _⟩ =>
        apply Fin.ext
        show ((cfg0 (adm m (ok m))).win 1).index t (0 : Fin 3) * 1 + 1 * 0 = (((cfg0 (adm m (ok m))).win 2).index t (1 : Fin 2) * 896 + 1 * (y (1 : Fin 2)).val) / 896 % 2
        rw [e1, e2]
        show StageBits.piece (grid0.coords t 1) * 1 + 1 * 0 = (StageBits.col (grid0.coords t 1) * 896 + 1 * (y (1 : Fin 2)).val) / 896 % 2
        have hd : (StageBits.col (grid0.coords t 1) * 896 + 1 * (y (1 : Fin 2)).val) / 896 = StageBits.col (grid0.coords t 1) := by omega
        rw [hd]
        omega
      | ⟨1, _⟩ =>
        apply Fin.ext
        show ((cfg0 (adm m (ok m))).win 1).index t (1 : Fin 3) * 2048 + 1 * x.val = x.val
        rw [e1]
        show 0 * 2048 + 1 * x.val = x.val
        omega
      | ⟨2, _⟩ =>
        apply Fin.ext
        show ((cfg0 (adm m (ok m))).win 1).index t (2 : Fin 3) * 896 + 1 * (y (1 : Fin 2)).val = (((cfg0 (adm m (ok m))).win 2).index t (1 : Fin 2) * 896 + 1 * (y (1 : Fin 2)).val) % 896
        rw [e1, e2]
        show 0 * 896 + 1 * (y (1 : Fin 2)).val = (StageBits.col (grid0.coords t 1) * 896 + 1 * (y (1 : Fin 2)).val) % 896
        omega

/-- The call's run: the result is the filled projection, and the arguments end as they were. -/
theorem run : θ_run defs (onTc (τ := τ) (main (F := Ideal))) ⟨m, fun _ => 0, ρ⟩ fun r => ∀ c : Dev nD,
      r.2.mem ((c : Thread nD τ).loc main_v2) = filled (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).1 2).trans (final m c),
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c))),
      ((h c).2 main_arg2 (by decide : main_arg2 ∈ Pipeline.restRefs sig spec0)).trans (V_main_arg2 m c)⟩) (run_main m ρ (ok m))

/-- The reference's result is the filled projection. -/
theorem ref_filled (x : Vec Ideal S4096x2048 .bf16) (w : Vec Ideal S2x2048x896 .bf16) (p : Vec Ideal S4096x7168 .f32) :
    Cert.Reference18Ideal.Read.val_main_v7 x w p = filled x w p := by
  funext i
  unfold Cert.Reference18Ideal.Read.val_main_v7 filled prod
  pointwise [Cert.Reference18Ideal.Read.val_main_v0_apply, Cert.Reference18Ideal.Read.val_main_v1_apply, Cert.Reference18Ideal.Read.val_main_v2_apply, Cert.Reference18Ideal.Read.val_main_v3_apply, Cert.Reference18Ideal.Read.val_main_v4_apply, Cert.Reference18Ideal.Read.val_main_v5_apply, Cert.Reference18Ideal.Read.val_main_v6_apply]
  have hi : (i (1 : Fin 2)).val < 7168 := (i (1 : Fin 2)).isLt
  have leafp : ∀ j : S4096x7168.Idx, (j (0 : Fin 2)).val = (i (0 : Fin 2)).val → (j (1 : Fin 2)).val = (i (1 : Fin 2)).val → p j = p i :=
    fun j h0 h1 => congrArg p (funext fun a => match a with | ⟨0, _⟩ => Fin.ext h0 | ⟨1, _⟩ => Fin.ext h1)
  have leafx : ∀ (k : Fin 2048) (j : S4096x2048.Idx), (j (0 : Fin 2)).val = (i (0 : Fin 2)).val → (j (1 : Fin 2)).val = k.val → x j = x (ix2 (i 0) k) :=
    fun k j h0 h1 => congrArg x (funext fun a => match a with | ⟨0, _⟩ => Fin.ext h0 | ⟨1, _⟩ => Fin.ext h1)
  have leafw : ∀ (k : Fin 2048) (j : S2x2048x896.Idx), (j (0 : Fin 3)).val = (i (1 : Fin 2)).val / 896 % 2 → (j (1 : Fin 3)).val = k.val → (j (2 : Fin 3)).val = (i (1 : Fin 2)).val % 896 →
      w j = w (ix3 (⟨(i 1).val / 896 % 2, Nat.mod_lt _ (by decide)⟩ : Fin 2) k (⟨(i 1).val % 896, Nat.mod_lt _ (by decide)⟩ : Fin 896)) :=
    fun k j h0 h1 h2 => congrArg w (funext fun a => match a with | ⟨0, _⟩ => Fin.ext h0 | ⟨1, _⟩ => Fin.ext h1 | ⟨2, _⟩ => Fin.ext h2)
  repeat' split
  all_goals first
    | (exfalso; omega)
    | (have hl : 1792 ≤ (i (1 : Fin 2)).val := by omega
       exact leafp _ rfl (by show 1792 + ((i (1 : Fin 2)).val - 896 - 896) = (i (1 : Fin 2)).val; omega))
    | exact leafp _ rfl rfl

    | (refine sum_mul_eq (fun k => leafx k _ rfl rfl) (fun k => ?_)
       have hk : k.val < 2048 := k.isLt
       repeat' split
       all_goals first
         | (exfalso; omega)
         | exact leafw k _ (by show (1 : Nat) = (i (1 : Fin 2)).val / 896 % 2; omega) (by show (k.val * 896 + ((i (1 : Fin 2)).val - 896)) / 896 % 2048 = k.val; omega) (by show (k.val * 896 + ((i (1 : Fin 2)).val - 896)) % 896 = (i (1 : Fin 2)).val % 896; omega))

/-- Over the reals the call and the reference give the same results from the same arguments. -/
theorem agrees : Cert.algebraic_Kernel18Ideal_Reference18Ideal := by
  intro m g m' g' _ hargs
  refine ⟨fun c => filled (m ((c : Thread nD τ).loc main_arg0)) (m ((c : Thread nD τ).loc main_arg1)) (m ((c : Thread nD τ).loc main_arg2)), run m g, ?_⟩
  refine (θ_run Cert.Reference18Ideal.defs _ _).mono (fun r h c => ⟨(h c).1.trans ?_, (h c).2⟩) (Cert.Reference18Ideal.Value.run (F := Ideal) m' g')
  rw [(hargs c).1, (hargs c).2.1, (hargs c).2.2]
  exact (Cert.Reference18Ideal.Read.val_main_v7_eq _ _ _).trans (ref_filled _ _ _)

/-- The reference's run on its own: its arguments end as they were. -/
theorem ref_frame : Cert.quiescent_Reference18Ideal := fun m g _ =>
  (θ_run Cert.Reference18Ideal.defs _ _).mono (fun r h => ⟨fun c => (h c).2, sem_eq_zero_of_no_sems (by decide) r.2⟩)
    (Cert.Reference18Ideal.Value.run (F := Ideal) m g)

end Cert.Kernel18Ideal.Stage

end
-- ==== Proof.ProjNear.lean ====
module

public import proofs.«01_k».proof.Defs
public import proofs.«01_k».proof.Proof.Gen.Kernel19.Frame
public import proofs.«01_k».proof.Proof.Gen.Kernel19Ideal.Frame
public import proofs.«01_k».proof.Proof.Gen.Reference19Ideal.Run
public import proofs.«01_k».proof.Proof.Gen.Reference19Ideal.Read
public import Idealize.ShloMosaic.Lib.Pipeline.ValueKit
public import Idealize.ShloMosaic.Lib.Pipeline.ValueKit.Point
public import Idealize.ShloMosaic.Lib.Pointwise
public import Idealize.ShloMosaic.Lib.StableHlo.RunRead

/-! One stage of the input projection: the columns it fills, and the ones it leaves as they were. -/

@[expose] public section

noncomputable section

namespace Cert.Kernel19.Stage

open Idealize.ShloMosaic Idealize.ShloMosaic.TcCoe Idealize.SL.Sem
open Cert.Kernel19 Cert.Kernel19.Gen

/-- The two tables' words: which piece of the weight a step takes, and which columns it fills. -/
def words : pre0.Contents (Elt Bits) :=
  fun | ⟨0, _⟩ => (fun x : S4.Idx => (![0#32, 1#32, 2#32, 3#32] : Fin 4 → BitVec 32) (x (0 : Fin 1)) : S4.Idx → BitVec 32) | ⟨1, _⟩ => (fun x : S4.Idx => (![4#32, 5#32, 2#32, 3#32] : Fin 4 → BitVec 32) (x (0 : Fin 1)) : S4.Idx → BitVec 32) | ⟨_ + 2, h⟩ => absurd h (Nat.not_lt.2 (Nat.le_add_left _ _))

theorem joined {a b c d a' b' c' d' : Vec Bits S1 .i32} (ha : a = a') (hb : b = b') (hc : c = c') (hd : d = d') :
    concatenate S4 0 [⟨S1, a⟩, ⟨S1, b⟩, ⟨S1, c⟩, ⟨S1, d⟩] concatenates_S1_S1_S1_S1_S4_d0 = concatenate S4 0 [⟨S1, a'⟩, ⟨S1, b'⟩, ⟨S1, c'⟩, ⟨S1, d'⟩] concatenates_S1_S1_S1_S1_S4_d0 := by
  subst ha hb hc hd
  rfl

theorem tbl_eq (m : (ℓ : Loc nD τ sig) → Buf (Elt Bits) ℓ) : tbl m = words := by
  funext j
  match j with
  | ⟨0, _⟩ =>
    show StableHlo.after hostOps0 (fun b => m ((0 : Dev nD), b)) (Proc.devRef .tc main_v4) = _
    after_reads_simp
    have h0 : StableHlo.upto hostOps0 (fun b => m ((0 : Dev nD), b)) 8 (Proc.devRef .tc main_v0) = (fun _ => 0#32 : S1.Idx → BitVec 32) := by
      after_reads_simp
      funext x
      rfl
    have h1 : StableHlo.upto hostOps0 (fun b => m ((0 : Dev nD), b)) 8 (Proc.devRef .tc main_v1) = (fun _ => 1#32 : S1.Idx → BitVec 32) := by
      after_reads_simp
      funext x
      rfl
    have h2 : StableHlo.upto hostOps0 (fun b => m ((0 : Dev nD), b)) 8 (Proc.devRef .tc main_v2) = (fun _ => 2#32 : S1.Idx → BitVec 32) := by
      after_reads_simp
      funext x
      rfl
    have h3 : StableHlo.upto hostOps0 (fun b => m ((0 : Dev nD), b)) 8 (Proc.devRef .tc main_v3) = (fun _ => 3#32 : S1.Idx → BitVec 32) := by
      after_reads_simp
      funext x
      rfl
    refine (joined h0 h1 h2 h3).trans ?_
    funext x
    exact (by decide +kernel : ∀ x : S4.Idx, (concatenate S4 0 [⟨S1, fun _ => 0#32⟩, ⟨S1, fun _ => 1#32⟩, ⟨S1, fun _ => 2#32⟩, ⟨S1, fun _ => 3#32⟩] concatenates_S1_S1_S1_S1_S4_d0 x : BitVec 32) = (![0#32, 1#32, 2#32, 3#32] : Fin 4 → BitVec 32) (x (0 : Fin 1))) x
  | ⟨1, _⟩ =>
    show StableHlo.after hostOps0 (fun b => m ((0 : Dev nD), b)) (Proc.devRef .tc main_v9) = _
    after_reads_simp
    have h0 : StableHlo.upto hostOps0 (fun b => m ((0 : Dev nD), b)) 17 (Proc.devRef .tc main_v5) = (fun _ => 4#32 : S1.Idx → BitVec 32) := by
      after_reads_simp
      funext x
      rfl
    have h1 : StableHlo.upto hostOps0 (fun b => m ((0 : Dev nD), b)) 17 (Proc.devRef .tc main_v6) = (fun _ => 5#32 : S1.Idx → BitVec 32) := by
      after_reads_simp
      funext x
      rfl
    have h2 : StableHlo.upto hostOps0 (fun b => m ((0 : Dev nD), b)) 17 (Proc.devRef .tc main_v7) = (fun _ => 2#32 : S1.Idx → BitVec 32) := by
      after_reads_simp
      funext x
      rfl
    have h3 : StableHlo.upto hostOps0 (fun b => m ((0 : Dev nD), b)) 17 (Proc.devRef .tc main_v8) = (fun _ => 3#32 : S1.Idx → BitVec 32) := by
      after_reads_simp
      funext x
      rfl
    refine (joined h0 h1 h2 h3).trans ?_
    funext x
    exact (by decide +kernel : ∀ x : S4.Idx, (concatenate S4 0 [⟨S1, fun _ => 4#32⟩, ⟨S1, fun _ => 5#32⟩, ⟨S1, fun _ => 2#32⟩, ⟨S1, fun _ => 3#32⟩] concatenates_S1_S1_S1_S1_S4_d0 x : BitVec 32) = (![4#32, 5#32, 2#32, 3#32] : Fin 4 → BitVec 32) (x (0 : Fin 1))) x

/-- At these words every block lies inside its array. -/
theorem words_ok : ok0 (F := Bits) words := by
  unfold ok0
  decide +kernel

theorem ok (m : (ℓ : Loc nD τ sig) → Buf (Elt Bits) ℓ) : Ok (F := Bits) m := by
  show ok0 (tbl m)
  rw [tbl_eq]
  exact words_ok

end Cert.Kernel19.Stage

namespace Cert.Kernel19Ideal.StageBits

open Idealize.ShloMosaic Idealize.ShloMosaic.TcCoe Idealize.SL.Sem
open Cert.Kernel19Ideal Cert.Kernel19Ideal.Gen

/-- The two tables' words: which piece of the weight a step takes, and which columns it fills. -/
def words : pre0.Contents (Elt Bits) :=
  fun | ⟨0, _⟩ => (fun x : S4.Idx => (![0#32, 1#32, 2#32, 3#32] : Fin 4 → BitVec 32) (x (0 : Fin 1)) : S4.Idx → BitVec 32) | ⟨1, _⟩ => (fun x : S4.Idx => (![4#32, 5#32, 2#32, 3#32] : Fin 4 → BitVec 32) (x (0 : Fin 1)) : S4.Idx → BitVec 32) | ⟨_ + 2, h⟩ => absurd h (Nat.not_lt.2 (Nat.le_add_left _ _))

theorem joined {a b c d a' b' c' d' : Vec Bits S1 .i32} (ha : a = a') (hb : b = b') (hc : c = c') (hd : d = d') :
    concatenate S4 0 [⟨S1, a⟩, ⟨S1, b⟩, ⟨S1, c⟩, ⟨S1, d⟩] concatenates_S1_S1_S1_S1_S4_d0 = concatenate S4 0 [⟨S1, a'⟩, ⟨S1, b'⟩, ⟨S1, c'⟩, ⟨S1, d'⟩] concatenates_S1_S1_S1_S1_S4_d0 := by
  subst ha hb hc hd
  rfl

theorem tbl_eq (m : (ℓ : Loc nD τ sig) → Buf (Elt Bits) ℓ) : tbl m = words := by
  funext j
  match j with
  | ⟨0, _⟩ =>
    show StableHlo.after hostOps0 (fun b => m ((0 : Dev nD), b)) (Proc.devRef .tc main_v4) = _
    after_reads_simp
    have h0 : StableHlo.upto hostOps0 (fun b => m ((0 : Dev nD), b)) 8 (Proc.devRef .tc main_v0) = (fun _ => 0#32 : S1.Idx → BitVec 32) := by
      after_reads_simp
      funext x
      rfl
    have h1 : StableHlo.upto hostOps0 (fun b => m ((0 : Dev nD), b)) 8 (Proc.devRef .tc main_v1) = (fun _ => 1#32 : S1.Idx → BitVec 32) := by
      after_reads_simp
      funext x
      rfl
    have h2 : StableHlo.upto hostOps0 (fun b => m ((0 : Dev nD), b)) 8 (Proc.devRef .tc main_v2) = (fun _ => 2#32 : S1.Idx → BitVec 32) := by
      after_reads_simp
      funext x
      rfl
    have h3 : StableHlo.upto hostOps0 (fun b => m ((0 : Dev nD), b)) 8 (Proc.devRef .tc main_v3) = (fun _ => 3#32 : S1.Idx → BitVec 32) := by
      after_reads_simp
      funext x
      rfl
    refine (joined h0 h1 h2 h3).trans ?_
    funext x
    exact (by decide +kernel : ∀ x : S4.Idx, (concatenate S4 0 [⟨S1, fun _ => 0#32⟩, ⟨S1, fun _ => 1#32⟩, ⟨S1, fun _ => 2#32⟩, ⟨S1, fun _ => 3#32⟩] concatenates_S1_S1_S1_S1_S4_d0 x : BitVec 32) = (![0#32, 1#32, 2#32, 3#32] : Fin 4 → BitVec 32) (x (0 : Fin 1))) x
  | ⟨1, _⟩ =>
    show StableHlo.after hostOps0 (fun b => m ((0 : Dev nD), b)) (Proc.devRef .tc main_v9) = _
    after_reads_simp
    have h0 : StableHlo.upto hostOps0 (fun b => m ((0 : Dev nD), b)) 17 (Proc.devRef .tc main_v5) = (fun _ => 4#32 : S1.Idx → BitVec 32) := by
      after_reads_simp
      funext x
      rfl
    have h1 : StableHlo.upto hostOps0 (fun b => m ((0 : Dev nD), b)) 17 (Proc.devRef .tc main_v6) = (fun _ => 5#32 : S1.Idx → BitVec 32) := by
      after_reads_simp
      funext x
      rfl
    have h2 : StableHlo.upto hostOps0 (fun b => m ((0 : Dev nD), b)) 17 (Proc.devRef .tc main_v7) = (fun _ => 2#32 : S1.Idx → BitVec 32) := by
      after_reads_simp
      funext x
      rfl
    have h3 : StableHlo.upto hostOps0 (fun b => m ((0 : Dev nD), b)) 17 (Proc.devRef .tc main_v8) = (fun _ => 3#32 : S1.Idx → BitVec 32) := by
      after_reads_simp
      funext x
      rfl
    refine (joined h0 h1 h2 h3).trans ?_
    funext x
    exact (by decide +kernel : ∀ x : S4.Idx, (concatenate S4 0 [⟨S1, fun _ => 4#32⟩, ⟨S1, fun _ => 5#32⟩, ⟨S1, fun _ => 2#32⟩, ⟨S1, fun _ => 3#32⟩] concatenates_S1_S1_S1_S1_S4_d0 x : BitVec 32) = (![4#32, 5#32, 2#32, 3#32] : Fin 4 → BitVec 32) (x (0 : Fin 1))) x

/-- At these words every block lies inside its array. -/
theorem words_ok : ok0 (F := Bits) words := by
  unfold ok0
  decide +kernel

theorem ok (m : (ℓ : Loc nD τ sig) → Buf (Elt Bits) ℓ) : Ok (F := Bits) m := by
  show ok0 (tbl m)
  rw [tbl_eq]
  exact words_ok

abbrev admW : (pcfg0 (F := Bits)).Adm := ⟨words, words_ok⟩

/-- Which columns a step fills, and which piece it takes. -/
abbrev col : Fin 4 → Nat := ![4, 5, 2, 3]
abbrev piece : Fin 4 → Nat := ![0, 1, 2, 3]

theorem index_0 : ∀ t : Fin grid0.N, ((cfg0 (F := Bits) admW).win 0).index t = ![(grid0.coords t 0).val, 0] := by decide +kernel
theorem index_1 : ∀ t : Fin grid0.N, ((cfg0 (F := Bits) admW).win 1).index t = ![piece (grid0.coords t 1), 0, 0] := by decide +kernel
theorem index_2 : ∀ t : Fin grid0.N, ((cfg0 (F := Bits) admW).win 2).index t = ![(grid0.coords t 0).val, col (grid0.coords t 1)] := by decide +kernel
theorem covers : ((cfg0 (F := Bits) admW).win 2).CoversWhere (fun β => 2 ≤ β (1 : Fin 2) ∧ β (1 : Fin 2) ≤ 5) := by decide +kernel
theorem piece_col : ∀ j, col j % 4 = piece j := by decide

end Cert.Kernel19Ideal.StageBits

namespace Cert.Kernel19Ideal.Stage

open Idealize.ShloMosaic Idealize.ShloMosaic.TcCoe Idealize.SL.Sem
open Cert.Kernel19Ideal Cert.Kernel19Ideal.Gen

/-- The two tables' words: which piece of the weight a step takes, and which columns it fills. -/
def words : pre0.Contents (Elt Ideal) :=
  fun | ⟨0, _⟩ => (fun x : S4.Idx => (![0#32, 1#32, 2#32, 3#32] : Fin 4 → BitVec 32) (x (0 : Fin 1)) : S4.Idx → BitVec 32) | ⟨1, _⟩ => (fun x : S4.Idx => (![4#32, 5#32, 2#32, 3#32] : Fin 4 → BitVec 32) (x (0 : Fin 1)) : S4.Idx → BitVec 32) | ⟨_ + 2, h⟩ => absurd h (Nat.not_lt.2 (Nat.le_add_left _ _))

theorem joined {a b c d a' b' c' d' : Vec Ideal S1 .i32} (ha : a = a') (hb : b = b') (hc : c = c') (hd : d = d') :
    concatenate S4 0 [⟨S1, a⟩, ⟨S1, b⟩, ⟨S1, c⟩, ⟨S1, d⟩] concatenates_S1_S1_S1_S1_S4_d0 = concatenate S4 0 [⟨S1, a'⟩, ⟨S1, b'⟩, ⟨S1, c'⟩, ⟨S1, d'⟩] concatenates_S1_S1_S1_S1_S4_d0 := by
  subst ha hb hc hd
  rfl

theorem tbl_eq (m : (ℓ : Loc nD τ sig) → Buf (Elt Ideal) ℓ) : tbl m = words := by
  funext j
  match j with
  | ⟨0, _⟩ =>
    show StableHlo.after hostOps0 (fun b => m ((0 : Dev nD), b)) (Proc.devRef .tc main_v4) = _
    after_reads_simp
    have h0 : StableHlo.upto hostOps0 (fun b => m ((0 : Dev nD), b)) 8 (Proc.devRef .tc main_v0) = (fun _ => 0#32 : S1.Idx → BitVec 32) := by
      after_reads_simp
      funext x
      rfl
    have h1 : StableHlo.upto hostOps0 (fun b => m ((0 : Dev nD), b)) 8 (Proc.devRef .tc main_v1) = (fun _ => 1#32 : S1.Idx → BitVec 32) := by
      after_reads_simp
      funext x
      rfl
    have h2 : StableHlo.upto hostOps0 (fun b => m ((0 : Dev nD), b)) 8 (Proc.devRef .tc main_v2) = (fun _ => 2#32 : S1.Idx → BitVec 32) := by
      after_reads_simp
      funext x
      rfl
    have h3 : StableHlo.upto hostOps0 (fun b => m ((0 : Dev nD), b)) 8 (Proc.devRef .tc main_v3) = (fun _ => 3#32 : S1.Idx → BitVec 32) := by
      after_reads_simp
      funext x
      rfl
    refine (joined h0 h1 h2 h3).trans ?_
    funext x
    exact (by decide +kernel : ∀ x : S4.Idx, (concatenate S4 0 [⟨S1, fun _ => 0#32⟩, ⟨S1, fun _ => 1#32⟩, ⟨S1, fun _ => 2#32⟩, ⟨S1, fun _ => 3#32⟩] concatenates_S1_S1_S1_S1_S4_d0 x : BitVec 32) = (![0#32, 1#32, 2#32, 3#32] : Fin 4 → BitVec 32) (x (0 : Fin 1))) x
  | ⟨1, _⟩ =>
    show StableHlo.after hostOps0 (fun b => m ((0 : Dev nD), b)) (Proc.devRef .tc main_v9) = _
    after_reads_simp
    have h0 : StableHlo.upto hostOps0 (fun b => m ((0 : Dev nD), b)) 17 (Proc.devRef .tc main_v5) = (fun _ => 4#32 : S1.Idx → BitVec 32) := by
      after_reads_simp
      funext x
      rfl
    have h1 : StableHlo.upto hostOps0 (fun b => m ((0 : Dev nD), b)) 17 (Proc.devRef .tc main_v6) = (fun _ => 5#32 : S1.Idx → BitVec 32) := by
      after_reads_simp
      funext x
      rfl
    have h2 : StableHlo.upto hostOps0 (fun b => m ((0 : Dev nD), b)) 17 (Proc.devRef .tc main_v7) = (fun _ => 2#32 : S1.Idx → BitVec 32) := by
      after_reads_simp
      funext x
      rfl
    have h3 : StableHlo.upto hostOps0 (fun b => m ((0 : Dev nD), b)) 17 (Proc.devRef .tc main_v8) = (fun _ => 3#32 : S1.Idx → BitVec 32) := by
      after_reads_simp
      funext x
      rfl
    refine (joined h0 h1 h2 h3).trans ?_
    funext x
    exact (by decide +kernel : ∀ x : S4.Idx, (concatenate S4 0 [⟨S1, fun _ => 4#32⟩, ⟨S1, fun _ => 5#32⟩, ⟨S1, fun _ => 2#32⟩, ⟨S1, fun _ => 3#32⟩] concatenates_S1_S1_S1_S1_S4_d0 x : BitVec 32) = (![4#32, 5#32, 2#32, 3#32] : Fin 4 → BitVec 32) (x (0 : Fin 1))) x

/-- At these words every block lies inside its array. -/
theorem words_ok : ok0 (F := Ideal) words := StageBits.words_ok

theorem ok (m : (ℓ : Loc nD τ sig) → Buf (Elt Ideal) ℓ) : Ok (F := Ideal) m := by
  show ok0 (tbl m)
  rw [tbl_eq]
  exact words_ok

variable (m : (ℓ : Loc nD τ sig) → Buf (Elt Ideal) ℓ) (ρ : Dev nD → PrngReg)

/-- The rows times one column of one piece of the weight. -/
def prod (x : Vec Ideal S4096x2048 .bf16) (w : Vec Ideal S4x2048x896 .bf16) : Vec Ideal S4096x7168 .f32 :=
  fun i => ∑ k : Fin 2048, x (ix2 (i 0) k) * w (ix3 (⟨(i 1).val / 896 % 4, Nat.mod_lt _ (by decide)⟩ : Fin 4) k (⟨(i 1).val % 896, Nat.mod_lt _ (by decide)⟩ : Fin 896))

/-- The projection after the stage: the stage's own columns are new, the others are as given. -/
def filled (x : Vec Ideal S4096x2048 .bf16) (w : Vec Ideal S4x2048x896 .bf16) (p : Vec Ideal S4096x7168 .f32) : Vec Ideal S4096x7168 .f32 :=
  fun i => if 2 ≤ (i 1).val / 896 ∧ (i 1).val / 896 ≤ 5 then prod x w i else p i

abbrev admW : (pcfg0 (F := Ideal)).Adm := ⟨words, words_ok⟩

theorem adm_eq : adm m (ok m) = admW := Subtype.ext (tbl_eq m)

theorem index_0 : ∀ t : Fin grid0.N, ((cfg0 (adm m (ok m))).win 0).index t = ![(grid0.coords t 0).val, 0] := by
  rw [adm_eq]
  exact StageBits.index_0
theorem index_1 : ∀ t : Fin grid0.N, ((cfg0 (adm m (ok m))).win 1).index t = ![StageBits.piece (grid0.coords t 1), 0, 0] := by
  rw [adm_eq]
  exact StageBits.index_1
theorem index_2 : ∀ t : Fin grid0.N, ((cfg0 (adm m (ok m))).win 2).index t = ![(grid0.coords t 0).val, StageBits.col (grid0.coords t 1)] := by
  rw [adm_eq]
  exact StageBits.index_2

theorem covers : ((cfg0 (adm m (ok m))).win 2).CoversWhere (fun β => 2 ≤ β (1 : Fin 2) ∧ β (1 : Fin 2) ≤ 5) := by
  rw [adm_eq]
  exact StageBits.covers

/-- What the region finds in the result's array: the projection as given. -/
theorem entry (c : Dev nD) : V m c main_v10 = m ((c : Thread nD τ).loc main_arg2) := by
  show StableHlo.after hostOps0 (fun b => m (c, b)) (Proc.devRef .tc main_v10) = _
  after_reads_simp
  rfl

theorem sum_mul_eq {a b a' b' : Fin 2048 → EReal} (ha : ∀ x, a x = a' x) (hb : ∀ x, b x = b' x) : ∑ x, a x * b x = ∑ x, a' x * b' x :=
  Finset.sum_congr rfl fun x _ => by rw [ha x, hb x]

theorem final (c : Dev nD) : (dats m (ok m) 0 c).arrAt 2 (cfgM m (ok m)).N
    = filled (m ((c : Thread nD τ).loc main_arg0)) (m ((c : Thread nD τ).loc main_arg1)) (m ((c : Thread nD τ).loc main_arg2)) := by
  have h := (dats m (ok m) 0 c).arrAt_eq_of_coversWhere 2 (prod (m ((c : Thread nD τ).loc main_arg0)) (m ((c : Thread nD τ).loc main_arg1)))
    (P := fun i => 2 ≤ (i (1 : Fin 2)).val / 896 ∧ (i (1 : Fin 2)).val / 896 ≤ 5)
    (fun β => 2 ≤ β (1 : Fin 2) ∧ β (1 : Fin 2) ≤ 5) (covers m) (fun t hf y => ?_) (fun j => Iff.rfl)
  · rw [h]
    funext i
    unfold filled
    rw [A_eq]
    show (if _ then _ else V m c main_v10 i) = _
    rw [entry]
  · have e0 := index_0 m t
    have e1 := index_1 m t
    have e2 := index_2 m t
    blk_simp
    rw [after0_2]
    unfold outsAt0 out0_A_2
    frame_out
    pointwise [k0_pay1, prod]
    refine sum_mul_eq (fun x => ?_) (fun x => ?_)
    · refine (congrFun ((hs0_0 m (ok m) t).read_unread (iblk m (ok m) c 0 t)) _).trans ?_
      unfold iblk
      show V m c main_arg0 ((((cfgM m (ok m)).win 0).blk t).view.emb (ix2 (y (0 : Fin 2)) x)) = _
      rw [V_main_arg0]
      refine congrArg _ (funext fun a => ?_)
      match a with
      | ⟨0, _⟩ =>
        apply Fin.ext
        show ((cfg0 (adm m (ok m))).win 0).index t (0 : Fin 2) * 1024 + 1 * (y (0 : Fin 2)).val = ((cfg0 (adm m (ok m))).win 2).index t (0 : Fin 2) * 1024 + 1 * (y (0 : Fin 2)).val
        rw [e0, e2]
        rfl
      | ⟨1, _⟩ =>
        apply Fin.ext
        show ((cfg0 (adm m (ok m))).win 0).index t (1 : Fin 2) * 2048 + 1 * x.val = x.val
        rw [e0]
        show 0 * 2048 + 1 * x.val = x.val
        omega
    · refine (congrFun ((hs0_1 m (ok m) t).read_unread (iblk m (ok m) c 1 t)) _).trans ?_
      have hc := StageBits.piece_col (grid0.coords t 1)
      have hy : (y (1 : Fin 2)).val < 896 := (y (1 : Fin 2)).isLt
      unfold iblk
      show V m c main_arg1 ((((cfgM m (ok m)).win 1).blk t).view.emb (ix3 0 x (y (1 : Fin 2)))) = _
      rw [V_main_arg1]
      refine congrArg _ (funext fun a => ?_)
      match a with
      | ⟨0, _⟩ =>
        apply Fin.ext
        show ((cfg0 (adm m (ok m))).win 1).index t (0 : Fin 3) * 1 + 1 * 0 = (((cfg0 (adm m (ok m))).win 2).index t (1 : Fin 2) * 896 + 1 * (y (1 : Fin 2)).val) / 896 % 4
        rw [e1, e2]
        show StageBits.piece (grid0.coords t 1) * 1 + 1 * 0 = (StageBits.col (grid0.coords t 1) * 896 + 1 * (y (1 : Fin 2)).val) / 896 % 4
        have hd : (StageBits.col (grid0.coords t 1) * 896 + 1 * (y (1 : Fin 2)).val) / 896 = StageBits.col (grid0.coords t 1) := by omega
        rw [hd]
        omega
      | ⟨1, _⟩ =>
        apply Fin.ext
        show ((cfg0 (adm m (ok m))).win 1).index t (1 : Fin 3) * 2048 + 1 * x.val = x.val
        rw [e1]
        show 0 * 2048 + 1 * x.val = x.val
        omega
      | ⟨2, _⟩ =>
        apply Fin.ext
        show ((cfg0 (adm m (ok m))).win 1).index t (2 : Fin 3) * 896 + 1 * (y (1 : Fin 2)).val = (((cfg0 (adm m (ok m))).win 2).index t (1 : Fin 2) * 896 + 1 * (y (1 : Fin 2)).val) % 896
        rw [e1, e2]
        show 0 * 896 + 1 * (y (1 : Fin 2)).val = (StageBits.col (grid0.coords t 1) * 896 + 1 * (y (1 : Fin 2)).val) % 896
        omega

/-- The call's run: the result is the filled projection, and the arguments end as they were. -/
theorem run : θ_run defs (onTc (τ := τ) (main (F := Ideal))) ⟨m, fun _ => 0, ρ⟩ fun r => ∀ c : Dev nD,
      r.2.mem ((c : Thread nD τ).loc main_v10) = filled (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).1 2).trans (final m c),
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c))),
      ((h c).2 main_arg2 (by decide : main_arg2 ∈ Pipeline.restRefs sig spec0)).trans (V_main_arg2 m c)⟩) (run_main m ρ (ok m))

/-- The reference's result is the filled projection. -/
theorem ref_filled (x : Vec Ideal S4096x2048 .bf16) (w : Vec Ideal S4x2048x896 .bf16) (p : Vec Ideal S4096x7168 .f32) :
    Cert.Reference19Ideal.Read.val_main_v17 x w p = filled x w p := by
  funext i
  unfold Cert.Reference19Ideal.Read.val_main_v17 filled prod
  pointwise [Cert.Reference19Ideal.Read.val_main_v0_apply, Cert.Reference19Ideal.Read.val_main_v1_apply, Cert.Reference19Ideal.Read.val_main_v2_apply, Cert.Reference19Ideal.Read.val_main_v3_apply, Cert.Reference19Ideal.Read.val_main_v4_apply, Cert.Reference19Ideal.Read.val_main_v5, Cert.Reference19Ideal.Read.val_main_v6_apply, Cert.Reference19Ideal.Read.val_main_v7_apply, Cert.Reference19Ideal.Read.val_main_v8_apply, Cert.Reference19Ideal.Read.val_main_v9_apply, Cert.Reference19Ideal.Read.val_main_v10_apply, Cert.Reference19Ideal.Read.val_main_v11, Cert.Reference19Ideal.Read.val_main_v12_apply, Cert.Reference19Ideal.Read.val_main_v13_apply, Cert.Reference19Ideal.Read.val_main_v14_apply, Cert.Reference19Ideal.Read.val_main_v15_apply, Cert.Reference19Ideal.Read.val_main_v16_apply]
  have hi : (i (1 : Fin 2)).val < 7168 := (i (1 : Fin 2)).isLt
  have leafp : ∀ j : S4096x7168.Idx, (j (0 : Fin 2)).val = (i (0 : Fin 2)).val → (j (1 : Fin 2)).val = (i (1 : Fin 2)).val → p j = p i :=
    fun j h0 h1 => congrArg p (funext fun a => match a with | ⟨0, _⟩ => Fin.ext h0 | ⟨1, _⟩ => Fin.ext h1)
  have leafx : ∀ (k : Fin 2048) (j : S4096x2048.Idx), (j (0 : Fin 2)).val = (i (0 : Fin 2)).val → (j (1 : Fin 2)).val = k.val → x j = x (ix2 (i 0) k) :=
    fun k j h0 h1 => congrArg x (funext fun a => match a with | ⟨0, _⟩ => Fin.ext h0 | ⟨1, _⟩ => Fin.ext h1)
  have leafw : ∀ (k : Fin 2048) (j : S4x2048x896.Idx), (j (0 : Fin 3)).val = (i (1 : Fin 2)).val / 896 % 4 → (j (1 : Fin 3)).val = k.val → (j (2 : Fin 3)).val = (i (1 : Fin 2)).val % 896 →
      w j = w (ix3 (⟨(i 1).val / 896 % 4, Nat.mod_lt _ (by decide)⟩ : Fin 4) k (⟨(i 1).val % 896, Nat.mod_lt _ (by decide)⟩ : Fin 896)) :=
    fun k j h0 h1 h2 => congrArg w (funext fun a => match a with | ⟨0, _⟩ => Fin.ext h0 | ⟨1, _⟩ => Fin.ext h1 | ⟨2, _⟩ => Fin.ext h2)
  repeat' split
  all_goals first
    | (exfalso; omega)
    | (have hl : 5376 ≤ (i (1 : Fin 2)).val := by omega
       exact leafp _ rfl (by show 5376 + ((i (1 : Fin 2)).val - 1792 - 1792 - 1792) = (i (1 : Fin 2)).val; omega))
    | exact leafp _ rfl rfl

    | (refine sum_mul_eq (fun k => leafx k _ rfl rfl) (fun k => ?_)
       have hk : k.val < 2048 := k.isLt
       repeat' split
       all_goals first
         | (exfalso; omega)
         | exact leafw k _ (by show (2 : Nat) = (i (1 : Fin 2)).val / 896 % 4; omega) (by show (k.val * 896 + ((i (1 : Fin 2)).val - 1792)) / 896 % 2048 = k.val; omega) (by show (k.val * 896 + ((i (1 : Fin 2)).val - 1792)) % 896 = (i (1 : Fin 2)).val % 896; omega)
         | exact leafw k _ (by show (3 : Nat) = (i (1 : Fin 2)).val / 896 % 4; omega) (by show (k.val * 896 + ((i (1 : Fin 2)).val - 1792 - 896)) / 896 % 2048 = k.val; omega) (by show (k.val * 896 + ((i (1 : Fin 2)).val - 1792 - 896)) % 896 = (i (1 : Fin 2)).val % 896; omega)
         | exact leafw k _ (by show (0 : Nat) = (i (1 : Fin 2)).val / 896 % 4; omega) (by show (k.val * 896 + ((i (1 : Fin 2)).val - 1792 - 1792)) / 896 % 2048 = k.val; omega) (by show (k.val * 896 + ((i (1 : Fin 2)).val - 1792 - 1792)) % 896 = (i (1 : Fin 2)).val % 896; omega)
         | exact leafw k _ (by show (1 : Nat) = (i (1 : Fin 2)).val / 896 % 4; omega) (by show (k.val * 896 + ((i (1 : Fin 2)).val - 1792 - 1792 - 896)) / 896 % 2048 = k.val; omega) (by show (k.val * 896 + ((i (1 : Fin 2)).val - 1792 - 1792 - 896)) % 896 = (i (1 : Fin 2)).val % 896; omega))

/-- Over the reals the call and the reference give the same results from the same arguments. -/
theorem agrees : Cert.algebraic_Kernel19Ideal_Reference19Ideal := by
  intro m g m' g' _ hargs
  refine ⟨fun c => filled (m ((c : Thread nD τ).loc main_arg0)) (m ((c : Thread nD τ).loc main_arg1)) (m ((c : Thread nD τ).loc main_arg2)), run m g, ?_⟩
  refine (θ_run Cert.Reference19Ideal.defs _ _).mono (fun r h c => ⟨(h c).1.trans ?_, (h c).2⟩) (Cert.Reference19Ideal.Value.run (F := Ideal) m' g')
  rw [(hargs c).1, (hargs c).2.1, (hargs c).2.2]
  exact (Cert.Reference19Ideal.Read.val_main_v17_eq _ _ _).trans (ref_filled _ _ _)

/-- The reference's run on its own: its arguments end as they were. -/
theorem ref_frame : Cert.quiescent_Reference19Ideal := fun m g _ =>
  (θ_run Cert.Reference19Ideal.defs _ _).mono (fun r h => ⟨fun c => (h c).2, sem_eq_zero_of_no_sems (by decide) r.2⟩)
    (Cert.Reference19Ideal.Value.run (F := Ideal) m g)

end Cert.Kernel19Ideal.Stage

end
-- ==== Proof.ProjFar.lean ====
module

public import proofs.«01_k».proof.Defs
public import proofs.«01_k».proof.Proof.Gen.Kernel20.Frame
public import proofs.«01_k».proof.Proof.Gen.Kernel20Ideal.Frame
public import proofs.«01_k».proof.Proof.Gen.Reference20Ideal.Run
public import proofs.«01_k».proof.Proof.Gen.Reference20Ideal.Read
public import Idealize.ShloMosaic.Lib.Pipeline.ValueKit
public import Idealize.ShloMosaic.Lib.Pipeline.ValueKit.Point
public import Idealize.ShloMosaic.Lib.Pointwise
public import Idealize.ShloMosaic.Lib.StableHlo.RunRead

/-! One stage of the input projection: the columns it fills, and the ones it leaves as they were. -/

@[expose] public section

noncomputable section

namespace Cert.Kernel20.Stage

open Idealize.ShloMosaic Idealize.ShloMosaic.TcCoe Idealize.SL.Sem
open Cert.Kernel20 Cert.Kernel20.Gen

/-- The two tables' words: which piece of the weight a step takes, and which columns it fills. -/
def words : pre0.Contents (Elt Bits) :=
  fun | ⟨0, _⟩ => (fun x : S2.Idx => (![0#32, 1#32] : Fin 2 → BitVec 32) (x (0 : Fin 1)) : S2.Idx → BitVec 32) | ⟨1, _⟩ => (fun x : S2.Idx => (![6#32, 7#32] : Fin 2 → BitVec 32) (x (0 : Fin 1)) : S2.Idx → BitVec 32) | ⟨_ + 2, h⟩ => absurd h (Nat.not_lt.2 (Nat.le_add_left _ _))

theorem joined {a b a' b' : Vec Bits S1 .i32} (ha : a = a') (hb : b = b') :
    concatenate S2 0 [⟨S1, a⟩, ⟨S1, b⟩] concatenates_S1_S1_S2_d0 = concatenate S2 0 [⟨S1, a'⟩, ⟨S1, b'⟩] concatenates_S1_S1_S2_d0 := by
  subst ha hb
  rfl

theorem tbl_eq (m : (ℓ : Loc nD τ sig) → Buf (Elt Bits) ℓ) : tbl m = words := by
  funext j
  match j with
  | ⟨0, _⟩ =>
    show StableHlo.after hostOps0 (fun b => m ((0 : Dev nD), b)) (Proc.devRef .tc main_v2) = _
    after_reads_simp
    refine (joined (a' := fun _ => 0#32) (b' := fun _ => 1#32) (by funext x; rfl) (by funext x; rfl)).trans ?_
    funext x
    exact (by decide +kernel : ∀ x : S2.Idx, (concatenate S2 0 [⟨S1, fun _ => 0#32⟩, ⟨S1, fun _ => 1#32⟩] concatenates_S1_S1_S2_d0 x : BitVec 32) = (![0#32, 1#32] : Fin 2 → BitVec 32) (x (0 : Fin 1))) x
  | ⟨1, _⟩ =>
    show StableHlo.after hostOps0 (fun b => m ((0 : Dev nD), b)) (Proc.devRef .tc main_v5) = _
    after_reads_simp
    refine (joined (a' := fun _ => 6#32) (b' := fun _ => 7#32) (by funext x; rfl) (by funext x; rfl)).trans ?_
    funext x
    exact (by decide +kernel : ∀ x : S2.Idx, (concatenate S2 0 [⟨S1, fun _ => 6#32⟩, ⟨S1, fun _ => 7#32⟩] concatenates_S1_S1_S2_d0 x : BitVec 32) = (![6#32, 7#32] : Fin 2 → BitVec 32) (x (0 : Fin 1))) x

/-- At these words every block lies inside its array. -/
theorem words_ok : ok0 (F := Bits) words := by
  unfold ok0
  decide +kernel

theorem ok (m : (ℓ : Loc nD τ sig) → Buf (Elt Bits) ℓ) : Ok (F := Bits) m := by
  show ok0 (tbl m)
  rw [tbl_eq]
  exact words_ok

end Cert.Kernel20.Stage

namespace Cert.Kernel20Ideal.StageBits

open Idealize.ShloMosaic Idealize.ShloMosaic.TcCoe Idealize.SL.Sem
open Cert.Kernel20Ideal Cert.Kernel20Ideal.Gen

/-- The two tables' words: which piece of the weight a step takes, and which columns it fills. -/
def words : pre0.Contents (Elt Bits) :=
  fun | ⟨0, _⟩ => (fun x : S2.Idx => (![0#32, 1#32] : Fin 2 → BitVec 32) (x (0 : Fin 1)) : S2.Idx → BitVec 32) | ⟨1, _⟩ => (fun x : S2.Idx => (![6#32, 7#32] : Fin 2 → BitVec 32) (x (0 : Fin 1)) : S2.Idx → BitVec 32) | ⟨_ + 2, h⟩ => absurd h (Nat.not_lt.2 (Nat.le_add_left _ _))

theorem joined {a b a' b' : Vec Bits S1 .i32} (ha : a = a') (hb : b = b') :
    concatenate S2 0 [⟨S1, a⟩, ⟨S1, b⟩] concatenates_S1_S1_S2_d0 = concatenate S2 0 [⟨S1, a'⟩, ⟨S1, b'⟩] concatenates_S1_S1_S2_d0 := by
  subst ha hb
  rfl

theorem tbl_eq (m : (ℓ : Loc nD τ sig) → Buf (Elt Bits) ℓ) : tbl m = words := by
  funext j
  match j with
  | ⟨0, _⟩ =>
    show StableHlo.after hostOps0 (fun b => m ((0 : Dev nD), b)) (Proc.devRef .tc main_v2) = _
    after_reads_simp
    refine (joined (a' := fun _ => 0#32) (b' := fun _ => 1#32) (by funext x; rfl) (by funext x; rfl)).trans ?_
    funext x
    exact (by decide +kernel : ∀ x : S2.Idx, (concatenate S2 0 [⟨S1, fun _ => 0#32⟩, ⟨S1, fun _ => 1#32⟩] concatenates_S1_S1_S2_d0 x : BitVec 32) = (![0#32, 1#32] : Fin 2 → BitVec 32) (x (0 : Fin 1))) x
  | ⟨1, _⟩ =>
    show StableHlo.after hostOps0 (fun b => m ((0 : Dev nD), b)) (Proc.devRef .tc main_v5) = _
    after_reads_simp
    refine (joined (a' := fun _ => 6#32) (b' := fun _ => 7#32) (by funext x; rfl) (by funext x; rfl)).trans ?_
    funext x
    exact (by decide +kernel : ∀ x : S2.Idx, (concatenate S2 0 [⟨S1, fun _ => 6#32⟩, ⟨S1, fun _ => 7#32⟩] concatenates_S1_S1_S2_d0 x : BitVec 32) = (![6#32, 7#32] : Fin 2 → BitVec 32) (x (0 : Fin 1))) x

/-- At these words every block lies inside its array. -/
theorem words_ok : ok0 (F := Bits) words := by
  unfold ok0
  decide +kernel

theorem ok (m : (ℓ : Loc nD τ sig) → Buf (Elt Bits) ℓ) : Ok (F := Bits) m := by
  show ok0 (tbl m)
  rw [tbl_eq]
  exact words_ok

abbrev admW : (pcfg0 (F := Bits)).Adm := ⟨words, words_ok⟩

/-- Which columns a step fills, and which piece it takes. -/
abbrev col : Fin 2 → Nat := ![6, 7]
abbrev piece : Fin 2 → Nat := ![0, 1]

theorem index_0 : ∀ t : Fin grid0.N, ((cfg0 (F := Bits) admW).win 0).index t = ![(grid0.coords t 0).val, 0] := by decide +kernel
theorem index_1 : ∀ t : Fin grid0.N, ((cfg0 (F := Bits) admW).win 1).index t = ![piece (grid0.coords t 1), 0, 0] := by decide +kernel
theorem index_2 : ∀ t : Fin grid0.N, ((cfg0 (F := Bits) admW).win 2).index t = ![(grid0.coords t 0).val, col (grid0.coords t 1)] := by decide +kernel
theorem covers : ((cfg0 (F := Bits) admW).win 2).CoversWhere (fun β => 6 ≤ β (1 : Fin 2) ∧ β (1 : Fin 2) ≤ 7) := by decide +kernel
theorem piece_col : ∀ j, col j % 2 = piece j := by decide

end Cert.Kernel20Ideal.StageBits

namespace Cert.Kernel20Ideal.Stage

open Idealize.ShloMosaic Idealize.ShloMosaic.TcCoe Idealize.SL.Sem
open Cert.Kernel20Ideal Cert.Kernel20Ideal.Gen

/-- The two tables' words: which piece of the weight a step takes, and which columns it fills. -/
def words : pre0.Contents (Elt Ideal) :=
  fun | ⟨0, _⟩ => (fun x : S2.Idx => (![0#32, 1#32] : Fin 2 → BitVec 32) (x (0 : Fin 1)) : S2.Idx → BitVec 32) | ⟨1, _⟩ => (fun x : S2.Idx => (![6#32, 7#32] : Fin 2 → BitVec 32) (x (0 : Fin 1)) : S2.Idx → BitVec 32) | ⟨_ + 2, h⟩ => absurd h (Nat.not_lt.2 (Nat.le_add_left _ _))

theorem joined {a b a' b' : Vec Ideal S1 .i32} (ha : a = a') (hb : b = b') :
    concatenate S2 0 [⟨S1, a⟩, ⟨S1, b⟩] concatenates_S1_S1_S2_d0 = concatenate S2 0 [⟨S1, a'⟩, ⟨S1, b'⟩] concatenates_S1_S1_S2_d0 := by
  subst ha hb
  rfl

theorem tbl_eq (m : (ℓ : Loc nD τ sig) → Buf (Elt Ideal) ℓ) : tbl m = words := by
  funext j
  match j with
  | ⟨0, _⟩ =>
    show StableHlo.after hostOps0 (fun b => m ((0 : Dev nD), b)) (Proc.devRef .tc main_v2) = _
    after_reads_simp
    refine (joined (a' := fun _ => 0#32) (b' := fun _ => 1#32) (by funext x; rfl) (by funext x; rfl)).trans ?_
    funext x
    exact (by decide +kernel : ∀ x : S2.Idx, (concatenate S2 0 [⟨S1, fun _ => 0#32⟩, ⟨S1, fun _ => 1#32⟩] concatenates_S1_S1_S2_d0 x : BitVec 32) = (![0#32, 1#32] : Fin 2 → BitVec 32) (x (0 : Fin 1))) x
  | ⟨1, _⟩ =>
    show StableHlo.after hostOps0 (fun b => m ((0 : Dev nD), b)) (Proc.devRef .tc main_v5) = _
    after_reads_simp
    refine (joined (a' := fun _ => 6#32) (b' := fun _ => 7#32) (by funext x; rfl) (by funext x; rfl)).trans ?_
    funext x
    exact (by decide +kernel : ∀ x : S2.Idx, (concatenate S2 0 [⟨S1, fun _ => 6#32⟩, ⟨S1, fun _ => 7#32⟩] concatenates_S1_S1_S2_d0 x : BitVec 32) = (![6#32, 7#32] : Fin 2 → BitVec 32) (x (0 : Fin 1))) x

/-- At these words every block lies inside its array. -/
theorem words_ok : ok0 (F := Ideal) words := StageBits.words_ok

theorem ok (m : (ℓ : Loc nD τ sig) → Buf (Elt Ideal) ℓ) : Ok (F := Ideal) m := by
  show ok0 (tbl m)
  rw [tbl_eq]
  exact words_ok

variable (m : (ℓ : Loc nD τ sig) → Buf (Elt Ideal) ℓ) (ρ : Dev nD → PrngReg)

/-- The rows times one column of one piece of the weight. -/
def prod (x : Vec Ideal S4096x2048 .bf16) (w : Vec Ideal S2x2048x896 .bf16) : Vec Ideal S4096x7168 .f32 :=
  fun i => ∑ k : Fin 2048, x (ix2 (i 0) k) * w (ix3 (⟨(i 1).val / 896 % 2, Nat.mod_lt _ (by decide)⟩ : Fin 2) k (⟨(i 1).val % 896, Nat.mod_lt _ (by decide)⟩ : Fin 896))

/-- The projection after the stage: the stage's own columns are new, the others are as given. -/
def filled (x : Vec Ideal S4096x2048 .bf16) (w : Vec Ideal S2x2048x896 .bf16) (p : Vec Ideal S4096x7168 .f32) : Vec Ideal S4096x7168 .f32 :=
  fun i => if 6 ≤ (i 1).val / 896 ∧ (i 1).val / 896 ≤ 7 then prod x w i else p i

abbrev admW : (pcfg0 (F := Ideal)).Adm := ⟨words, words_ok⟩

theorem adm_eq : adm m (ok m) = admW := Subtype.ext (tbl_eq m)

theorem index_0 : ∀ t : Fin grid0.N, ((cfg0 (adm m (ok m))).win 0).index t = ![(grid0.coords t 0).val, 0] := by
  rw [adm_eq]
  exact StageBits.index_0
theorem index_1 : ∀ t : Fin grid0.N, ((cfg0 (adm m (ok m))).win 1).index t = ![StageBits.piece (grid0.coords t 1), 0, 0] := by
  rw [adm_eq]
  exact StageBits.index_1
theorem index_2 : ∀ t : Fin grid0.N, ((cfg0 (adm m (ok m))).win 2).index t = ![(grid0.coords t 0).val, StageBits.col (grid0.coords t 1)] := by
  rw [adm_eq]
  exact StageBits.index_2

theorem covers : ((cfg0 (adm m (ok m))).win 2).CoversWhere (fun β => 6 ≤ β (1 : Fin 2) ∧ β (1 : Fin 2) ≤ 7) := by
  rw [adm_eq]
  exact StageBits.covers

/-- What the region finds in the result's array: the projection as given. -/
theorem entry (c : Dev nD) : V m c main_v6 = m ((c : Thread nD τ).loc main_arg2) := by
  show StableHlo.after hostOps0 (fun b => m (c, b)) (Proc.devRef .tc main_v6) = _
  after_reads_simp
  rfl

theorem sum_mul_eq {a b a' b' : Fin 2048 → EReal} (ha : ∀ x, a x = a' x) (hb : ∀ x, b x = b' x) : ∑ x, a x * b x = ∑ x, a' x * b' x :=
  Finset.sum_congr rfl fun x _ => by rw [ha x, hb x]

theorem final (c : Dev nD) : (dats m (ok m) 0 c).arrAt 2 (cfgM m (ok m)).N
    = filled (m ((c : Thread nD τ).loc main_arg0)) (m ((c : Thread nD τ).loc main_arg1)) (m ((c : Thread nD τ).loc main_arg2)) := by
  have h := (dats m (ok m) 0 c).arrAt_eq_of_coversWhere 2 (prod (m ((c : Thread nD τ).loc main_arg0)) (m ((c : Thread nD τ).loc main_arg1)))
    (P := fun i => 6 ≤ (i (1 : Fin 2)).val / 896 ∧ (i (1 : Fin 2)).val / 896 ≤ 7)
    (fun β => 6 ≤ β (1 : Fin 2) ∧ β (1 : Fin 2) ≤ 7) (covers m) (fun t hf y => ?_) (fun j => Iff.rfl)
  · rw [h]
    funext i
    unfold filled
    rw [A_eq]
    show (if _ then _ else V m c main_v6 i) = _
    rw [entry]
  · have e0 := index_0 m t
    have e1 := index_1 m t
    have e2 := index_2 m t
    blk_simp
    rw [after0_2]
    unfold outsAt0 out0_A_2
    frame_out
    pointwise [k0_pay1, prod]
    refine sum_mul_eq (fun x => ?_) (fun x => ?_)
    · refine (congrFun ((hs0_0 m (ok m) t).read_unread (iblk m (ok m) c 0 t)) _).trans ?_
      unfold iblk
      show V m c main_arg0 ((((cfgM m (ok m)).win 0).blk t).view.emb (ix2 (y (0 : Fin 2)) x)) = _
      rw [V_main_arg0]
      refine congrArg _ (funext fun a => ?_)
      match a with
      | ⟨0, _⟩ =>
        apply Fin.ext
        show ((cfg0 (adm m (ok m))).win 0).index t (0 : Fin 2) * 1024 + 1 * (y (0 : Fin 2)).val = ((cfg0 (adm m (ok m))).win 2).index t (0 : Fin 2) * 1024 + 1 * (y (0 : Fin 2)).val
        rw [e0, e2]
        rfl
      | ⟨1, _⟩ =>
        apply Fin.ext
        show ((cfg0 (adm m (ok m))).win 0).index t (1 : Fin 2) * 2048 + 1 * x.val = x.val
        rw [e0]
        show 0 * 2048 + 1 * x.val = x.val
        omega
    · refine (congrFun ((hs0_1 m (ok m) t).read_unread (iblk m (ok m) c 1 t)) _).trans ?_
      have hc := StageBits.piece_col (grid0.coords t 1)
      have hy : (y (1 : Fin 2)).val < 896 := (y (1 : Fin 2)).isLt
      unfold iblk
      show V m c main_arg1 ((((cfgM m (ok m)).win 1).blk t).view.emb (ix3 0 x (y (1 : Fin 2)))) = _
      rw [V_main_arg1]
      refine congrArg _ (funext fun a => ?_)
      match a with
      | ⟨0, _⟩ =>
        apply Fin.ext
        show ((cfg0 (adm m (ok m))).win 1).index t (0 : Fin 3) * 1 + 1 * 0 = (((cfg0 (adm m (ok m))).win 2).index t (1 : Fin 2) * 896 + 1 * (y (1 : Fin 2)).val) / 896 % 2
        rw [e1, e2]
        show StageBits.piece (grid0.coords t 1) * 1 + 1 * 0 = (StageBits.col (grid0.coords t 1) * 896 + 1 * (y (1 : Fin 2)).val) / 896 % 2
        have hd : (StageBits.col (grid0.coords t 1) * 896 + 1 * (y (1 : Fin 2)).val) / 896 = StageBits.col (grid0.coords t 1) := by omega
        rw [hd]
        omega
      | ⟨1, _⟩ =>
        apply Fin.ext
        show ((cfg0 (adm m (ok m))).win 1).index t (1 : Fin 3) * 2048 + 1 * x.val = x.val
        rw [e1]
        show 0 * 2048 + 1 * x.val = x.val
        omega
      | ⟨2, _⟩ =>
        apply Fin.ext
        show ((cfg0 (adm m (ok m))).win 1).index t (2 : Fin 3) * 896 + 1 * (y (1 : Fin 2)).val = (((cfg0 (adm m (ok m))).win 2).index t (1 : Fin 2) * 896 + 1 * (y (1 : Fin 2)).val) % 896
        rw [e1, e2]
        show 0 * 896 + 1 * (y (1 : Fin 2)).val = (StageBits.col (grid0.coords t 1) * 896 + 1 * (y (1 : Fin 2)).val) % 896
        omega

/-- The call's run: the result is the filled projection, and the arguments end as they were. -/
theorem run : θ_run defs (onTc (τ := τ) (main (F := Ideal))) ⟨m, fun _ => 0, ρ⟩ fun r => ∀ c : Dev nD,
      r.2.mem ((c : Thread nD τ).loc main_v6) = filled (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).1 2).trans (final m c),
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c))),
      ((h c).2 main_arg2 (by decide : main_arg2 ∈ Pipeline.restRefs sig spec0)).trans (V_main_arg2 m c)⟩) (run_main m ρ (ok m))

/-- The reference's result is the filled projection. -/
theorem ref_filled (x : Vec Ideal S4096x2048 .bf16) (w : Vec Ideal S2x2048x896 .bf16) (p : Vec Ideal S4096x7168 .f32) :
    Cert.Reference20Ideal.Read.val_main_v9 x w p = filled x w p := by
  funext i
  unfold Cert.Reference20Ideal.Read.val_main_v9 filled prod
  pointwise [Cert.Reference20Ideal.Read.val_main_v0_apply, Cert.Reference20Ideal.Read.val_main_v1_apply, Cert.Reference20Ideal.Read.val_main_v2_apply, Cert.Reference20Ideal.Read.val_main_v3_apply, Cert.Reference20Ideal.Read.val_main_v4_apply, Cert.Reference20Ideal.Read.val_main_v5, Cert.Reference20Ideal.Read.val_main_v6_apply, Cert.Reference20Ideal.Read.val_main_v7_apply, Cert.Reference20Ideal.Read.val_main_v8_apply]
  have hi : (i (1 : Fin 2)).val < 7168 := (i (1 : Fin 2)).isLt
  have leafp : ∀ j : S4096x7168.Idx, (j (0 : Fin 2)).val = (i (0 : Fin 2)).val → (j (1 : Fin 2)).val = (i (1 : Fin 2)).val → p j = p i :=
    fun j h0 h1 => congrArg p (funext fun a => match a with | ⟨0, _⟩ => Fin.ext h0 | ⟨1, _⟩ => Fin.ext h1)
  have leafx : ∀ (k : Fin 2048) (j : S4096x2048.Idx), (j (0 : Fin 2)).val = (i (0 : Fin 2)).val → (j (1 : Fin 2)).val = k.val → x j = x (ix2 (i 0) k) :=
    fun k j h0 h1 => congrArg x (funext fun a => match a with | ⟨0, _⟩ => Fin.ext h0 | ⟨1, _⟩ => Fin.ext h1)
  have leafw : ∀ (k : Fin 2048) (j : S2x2048x896.Idx), (j (0 : Fin 3)).val = (i (1 : Fin 2)).val / 896 % 2 → (j (1 : Fin 3)).val = k.val → (j (2 : Fin 3)).val = (i (1 : Fin 2)).val % 896 →
      w j = w (ix3 (⟨(i 1).val / 896 % 2, Nat.mod_lt _ (by decide)⟩ : Fin 2) k (⟨(i 1).val % 896, Nat.mod_lt _ (by decide)⟩ : Fin 896)) :=
    fun k j h0 h1 h2 => congrArg w (funext fun a => match a with | ⟨0, _⟩ => Fin.ext h0 | ⟨1, _⟩ => Fin.ext h1 | ⟨2, _⟩ => Fin.ext h2)
  repeat' split
  all_goals first
    | (exfalso; omega)
    | exact leafp _ rfl rfl

    | (refine sum_mul_eq (fun k => leafx k _ rfl rfl) (fun k => ?_)
       have hk : k.val < 2048 := k.isLt
       repeat' split
       all_goals first
         | (exfalso; omega)
         | exact leafw k _ (by show (0 : Nat) = (i (1 : Fin 2)).val / 896 % 2; omega) (by show (k.val * 896 + ((i (1 : Fin 2)).val - 5376)) / 896 % 2048 = k.val; omega) (by show (k.val * 896 + ((i (1 : Fin 2)).val - 5376)) % 896 = (i (1 : Fin 2)).val % 896; omega)
         | exact leafw k _ (by show (1 : Nat) = (i (1 : Fin 2)).val / 896 % 2; omega) (by show (k.val * 896 + ((i (1 : Fin 2)).val - 5376 - 896)) / 896 % 2048 = k.val; omega) (by show (k.val * 896 + ((i (1 : Fin 2)).val - 5376 - 896)) % 896 = (i (1 : Fin 2)).val % 896; omega))

/-- Over the reals the call and the reference give the same results from the same arguments. -/
theorem agrees : Cert.algebraic_Kernel20Ideal_Reference20Ideal := by
  intro m g m' g' _ hargs
  refine ⟨fun c => filled (m ((c : Thread nD τ).loc main_arg0)) (m ((c : Thread nD τ).loc main_arg1)) (m ((c : Thread nD τ).loc main_arg2)), run m g, ?_⟩
  refine (θ_run Cert.Reference20Ideal.defs _ _).mono (fun r h c => ⟨(h c).1.trans ?_, (h c).2⟩) (Cert.Reference20Ideal.Value.run (F := Ideal) m' g')
  rw [(hargs c).1, (hargs c).2.1, (hargs c).2.2]
  exact (Cert.Reference20Ideal.Read.val_main_v9_eq _ _ _).trans (ref_filled _ _ _)

/-- The reference's run on its own: its arguments end as they were. -/
theorem ref_frame : Cert.quiescent_Reference20Ideal := fun m g _ =>
  (θ_run Cert.Reference20Ideal.defs _ _).mono (fun r h => ⟨fun c => (h c).2, sem_eq_zero_of_no_sems (by decide) r.2⟩)
    (Cert.Reference20Ideal.Value.run (F := Ideal) m g)

end Cert.Kernel20Ideal.Stage

end
-- ==== Proof.GateBody.lean ====
module

public import proofs.«01_k».proof.Proof.Gen.Kernel21Ideal
public import proofs.«01_k».proof.Proof.Gen.Kernel21Ideal.Launch
public import proofs.«01_k».proof.Proof.Gen.Kernel21Ideal.Points
public import proofs.«01_k».proof.Proof.Gen.Kernel21Ideal.Skeleton
public import Idealize.ShloMosaic.Lib.Pipeline.FrameBody
public import Idealize.ShloMosaic.Lib.Pipeline.FrameValue
public import Idealize.ShloMosaic.Lib.StableHlo.RunRead
public import Idealize.ShloMosaic.Lib.Ring
public import Idealize.ShloMosaic.Lib.Exec
public import Idealize.ShloMosaic.Lib.Tactic
public import Idealize.ShloMosaic.Lib.WordCmp
public import Idealize.ShloMosaic.Lib.WritesUnit
public import Idealize.ShloMosaic.Lib.WholeRead
public import Idealize.ShloMosaic.Lib.VecWindow
public import Idealize.ShloMosaic.Lib.ValueLayout
public import Idealize.ShloMosaic.Lib.ReshapeSlab

/-! The body of the group norm's and gate's backward call, run at a grid point. -/

@[expose] public section

set_option maxRecDepth 16384

noncomputable section

namespace Cert.Kernel21Ideal.RetGate

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel21Ideal Cert.Kernel21Ideal.Gen

variable {F : FTy → Type} [FloatOps F]

/-- The resource algebra of the run. -/
local notation "𝕄" => MT nD τ sig Unit (Elt F) ℕ (Pipeline.UD sig nD τ) ℕ

variable (m : (ℓ : Loc nD τ sig) → Buf (Elt F) ℓ) (ρ : Dev nD → PrngReg)

/-- The buffers as the call finds them: after the one host operation before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to the call. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the call writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the call writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the call writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the call writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the call writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The packed gradients enter the call as the last argument. -/
theorem V_out (c : Dev nD) : V m c main_v0_2 = m ((c : Thread nD τ).loc main_arg4) := by
  unfold V hostOps0
  after_reads_simp
  rfl

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point. -/
theorem before_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point. -/
theorem before_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point. -/
theorem before_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point. -/
theorem before_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The packed gradients' buffer, which the body writes by its own copy. -/
def R0 : Finset (Ref sig .tc) := {main_v0_2}

/-- A staging buffer of either result window, through which its contents are stated. -/
abbrev VO_4 : View sig .tc .vmem S4096x128 .f32 := (Memref.whole cc0_stg4_0 : Memref sig .tc .vmem S4096x128 .f32).view
abbrev VO_5 : View sig .tc .vmem S1x8x128 .f32 := (Memref.whole cc0_stg5_0 : Memref sig .tc .vmem S1x8x128 .f32).view
abbrev ms_0 (t : Fin cfg0.N) : Memref sig .tc .vmem S4096x128 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S4096x128 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S4096x128 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x128 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S4096x128 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1x8x128 .f32 := win0_5.stage (cfg0.slots t 5)
abbrev hs_5 (t : Fin cfg0.N) : (ms_5 t).IsWhole := hstage0_5 ((cfg0.slots t 5).cast nbuf0_5)
abbrev scM : Memref sig .tc .vmem S1x4096x128 .bf16 := Memref.whole cc0_scratch0
abbrev hbM : Memref sig .tc .hbm S4096x7168 .bf16 := Memref.whole main_v0_2
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The semaphore the copy signals. -/
abbrev osem0 : Fin 1 → SemLoc sig := fun j => (![SemLoc.dma 12] : Fin 1 → SemLoc sig) j
theorem ownSemFacts0 : Pipeline.OwnSemFacts spec0 osem0 := by decide
theorem ownSems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 12) 0) := by
  rw [Pipeline.ownSems0_eq_of_list c osem0 [0] (by decide) (by decide)]; rfl

/-- The gate's column block of head `i`, as the offset the copy names. -/
theorem off_eq (i : grid0.Coords) : k0_off1 i = ![0, (48 + (i 0).val) * 128] := by
  have h : ∀ (x : Fin 8), (((48#32 + BitVec.ofNat 32 x.val) * 128#32 : BitVec 32)).toNat = (48 + x.val) * 128 := by decide
  funext a
  match a with
  | ⟨0, _⟩ => rfl
  | ⟨1, _⟩ => exact h (i 0)

/-- What is read after a column block is written: the payload in it, the old contents elsewhere. -/
theorem read_block (M : Memref sig .tc .hbm S4096x7168 .bf16) {o : Fin 2 → ℕ} (b : ℕ) (hb : ∀ a, o a + S4096x128.size a ≤ S4096x7168.size a) (ho : o = ![0, b * 128])
    (f : M.view.ty.Contents (Elt F)) (p : Vec F S4096x128 .bf16) (x : Fin 4096) (y : Fin 7168) :
    M.view.read (Elt F) ((M.slice (Rect.unit (s := S4096x7168) o S4096x128.size hb) (fun _ => rfl)).view.write (Elt F) f p Finset.univ) (ix2 x y)
      = if y.val / 128 = b then p (ix2 x (⟨y.val % 128, Nat.mod_lt _ (by decide)⟩ : Fin 128)) else M.view.read (Elt F) f (ix2 x y) := by
  subst ho
  by_cases h : y.val / 128 = b
  · rw [if_pos h]
    have e : ix2 x y = (Rect.unit (s := S4096x7168) ![0, b * 128] S4096x128.size hb).emb
        (ix2 (n0 := 4096) (n1 := 128) x ⟨y.val % 128, Nat.mod_lt _ (by decide)⟩) := by
      funext d; apply Fin.ext
      match d with
      | ⟨0, _⟩ => show x.val = 0 + 1 * x.val; omega
      | ⟨1, _⟩ => show y.val = b * 128 + 1 * (y.val % 128); omega
    rw [e]
    exact View.read_slice_write_emb (v := M.view) (Rect.unit (s := S4096x7168) ![0, b * 128] S4096x128.size hb) f p (M := Finset.univ)
      (x := ix2 (n0 := 4096) (n1 := 128) x ⟨y.val % 128, Nat.mod_lt _ (by decide)⟩) (Finset.mem_univ _)
  · rw [if_neg h]
    refine View.read_slice_write_of_not_mem (v := M.view) (Rect.unit (s := S4096x7168) ![0, b * 128] S4096x128.size hb) f p Finset.univ (y := ix2 x y) fun hm => h ?_
    obtain ⟨z, -, hz'⟩ := Finset.mem_map.mp hm
    have h1 := congrArg Fin.val (congrFun hz' 1)
    have h2 : b * 128 + 1 * (z 1).val = y.val := h1
    have h3 : (z 1).val < 128 := (z 1).isLt
    omega

/-- The staged gradient, read through the view the copy is taken from. -/
theorem read_plane (M : Memref sig .tc .vmem S1x4096x128 .bf16) (f : M.view.ty.Contents (Elt F)) (h : ∀ a, (![0, 0, 0] : Fin 3 → ℕ) a + S1x4096x128.size a ≤ S1x4096x128.size a)
    (x : Fin 4096) (y : Fin 128) :
    ((M.slice (Rect.unit (s := S1x4096x128) ![0, 0, 0] S1x4096x128.size h) (fun _ => rfl)).squeeze S4096x128 squeezes_S1x4096x128_S4096x128).view.read (Elt F) f (ix2 x y)
      = M.view.read (Elt F) f (ix3 (0 : Fin 1) x y) := by
  show M.view.read (Elt F) f ((Rect.unit (s := S1x4096x128) ![0, 0, 0] S1x4096x128.size h).emb (Shape.reshapeEquiv squeezes_S1x4096x128_S4096x128.numel_eq (ix2 x y))) = _
  rw [reshapeEquiv_ix2_1ab]
  congr 1
  funext d; apply Fin.ext
  match d with
  | ⟨0, _⟩ => show 0 + 1 * 0 = 0; omega
  | ⟨1, _⟩ => show 0 + 1 * x.val = x.val; omega
  | ⟨2, _⟩ => show 0 + 1 * y.val = y.val; omega

/-- The head's gradient of the gate's input, from the head's blocks. -/
def dgate (x0 x1 x2 : Vec F S4096x128 .f32) (x3 : Vec F S1x128 .f32) : FVec F S1x4096x128 .bf16 :=
  k0_pay9 (k0_pay3 x0) (k0_pay6 x1 x2 x3) (k0_pay7 x0) k0_pay8

/-- The packed gradients once a head's gradient is copied in. -/
def put (g : FVec F S1x4096x128 .bf16) (h : ℕ) (X : Vec F S4096x7168 .bf16) : Vec F S4096x7168 .bf16 := fun j =>
  if (j 1).val / 128 = 48 + h then g (ix3 (0 : Fin 1) (j 0 : Fin 4096) (⟨(j 1).val % 128, Nat.mod_lt _ (by decide)⟩ : Fin 128)) else X j

/-- A head's column block written into the packed gradients is the head's gradient put in. -/
theorem put_of (M : Memref sig .tc .hbm S4096x7168 .bf16) {o : Fin 2 → ℕ} (h : ℕ) (hb : ∀ a, o a + S4096x128.size a ≤ S4096x7168.size a) (ho : o = ![0, (48 + h) * 128])
    (f : M.view.ty.Contents (Elt F)) (g : FVec F S1x4096x128 .bf16) (p : Vec F S4096x128 .bf16)
    (hp : ∀ (x : Fin 4096) (y : Fin 128), p (ix2 x y) = g (ix3 (0 : Fin 1) x y)) :
    M.view.read (Elt F) ((M.slice (Rect.unit (s := S4096x7168) o S4096x128.size hb) (fun _ => rfl)).view.write (Elt F) f p Finset.univ)
      = put g h (M.view.read (Elt F) f) := by
  funext j
  obtain ⟨x, y, rfl⟩ : ∃ (x : Fin 4096) (y : Fin 7168), j = ix2 x y := ⟨j 0, j 1, eq_ix2 j⟩
  refine (read_block M (48 + h) hb ho f p x y).trans ?_
  rw [hp]
  rfl

/-- The same, of the array the copies go to. -/
theorem put_run {o : Fin 2 → ℕ} (h : ℕ) (hb : ∀ a, o a + S4096x128.size a ≤ S4096x7168.size a) (ho : o = ![0, (48 + h) * 128])
    (fw : (hbM.view).ty.Contents (Elt F)) (g : FVec F S1x4096x128 .bf16) (p : Vec F S4096x128 .bf16)
    (hp : ∀ (x : Fin 4096) (y : Fin 128), p (ix2 x y) = g (ix3 (0 : Fin 1) x y)) :
    (hbM.slice (Rect.unit (s := S4096x7168) o S4096x128.size hb) (fun _ => rfl)).view.write (Elt F) fw p Finset.univ
      = put g h fw := by
  have e := put_of hbM h hb ho fw g p hp
  generalize (hbM.slice (Rect.unit (s := S4096x7168) o S4096x128.size hb) (fun _ => rfl)).view.write (Elt F) fw p Finset.univ = z at e ⊢
  exact e

/-- A load of everything reads the contents. -/
theorem load_all {s : Shape} {e : EltTy} (M : Memref sig .tc .vmem s e) (hM : M.IsWhole) {off : Fin s.rank → ℕ} (h : ∀ a, off a = 0) (inb : ∀ a, off a + s.size a ≤ s.size a)
    (X : Vec F s e) : View.readAt (Elt F) M.view (Rect.unit off s.size inb).toLoadRect (hM.unread X) = X := by
  funext y
  refine (hM.readAt_unread X _ y).trans (congrArg X ?_)
  funext a; apply Fin.ext
  show off a + 1 * (y a).val = (y a).val
  rw [h a]; omega

attribute [local irreducible] k0_off1 in
set_option maxHeartbeats 2000000 in
set_option sl_exec.dmaWindow true in
/-- The body at a grid point: what it stores in the two result blocks, as pieces, and that it runs from its buffers to its buffers, the packed gradients with the head's gradient put in. -/
noncomputable def kernelRun (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S1x128 .f32) (harg4 : arg4.IsWhole) (arg6 : Memref sig .tc .vmem S4096x128 .f32) (harg6 : arg6.IsWhole) (arg7 : Memref sig .tc .vmem S1x8x128 .f32) (harg7 : arg7.IsWhole) (arg9 : Memref sig .tc .vmem S1x4096x128 .bf16) (harg9 : arg9.IsWhole)
    (x0 : Vec F S4096x128 .f32) (x1 : Vec F S4096x128 .f32) (x2 : Vec F S4096x128 .f32) (x3 : Vec F S1x128 .f32) (fw : HbBuf (F := F) c hbM) :
    Σ' (L4 : List (View.Piece (Elt F) S4096x128 .f32)), { L5 : List (View.Piece (Elt F) S1x8x128 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg6 fullShare d) ∗ (∃ d, owns (c : Thread nD τ) arg7 fullShare d) ∗ (∃ d, owns (c : Thread nD τ) arg9 fullShare d) ∗ semVal ((c : Thread nD τ), SemLoc.dma 12) 0 ∗ hbPt c hbM fw ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ d, owns (c : Thread nD τ) arg9 fullShare d) ∗ semVal ((c : Thread nD τ), SemLoc.dma 12) 0 ∗ (∃ f, ⌜f = put (dgate x0 x1 x2 x3) (i 0).val fw⌝ ∗ hbPt c hbM f) ∗ (∃ W', owes (c : Thread nD τ) 0 W')) -∗ K ⟨⟩))
          ⊢ wp frame (wpE (defs₀ (F := F)) Variants.none c none) Set.univ (cc0_ret_gate_bwd i arg1 harg1 arg2 harg2 arg3 harg3 arg4 harg4 (Memref.whole main_v0_2) (Memref.isWhole_whole _) arg6 harg6 arg7 harg7 (Memref.whole main_v0_2) (Memref.isWhole_whole _) arg9 harg9 cc0_scratch1) K } := by
  refine ⟨?_, ?_, fun W K => ?run⟩
  case run =>
    simp only [cc0_ret_gate_bwd_eq_skeleton]; unfold cc0_ret_gate_bwd_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hq0, Hh1, HW, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]
    · iexists _, _; isplitr; swap; · iexact HS0
      ipureintro; rfl
    isplitl [Hq0]; · iexact Hq0
    isplitl [Hh1]
    · iexists _; isplitr; swap; · iexact Hh1
      ipureintro
      unfold kernelRun.sl.Hh1_w0
      refine put_run (i 0).val (k0_off1_inb i) (off_eq i) fw _ _ fun x y => ?_
      unfold kernelRun.sl.dma10
      refine (read_plane arg9 _ inb_S1x4096x128_S1x4096x128_0_0_0 x y).trans ?_
      unfold kernelRun.sl.HS0_1 kernelRun.sl.r_4 kernelRun.sl.r_6 kernelRun.sl.r_7
      rw [load_all arg1 harg1 (by decide), load_all arg2 harg2 (by decide), load_all arg3 harg3 (by decide), load_all arg4 harg4 (by decide)]
      exact View.read_writes_cons_unit_of_mem arg9.view fs0 inb_S1x4096x128_S1x4096x128_0_0_0 _ [] (ix3 (0 : Fin 1) x y) (ix3 (0 : Fin 1) x y) rfl fun a => by
        match a with
        | ⟨0, _⟩ => exact (Nat.zero_add _).symm
        | ⟨1, _⟩ => exact (Nat.zero_add _).symm
        | ⟨2, _⟩ => exact (Nat.zero_add _).symm

    iexists _; iexact HW

end Cert.Kernel21Ideal.RetGate

end
-- ==== Proof.GateRun.lean ====
module

public import proofs.«01_k».proof.Proof.GateBody
public import Idealize.ShloMosaic.Lib.Claim

/-! The run of the group norm's and gate's backward call: its arrays and the packed gradients at the end. -/

@[expose] public section

set_option maxRecDepth 16384

noncomputable section

namespace Cert.Kernel21Ideal.RetGate

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel21Ideal Cert.Kernel21Ideal.Gen

variable {F : FTy → Type} [FloatOps F]

/-- The resource algebra of the run. -/
local notation "𝕄" => MT nD τ sig Unit (Elt F) ℕ (Pipeline.UD sig nD τ) ℕ

variable (m : (ℓ : Loc nD τ sig) → Buf (Elt F) ℓ) (ρ : Dev nD → PrngReg)

/-- The run's pieces for result window 4 cover its block. -/
theorem cover_4 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S1x128 .f32) (harg4 : arg4.IsWhole) (arg6 : Memref sig .tc .vmem S4096x128 .f32) (harg6 : arg6.IsWhole) (arg7 : Memref sig .tc .vmem S1x8x128 .f32) (harg7 : arg7.IsWhole) (arg9 : Memref sig .tc .vmem S1x4096x128 .bf16) (harg9 : arg9.IsWhole)
    (x0 : Vec F S4096x128 .f32) (x1 : Vec F S4096x128 .f32) (x2 : Vec F S4096x128 .f32) (x3 : Vec F S1x128 .f32) (fh0 : HbBuf (F := F) c hbM) (y : S4096x128.Idx) :
    ∃ pc ∈ (kernelRun c i arg1 harg1 arg2 harg2 arg3 harg3 arg4 harg4 arg6 harg6 arg7 harg7 arg9 harg9 x0 x1 x2 x3 fh0).1, y ∈ pc.1.set :=
  View.cover_of_tiledL (kernelRun c i arg1 harg1 arg2 harg2 arg3 harg3 arg4 harg4 arg6 harg6 arg7 harg7 arg9 harg9 x0 x1 x2 x3 fh0).1 S4096x128.size (by sl_kernel_rfl) y

/-- What the run leaves in result window 4's staging buffer. -/
def out_4 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S1x128 .f32) (harg4 : arg4.IsWhole) (arg6 : Memref sig .tc .vmem S4096x128 .f32) (harg6 : arg6.IsWhole) (arg7 : Memref sig .tc .vmem S1x8x128 .f32) (harg7 : arg7.IsWhole) (arg9 : Memref sig .tc .vmem S1x4096x128 .bf16) (harg9 : arg9.IsWhole)
    (x0 : Vec F S4096x128 .f32) (x1 : Vec F S4096x128 .f32) (x2 : Vec F S4096x128 .f32) (x3 : Vec F S1x128 .f32) (fh0 : HbBuf (F := F) c hbM) : Vec F S4096x128 .f32 :=
  VO_4.read (Elt F) (VO_4.writes (Elt F) VO_4.junk (kernelRun c i arg1 harg1 arg2 harg2 arg3 harg3 arg4 harg4 arg6 harg6 arg7 harg7 arg9 harg9 x0 x1 x2 x3 fh0).1)

/-- The run's pieces for result window 5 cover its block. -/
theorem cover_5 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S1x128 .f32) (harg4 : arg4.IsWhole) (arg6 : Memref sig .tc .vmem S4096x128 .f32) (harg6 : arg6.IsWhole) (arg7 : Memref sig .tc .vmem S1x8x128 .f32) (harg7 : arg7.IsWhole) (arg9 : Memref sig .tc .vmem S1x4096x128 .bf16) (harg9 : arg9.IsWhole)
    (x0 : Vec F S4096x128 .f32) (x1 : Vec F S4096x128 .f32) (x2 : Vec F S4096x128 .f32) (x3 : Vec F S1x128 .f32) (fh0 : HbBuf (F := F) c hbM) (y : S1x8x128.Idx) :
    ∃ pc ∈ (kernelRun c i arg1 harg1 arg2 harg2 arg3 harg3 arg4 harg4 arg6 harg6 arg7 harg7 arg9 harg9 x0 x1 x2 x3 fh0).2.1, y ∈ pc.1.set :=
  View.cover_of_tiledL (kernelRun c i arg1 harg1 arg2 harg2 arg3 harg3 arg4 harg4 arg6 harg6 arg7 harg7 arg9 harg9 x0 x1 x2 x3 fh0).2.1 S1x8x128.size (by sl_kernel_rfl) y

/-- What the run leaves in result window 5's staging buffer. -/
def out_5 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S1x128 .f32) (harg4 : arg4.IsWhole) (arg6 : Memref sig .tc .vmem S4096x128 .f32) (harg6 : arg6.IsWhole) (arg7 : Memref sig .tc .vmem S1x8x128 .f32) (harg7 : arg7.IsWhole) (arg9 : Memref sig .tc .vmem S1x4096x128 .bf16) (harg9 : arg9.IsWhole)
    (x0 : Vec F S4096x128 .f32) (x1 : Vec F S4096x128 .f32) (x2 : Vec F S4096x128 .f32) (x3 : Vec F S1x128 .f32) (fh0 : HbBuf (F := F) c hbM) : Vec F S1x8x128 .f32 :=
  VO_5.read (Elt F) (VO_5.writes (Elt F) VO_5.junk (kernelRun c i arg1 harg1 arg2 harg2 arg3 harg3 arg4 harg4 arg6 harg6 arg7 harg7 arg9 harg9 x0 x1 x2 x3 fh0).2.1)

/-- A head's gradient of the gate's input at a grid point. -/
def dgAt (c : Dev nD) (t : Fin cfg0.N) : FVec F S1x4096x128 .bf16 := dgate (iblk m c 0 t) (iblk m c 1 t) (iblk m c 2 t) (iblk m c 3 t)

/-- The packed gradients after the first `n` points. -/
def gn (n : ℕ) (c : Dev nD) : Vec F S4096x7168 .bf16 :=
  match n with
  | 0 => V m c main_v0_2
  | k + 1 => if h : k < cfg0.N then put (dgAt m c ⟨k, h⟩) k (gn k c) else gn k c

theorem coord_val : ∀ t : Fin cfg0.N, (grid0.coords t 0).val = t.val := (by decide +kernel : ∀ t : Fin grid0.N, (grid0.coords t 0).val = t.val)

theorem gn_succ (c : Dev nD) (t : Fin cfg0.N) :
    gn m (t.val + 1) c = put (dgate (iblk m c 0 t) (iblk m c 1 t) (iblk m c 2 t) (iblk m c 3 t)) (grid0.coords t 0).val (gn m t.val c) := by
  rw [coord_val]
  show (if h : t.val < cfg0.N then put (dgAt m c ⟨t.val, h⟩) t.val (gn m t.val c) else gn m t.val c) = _
  rw [dif_pos t.isLt]
  rfl

/-- The buffers between points. -/
def Gn (n : ℕ) (c : Dev nD) (b : Ref sig .tc) : Buf (Elt F) ((c.tc : Thread nD τ).loc b) := Function.update (V m c) main_v0_2 (gn m n c) b

theorem Gn_zero : Gn m 0 = V m := by
  funext c b
  show Function.update (V m c) main_v0_2 (V m c main_v0_2) b = _
  rw [Function.update_eq_self]

/-- What is kept between points, spelled out. -/
theorem kept_eq (n : ℕ) (c : Dev nD) :
    (Pipeline.ΦDRG osem0 spec0 ∅ R0 (V m) (Gn m n) c : sProp 𝕄)
      = iprop(iprop((∃ d, owns (c : Thread nD τ) scM fullShare d)) ∗ (∃ r, prngReg c r) ∗ iprop(semVal ((c : Thread nD τ), SemLoc.dma 12) 0) ∗ iprop(emp) ∗ hbPt c hbM (gn m n c)) := by
  have e : Gn m n c main_v0_2 = gn m n c := Function.update_self _ _ _
  rw [Pipeline.ΦDRG_eq, scopedRest0_eq, ownSems_eq, BI.bigSep_empty, R0, Pipeline.routed_singleton, e]; simp only [scM, owns_whole]; try rfl

/-- What the two result windows' staging buffers hold after a point. -/
def outsAt (c : Dev nD) (t : Fin cfg0.N) : Vec F S4096x128 .f32 × Vec F S1x8x128 .f32 :=
  (out_4 c (grid0.coords t) (ms_0 t) (hs_0 t) (ms_1 t) (hs_1 t) (ms_2 t) (hs_2 t) (ms_3 t) (hs_3 t) (ms_4 t) (hs_4 t) (ms_5 t) (hs_5 t) scM (Memref.isWhole_whole _) (iblk m c 0 t) (iblk m c 1 t) (iblk m c 2 t) (iblk m c 3 t) (gn m t.val c), out_5 c (grid0.coords t) (ms_0 t) (hs_0 t) (ms_1 t) (hs_1 t) (ms_2 t) (hs_2 t) (ms_3 t) (hs_3 t) (ms_4 t) (hs_4 t) (ms_5 t) (hs_5 t) scM (Memref.isWhole_whole _) (iblk m c 0 t) (iblk m c 1 t) (iblk m c 2 t) (iblk m c 3 t) (gn m t.val c))

/-- The proof data: the arrays as the call finds them, what the body leaves in the staging buffers, and between points the packed gradients with the first heads' gradients put in. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t).1
    | ⟨5, _⟩ => (outsAt m c t).2
  Φ t := Pipeline.ΦDRG osem0 spec0 ∅ R0 (V m) (Gn m t.val) c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (outsAt m c t).1 := by dsimp only [dats]
theorem after_5 (c : Dev nD) (t : Fin cfg0.N) : (dats m 0 c).after 5 t = (outsAt m c t).2 := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [after_0, after_1, after_2, after_3, after_4, after_5]
  rw [show (dats m 0 c).Φ t.castSucc = Pipeline.ΦDRG osem0 spec0 ∅ R0 (V m) (Gn m t.val) c from rfl,
    show (dats m 0 c).Φ t.succ = Pipeline.ΦDRG osem0 spec0 ∅ R0 (V m) (Gn m (t.val + 1)) c from rfl, kept_eq, kept_eq, gn_succ m c t]
  unfold Dat.owesAt Pipeline.owesWithin
  rw [show (dats m 0 c).owed t.castSucc = 0 from rfl, show (dats m 0 c).owed t.succ = 0 from rfl]
  unfold outsAt
  unfold out_4 out_5; (try dsimp only)
  iintro ⟨⟨HS0, Hg, Hq0, He, Hh1⟩, ⟨%W, -, HW⟩, ⟨%d0, H0⟩, ⟨%d1, H1⟩, ⟨%d2, H2⟩, ⟨%d3, H3⟩, ⟨%d4, H4⟩, ⟨%d5, H5⟩⟩
  iapply ((kernelRun c (grid0.coords t) _ _ _ _ _ _ _ _ _ _ _ _ _ _ (iblk m c 0 t) (iblk m c 1 t) (iblk m c 2 t) (iblk m c 3 t) (gn m t.val c)).2.2 W _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  isplitl [Hq0]; · iexact Hq0
  isplitl [Hh1]; · iexact Hh1
  isplitl [HW]; · iexact HW
  iintro ⟨H0, H1, H2, H3, ⟨%e4, H4⟩, ⟨%e5, H5⟩, HS0, Hq0, ⟨%f, %hf, Hh1⟩, ⟨%W', HW'⟩⟩
  subst hf
  isplitl [HS0 Hg Hq0 He Hh1]
  · isplitl [HS0]
    · iexact HS0
    isplitl [Hg]
    · iexact Hg
    isplitl [Hq0]
    · iexact Hq0
    isplitl [He]
    · iexact He
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover_4 c _ _ _ _ _ _ _ _ _ _ _ _ _ _ _ _ _ _ _ _)
  unfold owns; iexists _; isplitr
  swap; · iexact H5
  ipureintro; exact View.read_writes_of_cover _ _ _ _ _ (cover_5 c _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every array, every other buffer, the packed gradients and the counters at the end. -/
theorem run_main : θ_run defs (onTc (τ := τ) (main (F := F))) (s₀ m ρ) (fun r => (Pipeline.FramePostRG cfgs (dats m) 0 R0 (V m) (Gn m 8)) r ∧ r.2.sem = fun _ => 0) :=
  Pipeline.θ_run_frame_dmaRG (Q' := _) cfgs (dats m) (0 : Fin 1) launch0 osem0 defs₀ Variants.none ownSemFacts0 ∅ R0 (by decide) (by decide) m ρ main
    (hbody := fun c => (body_obligation m c).loose) (hshare := fun c => (dats m 0 c).share_full fun _ => rfl)
    (howed := fun _ _ => rfl) (V := V m) (hmain := hmain m Variants.none) (hA := A_eq m) (G := Gn m 8)
    (hin := fun c => by
      rw [show (dats m 0 c).Φ 0 = Pipeline.ΦDRG osem0 spec0 ∅ R0 (V m) (Gn m 0) c from rfl, Gn_zero]) (hout := fun _ => .rfl)

/-- The frame: the arguments and the counters at the end. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1.1 c).1 0).trans (((dats m 0 c).arrAt_in 0 rfl _).trans ((A_eq m c 0).trans (V_main_arg0 m c))),
      ((h.1.1 c).1 1).trans (((dats m 0 c).arrAt_in 1 rfl _).trans ((A_eq m c 1).trans (V_main_arg1 m c))),
      ((h.1.1 c).1 2).trans (((dats m 0 c).arrAt_in 2 rfl _).trans ((A_eq m c 2).trans (V_main_arg2 m c))),
      ((h.1.1 c).1 3).trans (((dats m 0 c).arrAt_in 3 rfl _).trans ((A_eq m c 3).trans (V_main_arg3 m c))),
      ((h.1.1 c).2 main_arg4 (Finset.mem_sdiff.mpr ⟨Pipeline.mem_restRefs_of main_arg4 (by decide) (by decide), by decide⟩)).trans (V_main_arg4 m c)⟩, h.2⟩) (run_main m ρ)

/-- The results at the end. -/
theorem run : θ_run defs (onTc (τ := τ) (main (F := F))) ⟨m, fun _ => 0, ρ⟩ (fun r => ∀ c : Dev nD,
      r.2.mem ((c.tc : Thread nD τ).loc main_v0_0) = (dats m 0 c).arrAt 4 cfg0.N
      ∧ r.2.mem ((c.tc : Thread nD τ).loc main_v0_1) = (dats m 0 c).arrAt 5 cfg0.N
      ∧ r.2.mem ((c.tc : Thread nD τ).loc main_v0_2) = gn m 8 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1.1.1 c).1 4, (h.1.1.1 c).1 5,
    (h.1.1.2 c main_v0_2 (Finset.mem_singleton.mpr rfl)).trans (Function.update_self _ _ _), h.2.1 c⟩) (θ_run_and (run_main m ρ) (frame m ρ))

end Cert.Kernel21Ideal.RetGate

end
-- ==== Proof.RetGate.lean ====
module

public import proofs.«01_k».proof.Defs
public import proofs.«01_k».proof.Proof.GateRun
public import proofs.«01_k».proof.Proof.NormBack
public import proofs.«01_k».proof.Proof.Gen.Reference21Ideal.Run
public import proofs.«01_k».proof.Proof.Gen.Reference21Ideal.Read
public import Idealize.ShloMosaic.Lib.Pipeline.ValueKit
public import Idealize.ShloMosaic.Lib.Pipeline.ValueKit.Point
public import Idealize.ShloMosaic.Lib.Pointwise

/-! The retention's group norm and gate, backward: the kernel and the reference agree over the reals. -/

@[expose] public section

noncomputable section

namespace Cert.Kernel21Ideal.RetGate

open Idealize.ShloMosaic Idealize.ShloMosaic.TcCoe Idealize.SL.Sem
open Cert.Kernel21Ideal Cert.Kernel21Ideal.Gen

variable (m : (ℓ : Loc nD τ sig) → Buf (Elt Ideal) ℓ) (ρ : Dev nD → PrngReg)

/-- The logistic of a value. -/
def logi (g : EReal) : EReal := Ideal.div 1 (1 + Ideal.exp (-g))

/-- The slope of `x` times its logistic, in either of the two forms, at every value, infinities included. -/
theorem slope (g : EReal) : logi g * (1 + g * (1 - logi g)) = logi g + g * (logi g * (1 - logi g)) := by
  have hs : logi g = Ideal.logistic g := rfl
  induction g using EReal.rec with
  | bot => rw [hs, Ideal.logistic_bot]; simp
  | top => rw [hs, Ideal.logistic_top]; simp
  | coe r =>
    rw [hs, Ideal.logistic_coe]
    generalize (1 + Real.exp (-r))⁻¹ = q
    norm_cast
    ring

/-- The row's length, as a value. -/
theorem len_eq : Ideal.ofBits .f32 0x43000000#32 = ((128 : ℝ) : EReal) := by
  simp [Ideal.ofBits, Ideal.ieee, -EReal.coe_mul]; norm_num

/-- A quotient by the row's length is a product. -/
theorem div_len (a : EReal) : Ideal.div a (Ideal.ofBits .f32 0x43000000#32) = a * ((1 / 128 : ℝ) : EReal) := by
  rw [len_eq, Ideal.div_coe (by norm_num)]

/-- The mean of squares with what is added is not negative. -/
theorem mean_nonneg (f : Fin 128 → EReal) :
    0 ≤ Ideal.div (∑ k, f k * f k) (Ideal.ofBits .f32 0x43000000#32) + Ideal.ofBits .f32 0x358637BD#32 := by
  rw [div_len]
  refine add_nonneg (mul_nonneg (Finset.sum_nonneg fun k _ => Cert.NormBack.sq_nonneg (f k)) ?_) Cert.NormBack.eps_nonneg
  exact EReal.coe_nonneg.mpr (by norm_num)

/-- The derivative rule's form of a row's cotangents is the closed form. -/
theorem back_eq (f : Fin 128 → EReal) (x G S : EReal) :
    (G * Ideal.rsqrt (Ideal.div (∑ k, f k * f k) (Ideal.ofBits .f32 0x43000000#32) + Ideal.ofBits .f32 0x358637BD#32)
      + x * ∑ _k : Fin 1, Ideal.div (S * (Ideal.ofBits .f32 0xBF000000#32 * Ideal.div (Ideal.rsqrt (Ideal.div (∑ k, f k * f k) (Ideal.ofBits .f32 0x43000000#32) + Ideal.ofBits .f32 0x358637BD#32))
          (Ideal.div (∑ k, f k * f k) (Ideal.ofBits .f32 0x43000000#32) + Ideal.ofBits .f32 0x358637BD#32))) (Ideal.ofBits .f32 0x43000000#32))
      + (∑ _k : Fin 1, Ideal.div (S * (Ideal.ofBits .f32 0xBF000000#32 * Ideal.div (Ideal.rsqrt (Ideal.div (∑ k, f k * f k) (Ideal.ofBits .f32 0x43000000#32) + Ideal.ofBits .f32 0x358637BD#32))
          (Ideal.div (∑ k, f k * f k) (Ideal.ofBits .f32 0x43000000#32) + Ideal.ofBits .f32 0x358637BD#32))) (Ideal.ofBits .f32 0x43000000#32)) * x
    = Ideal.rsqrt (Ideal.div (∑ k, f k * f k) (Ideal.ofBits .f32 0x43000000#32) + Ideal.ofBits .f32 0x358637BD#32) * G
      - x * (Ideal.rsqrt (Ideal.div (∑ k, f k * f k) (Ideal.ofBits .f32 0x43000000#32) + Ideal.ofBits .f32 0x358637BD#32)
          * Ideal.rsqrt (Ideal.div (∑ k, f k * f k) (Ideal.ofBits .f32 0x43000000#32) + Ideal.ofBits .f32 0x358637BD#32)
          * Ideal.rsqrt (Ideal.div (∑ k, f k * f k) (Ideal.ofBits .f32 0x43000000#32) + Ideal.ofBits .f32 0x358637BD#32))
        * Ideal.div S (Ideal.ofBits .f32 0x43000000#32) := by
  have hX := mean_nonneg f
  revert hX
  generalize Ideal.div (∑ k, f k * f k) (Ideal.ofBits .f32 0x43000000#32) + Ideal.ofBits .f32 0x358637BD#32 = X
  intro hX
  rw [Cert.NormBack.cube X hX]
  generalize Ideal.rsqrt X = r
  simp only [Fin.sum_univ_one, div_len, Cert.NormBack.half_eq]
  rw [add_assoc (G * r), mul_comm (S * _ * _) x, Cert.NormBack.twice, sub_eq_add_neg, mul_comm G r]
  congr 1
  have h2 : ((2 : ℝ) : EReal) * ((-(1 / 2) : ℝ) : EReal) = -1 := by
    rw [← EReal.coe_mul]; norm_num
  calc ((2 : ℝ) : EReal) * (x * (S * (((-(1 / 2) : ℝ) : EReal) * (r * r * r)) * ((1 / 128 : ℝ) : EReal)))
      = (((2 : ℝ) : EReal) * ((-(1 / 2) : ℝ) : EReal)) * (x * (r * r * r) * (S * ((1 / 128 : ℝ) : EReal))) := by ac_rfl
    _ = -(x * (r * r * r) * (S * ((1 / 128 : ℝ) : EReal))) := by rw [h2, neg_one_mul]

/-- A column of a head. -/
abbrev col (h : Fin 8) (k : Fin 128) : Fin 1024 := ⟨h.val * 128 + k.val, by omega⟩

/-- The head of a column. -/
abbrev head (c : Fin 1024) : Fin 8 := ⟨c.val / 128, by omega⟩

/-- The gate's input at a column of the retention. -/
def gat (x : Vec Ideal S4096x7168 .f32) (r : Fin 4096) (c : Fin 1024) : EReal := x (ix2 r ⟨6144 + c.val, by omega⟩)

/-- The incoming gradient at a column of the retention. -/
def dyv (y : Vec Ideal S4096x2048 .f32) (r : Fin 4096) (c : Fin 1024) : EReal := y (ix2 r ⟨1024 + c.val, by omega⟩)

/-- One over the root mean square of a row of a head. -/
def rinv (o : Vec Ideal S4096x1024 .f32) (r : Fin 4096) (h : Fin 8) : EReal :=
  Ideal.rsqrt (Ideal.div (∑ k : Fin 128, o (ix2 r (col h k)) * o (ix2 r (col h k))) (Ideal.ofBits .f32 0x43000000#32) + Ideal.ofBits .f32 0x358637BD#32)

/-- The gradient at the normalized rows. -/
def dnv (x : Vec Ideal S4096x7168 .f32) (y : Vec Ideal S4096x2048 .f32) (w : Vec Ideal S1x1024 .f32) (r : Fin 4096) (c : Fin 1024) : EReal :=
  dyv y r c * w (ix2 0 c) * (gat x r c * logi (gat x r c))

/-- The gradient at the retention's result, at a row, a head and a column of it. -/
def dov (x : Vec Ideal S4096x7168 .f32) (o : Vec Ideal S4096x1024 .f32) (y : Vec Ideal S4096x2048 .f32) (w : Vec Ideal S1x1024 .f32) (r : Fin 4096) (h : Fin 8) (c : Fin 1024) : EReal :=
  rinv o r h * dnv x y w r c - o (ix2 r c) * (rinv o r h * rinv o r h * rinv o r h)
    * Ideal.div (∑ k : Fin 128, dnv x y w r (col h k) * o (ix2 r (col h k))) (Ideal.ofBits .f32 0x43000000#32)

/-- The gradient at the retention's result. -/
def dout (x : Vec Ideal S4096x7168 .f32) (o : Vec Ideal S4096x1024 .f32) (y : Vec Ideal S4096x2048 .f32) (w : Vec Ideal S1x1024 .f32) : Vec Ideal S4096x1024 .f32 :=
  fun i => dov x o y w (i 0) (head (i 1)) (i 1)

/-- The gradient at the norm's weights, a sum over the rows, each head's eight times over. -/
def dw (x : Vec Ideal S4096x7168 .f32) (o : Vec Ideal S4096x1024 .f32) (y : Vec Ideal S4096x2048 .f32) : Vec Ideal S8x8x128 .f32 :=
  fun i => ∑ r : Fin 4096, dyv y r (col (i 0) (i 2)) * (o (ix2 r (col (i 0) (i 2))) * rinv o r (i 0)) * (gat x r (col (i 0) (i 2)) * logi (gat x r (col (i 0) (i 2))))

/-- The gradient at the gate's input. -/
def dgv (x : Vec Ideal S4096x7168 .f32) (o : Vec Ideal S4096x1024 .f32) (y : Vec Ideal S4096x2048 .f32) (w : Vec Ideal S1x1024 .f32) (r : Fin 4096) (c : Fin 1024) : EReal :=
  dyv y r c * (o (ix2 r c) * rinv o r (head c)) * w (ix2 0 c) * (logi (gat x r c) * (1 + gat x r c * (1 - logi (gat x r c))))

/-- The packed gradients, the gate's columns replaced. -/
def dproj (x : Vec Ideal S4096x7168 .f32) (o : Vec Ideal S4096x1024 .f32) (y : Vec Ideal S4096x2048 .f32) (w : Vec Ideal S1x1024 .f32) (d : Vec Ideal S4096x7168 .bf16) : Vec Ideal S4096x7168 .bf16 :=
  fun i => if h : 6144 ≤ (i 1).val then dgv x o y w (i 0) ⟨(i 1).val - 6144, by have h1 : (i 1).val < 7168 := (i 1).isLt; omega⟩ else d i

theorem index_0 : ∀ t : Fin cfg0.N, win0_0.index t = ![0, 48 + t.val] := (by decide +kernel : ∀ t : Fin grid0.N, _)
theorem index_1 : ∀ t : Fin cfg0.N, win0_1.index t = ![0, t.val] := (by decide +kernel : ∀ t : Fin grid0.N, _)
theorem index_2 : ∀ t : Fin cfg0.N, win0_2.index t = ![0, 8 + t.val] := (by decide +kernel : ∀ t : Fin grid0.N, _)
theorem index_3 : ∀ t : Fin cfg0.N, win0_3.index t = ![0, t.val] := (by decide +kernel : ∀ t : Fin grid0.N, _)
theorem index_4 : ∀ t : Fin cfg0.N, win0_4.index t = ![0, t.val] := (by decide +kernel : ∀ t : Fin grid0.N, _)
theorem index_5 : ∀ t : Fin cfg0.N, win0_5.index t = ![t.val, 0, 0] := (by decide +kernel : ∀ t : Fin grid0.N, _)

theorem point_lt (t : Fin cfg0.N) : t.val < 8 := lt_of_lt_of_eq t.isLt N_0

/-- A point as a head. -/
abbrev hd (t : Fin cfg0.N) : Fin 8 := ⟨t.val, point_lt t⟩

theorem blk_0 (c : Dev nD) (t : Fin cfg0.N) (r : Fin 4096) (k : Fin 128) : iblk m c 0 t (ix2 r k) = gat (m ((c : Thread nD τ).loc main_arg0)) r (col (hd t) k) := by
  unfold iblk
  rw [show V m c (Pipeline.arrRef spec0 0) = m ((c : Thread nD τ).loc main_arg0) from V_main_arg0 m c]
  unfold gat
  blk_point [index_0]

theorem blk_1 (c : Dev nD) (t : Fin cfg0.N) (r : Fin 4096) (k : Fin 128) : iblk m c 1 t (ix2 r k) = m ((c : Thread nD τ).loc main_arg1) (ix2 r (col (hd t) k)) := by
  unfold iblk
  rw [show V m c (Pipeline.arrRef spec0 1) = m ((c : Thread nD τ).loc main_arg1) from V_main_arg1 m c]
  blk_point [index_1]

theorem blk_2 (c : Dev nD) (t : Fin cfg0.N) (r : Fin 4096) (k : Fin 128) : iblk m c 2 t (ix2 r k) = dyv (m ((c : Thread nD τ).loc main_arg2)) r (col (hd t) k) := by
  unfold iblk
  rw [show V m c (Pipeline.arrRef spec0 2) = m ((c : Thread nD τ).loc main_arg2) from V_main_arg2 m c]
  unfold dyv
  blk_point [index_2]

theorem blk_3 (c : Dev nD) (t : Fin cfg0.N) (r : Fin 1) (k : Fin 128) : iblk m c 3 t (ix2 r k) = m ((c : Thread nD τ).loc main_arg3) (ix2 r (col (hd t) k)) := by
  unfold iblk
  rw [show V m c (Pipeline.arrRef spec0 3) = m ((c : Thread nD τ).loc main_arg3) from V_main_arg3 m c]
  blk_point [index_3]

theorem head_col (h : Fin 8) (k : Fin 128) : head (col h k) = h := by
  apply Fin.ext
  show (h.val * 128 + k.val) / 128 = h.val
  omega

/-- After the run this result array is `dout` of the argument arrays. -/
theorem final_o (c : Dev nD) : (dats m 0 c).arrAt 4 cfg0.N
    = dout (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after_4]
  unfold outsAt out_4
  frame_out
  obtain ⟨r, k, rfl⟩ : ∃ (r : Fin 4096) (k : Fin 128), y = ix2 r k := ⟨y 0, y 1, by funext d; match d with | ⟨0, _⟩ => rfl | ⟨1, _⟩ => rfl⟩
  have e : ((View.whole main_v0_0).slice (win0_4.rect t)).emb (ix2 r k) = ix2 r (col (hd t) k) := by
    funext d; apply Fin.ext
    match d with
    | ⟨0, _⟩ => blk_point [index_4]
    | ⟨1, _⟩ => blk_point [index_4]
  rw [e]
  pointwise [k0_pay10, k0_pay4, k0_pay3, k0_pay1, zero_sub, blk_0, blk_1, blk_2, blk_3]
  show _ = dov _ _ _ _ r (head (col (hd t) k)) (col (hd t) k)
  rw [head_col]
  rfl

/-- After the run this result array is `dw` of the argument arrays. -/
theorem final_w (c : Dev nD) : (dats m 0 c).arrAt 5 cfg0.N
    = dw (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after_5]
  unfold outsAt out_5
  frame_out
  obtain ⟨a, b, k, rfl⟩ : ∃ (a : Fin 1) (b : Fin 8) (k : Fin 128), y = ix3 a b k := ⟨y 0, y 1, y 2, by funext d; match d with | ⟨0, _⟩ => rfl | ⟨1, _⟩ => rfl | ⟨2, _⟩ => rfl⟩
  have e : ((View.whole main_v0_1).slice (win0_5.rect t)).emb (ix3 a b k) = ix3 (hd t) b k := by
    funext d; apply Fin.ext
    match d with
    | ⟨0, _⟩ => blk_point [index_5]
    | ⟨1, _⟩ => blk_point [index_5]
    | ⟨2, _⟩ => blk_point [index_5]
  rw [e]
  pointwise [k0_pay5, k0_pay4, k0_pay3, k0_pay2, k0_pay1, zero_sub, blk_0, blk_1, blk_2, blk_3]
  rfl

/-- A head's gradient of the gate's input, at an entry. -/
theorem dgAt_eq (c : Dev nD) (t : Fin cfg0.N) (r : Fin 4096) (k : Fin 128) : dgAt m c t (ix3 (0 : Fin 1) r k)
    = dgv (m ((c : Thread nD τ).loc main_arg0)) (m ((c : Thread nD τ).loc main_arg1)) (m ((c : Thread nD τ).loc main_arg2)) (m ((c : Thread nD τ).loc main_arg3)) r (col (hd t) k) := by
  unfold dgAt dgate
  pointwise [k0_pay9, k0_pay8, k0_pay7, k0_pay6, k0_pay3, k0_pay2, k0_pay1, zero_sub, blk_0, blk_1, blk_2, blk_3]
  unfold dgv
  rw [head_col]
  rfl

/-- The packed gradients after the first points. -/
theorem gn_eq (c : Dev nD) (n : ℕ) (hn : n ≤ 8) (i : S4096x7168.Idx) : gn m n c i
    = if h : 6144 ≤ (i 1).val ∧ (i 1).val < 6144 + n * 128 then dgv (m ((c : Thread nD τ).loc main_arg0)) (m ((c : Thread nD τ).loc main_arg1)) (m ((c : Thread nD τ).loc main_arg2)) (m ((c : Thread nD τ).loc main_arg3))
        (i 0) ⟨(i 1).val - 6144, by have := h.2; omega⟩ else m ((c : Thread nD τ).loc main_arg4) i := by
  induction n with
  | zero =>
    rw [dif_neg (by omega)]
    exact congrFun (V_out m c) i
  | succ n ih =>
    have hN : n < cfg0.N := lt_of_lt_of_eq (by omega : n < 8) N_0.symm
    rw [show gn m (n + 1) c i = put (dgAt m c ⟨n, hN⟩) n (gn m n c) i from by
      show (if h : n < cfg0.N then put (dgAt m c ⟨n, h⟩) n (gn m n c) else gn m n c) i = _
      rw [dif_pos hN]]
    unfold put
    by_cases h : (i 1).val / 128 = 48 + n
    · rw [if_pos h, dif_pos (by omega)]
      refine (dgAt_eq m c ⟨n, hN⟩ (i 0) _).trans ?_
      refine congrArg (dgv _ _ _ _ (i 0)) (Fin.ext ?_)
      show n * 128 + (i 1).val % 128 = (i 1).val - 6144
      omega
    · rw [if_neg h, ih (by omega)]
      by_cases h2 : 6144 ≤ (i 1).val ∧ (i 1).val < 6144 + n * 128
      · rw [dif_pos h2, dif_pos (by omega)]
      · rw [dif_neg h2, dif_neg (by omega)]

/-- After the run the packed gradients are `dproj` of the argument arrays. -/
theorem final_p (c : Dev nD) : gn m 8 c
    = dproj (m ((c : Thread nD τ).loc main_arg0)) (m ((c : Thread nD τ).loc main_arg1)) (m ((c : Thread nD τ).loc main_arg2)) (m ((c : Thread nD τ).loc main_arg3)) (m ((c : Thread nD τ).loc main_arg4)) := by
  funext i
  rw [gn_eq m c 8 le_rfl]
  unfold dproj
  have h1 : (i 1).val < 7168 := (i 1).isLt
  by_cases h : 6144 ≤ (i 1).val
  · rw [dif_pos ⟨h, by omega⟩, dif_pos h]
  · rw [dif_neg (fun h' => h h'.1), dif_neg h]

theorem swap2 (d s w : EReal) : d * s * w = d * w * s := by ac_rfl
theorem swap3 (n d s : EReal) : n * (d * s) = d * n * s := by ac_rfl
theorem swap4 (n w d p q : EReal) (h : p = q) : n * w * d * q = d * n * w * p := by rw [h]; ac_rfl
theorem swap5 (o d s w : EReal) : o * (d * s * w) = d * w * s * o := by ac_rfl

/-- The reference's gradient at the retention's result, read at an index. -/
theorem ref_dout (x : Vec Ideal S4096x7168 .f32) (o : Vec Ideal S4096x1024 .f32) (y : Vec Ideal S4096x2048 .f32) (w : Vec Ideal S1x1024 .f32) :
    Cert.Reference21Ideal.Read.val_main_v43 (F := Ideal) x o y w = dout x o y w := by
  funext i
  obtain ⟨r, c, rfl⟩ : ∃ (r : Fin 4096) (c : Fin 1024), i = ix2 r c := ⟨i 0, i 1, by funext d; match d with | ⟨0, _⟩ => rfl | ⟨1, _⟩ => rfl⟩
  pointwise [Cert.Reference21Ideal.Read.val_main_v52, Cert.Reference21Ideal.Read.val_main_v51, Cert.Reference21Ideal.Read.val_main_v50, Cert.Reference21Ideal.Read.val_main_v49, Cert.Reference21Ideal.Read.val_main_v48, Cert.Reference21Ideal.Read.val_main_v47, Cert.Reference21Ideal.Read.val_main_v46, Cert.Reference21Ideal.Read.val_main_call2_v2, Cert.Reference21Ideal.Read.val_main_call2_v1, Cert.Reference21Ideal.Read.val_main_call2_v0, Cert.Reference21Ideal.Read.val_main_v45, Cert.Reference21Ideal.Read.val_main_cst_7, Cert.Reference21Ideal.Read.val_main_v44_0, Cert.Reference21Ideal.Read.val_main_v44_1, Cert.Reference21Ideal.Read.val_main_call1_v7, Cert.Reference21Ideal.Read.val_main_call1_v6, Cert.Reference21Ideal.Read.val_main_call1_cst_1, Cert.Reference21Ideal.Read.val_main_v44_2, Cert.Reference21Ideal.Read.val_main_call1_v4, Cert.Reference21Ideal.Read.val_main_call1_cst_0, Cert.Reference21Ideal.Read.val_main_call1_v3, Cert.Reference21Ideal.Read.val_main_call1_v2, Cert.Reference21Ideal.Read.val_main_call1_cst, Cert.Reference21Ideal.Read.val_main_call1_v1, Cert.Reference21Ideal.Read.val_main_call1_v0, Cert.Reference21Ideal.Read.val_main_v43, Cert.Reference21Ideal.Read.val_main_v42, Cert.Reference21Ideal.Read.val_main_v41, Cert.Reference21Ideal.Read.val_main_v40, Cert.Reference21Ideal.Read.val_main_v39, Cert.Reference21Ideal.Read.val_main_v38, Cert.Reference21Ideal.Read.val_main_v37, Cert.Reference21Ideal.Read.val_main_cst_6, Cert.Reference21Ideal.Read.val_main_v36, Cert.Reference21Ideal.Read.val_main_v35, Cert.Reference21Ideal.Read.val_main_cst_5, Cert.Reference21Ideal.Read.val_main_v34, Cert.Reference21Ideal.Read.val_main_v33, Cert.Reference21Ideal.Read.val_main_v32, Cert.Reference21Ideal.Read.val_main_v31, Cert.Reference21Ideal.Read.val_main_v30, Cert.Reference21Ideal.Read.val_main_cst_4, Cert.Reference21Ideal.Read.val_main_v29, Cert.Reference21Ideal.Read.val_main_v28, Cert.Reference21Ideal.Read.val_main_v27, Cert.Reference21Ideal.Read.val_main_v26, Cert.Reference21Ideal.Read.val_main_v25, Cert.Reference21Ideal.Read.val_main_v24, Cert.Reference21Ideal.Read.val_main_cst_3, Cert.Reference21Ideal.Read.val_main_v23, Cert.Reference21Ideal.Read.val_main_v22, Cert.Reference21Ideal.Read.val_main_v21, Cert.Reference21Ideal.Read.val_main_v20, Cert.Reference21Ideal.Read.val_main_v19, Cert.Reference21Ideal.Read.val_main_v18, Cert.Reference21Ideal.Read.val_main_v17, Cert.Reference21Ideal.Read.val_main_v16, Cert.Reference21Ideal.Read.val_main_v15, Cert.Reference21Ideal.Read.val_main_v14, Cert.Reference21Ideal.Read.val_main_v13, Cert.Reference21Ideal.Read.val_main_cst_2, Cert.Reference21Ideal.Read.val_main_v12, Cert.Reference21Ideal.Read.val_main_v11, Cert.Reference21Ideal.Read.val_main_v10, Cert.Reference21Ideal.Read.val_main_v9, Cert.Reference21Ideal.Read.val_main_cst_1, Cert.Reference21Ideal.Read.val_main_v8, Cert.Reference21Ideal.Read.val_main_v7, Cert.Reference21Ideal.Read.val_main_cst_0, Cert.Reference21Ideal.Read.val_main_v6, Cert.Reference21Ideal.Read.val_main_v5, Cert.Reference21Ideal.Read.val_main_cst, Cert.Reference21Ideal.Read.val_main_v4, Cert.Reference21Ideal.Read.val_main_v3, Cert.Reference21Ideal.Read.val_main_v2, Cert.Reference21Ideal.Read.val_main_call0_v5, Cert.Reference21Ideal.Read.val_main_call0_v4, Cert.Reference21Ideal.Read.val_main_call0_cst_0, Cert.Reference21Ideal.Read.val_main_call0_v3, Cert.Reference21Ideal.Read.val_main_call0_v2, Cert.Reference21Ideal.Read.val_main_call0_cst, Cert.Reference21Ideal.Read.val_main_call0_v1, Cert.Reference21Ideal.Read.val_main_call0_v0, Cert.Reference21Ideal.Read.val_main_v1, Cert.Reference21Ideal.Read.val_main_v0]
  refine (back_eq (fun k => o (ix2 r (col (head c) k))) (o (ix2 r c)) _ _).trans ?_
  exact congrArg₂ (fun G S : EReal => rinv o r (head c) * G - o (ix2 r c) * (rinv o r (head c) * rinv o r (head c) * rinv o r (head c)) * Ideal.div S (Ideal.ofBits .f32 0x43000000#32))
    (swap2 _ _ _) (Finset.sum_congr rfl fun k _ => swap5 _ _ _ _)

/-- The reference's gradient at the norm's weights, read at an index. -/
theorem ref_dw (x : Vec Ideal S4096x7168 .f32) (o : Vec Ideal S4096x1024 .f32) (y : Vec Ideal S4096x2048 .f32) :
    Cert.Reference21Ideal.Read.val_main_v48 (F := Ideal) x o y = dw x o y := by
  funext i
  pointwise [Cert.Reference21Ideal.Read.val_main_v52, Cert.Reference21Ideal.Read.val_main_v51, Cert.Reference21Ideal.Read.val_main_v50, Cert.Reference21Ideal.Read.val_main_v49, Cert.Reference21Ideal.Read.val_main_v48, Cert.Reference21Ideal.Read.val_main_v47, Cert.Reference21Ideal.Read.val_main_v46, Cert.Reference21Ideal.Read.val_main_call2_v2, Cert.Reference21Ideal.Read.val_main_call2_v1, Cert.Reference21Ideal.Read.val_main_call2_v0, Cert.Reference21Ideal.Read.val_main_v45, Cert.Reference21Ideal.Read.val_main_cst_7, Cert.Reference21Ideal.Read.val_main_v44_0, Cert.Reference21Ideal.Read.val_main_v44_1, Cert.Reference21Ideal.Read.val_main_call1_v7, Cert.Reference21Ideal.Read.val_main_call1_v6, Cert.Reference21Ideal.Read.val_main_call1_cst_1, Cert.Reference21Ideal.Read.val_main_v44_2, Cert.Reference21Ideal.Read.val_main_call1_v4, Cert.Reference21Ideal.Read.val_main_call1_cst_0, Cert.Reference21Ideal.Read.val_main_call1_v3, Cert.Reference21Ideal.Read.val_main_call1_v2, Cert.Reference21Ideal.Read.val_main_call1_cst, Cert.Reference21Ideal.Read.val_main_call1_v1, Cert.Reference21Ideal.Read.val_main_call1_v0, Cert.Reference21Ideal.Read.val_main_v43, Cert.Reference21Ideal.Read.val_main_v42, Cert.Reference21Ideal.Read.val_main_v41, Cert.Reference21Ideal.Read.val_main_v40, Cert.Reference21Ideal.Read.val_main_v39, Cert.Reference21Ideal.Read.val_main_v38, Cert.Reference21Ideal.Read.val_main_v37, Cert.Reference21Ideal.Read.val_main_cst_6, Cert.Reference21Ideal.Read.val_main_v36, Cert.Reference21Ideal.Read.val_main_v35, Cert.Reference21Ideal.Read.val_main_cst_5, Cert.Reference21Ideal.Read.val_main_v34, Cert.Reference21Ideal.Read.val_main_v33, Cert.Reference21Ideal.Read.val_main_v32, Cert.Reference21Ideal.Read.val_main_v31, Cert.Reference21Ideal.Read.val_main_v30, Cert.Reference21Ideal.Read.val_main_cst_4, Cert.Reference21Ideal.Read.val_main_v29, Cert.Reference21Ideal.Read.val_main_v28, Cert.Reference21Ideal.Read.val_main_v27, Cert.Reference21Ideal.Read.val_main_v26, Cert.Reference21Ideal.Read.val_main_v25, Cert.Reference21Ideal.Read.val_main_v24, Cert.Reference21Ideal.Read.val_main_cst_3, Cert.Reference21Ideal.Read.val_main_v23, Cert.Reference21Ideal.Read.val_main_v22, Cert.Reference21Ideal.Read.val_main_v21, Cert.Reference21Ideal.Read.val_main_v20, Cert.Reference21Ideal.Read.val_main_v19, Cert.Reference21Ideal.Read.val_main_v18, Cert.Reference21Ideal.Read.val_main_v17, Cert.Reference21Ideal.Read.val_main_v16, Cert.Reference21Ideal.Read.val_main_v15, Cert.Reference21Ideal.Read.val_main_v14, Cert.Reference21Ideal.Read.val_main_v13, Cert.Reference21Ideal.Read.val_main_cst_2, Cert.Reference21Ideal.Read.val_main_v12, Cert.Reference21Ideal.Read.val_main_v11, Cert.Reference21Ideal.Read.val_main_v10, Cert.Reference21Ideal.Read.val_main_v9, Cert.Reference21Ideal.Read.val_main_cst_1, Cert.Reference21Ideal.Read.val_main_v8, Cert.Reference21Ideal.Read.val_main_v7, Cert.Reference21Ideal.Read.val_main_cst_0, Cert.Reference21Ideal.Read.val_main_v6, Cert.Reference21Ideal.Read.val_main_v5, Cert.Reference21Ideal.Read.val_main_cst, Cert.Reference21Ideal.Read.val_main_v4, Cert.Reference21Ideal.Read.val_main_v3, Cert.Reference21Ideal.Read.val_main_v2, Cert.Reference21Ideal.Read.val_main_call0_v5, Cert.Reference21Ideal.Read.val_main_call0_v4, Cert.Reference21Ideal.Read.val_main_call0_cst_0, Cert.Reference21Ideal.Read.val_main_call0_v3, Cert.Reference21Ideal.Read.val_main_call0_v2, Cert.Reference21Ideal.Read.val_main_call0_cst, Cert.Reference21Ideal.Read.val_main_call0_v1, Cert.Reference21Ideal.Read.val_main_call0_v0, Cert.Reference21Ideal.Read.val_main_v1, Cert.Reference21Ideal.Read.val_main_v0]
  exact Finset.sum_congr rfl fun r _ => swap3 _ _ _

/-- The reference's packed gradients, read at an index. -/
theorem ref_dproj (x : Vec Ideal S4096x7168 .f32) (o : Vec Ideal S4096x1024 .f32) (y : Vec Ideal S4096x2048 .f32) (w : Vec Ideal S1x1024 .f32) (d : Vec Ideal S4096x7168 .bf16) :
    Cert.Reference21Ideal.Read.val_main_v52 (F := Ideal) x o y w d = dproj x o y w d := by
  funext i
  pointwise [Cert.Reference21Ideal.Read.val_main_v52, Cert.Reference21Ideal.Read.val_main_v51, Cert.Reference21Ideal.Read.val_main_v50, Cert.Reference21Ideal.Read.val_main_v49, Cert.Reference21Ideal.Read.val_main_v48, Cert.Reference21Ideal.Read.val_main_v47, Cert.Reference21Ideal.Read.val_main_v46, Cert.Reference21Ideal.Read.val_main_call2_v2, Cert.Reference21Ideal.Read.val_main_call2_v1, Cert.Reference21Ideal.Read.val_main_call2_v0, Cert.Reference21Ideal.Read.val_main_v45, Cert.Reference21Ideal.Read.val_main_cst_7, Cert.Reference21Ideal.Read.val_main_v44_0, Cert.Reference21Ideal.Read.val_main_v44_1, Cert.Reference21Ideal.Read.val_main_call1_v7, Cert.Reference21Ideal.Read.val_main_call1_v6, Cert.Reference21Ideal.Read.val_main_call1_cst_1, Cert.Reference21Ideal.Read.val_main_v44_2, Cert.Reference21Ideal.Read.val_main_call1_v4, Cert.Reference21Ideal.Read.val_main_call1_cst_0, Cert.Reference21Ideal.Read.val_main_call1_v3, Cert.Reference21Ideal.Read.val_main_call1_v2, Cert.Reference21Ideal.Read.val_main_call1_cst, Cert.Reference21Ideal.Read.val_main_call1_v1, Cert.Reference21Ideal.Read.val_main_call1_v0, Cert.Reference21Ideal.Read.val_main_v43, Cert.Reference21Ideal.Read.val_main_v42, Cert.Reference21Ideal.Read.val_main_v41, Cert.Reference21Ideal.Read.val_main_v40, Cert.Reference21Ideal.Read.val_main_v39, Cert.Reference21Ideal.Read.val_main_v38, Cert.Reference21Ideal.Read.val_main_v37, Cert.Reference21Ideal.Read.val_main_cst_6, Cert.Reference21Ideal.Read.val_main_v36, Cert.Reference21Ideal.Read.val_main_v35, Cert.Reference21Ideal.Read.val_main_cst_5, Cert.Reference21Ideal.Read.val_main_v34, Cert.Reference21Ideal.Read.val_main_v33, Cert.Reference21Ideal.Read.val_main_v32, Cert.Reference21Ideal.Read.val_main_v31, Cert.Reference21Ideal.Read.val_main_v30, Cert.Reference21Ideal.Read.val_main_cst_4, Cert.Reference21Ideal.Read.val_main_v29, Cert.Reference21Ideal.Read.val_main_v28, Cert.Reference21Ideal.Read.val_main_v27, Cert.Reference21Ideal.Read.val_main_v26, Cert.Reference21Ideal.Read.val_main_v25, Cert.Reference21Ideal.Read.val_main_v24, Cert.Reference21Ideal.Read.val_main_cst_3, Cert.Reference21Ideal.Read.val_main_v23, Cert.Reference21Ideal.Read.val_main_v22, Cert.Reference21Ideal.Read.val_main_v21, Cert.Reference21Ideal.Read.val_main_v20, Cert.Reference21Ideal.Read.val_main_v19, Cert.Reference21Ideal.Read.val_main_v18, Cert.Reference21Ideal.Read.val_main_v17, Cert.Reference21Ideal.Read.val_main_v16, Cert.Reference21Ideal.Read.val_main_v15, Cert.Reference21Ideal.Read.val_main_v14, Cert.Reference21Ideal.Read.val_main_v13, Cert.Reference21Ideal.Read.val_main_cst_2, Cert.Reference21Ideal.Read.val_main_v12, Cert.Reference21Ideal.Read.val_main_v11, Cert.Reference21Ideal.Read.val_main_v10, Cert.Reference21Ideal.Read.val_main_v9, Cert.Reference21Ideal.Read.val_main_cst_1, Cert.Reference21Ideal.Read.val_main_v8, Cert.Reference21Ideal.Read.val_main_v7, Cert.Reference21Ideal.Read.val_main_cst_0, Cert.Reference21Ideal.Read.val_main_v6, Cert.Reference21Ideal.Read.val_main_v5, Cert.Reference21Ideal.Read.val_main_cst, Cert.Reference21Ideal.Read.val_main_v4, Cert.Reference21Ideal.Read.val_main_v3, Cert.Reference21Ideal.Read.val_main_v2, Cert.Reference21Ideal.Read.val_main_call0_v5, Cert.Reference21Ideal.Read.val_main_call0_v4, Cert.Reference21Ideal.Read.val_main_call0_cst_0, Cert.Reference21Ideal.Read.val_main_call0_v3, Cert.Reference21Ideal.Read.val_main_call0_v2, Cert.Reference21Ideal.Read.val_main_call0_cst, Cert.Reference21Ideal.Read.val_main_call0_v1, Cert.Reference21Ideal.Read.val_main_call0_v0, Cert.Reference21Ideal.Read.val_main_v1, Cert.Reference21Ideal.Read.val_main_v0]
  unfold dproj
  by_cases h : 6144 ≤ (i 1).val
  · rw [dif_neg (by omega), dif_pos h]
    simp only [Nat.div_add_mod']
    exact swap4 _ _ _ _ _ (slope _)
  · rw [dif_pos (by omega), dif_neg h]

/-- The kernel's run: each result is the array named for it, its arguments end as they were. -/
theorem run_values : θ_run defs (onTc (τ := τ) (main (F := Ideal))) ⟨m, fun _ => 0, ρ⟩ fun r => ∀ c : Dev nD,
      r.2.mem ((c : Thread nD τ).loc main_v0_0) = dout (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = dw (m ((c : Thread nD τ).loc main_arg0)) (m ((c : Thread nD τ).loc main_arg1)) (m ((c : Thread nD τ).loc main_arg2))
      ∧ r.2.mem ((c : Thread nD τ).loc main_v0_2) = dproj (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_o m c), (h c).2.1.trans (final_w m c), (h c).2.2.1.trans (final_p m c), (h c).2.2.2⟩) (run m ρ)

/-- Over the reals the call and the reference give the same results from the same arguments. -/
theorem agrees : Cert.algebraic_Kernel21Ideal_Reference21Ideal := by
  intro m g m' g' _ hargs
  refine ⟨fun c => dout (m ((c : Thread nD τ).loc main_arg0)) (m ((c : Thread nD τ).loc main_arg1)) (m ((c : Thread nD τ).loc main_arg2)) (m ((c : Thread nD τ).loc main_arg3)), fun c => dw (m ((c : Thread nD τ).loc main_arg0)) (m ((c : Thread nD τ).loc main_arg1)) (m ((c : Thread nD τ).loc main_arg2)), fun c => dproj (m ((c : Thread nD τ).loc main_arg0)) (m ((c : Thread nD τ).loc main_arg1)) (m ((c : Thread nD τ).loc main_arg2)) (m ((c : Thread nD τ).loc main_arg3)) (m ((c : Thread nD τ).loc main_arg4)), run_values m g, ?_⟩
  refine (θ_run Cert.Reference21Ideal.defs _ _).mono (fun r h c => ⟨(h c).1.trans ?_, (h c).2.1.trans ?_, (h c).2.2.1.trans ?_, (h c).2.2.2⟩) (Cert.Reference21Ideal.Value.run (F := Ideal) m' g')
  · unfold Cert.Reference21Ideal.Value.res_main_v43
    rw [(hargs c).1, (hargs c).2.1, (hargs c).2.2.1, (hargs c).2.2.2.1]
    exact ref_dout _ _ _ _
  · rw [(hargs c).1, (hargs c).2.1, (hargs c).2.2.1]
    exact ref_dw _ _ _
  · rw [(hargs c).1, (hargs c).2.1, (hargs c).2.2.1, (hargs c).2.2.2.1, (hargs c).2.2.2.2]
    exact ref_dproj _ _ _ _ _

/-- The reference's run on its own: its arguments end as they were. -/
theorem ref_frame : Cert.quiescent_Reference21Ideal := fun m g _ =>
  (θ_run Cert.Reference21Ideal.defs _ _).mono (fun r h => ⟨fun c => (h c).2.2.2, sem_eq_zero_of_no_sems (by decide) r.2⟩)
    (Cert.Reference21Ideal.Value.run (F := Ideal) m g)

end Cert.Kernel21Ideal.RetGate

end
-- ==== Proof.lean ====
module

public import proofs.«01_k».proof.Defs
public import proofs.«01_k».proof.Proof.Run
public import proofs.«01_k».proof.Proof.Gen.Kernel
public import proofs.«01_k».proof.Proof.Gen.Kernel.Frame
public import proofs.«01_k».proof.Proof.WgradFfn
public import proofs.«01_k».proof.Proof.WgradInLo
public import proofs.«01_k».proof.Proof.WgradInHi
public import proofs.«01_k».proof.Proof.WgradOut
public import proofs.«01_k».proof.Proof.FfnBwdAct
public import proofs.«01_k».proof.Proof.FfnBwdIn
public import proofs.«01_k».proof.Proof.Dmix
public import proofs.«01_k».proof.Proof.InBwd
public import proofs.«01_k».proof.Proof.FfnUp
public import proofs.«01_k».proof.Proof.OutFwd
public import proofs.«01_k».proof.Proof.FfnBwdGate
public import proofs.«01_k».proof.Proof.NormFwd
public import proofs.«01_k».proof.Proof.DownLoss
public import proofs.«01_k».proof.Proof.AdamOut
public import proofs.«01_k».proof.Proof.AdamFfn
public import proofs.«01_k».proof.Proof.AdamIn
public import proofs.«01_k».proof.Proof.ProjSibling
public import proofs.«01_k».proof.Proof.ProjNear
public import proofs.«01_k».proof.Proof.ProjFar
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Gen.Kernel7.Frame
public import proofs.«01_k».proof.Proof.Gen.Kernel7Ideal.Frame
public import proofs.«01_k».proof.Proof.Gen.Kernel8.Frame
public import proofs.«01_k».proof.Proof.Gen.Kernel8Ideal.Frame
public import proofs.«01_k».proof.Proof.Gen.Kernel9.Frame
public import proofs.«01_k».proof.Proof.Gen.Kernel9Ideal.Frame
public import proofs.«01_k».proof.Proof.Gen.Kernel10.Frame
public import proofs.«01_k».proof.Proof.Gen.Kernel10Ideal.Frame
public import proofs.«01_k».proof.Proof.Gen.Kernel11.Frame
public import proofs.«01_k».proof.Proof.Gen.Kernel11Ideal.Frame
public import proofs.«01_k».proof.Proof.Gen.Kernel12.Frame
public import proofs.«01_k».proof.Proof.Gen.Kernel12Ideal.Frame
public import proofs.«01_k».proof.Proof.Gen.Kernel13.Frame
public import proofs.«01_k».proof.Proof.Gen.Kernel13Ideal.Frame
public import proofs.«01_k».proof.Proof.Gen.Kernel14.Frame
public import proofs.«01_k».proof.Proof.Gen.Kernel14Ideal.Frame
public import proofs.«01_k».proof.Proof.Gen.Kernel15.Frame
public import proofs.«01_k».proof.Proof.Gen.Kernel15Ideal.Frame
public import proofs.«01_k».proof.Proof.Gen.Kernel16.Frame
public import proofs.«01_k».proof.Proof.Gen.Kernel16Ideal.Frame
public import proofs.«01_k».proof.Proof.Gen.Kernel17.Frame
public import proofs.«01_k».proof.Proof.Gen.Kernel17Ideal.Frame
public import proofs.«01_k».proof.Proof.Gen.Kernel18.Frame
public import proofs.«01_k».proof.Proof.Gen.Kernel18Ideal.Frame
public import proofs.«01_k».proof.Proof.Gen.Kernel19.Frame
public import proofs.«01_k».proof.Proof.Gen.Kernel19Ideal.Frame
public import proofs.«01_k».proof.Proof.Gen.Kernel20.Frame
public import proofs.«01_k».proof.Proof.Gen.Kernel20Ideal.Frame
public import proofs.«01_k».proof.Proof.Gen.Kernel21
public import proofs.«01_k».proof.Proof.RetGate

/-! The certificate: the frames of the retention's backward call, and all five claims of each of the other calls. -/

@[expose] public section

set_option maxRecDepth 65536
set_option maxHeartbeats 2000000

noncomputable section

namespace Cert.Proof

open Idealize.ShloMosaic Idealize.SL.Sem

/-- The two programs' body tables are one. -/
theorem rows_eq : Cert.Kernel.defs₀ (F := Bits) = Cert.KernelIdeal.defs₀ (F := Bits) := by
  funext pr ℓ a
  unfold Cert.Kernel.defs₀ Cert.KernelIdeal.defs₀
  match pr, ℓ, a with
  | .tc, 0, (t, s) => rfl
  | .scScalar _, _, _ => rfl
  | .scVector _ _, _, _ => rfl

/-- So are their tables with the pipelines. -/
theorem table_eq : Cert.Kernel.defs (F := Bits) = Cert.KernelIdeal.defs (F := Bits) := by
  unfold Cert.Kernel.defs Cert.KernelIdeal.defs
  exact congrArg (Pipeline.defs Cert.KernelIdeal.pcfgs) rows_eq

/-- And their main programs. -/
theorem main_eq : Cert.Kernel.main (F := Bits) = Cert.KernelIdeal.main (F := Bits) := rfl

/-- The retention's backward call over the machine's own floats: the run is the one over any float values. -/
theorem frame_kernel : Cert.quiescent_Kernel := fun m ρ _ => by
  rw [table_eq, main_eq]
  exact Cert.KernelIdeal.RetBwd.run_main (F := Bits) m ρ

/-- The same call over the reals. -/
theorem frame_kernelIdeal : Cert.quiescent_KernelIdeal := fun m ρ _ => Cert.KernelIdeal.RetBwd.run_main (F := Ideal) m ρ

/-- The gate's two programs' body tables are one. -/
theorem rows_eq21 : Cert.Kernel21.defs₀ (F := Bits) = Cert.Kernel21Ideal.defs₀ (F := Bits) := by
  funext pr ℓ a
  unfold Cert.Kernel21.defs₀ Cert.Kernel21Ideal.defs₀
  match pr, ℓ, a with
  | .tc, 0, (t, s) => rfl
  | .scScalar _, _, _ => rfl
  | .scVector _ _, _, _ => rfl

/-- So are their tables with the pipelines. -/
theorem table_eq21 : Cert.Kernel21.defs (F := Bits) = Cert.Kernel21Ideal.defs (F := Bits) := by
  unfold Cert.Kernel21.defs Cert.Kernel21Ideal.defs
  exact congrArg (Pipeline.defs Cert.Kernel21Ideal.pcfgs) rows_eq21

/-- And their main programs. -/
theorem main_eq21 : Cert.Kernel21.main (F := Bits) = Cert.Kernel21Ideal.main (F := Bits) := rfl

/-- The gate's backward call over the machine's own floats: the run is the one over any float values. -/
theorem frame_kernel21 : Cert.quiescent_Kernel21 := fun m ρ _ => by
  rw [table_eq21, main_eq21]
  exact Cert.Kernel21Ideal.RetGate.frame (F := Bits) m ρ

/-- Every claim of the certificate. -/
theorem claim : Cert.Claim := ⟨Cert.Kernel.Gen.facts, Cert.KernelIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts,
  frame_kernel,
  frame_kernelIdeal,
  fun m ρ _ => Cert.Kernel2.Gen.frame m ρ,
  fun m ρ _ => Cert.Kernel2Ideal.Gen.frame m ρ,
  Cert.Kernel2Ideal.Wgrad.ref_frame,
  fun m ρ _ => Cert.Kernel3.Gen.frame m ρ,
  fun m ρ _ => Cert.Kernel3Ideal.Gen.frame m ρ,
  Cert.Kernel3Ideal.Wgrad.ref_frame,
  fun m ρ _ => Cert.Kernel4.Gen.frame m ρ,
  fun m ρ _ => Cert.Kernel4Ideal.Gen.frame m ρ,
  Cert.Kernel4Ideal.Wgrad.ref_frame,
  fun m ρ _ => Cert.Kernel5.Gen.frame m ρ,
  fun m ρ _ => Cert.Kernel5Ideal.Gen.frame m ρ,
  Cert.Kernel5Ideal.Wgrad.ref_frame,
  fun m ρ _ => Cert.Kernel6.Gen.frame m ρ,
  fun m ρ _ => Cert.Kernel6Ideal.Gen.frame m ρ,
  Cert.Kernel6Ideal.Act.ref_frame,
  fun m ρ _ => Cert.Kernel7.Gen.frame m ρ,
  fun m ρ _ => Cert.Kernel7Ideal.Gen.frame m ρ,
  Cert.Kernel7Ideal.BwdIn.ref_frame,
  fun m ρ _ => Cert.Kernel8.Gen.frame m ρ,
  fun m ρ _ => Cert.Kernel8Ideal.Gen.frame m ρ,
  Cert.Kernel8Ideal.Mix.ref_frame,
  fun m ρ _ => Cert.Kernel9.Gen.frame m ρ,
  fun m ρ _ => Cert.Kernel9Ideal.Gen.frame m ρ,
  Cert.Kernel9Ideal.In.ref_frame,
  fun m ρ _ => Cert.Kernel10.Gen.frame m ρ,
  fun m ρ _ => Cert.Kernel10Ideal.Gen.frame m ρ,
  Cert.Kernel10Ideal.Up.ref_frame,
  fun m ρ _ => Cert.Kernel11.Gen.frame m ρ,
  fun m ρ _ => Cert.Kernel11Ideal.Gen.frame m ρ,
  Cert.Kernel11Ideal.Out.ref_frame,
  fun m ρ _ => Cert.Kernel12.Gen.frame m ρ,
  fun m ρ _ => Cert.Kernel12Ideal.Gen.frame m ρ,
  Cert.Kernel12Ideal.Gate.ref_frame,
  fun m ρ _ => Cert.Kernel13.Gen.frame m ρ,
  fun m ρ _ => Cert.Kernel13Ideal.Gen.frame m ρ,
  Cert.Kernel13Ideal.Norm.ref_frame,
  fun m ρ _ => Cert.Kernel14.Gen.frame m ρ,
  fun m ρ _ => Cert.Kernel14Ideal.Gen.frame m ρ,
  Cert.Kernel14Ideal.Loss.ref_frame,
  fun m ρ _ => Cert.Kernel15.Gen.frame m ρ,
  fun m ρ _ => Cert.Kernel15Ideal.Gen.frame m ρ,
  Cert.Kernel15Ideal.Adam.ref_frame,
  fun m ρ _ => Cert.Kernel16.Gen.frame m ρ,
  fun m ρ _ => Cert.Kernel16Ideal.Gen.frame m ρ,
  Cert.Kernel16Ideal.Adam.ref_frame,
  fun m ρ _ => Cert.Kernel17.Gen.frame m ρ,
  fun m ρ _ => Cert.Kernel17Ideal.Gen.frame m ρ,
  Cert.Kernel17Ideal.Adam.ref_frame,
  fun m ρ _ => Cert.Kernel18.Gen.frame m ρ (Cert.Kernel18.Stage.ok m),
  fun m ρ _ => Cert.Kernel18Ideal.Gen.frame m ρ (Cert.Kernel18Ideal.Stage.ok m),
  Cert.Kernel18Ideal.Stage.ref_frame,
  fun m ρ _ => Cert.Kernel19.Gen.frame m ρ (Cert.Kernel19.Stage.ok m),
  fun m ρ _ => Cert.Kernel19Ideal.Gen.frame m ρ (Cert.Kernel19Ideal.Stage.ok m),
  Cert.Kernel19Ideal.Stage.ref_frame,
  fun m ρ _ => Cert.Kernel20.Gen.frame m ρ (Cert.Kernel20.Stage.ok m),
  fun m ρ _ => Cert.Kernel20Ideal.Gen.frame m ρ (Cert.Kernel20Ideal.Stage.ok m),
  Cert.Kernel20Ideal.Stage.ref_frame,
  frame_kernel21,
  fun m ρ _ => Cert.Kernel21Ideal.RetGate.frame m ρ,
  Cert.Kernel21Ideal.RetGate.ref_frame,
  trivial,
  trivial,
  Cert.Kernel2Ideal.Wgrad.agrees,
  trivial,
  Cert.Kernel3Ideal.Wgrad.agrees,
  trivial,
  Cert.Kernel4Ideal.Wgrad.agrees,
  trivial,
  Cert.Kernel5Ideal.Wgrad.agrees,
  trivial,
  Cert.Kernel6Ideal.Act.agrees,
  trivial,
  Cert.Kernel7Ideal.BwdIn.agrees,
  trivial,
  Cert.Kernel8Ideal.Mix.agrees,
  trivial,
  Cert.Kernel9Ideal.In.agrees,
  trivial,
  Cert.Kernel10Ideal.Up.agrees,
  trivial,
  Cert.Kernel11Ideal.Out.agrees,
  trivial,
  Cert.Kernel12Ideal.Gate.agrees,
  trivial,
  Cert.Kernel13Ideal.Norm.agrees,
  trivial,
  Cert.Kernel14Ideal.Loss.agrees,
  trivial,
  Cert.Kernel15Ideal.Adam.agrees,
  trivial,
  Cert.Kernel16Ideal.Adam.agrees,
  trivial,
  Cert.Kernel17Ideal.Adam.agrees,
  trivial,
  Cert.Kernel18Ideal.Stage.agrees,
  trivial,
  Cert.Kernel19Ideal.Stage.agrees,
  trivial,
  Cert.Kernel20Ideal.Stage.agrees,
  trivial,
  Cert.Kernel21Ideal.RetGate.agrees⟩

end Cert.Proof

end
